-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "mask" .f32 0xCE6E6B28#32 ⊥

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![768, 512]⟩ ⟨2, ![768, 8192]⟩ 1 16 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨4, ![2, 512, 8, 64]⟩ ⟨4, ![2, 512, 128, 64]⟩ 2 16 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![2, 512, 8, 64]⟩ ⟨4, ![2, 512, 128, 64]⟩ 2 16 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![512, 768]⟩ ⟨2, ![8192, 768]⟩ 0 16 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v33) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S2x512x768 : Shape := ⟨3, ![2, 512, 768]⟩
abbrev S768x512 : Shape := ⟨2, ![768, 512]⟩
abbrev S2x512x8x64 : Shape := ⟨4, ![2, 512, 8, 64]⟩
abbrev S512x768 : Shape := ⟨2, ![512, 768]⟩
abbrev S_ : Shape := ⟨0, ![]⟩

class Facts : Prop where
  bcast_S_S2x512x768 : S_.BroadcastsInDim S2x512x768 (![] : Fin 0 → Fin S2x512x768.rank)
  reducesTo_S2x512x768_S_d0_1_2 : S2x512x768.ReducesTo [0, 1, 2] S_
  h_S_ : 0 < S_.numel
  bcast_S_S768x512 : S_.BroadcastsInDim S768x512 (![] : Fin 0 → Fin S768x512.rank)
  reducesTo_S768x512_S_d0_1 : S768x512.ReducesTo [0, 1] S_
  bcast_S_S2x512x8x64 : S_.BroadcastsInDim S2x512x8x64 (![] : Fin 0 → Fin S2x512x8x64.rank)
  reducesTo_S2x512x8x64_S_d0_1_2_3 : S2x512x8x64.ReducesTo [0, 1, 2, 3] S_

variable [Facts]

def fn {F : FTy → Type} [FloatOps F] (main_arg0 : FVec F S2x512x768 .f32) (main_arg1 : FVec F S768x512 .f32) (main_arg2 : FVec F S2x512x8x64 .f32) (main_arg3 : FVec F S2x512x8x64 .f32) (main_arg4 : FVec F S512x768 .f32) : IVec S_ 1 :=
  let main_v0 : FVec F S2x512x768 .f32 := Host.absf main_arg0
  let main_cst : FVec F S_ .f32 := constant S_ .f32 0x7F800000#32
  let main_v1 : FVec F S2x512x768 .f32 := broadcastInDim S2x512x768 ![] bcast_S_S2x512x768 main_cst
  let main_v2 : IVec S2x512x768 1 := cmpf .olt main_v0 main_v1
  let main_c : IVec S_ 1 := constantI S_ 1 1#1
  let main_v3 : IVec S_ 1 := (fun x v => Host.reduce IntOp.andi x v reducesTo_S2x512x768_S_d0_1_2 h_S_) main_v2 main_c
  let main_v4 : FVec F S768x512 .f32 := Host.absf main_arg1
  let main_cst_0 : FVec F S_ .f32 := constant S_ .f32 0x7F800000#32
  let main_v5 : FVec F S768x512 .f32 := broadcastInDim S768x512 ![] bcast_S_S768x512 main_cst_0
  let main_v6 : IVec S768x512 1 := cmpf .olt main_v4 main_v5
  let main_c_1 : IVec S_ 1 := constantI S_ 1 1#1
  let main_v7 : IVec S_ 1 := (fun x v => Host.reduce IntOp.andi x v reducesTo_S768x512_S_d0_1 h_S_) main_v6 main_c_1
  let main_v8 : IVec S_ 1 := andi main_v3 main_v7
  let main_v9 : FVec F S2x512x8x64 .f32 := Host.absf main_arg2
  let main_cst_2 : FVec F S_ .f32 := constant S_ .f32 0x7F800000#32
  let main_v10 : FVec F S2x512x8x64 .f32 := broadcastInDim S2x512x8x64 ![] bcast_S_S2x512x8x64 main_cst_2
  let main_v11 : IVec S2x512x8x64 1 := cmpf .olt main_v9 main_v10
  let main_c_3 : IVec S_ 1 := constantI S_ 1 1#1
  let main_v12 : IVec S_ 1 := (fun x v => Host.reduce IntOp.andi x v reducesTo_S2x512x8x64_S_d0_1_2_3 h_S_) main_v11 main_c_3
  let main_v13 : IVec S_ 1 := andi main_v8 main_v12
  main_v13
-- ==== Pre_finite_ReferenceIdeal.lean ====
abbrev S2x512x768 : Shape := ⟨3, ![2, 512, 768]⟩
abbrev S768x8192 : Shape := ⟨2, ![768, 8192]⟩
abbrev S2x512x128x64 : Shape := ⟨4, ![2, 512, 128, 64]⟩
abbrev S8192x768 : Shape := ⟨2, ![8192, 768]⟩
abbrev S_ : Shape := ⟨0, ![]⟩

class Facts : Prop where
  bcast_S_S2x512x768 : S_.BroadcastsInDim S2x512x768 (![] : Fin 0 → Fin S2x512x768.rank)
  reducesTo_S2x512x768_S_d0_1_2 : S2x512x768.ReducesTo [0, 1, 2] S_
  h_S_ : 0 < S_.numel
  bcast_S_S768x8192 : S_.BroadcastsInDim S768x8192 (![] : Fin 0 → Fin S768x8192.rank)
  reducesTo_S768x8192_S_d0_1 : S768x8192.ReducesTo [0, 1] S_
  bcast_S_S2x512x128x64 : S_.BroadcastsInDim S2x512x128x64 (![] : Fin 0 → Fin S2x512x128x64.rank)
  reducesTo_S2x512x128x64_S_d0_1_2_3 : S2x512x128x64.ReducesTo [0, 1, 2, 3] S_

variable [Facts]

def fn {F : FTy → Type} [FloatOps F] (main_arg0 : FVec F S2x512x768 .f32) (main_arg1 : FVec F S768x8192 .f32) (main_arg2 : FVec F S2x512x128x64 .f32) (main_arg3 : FVec F S2x512x128x64 .f32) (main_arg4 : FVec F S8192x768 .f32) : IVec S_ 1 :=
  let main_v0 : FVec F S2x512x768 .f32 := Host.absf main_arg0
  let main_cst : FVec F S_ .f32 := constant S_ .f32 0x7F800000#32
  let main_v1 : FVec F S2x512x768 .f32 := broadcastInDim S2x512x768 ![] bcast_S_S2x512x768 main_cst
  let main_v2 : IVec S2x512x768 1 := cmpf .olt main_v0 main_v1
  let main_c : IVec S_ 1 := constantI S_ 1 1#1
  let main_v3 : IVec S_ 1 := (fun x v => Host.reduce IntOp.andi x v reducesTo_S2x512x768_S_d0_1_2 h_S_) main_v2 main_c
  let main_v4 : FVec F S768x8192 .f32 := Host.absf main_arg1
  let main_cst_0 : FVec F S_ .f32 := constant S_ .f32 0x7F800000#32
  let main_v5 : FVec F S768x8192 .f32 := broadcastInDim S768x8192 ![] bcast_S_S768x8192 main_cst_0
  let main_v6 : IVec S768x8192 1 := cmpf .olt main_v4 main_v5
  let main_c_1 : IVec S_ 1 := constantI S_ 1 1#1
  let main_v7 : IVec S_ 1 := (fun x v => Host.reduce IntOp.andi x v reducesTo_S768x8192_S_d0_1 h_S_) main_v6 main_c_1
  let main_v8 : IVec S_ 1 := andi main_v3 main_v7
  let main_v9 : FVec F S2x512x128x64 .f32 := Host.absf main_arg2
  let main_cst_2 : FVec F S_ .f32 := constant S_ .f32 0x7F800000#32
  let main_v10 : FVec F S2x512x128x64 .f32 := broadcastInDim S2x512x128x64 ![] bcast_S_S2x512x128x64 main_cst_2
  let main_v11 : IVec S2x512x128x64 1 := cmpf .olt main_v9 main_v10
  let main_c_3 : IVec S_ 1 := constantI S_ 1 1#1
  let main_v12 : IVec S_ 1 := (fun x v => Host.reduce IntOp.andi x v reducesTo_S2x512x128x64_S_d0_1_2_3 h_S_) main_v11 main_c_3
  let main_v13 : IVec S_ 1 := andi main_v8 main_v12
  main_v13
-- ==== Kernel.lean ====
abbrev S2x512x768 : Shape := ⟨3, ![2, 512, 768]⟩
abbrev S768x512 : Shape := ⟨2, ![768, 512]⟩
abbrev S2x512x8x64 : Shape := ⟨4, ![2, 512, 8, 64]⟩
abbrev S512x768 : Shape := ⟨2, ![512, 768]⟩
abbrev S1024x768 : Shape := ⟨2, ![1024, 768]⟩
abbrev S2x3x128x512 : Shape := ⟨4, ![2, 3, 128, 512]⟩
abbrev S2x3x128x256 : Shape := ⟨4, ![2, 3, 128, 256]⟩
abbrev S2x3x32x512 : Shape := ⟨4, ![2, 3, 32, 512]⟩
abbrev S2x3x32x256 : Shape := ⟨4, ![2, 3, 32, 256]⟩
abbrev S2x2x3 : Shape := ⟨3, ![2, 2, 3]⟩
abbrev S_ : Shape := ⟨0, ![]⟩
abbrev S512x512 : Shape := ⟨2, ![512, 512]⟩
abbrev S1x512x768 : Shape := ⟨3, ![1, 512, 768]⟩
abbrev S512x64 : Shape := ⟨2, ![512, 64]⟩
abbrev S1x512x1x64 : Shape := ⟨4, ![1, 512, 1, 64]⟩
abbrev S256x64 : Shape := ⟨2, ![256, 64]⟩
abbrev S64x256 : Shape := ⟨2, ![64, 256]⟩
abbrev S256x256 : Shape := ⟨2, ![256, 256]⟩
abbrev S256 : Shape := ⟨1, ![256]⟩
abbrev S256x1 : Shape := ⟨2, ![256, 1]⟩
abbrev S64x512 : Shape := ⟨2, ![64, 512]⟩
abbrev S256x512 : Shape := ⟨2, ![256, 512]⟩
abbrev S1x1x1 : Shape := ⟨3, ![1, 1, 1]⟩
abbrev S1x1x128x512 : Shape := ⟨4, ![1, 1, 128, 512]⟩
abbrev S128x512 : Shape := ⟨2, ![128, 512]⟩
abbrev S1x1x128x256 : Shape := ⟨4, ![1, 1, 128, 256]⟩
abbrev S128x256 : Shape := ⟨2, ![128, 256]⟩
abbrev S32x512 : Shape := ⟨2, ![32, 512]⟩
abbrev S1x1x32x512 : Shape := ⟨4, ![1, 1, 32, 512]⟩
abbrev S32x256 : Shape := ⟨2, ![32, 256]⟩
abbrev S1x1x32x256 : Shape := ⟨4, ![1, 1, 32, 256]⟩

abbrev nBuf : Space → Nat
  | .hbm => 6
  | .vmem => 14
  | .smem => 0
  | _ => 0

abbrev bufTy : (tb : Table) → Fin (tcTables nBuf tb) → BufTy
  | .hbm, ⟨0, _⟩ => ⟨S2x512x768, .f32⟩
  | .hbm, ⟨1, _⟩ => ⟨S768x512, .f32⟩
  | .hbm, ⟨2, _⟩ => ⟨S2x512x8x64, .f32⟩
  | .hbm, ⟨3, _⟩ => ⟨S2x512x8x64, .f32⟩
  | .hbm, ⟨4, _⟩ => ⟨S512x768, .f32⟩
  | .hbm, ⟨5, _⟩ => ⟨S2x512x768, .f32⟩
  | .local _ .vmem, ⟨0, _⟩ => ⟨S2x512x768, .f32⟩
  | .local _ .vmem, ⟨1, _⟩ => ⟨S768x512, .f32⟩
  | .local _ .vmem, ⟨2, _⟩ => ⟨S2x512x8x64, .f32⟩
  | .local _ .vmem, ⟨3, _⟩ => ⟨S2x512x8x64, .f32⟩
  | .local _ .vmem, ⟨4, _⟩ => ⟨S512x768, .f32⟩
  | .local _ .vmem, ⟨5, _⟩ => ⟨S2x512x768, .f32⟩
  | .local _ .vmem, ⟨6, _⟩ => ⟨S1024x768, .f32⟩
  | .local _ .vmem, ⟨7, _⟩ => ⟨S1024x768, .bf16⟩
  | .local _ .vmem, ⟨8, _⟩ => ⟨S2x3x128x512, .bf16⟩
  | .local _ .vmem, ⟨9, _⟩ => ⟨S2x3x128x256, .bf16⟩
  | .local _ .vmem, ⟨10, _⟩ => ⟨S2x3x32x512, .bf16⟩
  | .local _ .vmem, ⟨11, _⟩ => ⟨S2x3x32x256, .bf16⟩
  | .local _ .vmem, ⟨12, _⟩ => ⟨S2x3x32x512, .bf16⟩
  | .local _ .vmem, ⟨13, _⟩ => ⟨S2x3x32x256, .bf16⟩
  | _, _ => ⟨S2x512x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 1 → Bool
  | ⟨0, _⟩ => false
  | _ => false

abbrev dmaSemScoped : Fin 102 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | _ => false

abbrev sig : RefSig :=
  (ofTc nBuf bufTy 1 102 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_scratch5 : Ref sig .tc := ⟨.vmem, 11, rfl⟩
abbrev cc0_scratch6 : Ref sig .tc := ⟨.vmem, 12, rfl⟩
abbrev cc0_scratch7 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_7 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c_m4_i32 : BitVec 32 := 4294967292#32
  let v17 : BitVec 32 := Scalar.andi v2 c_m4_i32
  let c3_i32 : BitVec 32 := 3#32
  let v4 : BitVec 32 := Scalar.andi v2 c3_i32
  let c1_i32_0 : BitVec 32 := 1#32
  let v6 : BitVec 32 := Scalar.addi v4 c1_i32_0
  let c4_i32 : BitVec 32 := 4#32
  let c0_i32 : BitVec 32 := 0#32
  let v7 : BitVec 1 := Scalar.cmpi .eq c4_i32 c0_i32
  let c1_i32_1 : BitVec 32 := 1#32
  let v8 : BitVec 32 := Scalar.select v7 c1_i32_1 c4_i32
  let v9 : BitVec 32 := Scalar.remsi v6 v8
  let c0_i32_3 : BitVec 32 := 0#32
  let v11 : BitVec 1 := Scalar.cmpi .slt v9 c0_i32_3
  let c0_i32_4 : BitVec 32 := 0#32
  let v12 : BitVec 1 := Scalar.cmpi .slt v8 c0_i32_4
  let v13 : BitVec 1 := Scalar.xori v11 v12
  let c0_i32_2 : BitVec 32 := 0#32
  let v10 : BitVec 1 := Scalar.cmpi .ne v9 c0_i32_2
  let v14 : BitVec 1 := Scalar.andi v13 v10
  let v15 : BitVec 32 := Scalar.addi v9 v8
  let v16 : BitVec 32 := Scalar.select v14 v15 v9
  let v18 : BitVec 32 := Scalar.addi v17 v16
  let c1_i32_6 : BitVec 32 := 1#32
  let v19 : BitVec 32 := Scalar.muli v18 c1_i32_6
  let v20 : BitVec 32 := Scalar.addi c0_i32_7 v19
  v20.toNat
def k0_dev2 (d0 : Dev nD) : Nat :=
  let c0_i32_19 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_15 : BitVec 32 := 3#32
  let v32 : BitVec 32 := Scalar.andi v2 c3_i32_15
  let c4_i32_16 : BitVec 32 := 4#32
  let c2_i32 : BitVec 32 := 2#32
  let v5 : BitVec 32 := Scalar.shrsi v2 c2_i32
  let c1_i32_8 : BitVec 32 := 1#32
  let v21 : BitVec 32 := Scalar.addi v5 c1_i32_8
  let c4_i32_9 : BitVec 32 := 4#32
  let c0_i32_10 : BitVec 32 := 0#32
  let v22 : BitVec 1 := Scalar.cmpi .eq c4_i32_9 c0_i32_10
  let c1_i32_11 : BitVec 32 := 1#32
  let v23 : BitVec 32 := Scalar.select v22 c1_i32_11 c4_i32_9
  let v24 : BitVec 32 := Scalar.remsi v21 v23
  let c0_i32_13 : BitVec 32 := 0#32
  let v26 : BitVec 1 := Scalar.cmpi .slt v24 c0_i32_13
  let c0_i32_14 : BitVec 32 := 0#32
  let v27 : BitVec 1 := Scalar.cmpi .slt v23 c0_i32_14
  let v28 : BitVec 1 := Scalar.xori v26 v27
  let c0_i32_12 : BitVec 32 := 0#32
  let v25 : BitVec 1 := Scalar.cmpi .ne v24 c0_i32_12
  let v29 : BitVec 1 := Scalar.andi v28 v25
  let v30 : BitVec 32 := Scalar.addi v24 v23
  let v31 : BitVec 32 := Scalar.select v29 v30 v24
  let v33 : BitVec 32 := Scalar.muli c4_i32_16 v31
  let v34 : BitVec 32 := Scalar.addi v32 v33
  let c1_i32_18 : BitVec 32 := 1#32
  let v35 : BitVec 32 := Scalar.muli v34 c1_i32_18
  let v36 : BitVec 32 := Scalar.addi c0_i32_19 v35
  v36.toNat
def k0_dev3 (d0 : Dev nD) : Nat :=
  let c0_i32_30 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c_m4_i32_27 : BitVec 32 := 4294967292#32
  let v48 : BitVec 32 := Scalar.andi v2 c_m4_i32_27
  let c3_i32 : BitVec 32 := 3#32
  let v4 : BitVec 32 := Scalar.andi v2 c3_i32
  let c2_i32_20 : BitVec 32 := 2#32
  let v37 : BitVec 32 := Scalar.addi v4 c2_i32_20
  let c4_i32_21 : BitVec 32 := 4#32
  let c0_i32_22 : BitVec 32 := 0#32
  let v38 : BitVec 1 := Scalar.cmpi .eq c4_i32_21 c0_i32_22
  let c1_i32_23 : BitVec 32 := 1#32
  let v39 : BitVec 32 := Scalar.select v38 c1_i32_23 c4_i32_21
  let v40 : BitVec 32 := Scalar.remsi v37 v39
  let c0_i32_25 : BitVec 32 := 0#32
  let v42 : BitVec 1 := Scalar.cmpi .slt v40 c0_i32_25
  let c0_i32_26 : BitVec 32 := 0#32
  let v43 : BitVec 1 := Scalar.cmpi .slt v39 c0_i32_26
  let v44 : BitVec 1 := Scalar.xori v42 v43
  let c0_i32_24 : BitVec 32 := 0#32
  let v41 : BitVec 1 := Scalar.cmpi .ne v40 c0_i32_24
  let v45 : BitVec 1 := Scalar.andi v44 v41
  let v46 : BitVec 32 := Scalar.addi v40 v39
  let v47 : BitVec 32 := Scalar.select v45 v46 v40
  let v49 : BitVec 32 := Scalar.addi v48 v47
  let c1_i32_29 : BitVec 32 := 1#32
  let v50 : BitVec 32 := Scalar.muli v49 c1_i32_29
  let v51 : BitVec 32 := Scalar.addi c0_i32_30 v50
  v51.toNat
def k0_dev4 (d0 : Dev nD) : Nat :=
  let c0_i32_42 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_38 : BitVec 32 := 3#32
  let v63 : BitVec 32 := Scalar.andi v2 c3_i32_38
  let c4_i32_39 : BitVec 32 := 4#32
  let c2_i32 : BitVec 32 := 2#32
  let v5 : BitVec 32 := Scalar.shrsi v2 c2_i32
  let c2_i32_31 : BitVec 32 := 2#32
  let v52 : BitVec 32 := Scalar.addi v5 c2_i32_31
  let c4_i32_32 : BitVec 32 := 4#32
  let c0_i32_33 : BitVec 32 := 0#32
  let v53 : BitVec 1 := Scalar.cmpi .eq c4_i32_32 c0_i32_33
  let c1_i32_34 : BitVec 32 := 1#32
  let v54 : BitVec 32 := Scalar.select v53 c1_i32_34 c4_i32_32
  let v55 : BitVec 32 := Scalar.remsi v52 v54
  let c0_i32_36 : BitVec 32 := 0#32
  let v57 : BitVec 1 := Scalar.cmpi .slt v55 c0_i32_36
  let c0_i32_37 : BitVec 32 := 0#32
  let v58 : BitVec 1 := Scalar.cmpi .slt v54 c0_i32_37
  let v59 : BitVec 1 := Scalar.xori v57 v58
  let c0_i32_35 : BitVec 32 := 0#32
  let v56 : BitVec 1 := Scalar.cmpi .ne v55 c0_i32_35
  let v60 : BitVec 1 := Scalar.andi v59 v56
  let v61 : BitVec 32 := Scalar.addi v55 v54
  let v62 : BitVec 32 := Scalar.select v60 v61 v55
  let v64 : BitVec 32 := Scalar.muli c4_i32_39 v62
  let v65 : BitVec 32 := Scalar.addi v63 v64
  let c1_i32_41 : BitVec 32 := 1#32
  let v66 : BitVec 32 := Scalar.muli v65 c1_i32_41
  let v67 : BitVec 32 := Scalar.addi c0_i32_42 v66
  v67.toNat
def k0_dev5 (d0 : Dev nD) : Nat :=
  let c0_i32_53 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c_m4_i32_50 : BitVec 32 := 4294967292#32
  let v79 : BitVec 32 := Scalar.andi v2 c_m4_i32_50
  let c3_i32 : BitVec 32 := 3#32
  let v4 : BitVec 32 := Scalar.andi v2 c3_i32
  let c3_i32_43 : BitVec 32 := 3#32
  let v68 : BitVec 32 := Scalar.addi v4 c3_i32_43
  let c4_i32_44 : BitVec 32 := 4#32
  let c0_i32_45 : BitVec 32 := 0#32
  let v69 : BitVec 1 := Scalar.cmpi .eq c4_i32_44 c0_i32_45
  let c1_i32_46 : BitVec 32 := 1#32
  let v70 : BitVec 32 := Scalar.select v69 c1_i32_46 c4_i32_44
  let v71 : BitVec 32 := Scalar.remsi v68 v70
  let c0_i32_48 : BitVec 32 := 0#32
  let v73 : BitVec 1 := Scalar.cmpi .slt v71 c0_i32_48
  let c0_i32_49 : BitVec 32 := 0#32
  let v74 : BitVec 1 := Scalar.cmpi .slt v70 c0_i32_49
  let v75 : BitVec 1 := Scalar.xori v73 v74
  let c0_i32_47 : BitVec 32 := 0#32
  let v72 : BitVec 1 := Scalar.cmpi .ne v71 c0_i32_47
  let v76 : BitVec 1 := Scalar.andi v75 v72
  let v77 : BitVec 32 := Scalar.addi v71 v70
  let v78 : BitVec 32 := Scalar.select v76 v77 v71
  let v80 : BitVec 32 := Scalar.addi v79 v78
  let c1_i32_52 : BitVec 32 := 1#32
  let v81 : BitVec 32 := Scalar.muli v80 c1_i32_52
  let v82 : BitVec 32 := Scalar.addi c0_i32_53 v81
  v82.toNat
def k0_dev6 (d0 : Dev nD) : Nat :=
  let c0_i32_65 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_61 : BitVec 32 := 3#32
  let v94 : BitVec 32 := Scalar.andi v2 c3_i32_61
  let c4_i32_62 : BitVec 32 := 4#32
  let c2_i32 : BitVec 32 := 2#32
  let v5 : BitVec 32 := Scalar.shrsi v2 c2_i32
  let c3_i32_54 : BitVec 32 := 3#32
  let v83 : BitVec 32 := Scalar.addi v5 c3_i32_54
  let c4_i32_55 : BitVec 32 := 4#32
  let c0_i32_56 : BitVec 32 := 0#32
  let v84 : BitVec 1 := Scalar.cmpi .eq c4_i32_55 c0_i32_56
  let c1_i32_57 : BitVec 32 := 1#32
  let v85 : BitVec 32 := Scalar.select v84 c1_i32_57 c4_i32_55
  let v86 : BitVec 32 := Scalar.remsi v83 v85
  let c0_i32_59 : BitVec 32 := 0#32
  let v88 : BitVec 1 := Scalar.cmpi .slt v86 c0_i32_59
  let c0_i32_60 : BitVec 32 := 0#32
  let v89 : BitVec 1 := Scalar.cmpi .slt v85 c0_i32_60
  let v90 : BitVec 1 := Scalar.xori v88 v89
  let c0_i32_58 : BitVec 32 := 0#32
  let v87 : BitVec 1 := Scalar.cmpi .ne v86 c0_i32_58
  let v91 : BitVec 1 := Scalar.andi v90 v87
  let v92 : BitVec 32 := Scalar.addi v86 v85
  let v93 : BitVec 32 := Scalar.select v91 v92 v86
  let v95 : BitVec 32 := Scalar.muli c4_i32_62 v93
  let v96 : BitVec 32 := Scalar.addi v94 v95
  let c1_i32_64 : BitVec 32 := 1#32
  let v97 : BitVec 32 := Scalar.muli v96 c1_i32_64
  let v98 : BitVec 32 := Scalar.addi c0_i32_65 v97
  v98.toNat
def k0_mult1 (d0 : Dev nD) : BitVec 32 :=
  let c0_i32_82 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_80 : BitVec 32 := 3#32
  let v153 : BitVec 32 := Scalar.andi v2 c3_i32_80
  let c128_i32 : BitVec 32 := 128#32
  let v155 : BitVec 32 := Scalar.muli v153 c128_i32
  let v156 : BitVec 32 := Scalar.addi c0_i32_82 v155
  v156
def k0_mult2 (d0 : Dev nD) : BitVec 32 :=
  let c0_i32_84 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_81 : BitVec 32 := 2#32
  let v154 : BitVec 32 := Scalar.shrsi v2 c2_i32_81
  let c128_i32_83 : BitVec 32 := 128#32
  let v158 : BitVec 32 := Scalar.muli v154 c128_i32_83
  let v159 : BitVec 32 := Scalar.addi c0_i32_84 v158
  v159
def k0_mult3 (d0 : Dev nD) : BitVec 32 :=
  let c0_i32_82 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_80 : BitVec 32 := 3#32
  let v153 : BitVec 32 := Scalar.andi v2 c3_i32_80
  let c128_i32 : BitVec 32 := 128#32
  let v155 : BitVec 32 := Scalar.muli v153 c128_i32
  let v156 : BitVec 32 := Scalar.addi c0_i32_82 v155
  let v157 : BitVec 32 := v156
  let c2_i32_81 : BitVec 32 := 2#32
  let v154 : BitVec 32 := Scalar.shrsi v2 c2_i32_81
  let c32_i32 : BitVec 32 := 32#32
  let v161 : BitVec 32 := Scalar.muli v154 c32_i32
  let v162 : BitVec 32 := Scalar.addi v157 v161
  v162
def k0_mult4 (d0 : Dev nD) : BitVec 32 :=
  let c0_i32_84 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_81 : BitVec 32 := 2#32
  let v154 : BitVec 32 := Scalar.shrsi v2 c2_i32_81
  let c128_i32_83 : BitVec 32 := 128#32
  let v158 : BitVec 32 := Scalar.muli v154 c128_i32_83
  let v159 : BitVec 32 := Scalar.addi c0_i32_84 v158
  let v160 : BitVec 32 := v159
  let c3_i32_80 : BitVec 32 := 3#32
  let v153 : BitVec 32 := Scalar.andi v2 c3_i32_80
  let c32_i32_85 : BitVec 32 := 32#32
  let v164 : BitVec 32 := Scalar.muli v153 c32_i32_85
  let v165 : BitVec 32 := Scalar.addi v160 v164
  v165
def k0_mult5 (d0 : Dev nD) : BitVec 32 :=
  let c512_i32 : BitVec 32 := 512#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_86 : BitVec 32 := 3#32
  let v167 : BitVec 32 := Scalar.andi v2 c3_i32_86
  let c128_i32_88 : BitVec 32 := 128#32
  let v169 : BitVec 32 := Scalar.muli v167 c128_i32_88
  let v170 : BitVec 32 := Scalar.addi c512_i32 v169
  v170
def k0_mult6 (d0 : Dev nD) : BitVec 32 :=
  let c512_i32_90 : BitVec 32 := 512#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_87 : BitVec 32 := 2#32
  let v168 : BitVec 32 := Scalar.shrsi v2 c2_i32_87
  let c128_i32_89 : BitVec 32 := 128#32
  let v172 : BitVec 32 := Scalar.muli v168 c128_i32_89
  let v173 : BitVec 32 := Scalar.addi c512_i32_90 v172
  v173
def k0_mult7 (d0 : Dev nD) : BitVec 32 :=
  let c512_i32 : BitVec 32 := 512#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_86 : BitVec 32 := 3#32
  let v167 : BitVec 32 := Scalar.andi v2 c3_i32_86
  let c128_i32_88 : BitVec 32 := 128#32
  let v169 : BitVec 32 := Scalar.muli v167 c128_i32_88
  let v170 : BitVec 32 := Scalar.addi c512_i32 v169
  let v171 : BitVec 32 := v170
  let c2_i32_87 : BitVec 32 := 2#32
  let v168 : BitVec 32 := Scalar.shrsi v2 c2_i32_87
  let c32_i32_91 : BitVec 32 := 32#32
  let v175 : BitVec 32 := Scalar.muli v168 c32_i32_91
  let v176 : BitVec 32 := Scalar.addi v171 v175
  v176
def k0_mult8 (d0 : Dev nD) : BitVec 32 :=
  let c512_i32_90 : BitVec 32 := 512#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_87 : BitVec 32 := 2#32
  let v168 : BitVec 32 := Scalar.shrsi v2 c2_i32_87
  let c128_i32_89 : BitVec 32 := 128#32
  let v172 : BitVec 32 := Scalar.muli v168 c128_i32_89
  let v173 : BitVec 32 := Scalar.addi c512_i32_90 v172
  let v174 : BitVec 32 := v173
  let c3_i32_86 : BitVec 32 := 3#32
  let v167 : BitVec 32 := Scalar.andi v2 c3_i32_86
  let c32_i32_92 : BitVec 32 := 32#32
  let v178 : BitVec 32 := Scalar.muli v167 c32_i32_92
  let v179 : BitVec 32 := Scalar.addi v174 v178
  v179
def k0_mult9 (d0 : Dev nD) : BitVec 32 :=
  let c0_i32_236 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_80 : BitVec 32 := 3#32
  let v153 : BitVec 32 := Scalar.andi v2 c3_i32_80
  let c1_i32_228 : BitVec 32 := 1#32
  let v470 : BitVec 32 := Scalar.addi v153 c1_i32_228
  let c4_i32_229 : BitVec 32 := 4#32
  let c0_i32_230 : BitVec 32 := 0#32
  let v471 : BitVec 1 := Scalar.cmpi .eq c4_i32_229 c0_i32_230
  let c1_i32_231 : BitVec 32 := 1#32
  let v472 : BitVec 32 := Scalar.select v471 c1_i32_231 c4_i32_229
  let v473 : BitVec 32 := Scalar.remsi v470 v472
  let c0_i32_233 : BitVec 32 := 0#32
  let v475 : BitVec 1 := Scalar.cmpi .slt v473 c0_i32_233
  let c0_i32_234 : BitVec 32 := 0#32
  let v476 : BitVec 1 := Scalar.cmpi .slt v472 c0_i32_234
  let v477 : BitVec 1 := Scalar.xori v475 v476
  let c0_i32_232 : BitVec 32 := 0#32
  let v474 : BitVec 1 := Scalar.cmpi .ne v473 c0_i32_232
  let v478 : BitVec 1 := Scalar.andi v477 v474
  let v479 : BitVec 32 := Scalar.addi v473 v472
  let v480 : BitVec 32 := Scalar.select v478 v479 v473
  let c128_i32_235 : BitVec 32 := 128#32
  let v481 : BitVec 32 := Scalar.muli v480 c128_i32_235
  let v482 : BitVec 32 := Scalar.addi c0_i32_236 v481
  v482
def k0_off1 (d0 : Dev nD) (c0_i32_236 : BitVec 32) (c1_i32_228 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_80 : BitVec 32 := 3#32
  let v153 : BitVec 32 := Scalar.andi v2 c3_i32_80
  let v470 : BitVec 32 := Scalar.addi v153 c1_i32_228
  let c4_i32_229 : BitVec 32 := 4#32
  let c0_i32_230 : BitVec 32 := 0#32
  let v471 : BitVec 1 := Scalar.cmpi .eq c4_i32_229 c0_i32_230
  let c1_i32_231 : BitVec 32 := 1#32
  let v472 : BitVec 32 := Scalar.select v471 c1_i32_231 c4_i32_229
  let v473 : BitVec 32 := Scalar.remsi v470 v472
  let c0_i32_233 : BitVec 32 := 0#32
  let v475 : BitVec 1 := Scalar.cmpi .slt v473 c0_i32_233
  let c0_i32_234 : BitVec 32 := 0#32
  let v476 : BitVec 1 := Scalar.cmpi .slt v472 c0_i32_234
  let v477 : BitVec 1 := Scalar.xori v475 v476
  let c0_i32_232 : BitVec 32 := 0#32
  let v474 : BitVec 1 := Scalar.cmpi .ne v473 c0_i32_232
  let v478 : BitVec 1 := Scalar.andi v477 v474
  let v479 : BitVec 32 := Scalar.addi v473 v472
  let v480 : BitVec 32 := Scalar.select v478 v479 v473
  let c128_i32_235 : BitVec 32 := 128#32
  let v481 : BitVec 32 := Scalar.muli v480 c128_i32_235
  let v482 : BitVec 32 := Scalar.addi c0_i32_236 v481
  let v483 : BitVec 32 := v482
  let c0_i32_250 : BitVec 32 := 0#32
  ![v483.toNat, 0]
def k0_dev7 (d0 : Dev nD) : Nat :=
  let c0_i32_247 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c_m4_i32_237 : BitVec 32 := 4294967292#32
  let v484 : BitVec 32 := Scalar.andi v2 c_m4_i32_237
  let c3_i32_80 : BitVec 32 := 3#32
  let v153 : BitVec 32 := Scalar.andi v2 c3_i32_80
  let c1_i32_228 : BitVec 32 := 1#32
  let v470 : BitVec 32 := Scalar.addi v153 c1_i32_228
  let c4_i32_229 : BitVec 32 := 4#32
  let c0_i32_230 : BitVec 32 := 0#32
  let v471 : BitVec 1 := Scalar.cmpi .eq c4_i32_229 c0_i32_230
  let c1_i32_231 : BitVec 32 := 1#32
  let v472 : BitVec 32 := Scalar.select v471 c1_i32_231 c4_i32_229
  let v473 : BitVec 32 := Scalar.remsi v470 v472
  let c0_i32_233 : BitVec 32 := 0#32
  let v475 : BitVec 1 := Scalar.cmpi .slt v473 c0_i32_233
  let c0_i32_234 : BitVec 32 := 0#32
  let v476 : BitVec 1 := Scalar.cmpi .slt v472 c0_i32_234
  let v477 : BitVec 1 := Scalar.xori v475 v476
  let c0_i32_232 : BitVec 32 := 0#32
  let v474 : BitVec 1 := Scalar.cmpi .ne v473 c0_i32_232
  let v478 : BitVec 1 := Scalar.andi v477 v474
  let v479 : BitVec 32 := Scalar.addi v473 v472
  let v480 : BitVec 32 := Scalar.select v478 v479 v473
  let v485 : BitVec 32 := Scalar.addi v484 v480
  let c1_i32_246 : BitVec 32 := 1#32
  let v486 : BitVec 32 := Scalar.muli v485 c1_i32_246
  let v487 : BitVec 32 := Scalar.addi c0_i32_247 v486
  v487.toNat
def k0_mult10 (d0 : Dev nD) : BitVec 32 :=
  let c0_i32_259 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_80 : BitVec 32 := 3#32
  let v153 : BitVec 32 := Scalar.andi v2 c3_i32_80
  let c2_i32_251 : BitVec 32 := 2#32
  let v495 : BitVec 32 := Scalar.addi v153 c2_i32_251
  let c4_i32_252 : BitVec 32 := 4#32
  let c0_i32_253 : BitVec 32 := 0#32
  let v496 : BitVec 1 := Scalar.cmpi .eq c4_i32_252 c0_i32_253
  let c1_i32_254 : BitVec 32 := 1#32
  let v497 : BitVec 32 := Scalar.select v496 c1_i32_254 c4_i32_252
  let v498 : BitVec 32 := Scalar.remsi v495 v497
  let c0_i32_256 : BitVec 32 := 0#32
  let v500 : BitVec 1 := Scalar.cmpi .slt v498 c0_i32_256
  let c0_i32_257 : BitVec 32 := 0#32
  let v501 : BitVec 1 := Scalar.cmpi .slt v497 c0_i32_257
  let v502 : BitVec 1 := Scalar.xori v500 v501
  let c0_i32_255 : BitVec 32 := 0#32
  let v499 : BitVec 1 := Scalar.cmpi .ne v498 c0_i32_255
  let v503 : BitVec 1 := Scalar.andi v502 v499
  let v504 : BitVec 32 := Scalar.addi v498 v497
  let v505 : BitVec 32 := Scalar.select v503 v504 v498
  let c128_i32_258 : BitVec 32 := 128#32
  let v506 : BitVec 32 := Scalar.muli v505 c128_i32_258
  let v507 : BitVec 32 := Scalar.addi c0_i32_259 v506
  v507
def k0_dev8 (d0 : Dev nD) : Nat :=
  let c0_i32_270 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c_m4_i32_260 : BitVec 32 := 4294967292#32
  let v509 : BitVec 32 := Scalar.andi v2 c_m4_i32_260
  let c3_i32_80 : BitVec 32 := 3#32
  let v153 : BitVec 32 := Scalar.andi v2 c3_i32_80
  let c2_i32_251 : BitVec 32 := 2#32
  let v495 : BitVec 32 := Scalar.addi v153 c2_i32_251
  let c4_i32_252 : BitVec 32 := 4#32
  let c0_i32_253 : BitVec 32 := 0#32
  let v496 : BitVec 1 := Scalar.cmpi .eq c4_i32_252 c0_i32_253
  let c1_i32_254 : BitVec 32 := 1#32
  let v497 : BitVec 32 := Scalar.select v496 c1_i32_254 c4_i32_252
  let v498 : BitVec 32 := Scalar.remsi v495 v497
  let c0_i32_256 : BitVec 32 := 0#32
  let v500 : BitVec 1 := Scalar.cmpi .slt v498 c0_i32_256
  let c0_i32_257 : BitVec 32 := 0#32
  let v501 : BitVec 1 := Scalar.cmpi .slt v497 c0_i32_257
  let v502 : BitVec 1 := Scalar.xori v500 v501
  let c0_i32_255 : BitVec 32 := 0#32
  let v499 : BitVec 1 := Scalar.cmpi .ne v498 c0_i32_255
  let v503 : BitVec 1 := Scalar.andi v502 v499
  let v504 : BitVec 32 := Scalar.addi v498 v497
  let v505 : BitVec 32 := Scalar.select v503 v504 v498
  let v510 : BitVec 32 := Scalar.addi v509 v505
  let c1_i32_269 : BitVec 32 := 1#32
  let v511 : BitVec 32 := Scalar.muli v510 c1_i32_269
  let v512 : BitVec 32 := Scalar.addi c0_i32_270 v511
  v512.toNat
def k0_mult11 (d0 : Dev nD) : BitVec 32 :=
  let c0_i32_282 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_80 : BitVec 32 := 3#32
  let v153 : BitVec 32 := Scalar.andi v2 c3_i32_80
  let c3_i32_274 : BitVec 32 := 3#32
  let v520 : BitVec 32 := Scalar.addi v153 c3_i32_274
  let c4_i32_275 : BitVec 32 := 4#32
  let c0_i32_276 : BitVec 32 := 0#32
  let v521 : BitVec 1 := Scalar.cmpi .eq c4_i32_275 c0_i32_276
  let c1_i32_277 : BitVec 32 := 1#32
  let v522 : BitVec 32 := Scalar.select v521 c1_i32_277 c4_i32_275
  let v523 : BitVec 32 := Scalar.remsi v520 v522
  let c0_i32_279 : BitVec 32 := 0#32
  let v525 : BitVec 1 := Scalar.cmpi .slt v523 c0_i32_279
  let c0_i32_280 : BitVec 32 := 0#32
  let v526 : BitVec 1 := Scalar.cmpi .slt v522 c0_i32_280
  let v527 : BitVec 1 := Scalar.xori v525 v526
  let c0_i32_278 : BitVec 32 := 0#32
  let v524 : BitVec 1 := Scalar.cmpi .ne v523 c0_i32_278
  let v528 : BitVec 1 := Scalar.andi v527 v524
  let v529 : BitVec 32 := Scalar.addi v523 v522
  let v530 : BitVec 32 := Scalar.select v528 v529 v523
  let c128_i32_281 : BitVec 32 := 128#32
  let v531 : BitVec 32 := Scalar.muli v530 c128_i32_281
  let v532 : BitVec 32 := Scalar.addi c0_i32_282 v531
  v532
def k0_dev9 (d0 : Dev nD) : Nat :=
  let c0_i32_293 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c_m4_i32_283 : BitVec 32 := 4294967292#32
  let v534 : BitVec 32 := Scalar.andi v2 c_m4_i32_283
  let c3_i32_80 : BitVec 32 := 3#32
  let v153 : BitVec 32 := Scalar.andi v2 c3_i32_80
  let c3_i32_274 : BitVec 32 := 3#32
  let v520 : BitVec 32 := Scalar.addi v153 c3_i32_274
  let c4_i32_275 : BitVec 32 := 4#32
  let c0_i32_276 : BitVec 32 := 0#32
  let v521 : BitVec 1 := Scalar.cmpi .eq c4_i32_275 c0_i32_276
  let c1_i32_277 : BitVec 32 := 1#32
  let v522 : BitVec 32 := Scalar.select v521 c1_i32_277 c4_i32_275
  let v523 : BitVec 32 := Scalar.remsi v520 v522
  let c0_i32_279 : BitVec 32 := 0#32
  let v525 : BitVec 1 := Scalar.cmpi .slt v523 c0_i32_279
  let c0_i32_280 : BitVec 32 := 0#32
  let v526 : BitVec 1 := Scalar.cmpi .slt v522 c0_i32_280
  let v527 : BitVec 1 := Scalar.xori v525 v526
  let c0_i32_278 : BitVec 32 := 0#32
  let v524 : BitVec 1 := Scalar.cmpi .ne v523 c0_i32_278
  let v528 : BitVec 1 := Scalar.andi v527 v524
  let v529 : BitVec 32 := Scalar.addi v523 v522
  let v530 : BitVec 32 := Scalar.select v528 v529 v523
  let v535 : BitVec 32 := Scalar.addi v534 v530
  let c1_i32_292 : BitVec 32 := 1#32
  let v536 : BitVec 32 := Scalar.muli v535 c1_i32_292
  let v537 : BitVec 32 := Scalar.addi c0_i32_293 v536
  v537.toNat
def k0_mult12 (d0 : Dev nD) : BitVec 32 :=
  let c0_i32_305 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_81 : BitVec 32 := 2#32
  let v154 : BitVec 32 := Scalar.shrsi v2 c2_i32_81
  let c1_i32_297 : BitVec 32 := 1#32
  let v545 : BitVec 32 := Scalar.addi v154 c1_i32_297
  let c4_i32_298 : BitVec 32 := 4#32
  let c0_i32_299 : BitVec 32 := 0#32
  let v546 : BitVec 1 := Scalar.cmpi .eq c4_i32_298 c0_i32_299
  let c1_i32_300 : BitVec 32 := 1#32
  let v547 : BitVec 32 := Scalar.select v546 c1_i32_300 c4_i32_298
  let v548 : BitVec 32 := Scalar.remsi v545 v547
  let c0_i32_302 : BitVec 32 := 0#32
  let v550 : BitVec 1 := Scalar.cmpi .slt v548 c0_i32_302
  let c0_i32_303 : BitVec 32 := 0#32
  let v551 : BitVec 1 := Scalar.cmpi .slt v547 c0_i32_303
  let v552 : BitVec 1 := Scalar.xori v550 v551
  let c0_i32_301 : BitVec 32 := 0#32
  let v549 : BitVec 1 := Scalar.cmpi .ne v548 c0_i32_301
  let v553 : BitVec 1 := Scalar.andi v552 v549
  let v554 : BitVec 32 := Scalar.addi v548 v547
  let v555 : BitVec 32 := Scalar.select v553 v554 v548
  let c128_i32_304 : BitVec 32 := 128#32
  let v556 : BitVec 32 := Scalar.muli v555 c128_i32_304
  let v557 : BitVec 32 := Scalar.addi c0_i32_305 v556
  v557
def k0_off2 (d0 : Dev nD) (c0_i32_305 : BitVec 32) (c1_i32_297 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_81 : BitVec 32 := 2#32
  let v154 : BitVec 32 := Scalar.shrsi v2 c2_i32_81
  let v545 : BitVec 32 := Scalar.addi v154 c1_i32_297
  let c4_i32_298 : BitVec 32 := 4#32
  let c0_i32_299 : BitVec 32 := 0#32
  let v546 : BitVec 1 := Scalar.cmpi .eq c4_i32_298 c0_i32_299
  let c1_i32_300 : BitVec 32 := 1#32
  let v547 : BitVec 32 := Scalar.select v546 c1_i32_300 c4_i32_298
  let v548 : BitVec 32 := Scalar.remsi v545 v547
  let c0_i32_302 : BitVec 32 := 0#32
  let v550 : BitVec 1 := Scalar.cmpi .slt v548 c0_i32_302
  let c0_i32_303 : BitVec 32 := 0#32
  let v551 : BitVec 1 := Scalar.cmpi .slt v547 c0_i32_303
  let v552 : BitVec 1 := Scalar.xori v550 v551
  let c0_i32_301 : BitVec 32 := 0#32
  let v549 : BitVec 1 := Scalar.cmpi .ne v548 c0_i32_301
  let v553 : BitVec 1 := Scalar.andi v552 v549
  let v554 : BitVec 32 := Scalar.addi v548 v547
  let v555 : BitVec 32 := Scalar.select v553 v554 v548
  let c128_i32_304 : BitVec 32 := 128#32
  let v556 : BitVec 32 := Scalar.muli v555 c128_i32_304
  let v557 : BitVec 32 := Scalar.addi c0_i32_305 v556
  let v558 : BitVec 32 := v557
  let c512_i32_320 : BitVec 32 := 512#32
  ![v558.toNat, 512]
def k0_dev10 (d0 : Dev nD) : Nat :=
  let c0_i32_317 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_306 : BitVec 32 := 3#32
  let v559 : BitVec 32 := Scalar.andi v2 c3_i32_306
  let c4_i32_307 : BitVec 32 := 4#32
  let c2_i32_81 : BitVec 32 := 2#32
  let v154 : BitVec 32 := Scalar.shrsi v2 c2_i32_81
  let c1_i32_297 : BitVec 32 := 1#32
  let v545 : BitVec 32 := Scalar.addi v154 c1_i32_297
  let c4_i32_298 : BitVec 32 := 4#32
  let c0_i32_299 : BitVec 32 := 0#32
  let v546 : BitVec 1 := Scalar.cmpi .eq c4_i32_298 c0_i32_299
  let c1_i32_300 : BitVec 32 := 1#32
  let v547 : BitVec 32 := Scalar.select v546 c1_i32_300 c4_i32_298
  let v548 : BitVec 32 := Scalar.remsi v545 v547
  let c0_i32_302 : BitVec 32 := 0#32
  let v550 : BitVec 1 := Scalar.cmpi .slt v548 c0_i32_302
  let c0_i32_303 : BitVec 32 := 0#32
  let v551 : BitVec 1 := Scalar.cmpi .slt v547 c0_i32_303
  let v552 : BitVec 1 := Scalar.xori v550 v551
  let c0_i32_301 : BitVec 32 := 0#32
  let v549 : BitVec 1 := Scalar.cmpi .ne v548 c0_i32_301
  let v553 : BitVec 1 := Scalar.andi v552 v549
  let v554 : BitVec 32 := Scalar.addi v548 v547
  let v555 : BitVec 32 := Scalar.select v553 v554 v548
  let v560 : BitVec 32 := Scalar.muli c4_i32_307 v555
  let v561 : BitVec 32 := Scalar.addi v559 v560
  let c1_i32_316 : BitVec 32 := 1#32
  let v562 : BitVec 32 := Scalar.muli v561 c1_i32_316
  let v563 : BitVec 32 := Scalar.addi c0_i32_317 v562
  v563.toNat
def k0_mult13 (d0 : Dev nD) : BitVec 32 :=
  let c0_i32_329 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_81 : BitVec 32 := 2#32
  let v154 : BitVec 32 := Scalar.shrsi v2 c2_i32_81
  let c2_i32_321 : BitVec 32 := 2#32
  let v571 : BitVec 32 := Scalar.addi v154 c2_i32_321
  let c4_i32_322 : BitVec 32 := 4#32
  let c0_i32_323 : BitVec 32 := 0#32
  let v572 : BitVec 1 := Scalar.cmpi .eq c4_i32_322 c0_i32_323
  let c1_i32_324 : BitVec 32 := 1#32
  let v573 : BitVec 32 := Scalar.select v572 c1_i32_324 c4_i32_322
  let v574 : BitVec 32 := Scalar.remsi v571 v573
  let c0_i32_326 : BitVec 32 := 0#32
  let v576 : BitVec 1 := Scalar.cmpi .slt v574 c0_i32_326
  let c0_i32_327 : BitVec 32 := 0#32
  let v577 : BitVec 1 := Scalar.cmpi .slt v573 c0_i32_327
  let v578 : BitVec 1 := Scalar.xori v576 v577
  let c0_i32_325 : BitVec 32 := 0#32
  let v575 : BitVec 1 := Scalar.cmpi .ne v574 c0_i32_325
  let v579 : BitVec 1 := Scalar.andi v578 v575
  let v580 : BitVec 32 := Scalar.addi v574 v573
  let v581 : BitVec 32 := Scalar.select v579 v580 v574
  let c128_i32_328 : BitVec 32 := 128#32
  let v582 : BitVec 32 := Scalar.muli v581 c128_i32_328
  let v583 : BitVec 32 := Scalar.addi c0_i32_329 v582
  v583
def k0_dev11 (d0 : Dev nD) : Nat :=
  let c0_i32_341 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_330 : BitVec 32 := 3#32
  let v585 : BitVec 32 := Scalar.andi v2 c3_i32_330
  let c4_i32_331 : BitVec 32 := 4#32
  let c2_i32_81 : BitVec 32 := 2#32
  let v154 : BitVec 32 := Scalar.shrsi v2 c2_i32_81
  let c2_i32_321 : BitVec 32 := 2#32
  let v571 : BitVec 32 := Scalar.addi v154 c2_i32_321
  let c4_i32_322 : BitVec 32 := 4#32
  let c0_i32_323 : BitVec 32 := 0#32
  let v572 : BitVec 1 := Scalar.cmpi .eq c4_i32_322 c0_i32_323
  let c1_i32_324 : BitVec 32 := 1#32
  let v573 : BitVec 32 := Scalar.select v572 c1_i32_324 c4_i32_322
  let v574 : BitVec 32 := Scalar.remsi v571 v573
  let c0_i32_326 : BitVec 32 := 0#32
  let v576 : BitVec 1 := Scalar.cmpi .slt v574 c0_i32_326
  let c0_i32_327 : BitVec 32 := 0#32
  let v577 : BitVec 1 := Scalar.cmpi .slt v573 c0_i32_327
  let v578 : BitVec 1 := Scalar.xori v576 v577
  let c0_i32_325 : BitVec 32 := 0#32
  let v575 : BitVec 1 := Scalar.cmpi .ne v574 c0_i32_325
  let v579 : BitVec 1 := Scalar.andi v578 v575
  let v580 : BitVec 32 := Scalar.addi v574 v573
  let v581 : BitVec 32 := Scalar.select v579 v580 v574
  let v586 : BitVec 32 := Scalar.muli c4_i32_331 v581
  let v587 : BitVec 32 := Scalar.addi v585 v586
  let c1_i32_340 : BitVec 32 := 1#32
  let v588 : BitVec 32 := Scalar.muli v587 c1_i32_340
  let v589 : BitVec 32 := Scalar.addi c0_i32_341 v588
  v589.toNat
def k0_mult14 (d0 : Dev nD) : BitVec 32 :=
  let c0_i32_353 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_81 : BitVec 32 := 2#32
  let v154 : BitVec 32 := Scalar.shrsi v2 c2_i32_81
  let c3_i32_345 : BitVec 32 := 3#32
  let v597 : BitVec 32 := Scalar.addi v154 c3_i32_345
  let c4_i32_346 : BitVec 32 := 4#32
  let c0_i32_347 : BitVec 32 := 0#32
  let v598 : BitVec 1 := Scalar.cmpi .eq c4_i32_346 c0_i32_347
  let c1_i32_348 : BitVec 32 := 1#32
  let v599 : BitVec 32 := Scalar.select v598 c1_i32_348 c4_i32_346
  let v600 : BitVec 32 := Scalar.remsi v597 v599
  let c0_i32_350 : BitVec 32 := 0#32
  let v602 : BitVec 1 := Scalar.cmpi .slt v600 c0_i32_350
  let c0_i32_351 : BitVec 32 := 0#32
  let v603 : BitVec 1 := Scalar.cmpi .slt v599 c0_i32_351
  let v604 : BitVec 1 := Scalar.xori v602 v603
  let c0_i32_349 : BitVec 32 := 0#32
  let v601 : BitVec 1 := Scalar.cmpi .ne v600 c0_i32_349
  let v605 : BitVec 1 := Scalar.andi v604 v601
  let v606 : BitVec 32 := Scalar.addi v600 v599
  let v607 : BitVec 32 := Scalar.select v605 v606 v600
  let c128_i32_352 : BitVec 32 := 128#32
  let v608 : BitVec 32 := Scalar.muli v607 c128_i32_352
  let v609 : BitVec 32 := Scalar.addi c0_i32_353 v608
  v609
def k0_dev12 (d0 : Dev nD) : Nat :=
  let c0_i32_365 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_354 : BitVec 32 := 3#32
  let v611 : BitVec 32 := Scalar.andi v2 c3_i32_354
  let c4_i32_355 : BitVec 32 := 4#32
  let c2_i32_81 : BitVec 32 := 2#32
  let v154 : BitVec 32 := Scalar.shrsi v2 c2_i32_81
  let c3_i32_345 : BitVec 32 := 3#32
  let v597 : BitVec 32 := Scalar.addi v154 c3_i32_345
  let c4_i32_346 : BitVec 32 := 4#32
  let c0_i32_347 : BitVec 32 := 0#32
  let v598 : BitVec 1 := Scalar.cmpi .eq c4_i32_346 c0_i32_347
  let c1_i32_348 : BitVec 32 := 1#32
  let v599 : BitVec 32 := Scalar.select v598 c1_i32_348 c4_i32_346
  let v600 : BitVec 32 := Scalar.remsi v597 v599
  let c0_i32_350 : BitVec 32 := 0#32
  let v602 : BitVec 1 := Scalar.cmpi .slt v600 c0_i32_350
  let c0_i32_351 : BitVec 32 := 0#32
  let v603 : BitVec 1 := Scalar.cmpi .slt v599 c0_i32_351
  let v604 : BitVec 1 := Scalar.xori v602 v603
  let c0_i32_349 : BitVec 32 := 0#32
  let v601 : BitVec 1 := Scalar.cmpi .ne v600 c0_i32_349
  let v605 : BitVec 1 := Scalar.andi v604 v601
  let v606 : BitVec 32 := Scalar.addi v600 v599
  let v607 : BitVec 32 := Scalar.select v605 v606 v600
  let v612 : BitVec 32 := Scalar.muli c4_i32_355 v607
  let v613 : BitVec 32 := Scalar.addi v611 v612
  let c1_i32_364 : BitVec 32 := 1#32
  let v614 : BitVec 32 := Scalar.muli v613 c1_i32_364
  let v615 : BitVec 32 := Scalar.addi c0_i32_365 v614
  v615.toNat
def k0_off3 (d0 : Dev nD) (c0_i32_82 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_80 : BitVec 32 := 3#32
  let v153 : BitVec 32 := Scalar.andi v2 c3_i32_80
  let c128_i32 : BitVec 32 := 128#32
  let v155 : BitVec 32 := Scalar.muli v153 c128_i32
  let v156 : BitVec 32 := Scalar.addi c0_i32_82 v155
  let v157 : BitVec 32 := v156
  let v943 : Index := Scalar.indexCast v157
  let c0_582 : Index := 0#32
  ![v943.toNat, 0]
def k0_off4 (d0 : Dev nD) (c0_i32_84 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_81 : BitVec 32 := 2#32
  let v154 : BitVec 32 := Scalar.shrsi v2 c2_i32_81
  let c128_i32_83 : BitVec 32 := 128#32
  let v158 : BitVec 32 := Scalar.muli v154 c128_i32_83
  let v159 : BitVec 32 := Scalar.addi c0_i32_84 v158
  let v160 : BitVec 32 := v159
  let v997 : Index := Scalar.indexCast v160
  let c512_671 : Index := 512#32
  ![v997.toNat, 512]
def k0_mult15 (d0 : Dev nD) : BitVec 32 :=
  let c0_i32_82 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_80 : BitVec 32 := 3#32
  let v153 : BitVec 32 := Scalar.andi v2 c3_i32_80
  let c128_i32 : BitVec 32 := 128#32
  let v155 : BitVec 32 := Scalar.muli v153 c128_i32
  let v156 : BitVec 32 := Scalar.addi c0_i32_82 v155
  let v157 : BitVec 32 := v156
  let c2_i32_81 : BitVec 32 := 2#32
  let v154 : BitVec 32 := Scalar.shrsi v2 c2_i32_81
  let c1_i32_685 : BitVec 32 := 1#32
  let v1015 : BitVec 32 := Scalar.addi v154 c1_i32_685
  let c4_i32_686 : BitVec 32 := 4#32
  let c0_i32_687 : BitVec 32 := 0#32
  let v1016 : BitVec 1 := Scalar.cmpi .eq c4_i32_686 c0_i32_687
  let c1_i32_688 : BitVec 32 := 1#32
  let v1017 : BitVec 32 := Scalar.select v1016 c1_i32_688 c4_i32_686
  let v1018 : BitVec 32 := Scalar.remsi v1015 v1017
  let c0_i32_690 : BitVec 32 := 0#32
  let v1020 : BitVec 1 := Scalar.cmpi .slt v1018 c0_i32_690
  let c0_i32_691 : BitVec 32 := 0#32
  let v1021 : BitVec 1 := Scalar.cmpi .slt v1017 c0_i32_691
  let v1022 : BitVec 1 := Scalar.xori v1020 v1021
  let c0_i32_689 : BitVec 32 := 0#32
  let v1019 : BitVec 1 := Scalar.cmpi .ne v1018 c0_i32_689
  let v1023 : BitVec 1 := Scalar.andi v1022 v1019
  let v1024 : BitVec 32 := Scalar.addi v1018 v1017
  let v1025 : BitVec 32 := Scalar.select v1023 v1024 v1018
  let c32_i32_692 : BitVec 32 := 32#32
  let v1026 : BitVec 32 := Scalar.muli v1025 c32_i32_692
  let v1027 : BitVec 32 := Scalar.addi v157 v1026
  v1027
def k0_off5 (d0 : Dev nD) (c0_i32_82 : BitVec 32) (c1_i32_685 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_80 : BitVec 32 := 3#32
  let v153 : BitVec 32 := Scalar.andi v2 c3_i32_80
  let c128_i32 : BitVec 32 := 128#32
  let v155 : BitVec 32 := Scalar.muli v153 c128_i32
  let v156 : BitVec 32 := Scalar.addi c0_i32_82 v155
  let v157 : BitVec 32 := v156
  let c2_i32_81 : BitVec 32 := 2#32
  let v154 : BitVec 32 := Scalar.shrsi v2 c2_i32_81
  let v1015 : BitVec 32 := Scalar.addi v154 c1_i32_685
  let c4_i32_686 : BitVec 32 := 4#32
  let c0_i32_687 : BitVec 32 := 0#32
  let v1016 : BitVec 1 := Scalar.cmpi .eq c4_i32_686 c0_i32_687
  let c1_i32_688 : BitVec 32 := 1#32
  let v1017 : BitVec 32 := Scalar.select v1016 c1_i32_688 c4_i32_686
  let v1018 : BitVec 32 := Scalar.remsi v1015 v1017
  let c0_i32_690 : BitVec 32 := 0#32
  let v1020 : BitVec 1 := Scalar.cmpi .slt v1018 c0_i32_690
  let c0_i32_691 : BitVec 32 := 0#32
  let v1021 : BitVec 1 := Scalar.cmpi .slt v1017 c0_i32_691
  let v1022 : BitVec 1 := Scalar.xori v1020 v1021
  let c0_i32_689 : BitVec 32 := 0#32
  let v1019 : BitVec 1 := Scalar.cmpi .ne v1018 c0_i32_689
  let v1023 : BitVec 1 := Scalar.andi v1022 v1019
  let v1024 : BitVec 32 := Scalar.addi v1018 v1017
  let v1025 : BitVec 32 := Scalar.select v1023 v1024 v1018
  let c32_i32_692 : BitVec 32 := 32#32
  let v1026 : BitVec 32 := Scalar.muli v1025 c32_i32_692
  let v1027 : BitVec 32 := Scalar.addi v157 v1026
  let v1028 : BitVec 32 := v1027
  let v1029 : Index := Scalar.indexCast v1028
  let c0_693 : Index := 0#32
  ![v1029.toNat, 0]
def k0_dev13 (d0 : Dev nD) : Nat :=
  let c0_i32_711 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_698 : BitVec 32 := 3#32
  let v1035 : BitVec 32 := Scalar.andi v2 c3_i32_698
  let c4_i32_699 : BitVec 32 := 4#32
  let c2_i32_81 : BitVec 32 := 2#32
  let v154 : BitVec 32 := Scalar.shrsi v2 c2_i32_81
  let c1_i32_685 : BitVec 32 := 1#32
  let v1015 : BitVec 32 := Scalar.addi v154 c1_i32_685
  let c4_i32_686 : BitVec 32 := 4#32
  let c0_i32_687 : BitVec 32 := 0#32
  let v1016 : BitVec 1 := Scalar.cmpi .eq c4_i32_686 c0_i32_687
  let c1_i32_688 : BitVec 32 := 1#32
  let v1017 : BitVec 32 := Scalar.select v1016 c1_i32_688 c4_i32_686
  let v1018 : BitVec 32 := Scalar.remsi v1015 v1017
  let c0_i32_690 : BitVec 32 := 0#32
  let v1020 : BitVec 1 := Scalar.cmpi .slt v1018 c0_i32_690
  let c0_i32_691 : BitVec 32 := 0#32
  let v1021 : BitVec 1 := Scalar.cmpi .slt v1017 c0_i32_691
  let v1022 : BitVec 1 := Scalar.xori v1020 v1021
  let c0_i32_689 : BitVec 32 := 0#32
  let v1019 : BitVec 1 := Scalar.cmpi .ne v1018 c0_i32_689
  let v1023 : BitVec 1 := Scalar.andi v1022 v1019
  let v1024 : BitVec 32 := Scalar.addi v1018 v1017
  let v1025 : BitVec 32 := Scalar.select v1023 v1024 v1018
  let v1036 : BitVec 32 := Scalar.muli c4_i32_699 v1025
  let v1037 : BitVec 32 := Scalar.addi v1035 v1036
  let c1_i32_710 : BitVec 32 := 1#32
  let v1038 : BitVec 32 := Scalar.muli v1037 c1_i32_710
  let v1039 : BitVec 32 := Scalar.addi c0_i32_711 v1038
  v1039.toNat
def k0_mult16 (d0 : Dev nD) : BitVec 32 :=
  let c0_i32_82 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_80 : BitVec 32 := 3#32
  let v153 : BitVec 32 := Scalar.andi v2 c3_i32_80
  let c128_i32 : BitVec 32 := 128#32
  let v155 : BitVec 32 := Scalar.muli v153 c128_i32
  let v156 : BitVec 32 := Scalar.addi c0_i32_82 v155
  let v157 : BitVec 32 := v156
  let c2_i32_81 : BitVec 32 := 2#32
  let v154 : BitVec 32 := Scalar.shrsi v2 c2_i32_81
  let c2_i32_716 : BitVec 32 := 2#32
  let v1048 : BitVec 32 := Scalar.addi v154 c2_i32_716
  let c4_i32_717 : BitVec 32 := 4#32
  let c0_i32_718 : BitVec 32 := 0#32
  let v1049 : BitVec 1 := Scalar.cmpi .eq c4_i32_717 c0_i32_718
  let c1_i32_719 : BitVec 32 := 1#32
  let v1050 : BitVec 32 := Scalar.select v1049 c1_i32_719 c4_i32_717
  let v1051 : BitVec 32 := Scalar.remsi v1048 v1050
  let c0_i32_721 : BitVec 32 := 0#32
  let v1053 : BitVec 1 := Scalar.cmpi .slt v1051 c0_i32_721
  let c0_i32_722 : BitVec 32 := 0#32
  let v1054 : BitVec 1 := Scalar.cmpi .slt v1050 c0_i32_722
  let v1055 : BitVec 1 := Scalar.xori v1053 v1054
  let c0_i32_720 : BitVec 32 := 0#32
  let v1052 : BitVec 1 := Scalar.cmpi .ne v1051 c0_i32_720
  let v1056 : BitVec 1 := Scalar.andi v1055 v1052
  let v1057 : BitVec 32 := Scalar.addi v1051 v1050
  let v1058 : BitVec 32 := Scalar.select v1056 v1057 v1051
  let c32_i32_723 : BitVec 32 := 32#32
  let v1059 : BitVec 32 := Scalar.muli v1058 c32_i32_723
  let v1060 : BitVec 32 := Scalar.addi v157 v1059
  v1060
def k0_dev14 (d0 : Dev nD) : Nat :=
  let c0_i32_742 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_729 : BitVec 32 := 3#32
  let v1068 : BitVec 32 := Scalar.andi v2 c3_i32_729
  let c4_i32_730 : BitVec 32 := 4#32
  let c2_i32_81 : BitVec 32 := 2#32
  let v154 : BitVec 32 := Scalar.shrsi v2 c2_i32_81
  let c2_i32_716 : BitVec 32 := 2#32
  let v1048 : BitVec 32 := Scalar.addi v154 c2_i32_716
  let c4_i32_717 : BitVec 32 := 4#32
  let c0_i32_718 : BitVec 32 := 0#32
  let v1049 : BitVec 1 := Scalar.cmpi .eq c4_i32_717 c0_i32_718
  let c1_i32_719 : BitVec 32 := 1#32
  let v1050 : BitVec 32 := Scalar.select v1049 c1_i32_719 c4_i32_717
  let v1051 : BitVec 32 := Scalar.remsi v1048 v1050
  let c0_i32_721 : BitVec 32 := 0#32
  let v1053 : BitVec 1 := Scalar.cmpi .slt v1051 c0_i32_721
  let c0_i32_722 : BitVec 32 := 0#32
  let v1054 : BitVec 1 := Scalar.cmpi .slt v1050 c0_i32_722
  let v1055 : BitVec 1 := Scalar.xori v1053 v1054
  let c0_i32_720 : BitVec 32 := 0#32
  let v1052 : BitVec 1 := Scalar.cmpi .ne v1051 c0_i32_720
  let v1056 : BitVec 1 := Scalar.andi v1055 v1052
  let v1057 : BitVec 32 := Scalar.addi v1051 v1050
  let v1058 : BitVec 32 := Scalar.select v1056 v1057 v1051
  let v1069 : BitVec 32 := Scalar.muli c4_i32_730 v1058
  let v1070 : BitVec 32 := Scalar.addi v1068 v1069
  let c1_i32_741 : BitVec 32 := 1#32
  let v1071 : BitVec 32 := Scalar.muli v1070 c1_i32_741
  let v1072 : BitVec 32 := Scalar.addi c0_i32_742 v1071
  v1072.toNat
def k0_mult17 (d0 : Dev nD) : BitVec 32 :=
  let c0_i32_82 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_80 : BitVec 32 := 3#32
  let v153 : BitVec 32 := Scalar.andi v2 c3_i32_80
  let c128_i32 : BitVec 32 := 128#32
  let v155 : BitVec 32 := Scalar.muli v153 c128_i32
  let v156 : BitVec 32 := Scalar.addi c0_i32_82 v155
  let v157 : BitVec 32 := v156
  let c2_i32_81 : BitVec 32 := 2#32
  let v154 : BitVec 32 := Scalar.shrsi v2 c2_i32_81
  let c3_i32_747 : BitVec 32 := 3#32
  let v1081 : BitVec 32 := Scalar.addi v154 c3_i32_747
  let c4_i32_748 : BitVec 32 := 4#32
  let c0_i32_749 : BitVec 32 := 0#32
  let v1082 : BitVec 1 := Scalar.cmpi .eq c4_i32_748 c0_i32_749
  let c1_i32_750 : BitVec 32 := 1#32
  let v1083 : BitVec 32 := Scalar.select v1082 c1_i32_750 c4_i32_748
  let v1084 : BitVec 32 := Scalar.remsi v1081 v1083
  let c0_i32_752 : BitVec 32 := 0#32
  let v1086 : BitVec 1 := Scalar.cmpi .slt v1084 c0_i32_752
  let c0_i32_753 : BitVec 32 := 0#32
  let v1087 : BitVec 1 := Scalar.cmpi .slt v1083 c0_i32_753
  let v1088 : BitVec 1 := Scalar.xori v1086 v1087
  let c0_i32_751 : BitVec 32 := 0#32
  let v1085 : BitVec 1 := Scalar.cmpi .ne v1084 c0_i32_751
  let v1089 : BitVec 1 := Scalar.andi v1088 v1085
  let v1090 : BitVec 32 := Scalar.addi v1084 v1083
  let v1091 : BitVec 32 := Scalar.select v1089 v1090 v1084
  let c32_i32_754 : BitVec 32 := 32#32
  let v1092 : BitVec 32 := Scalar.muli v1091 c32_i32_754
  let v1093 : BitVec 32 := Scalar.addi v157 v1092
  v1093
def k0_dev15 (d0 : Dev nD) : Nat :=
  let c0_i32_773 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_760 : BitVec 32 := 3#32
  let v1101 : BitVec 32 := Scalar.andi v2 c3_i32_760
  let c4_i32_761 : BitVec 32 := 4#32
  let c2_i32_81 : BitVec 32 := 2#32
  let v154 : BitVec 32 := Scalar.shrsi v2 c2_i32_81
  let c3_i32_747 : BitVec 32 := 3#32
  let v1081 : BitVec 32 := Scalar.addi v154 c3_i32_747
  let c4_i32_748 : BitVec 32 := 4#32
  let c0_i32_749 : BitVec 32 := 0#32
  let v1082 : BitVec 1 := Scalar.cmpi .eq c4_i32_748 c0_i32_749
  let c1_i32_750 : BitVec 32 := 1#32
  let v1083 : BitVec 32 := Scalar.select v1082 c1_i32_750 c4_i32_748
  let v1084 : BitVec 32 := Scalar.remsi v1081 v1083
  let c0_i32_752 : BitVec 32 := 0#32
  let v1086 : BitVec 1 := Scalar.cmpi .slt v1084 c0_i32_752
  let c0_i32_753 : BitVec 32 := 0#32
  let v1087 : BitVec 1 := Scalar.cmpi .slt v1083 c0_i32_753
  let v1088 : BitVec 1 := Scalar.xori v1086 v1087
  let c0_i32_751 : BitVec 32 := 0#32
  let v1085 : BitVec 1 := Scalar.cmpi .ne v1084 c0_i32_751
  let v1089 : BitVec 1 := Scalar.andi v1088 v1085
  let v1090 : BitVec 32 := Scalar.addi v1084 v1083
  let v1091 : BitVec 32 := Scalar.select v1089 v1090 v1084
  let v1102 : BitVec 32 := Scalar.muli c4_i32_761 v1091
  let v1103 : BitVec 32 := Scalar.addi v1101 v1102
  let c1_i32_772 : BitVec 32 := 1#32
  let v1104 : BitVec 32 := Scalar.muli v1103 c1_i32_772
  let v1105 : BitVec 32 := Scalar.addi c0_i32_773 v1104
  v1105.toNat
def k0_mult18 (d0 : Dev nD) : BitVec 32 :=
  let c0_i32_84 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_81 : BitVec 32 := 2#32
  let v154 : BitVec 32 := Scalar.shrsi v2 c2_i32_81
  let c128_i32_83 : BitVec 32 := 128#32
  let v158 : BitVec 32 := Scalar.muli v154 c128_i32_83
  let v159 : BitVec 32 := Scalar.addi c0_i32_84 v158
  let v160 : BitVec 32 := v159
  let c3_i32_80 : BitVec 32 := 3#32
  let v153 : BitVec 32 := Scalar.andi v2 c3_i32_80
  let c1_i32_778 : BitVec 32 := 1#32
  let v1114 : BitVec 32 := Scalar.addi v153 c1_i32_778
  let c4_i32_779 : BitVec 32 := 4#32
  let c0_i32_780 : BitVec 32 := 0#32
  let v1115 : BitVec 1 := Scalar.cmpi .eq c4_i32_779 c0_i32_780
  let c1_i32_781 : BitVec 32 := 1#32
  let v1116 : BitVec 32 := Scalar.select v1115 c1_i32_781 c4_i32_779
  let v1117 : BitVec 32 := Scalar.remsi v1114 v1116
  let c0_i32_783 : BitVec 32 := 0#32
  let v1119 : BitVec 1 := Scalar.cmpi .slt v1117 c0_i32_783
  let c0_i32_784 : BitVec 32 := 0#32
  let v1120 : BitVec 1 := Scalar.cmpi .slt v1116 c0_i32_784
  let v1121 : BitVec 1 := Scalar.xori v1119 v1120
  let c0_i32_782 : BitVec 32 := 0#32
  let v1118 : BitVec 1 := Scalar.cmpi .ne v1117 c0_i32_782
  let v1122 : BitVec 1 := Scalar.andi v1121 v1118
  let v1123 : BitVec 32 := Scalar.addi v1117 v1116
  let v1124 : BitVec 32 := Scalar.select v1122 v1123 v1117
  let c32_i32_785 : BitVec 32 := 32#32
  let v1125 : BitVec 32 := Scalar.muli v1124 c32_i32_785
  let v1126 : BitVec 32 := Scalar.addi v160 v1125
  v1126
def k0_off6 (d0 : Dev nD) (c0_i32_84 : BitVec 32) (c1_i32_778 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_81 : BitVec 32 := 2#32
  let v154 : BitVec 32 := Scalar.shrsi v2 c2_i32_81
  let c128_i32_83 : BitVec 32 := 128#32
  let v158 : BitVec 32 := Scalar.muli v154 c128_i32_83
  let v159 : BitVec 32 := Scalar.addi c0_i32_84 v158
  let v160 : BitVec 32 := v159
  let c3_i32_80 : BitVec 32 := 3#32
  let v153 : BitVec 32 := Scalar.andi v2 c3_i32_80
  let v1114 : BitVec 32 := Scalar.addi v153 c1_i32_778
  let c4_i32_779 : BitVec 32 := 4#32
  let c0_i32_780 : BitVec 32 := 0#32
  let v1115 : BitVec 1 := Scalar.cmpi .eq c4_i32_779 c0_i32_780
  let c1_i32_781 : BitVec 32 := 1#32
  let v1116 : BitVec 32 := Scalar.select v1115 c1_i32_781 c4_i32_779
  let v1117 : BitVec 32 := Scalar.remsi v1114 v1116
  let c0_i32_783 : BitVec 32 := 0#32
  let v1119 : BitVec 1 := Scalar.cmpi .slt v1117 c0_i32_783
  let c0_i32_784 : BitVec 32 := 0#32
  let v1120 : BitVec 1 := Scalar.cmpi .slt v1116 c0_i32_784
  let v1121 : BitVec 1 := Scalar.xori v1119 v1120
  let c0_i32_782 : BitVec 32 := 0#32
  let v1118 : BitVec 1 := Scalar.cmpi .ne v1117 c0_i32_782
  let v1122 : BitVec 1 := Scalar.andi v1121 v1118
  let v1123 : BitVec 32 := Scalar.addi v1117 v1116
  let v1124 : BitVec 32 := Scalar.select v1122 v1123 v1117
  let c32_i32_785 : BitVec 32 := 32#32
  let v1125 : BitVec 32 := Scalar.muli v1124 c32_i32_785
  let v1126 : BitVec 32 := Scalar.addi v160 v1125
  let v1127 : BitVec 32 := v1126
  let v1128 : Index := Scalar.indexCast v1127
  let c512_786 : Index := 512#32
  ![v1128.toNat, 512]
def k0_dev16 (d0 : Dev nD) : Nat :=
  let c0_i32_803 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c_m4_i32_791 : BitVec 32 := 4294967292#32
  let v1134 : BitVec 32 := Scalar.andi v2 c_m4_i32_791
  let c3_i32_80 : BitVec 32 := 3#32
  let v153 : BitVec 32 := Scalar.andi v2 c3_i32_80
  let c1_i32_778 : BitVec 32 := 1#32
  let v1114 : BitVec 32 := Scalar.addi v153 c1_i32_778
  let c4_i32_779 : BitVec 32 := 4#32
  let c0_i32_780 : BitVec 32 := 0#32
  let v1115 : BitVec 1 := Scalar.cmpi .eq c4_i32_779 c0_i32_780
  let c1_i32_781 : BitVec 32 := 1#32
  let v1116 : BitVec 32 := Scalar.select v1115 c1_i32_781 c4_i32_779
  let v1117 : BitVec 32 := Scalar.remsi v1114 v1116
  let c0_i32_783 : BitVec 32 := 0#32
  let v1119 : BitVec 1 := Scalar.cmpi .slt v1117 c0_i32_783
  let c0_i32_784 : BitVec 32 := 0#32
  let v1120 : BitVec 1 := Scalar.cmpi .slt v1116 c0_i32_784
  let v1121 : BitVec 1 := Scalar.xori v1119 v1120
  let c0_i32_782 : BitVec 32 := 0#32
  let v1118 : BitVec 1 := Scalar.cmpi .ne v1117 c0_i32_782
  let v1122 : BitVec 1 := Scalar.andi v1121 v1118
  let v1123 : BitVec 32 := Scalar.addi v1117 v1116
  let v1124 : BitVec 32 := Scalar.select v1122 v1123 v1117
  let v1135 : BitVec 32 := Scalar.addi v1134 v1124
  let c1_i32_802 : BitVec 32 := 1#32
  let v1136 : BitVec 32 := Scalar.muli v1135 c1_i32_802
  let v1137 : BitVec 32 := Scalar.addi c0_i32_803 v1136
  v1137.toNat
def k0_mult19 (d0 : Dev nD) : BitVec 32 :=
  let c0_i32_84 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_81 : BitVec 32 := 2#32
  let v154 : BitVec 32 := Scalar.shrsi v2 c2_i32_81
  let c128_i32_83 : BitVec 32 := 128#32
  let v158 : BitVec 32 := Scalar.muli v154 c128_i32_83
  let v159 : BitVec 32 := Scalar.addi c0_i32_84 v158
  let v160 : BitVec 32 := v159
  let c3_i32_80 : BitVec 32 := 3#32
  let v153 : BitVec 32 := Scalar.andi v2 c3_i32_80
  let c2_i32_808 : BitVec 32 := 2#32
  let v1146 : BitVec 32 := Scalar.addi v153 c2_i32_808
  let c4_i32_809 : BitVec 32 := 4#32
  let c0_i32_810 : BitVec 32 := 0#32
  let v1147 : BitVec 1 := Scalar.cmpi .eq c4_i32_809 c0_i32_810
  let c1_i32_811 : BitVec 32 := 1#32
  let v1148 : BitVec 32 := Scalar.select v1147 c1_i32_811 c4_i32_809
  let v1149 : BitVec 32 := Scalar.remsi v1146 v1148
  let c0_i32_813 : BitVec 32 := 0#32
  let v1151 : BitVec 1 := Scalar.cmpi .slt v1149 c0_i32_813
  let c0_i32_814 : BitVec 32 := 0#32
  let v1152 : BitVec 1 := Scalar.cmpi .slt v1148 c0_i32_814
  let v1153 : BitVec 1 := Scalar.xori v1151 v1152
  let c0_i32_812 : BitVec 32 := 0#32
  let v1150 : BitVec 1 := Scalar.cmpi .ne v1149 c0_i32_812
  let v1154 : BitVec 1 := Scalar.andi v1153 v1150
  let v1155 : BitVec 32 := Scalar.addi v1149 v1148
  let v1156 : BitVec 32 := Scalar.select v1154 v1155 v1149
  let c32_i32_815 : BitVec 32 := 32#32
  let v1157 : BitVec 32 := Scalar.muli v1156 c32_i32_815
  let v1158 : BitVec 32 := Scalar.addi v160 v1157
  v1158
def k0_dev17 (d0 : Dev nD) : Nat :=
  let c0_i32_833 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c_m4_i32_821 : BitVec 32 := 4294967292#32
  let v1166 : BitVec 32 := Scalar.andi v2 c_m4_i32_821
  let c3_i32_80 : BitVec 32 := 3#32
  let v153 : BitVec 32 := Scalar.andi v2 c3_i32_80
  let c2_i32_808 : BitVec 32 := 2#32
  let v1146 : BitVec 32 := Scalar.addi v153 c2_i32_808
  let c4_i32_809 : BitVec 32 := 4#32
  let c0_i32_810 : BitVec 32 := 0#32
  let v1147 : BitVec 1 := Scalar.cmpi .eq c4_i32_809 c0_i32_810
  let c1_i32_811 : BitVec 32 := 1#32
  let v1148 : BitVec 32 := Scalar.select v1147 c1_i32_811 c4_i32_809
  let v1149 : BitVec 32 := Scalar.remsi v1146 v1148
  let c0_i32_813 : BitVec 32 := 0#32
  let v1151 : BitVec 1 := Scalar.cmpi .slt v1149 c0_i32_813
  let c0_i32_814 : BitVec 32 := 0#32
  let v1152 : BitVec 1 := Scalar.cmpi .slt v1148 c0_i32_814
  let v1153 : BitVec 1 := Scalar.xori v1151 v1152
  let c0_i32_812 : BitVec 32 := 0#32
  let v1150 : BitVec 1 := Scalar.cmpi .ne v1149 c0_i32_812
  let v1154 : BitVec 1 := Scalar.andi v1153 v1150
  let v1155 : BitVec 32 := Scalar.addi v1149 v1148
  let v1156 : BitVec 32 := Scalar.select v1154 v1155 v1149
  let v1167 : BitVec 32 := Scalar.addi v1166 v1156
  let c1_i32_832 : BitVec 32 := 1#32
  let v1168 : BitVec 32 := Scalar.muli v1167 c1_i32_832
  let v1169 : BitVec 32 := Scalar.addi c0_i32_833 v1168
  v1169.toNat
def k0_mult20 (d0 : Dev nD) : BitVec 32 :=
  let c0_i32_84 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_81 : BitVec 32 := 2#32
  let v154 : BitVec 32 := Scalar.shrsi v2 c2_i32_81
  let c128_i32_83 : BitVec 32 := 128#32
  let v158 : BitVec 32 := Scalar.muli v154 c128_i32_83
  let v159 : BitVec 32 := Scalar.addi c0_i32_84 v158
  let v160 : BitVec 32 := v159
  let c3_i32_80 : BitVec 32 := 3#32
  let v153 : BitVec 32 := Scalar.andi v2 c3_i32_80
  let c3_i32_838 : BitVec 32 := 3#32
  let v1178 : BitVec 32 := Scalar.addi v153 c3_i32_838
  let c4_i32_839 : BitVec 32 := 4#32
  let c0_i32_840 : BitVec 32 := 0#32
  let v1179 : BitVec 1 := Scalar.cmpi .eq c4_i32_839 c0_i32_840
  let c1_i32_841 : BitVec 32 := 1#32
  let v1180 : BitVec 32 := Scalar.select v1179 c1_i32_841 c4_i32_839
  let v1181 : BitVec 32 := Scalar.remsi v1178 v1180
  let c0_i32_843 : BitVec 32 := 0#32
  let v1183 : BitVec 1 := Scalar.cmpi .slt v1181 c0_i32_843
  let c0_i32_844 : BitVec 32 := 0#32
  let v1184 : BitVec 1 := Scalar.cmpi .slt v1180 c0_i32_844
  let v1185 : BitVec 1 := Scalar.xori v1183 v1184
  let c0_i32_842 : BitVec 32 := 0#32
  let v1182 : BitVec 1 := Scalar.cmpi .ne v1181 c0_i32_842
  let v1186 : BitVec 1 := Scalar.andi v1185 v1182
  let v1187 : BitVec 32 := Scalar.addi v1181 v1180
  let v1188 : BitVec 32 := Scalar.select v1186 v1187 v1181
  let c32_i32_845 : BitVec 32 := 32#32
  let v1189 : BitVec 32 := Scalar.muli v1188 c32_i32_845
  let v1190 : BitVec 32 := Scalar.addi v160 v1189
  v1190
def k0_dev18 (d0 : Dev nD) : Nat :=
  let c0_i32_863 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c_m4_i32_851 : BitVec 32 := 4294967292#32
  let v1198 : BitVec 32 := Scalar.andi v2 c_m4_i32_851
  let c3_i32_80 : BitVec 32 := 3#32
  let v153 : BitVec 32 := Scalar.andi v2 c3_i32_80
  let c3_i32_838 : BitVec 32 := 3#32
  let v1178 : BitVec 32 := Scalar.addi v153 c3_i32_838
  let c4_i32_839 : BitVec 32 := 4#32
  let c0_i32_840 : BitVec 32 := 0#32
  let v1179 : BitVec 1 := Scalar.cmpi .eq c4_i32_839 c0_i32_840
  let c1_i32_841 : BitVec 32 := 1#32
  let v1180 : BitVec 32 := Scalar.select v1179 c1_i32_841 c4_i32_839
  let v1181 : BitVec 32 := Scalar.remsi v1178 v1180
  let c0_i32_843 : BitVec 32 := 0#32
  let v1183 : BitVec 1 := Scalar.cmpi .slt v1181 c0_i32_843
  let c0_i32_844 : BitVec 32 := 0#32
  let v1184 : BitVec 1 := Scalar.cmpi .slt v1180 c0_i32_844
  let v1185 : BitVec 1 := Scalar.xori v1183 v1184
  let c0_i32_842 : BitVec 32 := 0#32
  let v1182 : BitVec 1 := Scalar.cmpi .ne v1181 c0_i32_842
  let v1186 : BitVec 1 := Scalar.andi v1185 v1182
  let v1187 : BitVec 32 := Scalar.addi v1181 v1180
  let v1188 : BitVec 32 := Scalar.select v1186 v1187 v1181
  let v1199 : BitVec 32 := Scalar.addi v1198 v1188
  let c1_i32_862 : BitVec 32 := 1#32
  let v1200 : BitVec 32 := Scalar.muli v1199 c1_i32_862
  let v1201 : BitVec 32 := Scalar.addi c0_i32_863 v1200
  v1201.toNat
def k0_mult21 (d0 : Dev nD) : BitVec 32 :=
  let c512_i32_880 : BitVec 32 := 512#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_86 : BitVec 32 := 3#32
  let v167 : BitVec 32 := Scalar.andi v2 c3_i32_86
  let c1_i32_872 : BitVec 32 := 1#32
  let v1215 : BitVec 32 := Scalar.addi v167 c1_i32_872
  let c4_i32_873 : BitVec 32 := 4#32
  let c0_i32_874 : BitVec 32 := 0#32
  let v1216 : BitVec 1 := Scalar.cmpi .eq c4_i32_873 c0_i32_874
  let c1_i32_875 : BitVec 32 := 1#32
  let v1217 : BitVec 32 := Scalar.select v1216 c1_i32_875 c4_i32_873
  let v1218 : BitVec 32 := Scalar.remsi v1215 v1217
  let c0_i32_877 : BitVec 32 := 0#32
  let v1220 : BitVec 1 := Scalar.cmpi .slt v1218 c0_i32_877
  let c0_i32_878 : BitVec 32 := 0#32
  let v1221 : BitVec 1 := Scalar.cmpi .slt v1217 c0_i32_878
  let v1222 : BitVec 1 := Scalar.xori v1220 v1221
  let c0_i32_876 : BitVec 32 := 0#32
  let v1219 : BitVec 1 := Scalar.cmpi .ne v1218 c0_i32_876
  let v1223 : BitVec 1 := Scalar.andi v1222 v1219
  let v1224 : BitVec 32 := Scalar.addi v1218 v1217
  let v1225 : BitVec 32 := Scalar.select v1223 v1224 v1218
  let c128_i32_879 : BitVec 32 := 128#32
  let v1226 : BitVec 32 := Scalar.muli v1225 c128_i32_879
  let v1227 : BitVec 32 := Scalar.addi c512_i32_880 v1226
  v1227
def k0_dev19 (d0 : Dev nD) : Nat :=
  let c0_i32_891 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c_m4_i32_881 : BitVec 32 := 4294967292#32
  let v1229 : BitVec 32 := Scalar.andi v2 c_m4_i32_881
  let c3_i32_86 : BitVec 32 := 3#32
  let v167 : BitVec 32 := Scalar.andi v2 c3_i32_86
  let c1_i32_872 : BitVec 32 := 1#32
  let v1215 : BitVec 32 := Scalar.addi v167 c1_i32_872
  let c4_i32_873 : BitVec 32 := 4#32
  let c0_i32_874 : BitVec 32 := 0#32
  let v1216 : BitVec 1 := Scalar.cmpi .eq c4_i32_873 c0_i32_874
  let c1_i32_875 : BitVec 32 := 1#32
  let v1217 : BitVec 32 := Scalar.select v1216 c1_i32_875 c4_i32_873
  let v1218 : BitVec 32 := Scalar.remsi v1215 v1217
  let c0_i32_877 : BitVec 32 := 0#32
  let v1220 : BitVec 1 := Scalar.cmpi .slt v1218 c0_i32_877
  let c0_i32_878 : BitVec 32 := 0#32
  let v1221 : BitVec 1 := Scalar.cmpi .slt v1217 c0_i32_878
  let v1222 : BitVec 1 := Scalar.xori v1220 v1221
  let c0_i32_876 : BitVec 32 := 0#32
  let v1219 : BitVec 1 := Scalar.cmpi .ne v1218 c0_i32_876
  let v1223 : BitVec 1 := Scalar.andi v1222 v1219
  let v1224 : BitVec 32 := Scalar.addi v1218 v1217
  let v1225 : BitVec 32 := Scalar.select v1223 v1224 v1218
  let v1230 : BitVec 32 := Scalar.addi v1229 v1225
  let c1_i32_890 : BitVec 32 := 1#32
  let v1231 : BitVec 32 := Scalar.muli v1230 c1_i32_890
  let v1232 : BitVec 32 := Scalar.addi c0_i32_891 v1231
  v1232.toNat
def k0_mult22 (d0 : Dev nD) : BitVec 32 :=
  let c512_i32_903 : BitVec 32 := 512#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_86 : BitVec 32 := 3#32
  let v167 : BitVec 32 := Scalar.andi v2 c3_i32_86
  let c2_i32_895 : BitVec 32 := 2#32
  let v1240 : BitVec 32 := Scalar.addi v167 c2_i32_895
  let c4_i32_896 : BitVec 32 := 4#32
  let c0_i32_897 : BitVec 32 := 0#32
  let v1241 : BitVec 1 := Scalar.cmpi .eq c4_i32_896 c0_i32_897
  let c1_i32_898 : BitVec 32 := 1#32
  let v1242 : BitVec 32 := Scalar.select v1241 c1_i32_898 c4_i32_896
  let v1243 : BitVec 32 := Scalar.remsi v1240 v1242
  let c0_i32_900 : BitVec 32 := 0#32
  let v1245 : BitVec 1 := Scalar.cmpi .slt v1243 c0_i32_900
  let c0_i32_901 : BitVec 32 := 0#32
  let v1246 : BitVec 1 := Scalar.cmpi .slt v1242 c0_i32_901
  let v1247 : BitVec 1 := Scalar.xori v1245 v1246
  let c0_i32_899 : BitVec 32 := 0#32
  let v1244 : BitVec 1 := Scalar.cmpi .ne v1243 c0_i32_899
  let v1248 : BitVec 1 := Scalar.andi v1247 v1244
  let v1249 : BitVec 32 := Scalar.addi v1243 v1242
  let v1250 : BitVec 32 := Scalar.select v1248 v1249 v1243
  let c128_i32_902 : BitVec 32 := 128#32
  let v1251 : BitVec 32 := Scalar.muli v1250 c128_i32_902
  let v1252 : BitVec 32 := Scalar.addi c512_i32_903 v1251
  v1252
def k0_dev20 (d0 : Dev nD) : Nat :=
  let c0_i32_914 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c_m4_i32_904 : BitVec 32 := 4294967292#32
  let v1254 : BitVec 32 := Scalar.andi v2 c_m4_i32_904
  let c3_i32_86 : BitVec 32 := 3#32
  let v167 : BitVec 32 := Scalar.andi v2 c3_i32_86
  let c2_i32_895 : BitVec 32 := 2#32
  let v1240 : BitVec 32 := Scalar.addi v167 c2_i32_895
  let c4_i32_896 : BitVec 32 := 4#32
  let c0_i32_897 : BitVec 32 := 0#32
  let v1241 : BitVec 1 := Scalar.cmpi .eq c4_i32_896 c0_i32_897
  let c1_i32_898 : BitVec 32 := 1#32
  let v1242 : BitVec 32 := Scalar.select v1241 c1_i32_898 c4_i32_896
  let v1243 : BitVec 32 := Scalar.remsi v1240 v1242
  let c0_i32_900 : BitVec 32 := 0#32
  let v1245 : BitVec 1 := Scalar.cmpi .slt v1243 c0_i32_900
  let c0_i32_901 : BitVec 32 := 0#32
  let v1246 : BitVec 1 := Scalar.cmpi .slt v1242 c0_i32_901
  let v1247 : BitVec 1 := Scalar.xori v1245 v1246
  let c0_i32_899 : BitVec 32 := 0#32
  let v1244 : BitVec 1 := Scalar.cmpi .ne v1243 c0_i32_899
  let v1248 : BitVec 1 := Scalar.andi v1247 v1244
  let v1249 : BitVec 32 := Scalar.addi v1243 v1242
  let v1250 : BitVec 32 := Scalar.select v1248 v1249 v1243
  let v1255 : BitVec 32 := Scalar.addi v1254 v1250
  let c1_i32_913 : BitVec 32 := 1#32
  let v1256 : BitVec 32 := Scalar.muli v1255 c1_i32_913
  let v1257 : BitVec 32 := Scalar.addi c0_i32_914 v1256
  v1257.toNat
def k0_mult23 (d0 : Dev nD) : BitVec 32 :=
  let c512_i32_926 : BitVec 32 := 512#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_86 : BitVec 32 := 3#32
  let v167 : BitVec 32 := Scalar.andi v2 c3_i32_86
  let c3_i32_918 : BitVec 32 := 3#32
  let v1265 : BitVec 32 := Scalar.addi v167 c3_i32_918
  let c4_i32_919 : BitVec 32 := 4#32
  let c0_i32_920 : BitVec 32 := 0#32
  let v1266 : BitVec 1 := Scalar.cmpi .eq c4_i32_919 c0_i32_920
  let c1_i32_921 : BitVec 32 := 1#32
  let v1267 : BitVec 32 := Scalar.select v1266 c1_i32_921 c4_i32_919
  let v1268 : BitVec 32 := Scalar.remsi v1265 v1267
  let c0_i32_923 : BitVec 32 := 0#32
  let v1270 : BitVec 1 := Scalar.cmpi .slt v1268 c0_i32_923
  let c0_i32_924 : BitVec 32 := 0#32
  let v1271 : BitVec 1 := Scalar.cmpi .slt v1267 c0_i32_924
  let v1272 : BitVec 1 := Scalar.xori v1270 v1271
  let c0_i32_922 : BitVec 32 := 0#32
  let v1269 : BitVec 1 := Scalar.cmpi .ne v1268 c0_i32_922
  let v1273 : BitVec 1 := Scalar.andi v1272 v1269
  let v1274 : BitVec 32 := Scalar.addi v1268 v1267
  let v1275 : BitVec 32 := Scalar.select v1273 v1274 v1268
  let c128_i32_925 : BitVec 32 := 128#32
  let v1276 : BitVec 32 := Scalar.muli v1275 c128_i32_925
  let v1277 : BitVec 32 := Scalar.addi c512_i32_926 v1276
  v1277
def k0_dev21 (d0 : Dev nD) : Nat :=
  let c0_i32_937 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c_m4_i32_927 : BitVec 32 := 4294967292#32
  let v1279 : BitVec 32 := Scalar.andi v2 c_m4_i32_927
  let c3_i32_86 : BitVec 32 := 3#32
  let v167 : BitVec 32 := Scalar.andi v2 c3_i32_86
  let c3_i32_918 : BitVec 32 := 3#32
  let v1265 : BitVec 32 := Scalar.addi v167 c3_i32_918
  let c4_i32_919 : BitVec 32 := 4#32
  let c0_i32_920 : BitVec 32 := 0#32
  let v1266 : BitVec 1 := Scalar.cmpi .eq c4_i32_919 c0_i32_920
  let c1_i32_921 : BitVec 32 := 1#32
  let v1267 : BitVec 32 := Scalar.select v1266 c1_i32_921 c4_i32_919
  let v1268 : BitVec 32 := Scalar.remsi v1265 v1267
  let c0_i32_923 : BitVec 32 := 0#32
  let v1270 : BitVec 1 := Scalar.cmpi .slt v1268 c0_i32_923
  let c0_i32_924 : BitVec 32 := 0#32
  let v1271 : BitVec 1 := Scalar.cmpi .slt v1267 c0_i32_924
  let v1272 : BitVec 1 := Scalar.xori v1270 v1271
  let c0_i32_922 : BitVec 32 := 0#32
  let v1269 : BitVec 1 := Scalar.cmpi .ne v1268 c0_i32_922
  let v1273 : BitVec 1 := Scalar.andi v1272 v1269
  let v1274 : BitVec 32 := Scalar.addi v1268 v1267
  let v1275 : BitVec 32 := Scalar.select v1273 v1274 v1268
  let v1280 : BitVec 32 := Scalar.addi v1279 v1275
  let c1_i32_936 : BitVec 32 := 1#32
  let v1281 : BitVec 32 := Scalar.muli v1280 c1_i32_936
  let v1282 : BitVec 32 := Scalar.addi c0_i32_937 v1281
  v1282.toNat
def k0_mult24 (d0 : Dev nD) : BitVec 32 :=
  let c512_i32_949 : BitVec 32 := 512#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_87 : BitVec 32 := 2#32
  let v168 : BitVec 32 := Scalar.shrsi v2 c2_i32_87
  let c1_i32_941 : BitVec 32 := 1#32
  let v1290 : BitVec 32 := Scalar.addi v168 c1_i32_941
  let c4_i32_942 : BitVec 32 := 4#32
  let c0_i32_943 : BitVec 32 := 0#32
  let v1291 : BitVec 1 := Scalar.cmpi .eq c4_i32_942 c0_i32_943
  let c1_i32_944 : BitVec 32 := 1#32
  let v1292 : BitVec 32 := Scalar.select v1291 c1_i32_944 c4_i32_942
  let v1293 : BitVec 32 := Scalar.remsi v1290 v1292
  let c0_i32_946 : BitVec 32 := 0#32
  let v1295 : BitVec 1 := Scalar.cmpi .slt v1293 c0_i32_946
  let c0_i32_947 : BitVec 32 := 0#32
  let v1296 : BitVec 1 := Scalar.cmpi .slt v1292 c0_i32_947
  let v1297 : BitVec 1 := Scalar.xori v1295 v1296
  let c0_i32_945 : BitVec 32 := 0#32
  let v1294 : BitVec 1 := Scalar.cmpi .ne v1293 c0_i32_945
  let v1298 : BitVec 1 := Scalar.andi v1297 v1294
  let v1299 : BitVec 32 := Scalar.addi v1293 v1292
  let v1300 : BitVec 32 := Scalar.select v1298 v1299 v1293
  let c128_i32_948 : BitVec 32 := 128#32
  let v1301 : BitVec 32 := Scalar.muli v1300 c128_i32_948
  let v1302 : BitVec 32 := Scalar.addi c512_i32_949 v1301
  v1302
def k0_dev22 (d0 : Dev nD) : Nat :=
  let c0_i32_961 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_950 : BitVec 32 := 3#32
  let v1304 : BitVec 32 := Scalar.andi v2 c3_i32_950
  let c4_i32_951 : BitVec 32 := 4#32
  let c2_i32_87 : BitVec 32 := 2#32
  let v168 : BitVec 32 := Scalar.shrsi v2 c2_i32_87
  let c1_i32_941 : BitVec 32 := 1#32
  let v1290 : BitVec 32 := Scalar.addi v168 c1_i32_941
  let c4_i32_942 : BitVec 32 := 4#32
  let c0_i32_943 : BitVec 32 := 0#32
  let v1291 : BitVec 1 := Scalar.cmpi .eq c4_i32_942 c0_i32_943
  let c1_i32_944 : BitVec 32 := 1#32
  let v1292 : BitVec 32 := Scalar.select v1291 c1_i32_944 c4_i32_942
  let v1293 : BitVec 32 := Scalar.remsi v1290 v1292
  let c0_i32_946 : BitVec 32 := 0#32
  let v1295 : BitVec 1 := Scalar.cmpi .slt v1293 c0_i32_946
  let c0_i32_947 : BitVec 32 := 0#32
  let v1296 : BitVec 1 := Scalar.cmpi .slt v1292 c0_i32_947
  let v1297 : BitVec 1 := Scalar.xori v1295 v1296
  let c0_i32_945 : BitVec 32 := 0#32
  let v1294 : BitVec 1 := Scalar.cmpi .ne v1293 c0_i32_945
  let v1298 : BitVec 1 := Scalar.andi v1297 v1294
  let v1299 : BitVec 32 := Scalar.addi v1293 v1292
  let v1300 : BitVec 32 := Scalar.select v1298 v1299 v1293
  let v1305 : BitVec 32 := Scalar.muli c4_i32_951 v1300
  let v1306 : BitVec 32 := Scalar.addi v1304 v1305
  let c1_i32_960 : BitVec 32 := 1#32
  let v1307 : BitVec 32 := Scalar.muli v1306 c1_i32_960
  let v1308 : BitVec 32 := Scalar.addi c0_i32_961 v1307
  v1308.toNat
def k0_mult25 (d0 : Dev nD) : BitVec 32 :=
  let c512_i32_973 : BitVec 32 := 512#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_87 : BitVec 32 := 2#32
  let v168 : BitVec 32 := Scalar.shrsi v2 c2_i32_87
  let c2_i32_965 : BitVec 32 := 2#32
  let v1316 : BitVec 32 := Scalar.addi v168 c2_i32_965
  let c4_i32_966 : BitVec 32 := 4#32
  let c0_i32_967 : BitVec 32 := 0#32
  let v1317 : BitVec 1 := Scalar.cmpi .eq c4_i32_966 c0_i32_967
  let c1_i32_968 : BitVec 32 := 1#32
  let v1318 : BitVec 32 := Scalar.select v1317 c1_i32_968 c4_i32_966
  let v1319 : BitVec 32 := Scalar.remsi v1316 v1318
  let c0_i32_970 : BitVec 32 := 0#32
  let v1321 : BitVec 1 := Scalar.cmpi .slt v1319 c0_i32_970
  let c0_i32_971 : BitVec 32 := 0#32
  let v1322 : BitVec 1 := Scalar.cmpi .slt v1318 c0_i32_971
  let v1323 : BitVec 1 := Scalar.xori v1321 v1322
  let c0_i32_969 : BitVec 32 := 0#32
  let v1320 : BitVec 1 := Scalar.cmpi .ne v1319 c0_i32_969
  let v1324 : BitVec 1 := Scalar.andi v1323 v1320
  let v1325 : BitVec 32 := Scalar.addi v1319 v1318
  let v1326 : BitVec 32 := Scalar.select v1324 v1325 v1319
  let c128_i32_972 : BitVec 32 := 128#32
  let v1327 : BitVec 32 := Scalar.muli v1326 c128_i32_972
  let v1328 : BitVec 32 := Scalar.addi c512_i32_973 v1327
  v1328
def k0_dev23 (d0 : Dev nD) : Nat :=
  let c0_i32_985 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_974 : BitVec 32 := 3#32
  let v1330 : BitVec 32 := Scalar.andi v2 c3_i32_974
  let c4_i32_975 : BitVec 32 := 4#32
  let c2_i32_87 : BitVec 32 := 2#32
  let v168 : BitVec 32 := Scalar.shrsi v2 c2_i32_87
  let c2_i32_965 : BitVec 32 := 2#32
  let v1316 : BitVec 32 := Scalar.addi v168 c2_i32_965
  let c4_i32_966 : BitVec 32 := 4#32
  let c0_i32_967 : BitVec 32 := 0#32
  let v1317 : BitVec 1 := Scalar.cmpi .eq c4_i32_966 c0_i32_967
  let c1_i32_968 : BitVec 32 := 1#32
  let v1318 : BitVec 32 := Scalar.select v1317 c1_i32_968 c4_i32_966
  let v1319 : BitVec 32 := Scalar.remsi v1316 v1318
  let c0_i32_970 : BitVec 32 := 0#32
  let v1321 : BitVec 1 := Scalar.cmpi .slt v1319 c0_i32_970
  let c0_i32_971 : BitVec 32 := 0#32
  let v1322 : BitVec 1 := Scalar.cmpi .slt v1318 c0_i32_971
  let v1323 : BitVec 1 := Scalar.xori v1321 v1322
  let c0_i32_969 : BitVec 32 := 0#32
  let v1320 : BitVec 1 := Scalar.cmpi .ne v1319 c0_i32_969
  let v1324 : BitVec 1 := Scalar.andi v1323 v1320
  let v1325 : BitVec 32 := Scalar.addi v1319 v1318
  let v1326 : BitVec 32 := Scalar.select v1324 v1325 v1319
  let v1331 : BitVec 32 := Scalar.muli c4_i32_975 v1326
  let v1332 : BitVec 32 := Scalar.addi v1330 v1331
  let c1_i32_984 : BitVec 32 := 1#32
  let v1333 : BitVec 32 := Scalar.muli v1332 c1_i32_984
  let v1334 : BitVec 32 := Scalar.addi c0_i32_985 v1333
  v1334.toNat
def k0_mult26 (d0 : Dev nD) : BitVec 32 :=
  let c512_i32_997 : BitVec 32 := 512#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_87 : BitVec 32 := 2#32
  let v168 : BitVec 32 := Scalar.shrsi v2 c2_i32_87
  let c3_i32_989 : BitVec 32 := 3#32
  let v1342 : BitVec 32 := Scalar.addi v168 c3_i32_989
  let c4_i32_990 : BitVec 32 := 4#32
  let c0_i32_991 : BitVec 32 := 0#32
  let v1343 : BitVec 1 := Scalar.cmpi .eq c4_i32_990 c0_i32_991
  let c1_i32_992 : BitVec 32 := 1#32
  let v1344 : BitVec 32 := Scalar.select v1343 c1_i32_992 c4_i32_990
  let v1345 : BitVec 32 := Scalar.remsi v1342 v1344
  let c0_i32_994 : BitVec 32 := 0#32
  let v1347 : BitVec 1 := Scalar.cmpi .slt v1345 c0_i32_994
  let c0_i32_995 : BitVec 32 := 0#32
  let v1348 : BitVec 1 := Scalar.cmpi .slt v1344 c0_i32_995
  let v1349 : BitVec 1 := Scalar.xori v1347 v1348
  let c0_i32_993 : BitVec 32 := 0#32
  let v1346 : BitVec 1 := Scalar.cmpi .ne v1345 c0_i32_993
  let v1350 : BitVec 1 := Scalar.andi v1349 v1346
  let v1351 : BitVec 32 := Scalar.addi v1345 v1344
  let v1352 : BitVec 32 := Scalar.select v1350 v1351 v1345
  let c128_i32_996 : BitVec 32 := 128#32
  let v1353 : BitVec 32 := Scalar.muli v1352 c128_i32_996
  let v1354 : BitVec 32 := Scalar.addi c512_i32_997 v1353
  v1354
def k0_dev24 (d0 : Dev nD) : Nat :=
  let c0_i32_1009 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_998 : BitVec 32 := 3#32
  let v1356 : BitVec 32 := Scalar.andi v2 c3_i32_998
  let c4_i32_999 : BitVec 32 := 4#32
  let c2_i32_87 : BitVec 32 := 2#32
  let v168 : BitVec 32 := Scalar.shrsi v2 c2_i32_87
  let c3_i32_989 : BitVec 32 := 3#32
  let v1342 : BitVec 32 := Scalar.addi v168 c3_i32_989
  let c4_i32_990 : BitVec 32 := 4#32
  let c0_i32_991 : BitVec 32 := 0#32
  let v1343 : BitVec 1 := Scalar.cmpi .eq c4_i32_990 c0_i32_991
  let c1_i32_992 : BitVec 32 := 1#32
  let v1344 : BitVec 32 := Scalar.select v1343 c1_i32_992 c4_i32_990
  let v1345 : BitVec 32 := Scalar.remsi v1342 v1344
  let c0_i32_994 : BitVec 32 := 0#32
  let v1347 : BitVec 1 := Scalar.cmpi .slt v1345 c0_i32_994
  let c0_i32_995 : BitVec 32 := 0#32
  let v1348 : BitVec 1 := Scalar.cmpi .slt v1344 c0_i32_995
  let v1349 : BitVec 1 := Scalar.xori v1347 v1348
  let c0_i32_993 : BitVec 32 := 0#32
  let v1346 : BitVec 1 := Scalar.cmpi .ne v1345 c0_i32_993
  let v1350 : BitVec 1 := Scalar.andi v1349 v1346
  let v1351 : BitVec 32 := Scalar.addi v1345 v1344
  let v1352 : BitVec 32 := Scalar.select v1350 v1351 v1345
  let v1357 : BitVec 32 := Scalar.muli c4_i32_999 v1352
  let v1358 : BitVec 32 := Scalar.addi v1356 v1357
  let c1_i32_1008 : BitVec 32 := 1#32
  let v1359 : BitVec 32 := Scalar.muli v1358 c1_i32_1008
  let v1360 : BitVec 32 := Scalar.addi c0_i32_1009 v1359
  v1360.toNat
def k0_off7 (d0 : Dev nD) (c0_i32_82 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_80 : BitVec 32 := 3#32
  let v153 : BitVec 32 := Scalar.andi v2 c3_i32_80
  let c128_i32 : BitVec 32 := 128#32
  let v155 : BitVec 32 := Scalar.muli v153 c128_i32
  let v156 : BitVec 32 := Scalar.addi c0_i32_82 v155
  let v157 : BitVec 32 := v156
  let c2_i32_81 : BitVec 32 := 2#32
  let v154 : BitVec 32 := Scalar.shrsi v2 c2_i32_81
  let c32_i32 : BitVec 32 := 32#32
  let v161 : BitVec 32 := Scalar.muli v154 c32_i32
  let v162 : BitVec 32 := Scalar.addi v157 v161
  let v163 : BitVec 32 := v162
  let v1410 : Index := Scalar.indexCast v163
  let c0_1106 : Index := 0#32
  ![v1410.toNat, 0]
def k0_off8 (d0 : Dev nD) (c0_i32_84 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_81 : BitVec 32 := 2#32
  let v154 : BitVec 32 := Scalar.shrsi v2 c2_i32_81
  let c128_i32_83 : BitVec 32 := 128#32
  let v158 : BitVec 32 := Scalar.muli v154 c128_i32_83
  let v159 : BitVec 32 := Scalar.addi c0_i32_84 v158
  let v160 : BitVec 32 := v159
  let c3_i32_80 : BitVec 32 := 3#32
  let v153 : BitVec 32 := Scalar.andi v2 c3_i32_80
  let c32_i32_85 : BitVec 32 := 32#32
  let v164 : BitVec 32 := Scalar.muli v153 c32_i32_85
  let v165 : BitVec 32 := Scalar.addi v160 v164
  let v166 : BitVec 32 := v165
  let v1470 : Index := Scalar.indexCast v166
  let c512_1213 : Index := 512#32
  ![v1470.toNat, 512]
def k0_off9 (d0 : Dev nD) (c0_i32_82 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_80 : BitVec 32 := 3#32
  let v153 : BitVec 32 := Scalar.andi v2 c3_i32_80
  let c128_i32 : BitVec 32 := 128#32
  let v155 : BitVec 32 := Scalar.muli v153 c128_i32
  let v156 : BitVec 32 := Scalar.addi c0_i32_82 v155
  let v157 : BitVec 32 := v156
  let c2_i32_81 : BitVec 32 := 2#32
  let v154 : BitVec 32 := Scalar.shrsi v2 c2_i32_81
  let c32_i32 : BitVec 32 := 32#32
  let v161 : BitVec 32 := Scalar.muli v154 c32_i32
  let v162 : BitVec 32 := Scalar.addi v157 v161
  let v163 : BitVec 32 := v162
  let c0_i32_1246 : BitVec 32 := 0#32
  ![v163.toNat, 0]
def k0_dev25 (d0 : Dev nD) : Nat :=
  let c0_i32_1245 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_1236 : BitVec 32 := 3#32
  let v1506 : BitVec 32 := Scalar.andi v2 c3_i32_1236
  let c4_i32_1237 : BitVec 32 := 4#32
  let c2_i32_81 : BitVec 32 := 2#32
  let v154 : BitVec 32 := Scalar.shrsi v2 c2_i32_81
  let c1_i32_1229 : BitVec 32 := 1#32
  let v1495 : BitVec 32 := Scalar.addi v154 c1_i32_1229
  let c4_i32_1230 : BitVec 32 := 4#32
  let c0_i32_1231 : BitVec 32 := 0#32
  let v1496 : BitVec 1 := Scalar.cmpi .eq c4_i32_1230 c0_i32_1231
  let c1_i32_1232 : BitVec 32 := 1#32
  let v1497 : BitVec 32 := Scalar.select v1496 c1_i32_1232 c4_i32_1230
  let v1498 : BitVec 32 := Scalar.remsi v1495 v1497
  let c0_i32_1234 : BitVec 32 := 0#32
  let v1500 : BitVec 1 := Scalar.cmpi .slt v1498 c0_i32_1234
  let c0_i32_1235 : BitVec 32 := 0#32
  let v1501 : BitVec 1 := Scalar.cmpi .slt v1497 c0_i32_1235
  let v1502 : BitVec 1 := Scalar.xori v1500 v1501
  let c0_i32_1233 : BitVec 32 := 0#32
  let v1499 : BitVec 1 := Scalar.cmpi .ne v1498 c0_i32_1233
  let v1503 : BitVec 1 := Scalar.andi v1502 v1499
  let v1504 : BitVec 32 := Scalar.addi v1498 v1497
  let v1505 : BitVec 32 := Scalar.select v1503 v1504 v1498
  let v1507 : BitVec 32 := Scalar.muli c4_i32_1237 v1505
  let v1508 : BitVec 32 := Scalar.addi v1506 v1507
  let c1_i32_1244 : BitVec 32 := 1#32
  let v1509 : BitVec 32 := Scalar.muli v1508 c1_i32_1244
  let v1510 : BitVec 32 := Scalar.addi c0_i32_1245 v1509
  v1510.toNat
def k0_dev26 (d0 : Dev nD) : Nat :=
  let c0_i32_1264 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_1255 : BitVec 32 := 3#32
  let v1528 : BitVec 32 := Scalar.andi v2 c3_i32_1255
  let c4_i32_1256 : BitVec 32 := 4#32
  let c2_i32_81 : BitVec 32 := 2#32
  let v154 : BitVec 32 := Scalar.shrsi v2 c2_i32_81
  let c2_i32_1248 : BitVec 32 := 2#32
  let v1517 : BitVec 32 := Scalar.addi v154 c2_i32_1248
  let c4_i32_1249 : BitVec 32 := 4#32
  let c0_i32_1250 : BitVec 32 := 0#32
  let v1518 : BitVec 1 := Scalar.cmpi .eq c4_i32_1249 c0_i32_1250
  let c1_i32_1251 : BitVec 32 := 1#32
  let v1519 : BitVec 32 := Scalar.select v1518 c1_i32_1251 c4_i32_1249
  let v1520 : BitVec 32 := Scalar.remsi v1517 v1519
  let c0_i32_1253 : BitVec 32 := 0#32
  let v1522 : BitVec 1 := Scalar.cmpi .slt v1520 c0_i32_1253
  let c0_i32_1254 : BitVec 32 := 0#32
  let v1523 : BitVec 1 := Scalar.cmpi .slt v1519 c0_i32_1254
  let v1524 : BitVec 1 := Scalar.xori v1522 v1523
  let c0_i32_1252 : BitVec 32 := 0#32
  let v1521 : BitVec 1 := Scalar.cmpi .ne v1520 c0_i32_1252
  let v1525 : BitVec 1 := Scalar.andi v1524 v1521
  let v1526 : BitVec 32 := Scalar.addi v1520 v1519
  let v1527 : BitVec 32 := Scalar.select v1525 v1526 v1520
  let v1529 : BitVec 32 := Scalar.muli c4_i32_1256 v1527
  let v1530 : BitVec 32 := Scalar.addi v1528 v1529
  let c1_i32_1263 : BitVec 32 := 1#32
  let v1531 : BitVec 32 := Scalar.muli v1530 c1_i32_1263
  let v1532 : BitVec 32 := Scalar.addi c0_i32_1264 v1531
  v1532.toNat
def k0_dev27 (d0 : Dev nD) : Nat :=
  let c0_i32_1283 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_1274 : BitVec 32 := 3#32
  let v1550 : BitVec 32 := Scalar.andi v2 c3_i32_1274
  let c4_i32_1275 : BitVec 32 := 4#32
  let c2_i32_81 : BitVec 32 := 2#32
  let v154 : BitVec 32 := Scalar.shrsi v2 c2_i32_81
  let c3_i32_1267 : BitVec 32 := 3#32
  let v1539 : BitVec 32 := Scalar.addi v154 c3_i32_1267
  let c4_i32_1268 : BitVec 32 := 4#32
  let c0_i32_1269 : BitVec 32 := 0#32
  let v1540 : BitVec 1 := Scalar.cmpi .eq c4_i32_1268 c0_i32_1269
  let c1_i32_1270 : BitVec 32 := 1#32
  let v1541 : BitVec 32 := Scalar.select v1540 c1_i32_1270 c4_i32_1268
  let v1542 : BitVec 32 := Scalar.remsi v1539 v1541
  let c0_i32_1272 : BitVec 32 := 0#32
  let v1544 : BitVec 1 := Scalar.cmpi .slt v1542 c0_i32_1272
  let c0_i32_1273 : BitVec 32 := 0#32
  let v1545 : BitVec 1 := Scalar.cmpi .slt v1541 c0_i32_1273
  let v1546 : BitVec 1 := Scalar.xori v1544 v1545
  let c0_i32_1271 : BitVec 32 := 0#32
  let v1543 : BitVec 1 := Scalar.cmpi .ne v1542 c0_i32_1271
  let v1547 : BitVec 1 := Scalar.andi v1546 v1543
  let v1548 : BitVec 32 := Scalar.addi v1542 v1541
  let v1549 : BitVec 32 := Scalar.select v1547 v1548 v1542
  let v1551 : BitVec 32 := Scalar.muli c4_i32_1275 v1549
  let v1552 : BitVec 32 := Scalar.addi v1550 v1551
  let c1_i32_1282 : BitVec 32 := 1#32
  let v1553 : BitVec 32 := Scalar.muli v1552 c1_i32_1282
  let v1554 : BitVec 32 := Scalar.addi c0_i32_1283 v1553
  v1554.toNat
def k0_off10 (d0 : Dev nD) (c0_i32_84 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_81 : BitVec 32 := 2#32
  let v154 : BitVec 32 := Scalar.shrsi v2 c2_i32_81
  let c128_i32_83 : BitVec 32 := 128#32
  let v158 : BitVec 32 := Scalar.muli v154 c128_i32_83
  let v159 : BitVec 32 := Scalar.addi c0_i32_84 v158
  let v160 : BitVec 32 := v159
  let c3_i32_80 : BitVec 32 := 3#32
  let v153 : BitVec 32 := Scalar.andi v2 c3_i32_80
  let c32_i32_85 : BitVec 32 := 32#32
  let v164 : BitVec 32 := Scalar.muli v153 c32_i32_85
  let v165 : BitVec 32 := Scalar.addi v160 v164
  let v166 : BitVec 32 := v165
  let c512_i32_1304 : BitVec 32 := 512#32
  ![v166.toNat, 512]
def k0_dev28 (d0 : Dev nD) : Nat :=
  let c0_i32_1303 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c_m4_i32_1295 : BitVec 32 := 4294967292#32
  let v1579 : BitVec 32 := Scalar.andi v2 c_m4_i32_1295
  let c3_i32_80 : BitVec 32 := 3#32
  let v153 : BitVec 32 := Scalar.andi v2 c3_i32_80
  let c1_i32_1288 : BitVec 32 := 1#32
  let v1568 : BitVec 32 := Scalar.addi v153 c1_i32_1288
  let c4_i32_1289 : BitVec 32 := 4#32
  let c0_i32_1290 : BitVec 32 := 0#32
  let v1569 : BitVec 1 := Scalar.cmpi .eq c4_i32_1289 c0_i32_1290
  let c1_i32_1291 : BitVec 32 := 1#32
  let v1570 : BitVec 32 := Scalar.select v1569 c1_i32_1291 c4_i32_1289
  let v1571 : BitVec 32 := Scalar.remsi v1568 v1570
  let c0_i32_1293 : BitVec 32 := 0#32
  let v1573 : BitVec 1 := Scalar.cmpi .slt v1571 c0_i32_1293
  let c0_i32_1294 : BitVec 32 := 0#32
  let v1574 : BitVec 1 := Scalar.cmpi .slt v1570 c0_i32_1294
  let v1575 : BitVec 1 := Scalar.xori v1573 v1574
  let c0_i32_1292 : BitVec 32 := 0#32
  let v1572 : BitVec 1 := Scalar.cmpi .ne v1571 c0_i32_1292
  let v1576 : BitVec 1 := Scalar.andi v1575 v1572
  let v1577 : BitVec 32 := Scalar.addi v1571 v1570
  let v1578 : BitVec 32 := Scalar.select v1576 v1577 v1571
  let v1580 : BitVec 32 := Scalar.addi v1579 v1578
  let c1_i32_1302 : BitVec 32 := 1#32
  let v1581 : BitVec 32 := Scalar.muli v1580 c1_i32_1302
  let v1582 : BitVec 32 := Scalar.addi c0_i32_1303 v1581
  v1582.toNat
def k0_dev29 (d0 : Dev nD) : Nat :=
  let c0_i32_1321 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c_m4_i32_1313 : BitVec 32 := 4294967292#32
  let v1600 : BitVec 32 := Scalar.andi v2 c_m4_i32_1313
  let c3_i32_80 : BitVec 32 := 3#32
  let v153 : BitVec 32 := Scalar.andi v2 c3_i32_80
  let c2_i32_1306 : BitVec 32 := 2#32
  let v1589 : BitVec 32 := Scalar.addi v153 c2_i32_1306
  let c4_i32_1307 : BitVec 32 := 4#32
  let c0_i32_1308 : BitVec 32 := 0#32
  let v1590 : BitVec 1 := Scalar.cmpi .eq c4_i32_1307 c0_i32_1308
  let c1_i32_1309 : BitVec 32 := 1#32
  let v1591 : BitVec 32 := Scalar.select v1590 c1_i32_1309 c4_i32_1307
  let v1592 : BitVec 32 := Scalar.remsi v1589 v1591
  let c0_i32_1311 : BitVec 32 := 0#32
  let v1594 : BitVec 1 := Scalar.cmpi .slt v1592 c0_i32_1311
  let c0_i32_1312 : BitVec 32 := 0#32
  let v1595 : BitVec 1 := Scalar.cmpi .slt v1591 c0_i32_1312
  let v1596 : BitVec 1 := Scalar.xori v1594 v1595
  let c0_i32_1310 : BitVec 32 := 0#32
  let v1593 : BitVec 1 := Scalar.cmpi .ne v1592 c0_i32_1310
  let v1597 : BitVec 1 := Scalar.andi v1596 v1593
  let v1598 : BitVec 32 := Scalar.addi v1592 v1591
  let v1599 : BitVec 32 := Scalar.select v1597 v1598 v1592
  let v1601 : BitVec 32 := Scalar.addi v1600 v1599
  let c1_i32_1320 : BitVec 32 := 1#32
  let v1602 : BitVec 32 := Scalar.muli v1601 c1_i32_1320
  let v1603 : BitVec 32 := Scalar.addi c0_i32_1321 v1602
  v1603.toNat
def k0_dev30 (d0 : Dev nD) : Nat :=
  let c0_i32_1339 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c_m4_i32_1331 : BitVec 32 := 4294967292#32
  let v1621 : BitVec 32 := Scalar.andi v2 c_m4_i32_1331
  let c3_i32_80 : BitVec 32 := 3#32
  let v153 : BitVec 32 := Scalar.andi v2 c3_i32_80
  let c3_i32_1324 : BitVec 32 := 3#32
  let v1610 : BitVec 32 := Scalar.addi v153 c3_i32_1324
  let c4_i32_1325 : BitVec 32 := 4#32
  let c0_i32_1326 : BitVec 32 := 0#32
  let v1611 : BitVec 1 := Scalar.cmpi .eq c4_i32_1325 c0_i32_1326
  let c1_i32_1327 : BitVec 32 := 1#32
  let v1612 : BitVec 32 := Scalar.select v1611 c1_i32_1327 c4_i32_1325
  let v1613 : BitVec 32 := Scalar.remsi v1610 v1612
  let c0_i32_1329 : BitVec 32 := 0#32
  let v1615 : BitVec 1 := Scalar.cmpi .slt v1613 c0_i32_1329
  let c0_i32_1330 : BitVec 32 := 0#32
  let v1616 : BitVec 1 := Scalar.cmpi .slt v1612 c0_i32_1330
  let v1617 : BitVec 1 := Scalar.xori v1615 v1616
  let c0_i32_1328 : BitVec 32 := 0#32
  let v1614 : BitVec 1 := Scalar.cmpi .ne v1613 c0_i32_1328
  let v1618 : BitVec 1 := Scalar.andi v1617 v1614
  let v1619 : BitVec 32 := Scalar.addi v1613 v1612
  let v1620 : BitVec 32 := Scalar.select v1618 v1619 v1613
  let v1622 : BitVec 32 := Scalar.addi v1621 v1620
  let c1_i32_1338 : BitVec 32 := 1#32
  let v1623 : BitVec 32 := Scalar.muli v1622 c1_i32_1338
  let v1624 : BitVec 32 := Scalar.addi c0_i32_1339 v1623
  v1624.toNat
def k0_mult27 (d0 : Dev nD) : BitVec 32 :=
  let c512_i32 : BitVec 32 := 512#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_86 : BitVec 32 := 3#32
  let v167 : BitVec 32 := Scalar.andi v2 c3_i32_86
  let c128_i32_88 : BitVec 32 := 128#32
  let v169 : BitVec 32 := Scalar.muli v167 c128_i32_88
  let v170 : BitVec 32 := Scalar.addi c512_i32 v169
  let v171 : BitVec 32 := v170
  let c2_i32_87 : BitVec 32 := 2#32
  let v168 : BitVec 32 := Scalar.shrsi v2 c2_i32_87
  let c1_i32_1520 : BitVec 32 := 1#32
  let v1739 : BitVec 32 := Scalar.addi v168 c1_i32_1520
  let c4_i32_1521 : BitVec 32 := 4#32
  let c0_i32_1522 : BitVec 32 := 0#32
  let v1740 : BitVec 1 := Scalar.cmpi .eq c4_i32_1521 c0_i32_1522
  let c1_i32_1523 : BitVec 32 := 1#32
  let v1741 : BitVec 32 := Scalar.select v1740 c1_i32_1523 c4_i32_1521
  let v1742 : BitVec 32 := Scalar.remsi v1739 v1741
  let c0_i32_1525 : BitVec 32 := 0#32
  let v1744 : BitVec 1 := Scalar.cmpi .slt v1742 c0_i32_1525
  let c0_i32_1526 : BitVec 32 := 0#32
  let v1745 : BitVec 1 := Scalar.cmpi .slt v1741 c0_i32_1526
  let v1746 : BitVec 1 := Scalar.xori v1744 v1745
  let c0_i32_1524 : BitVec 32 := 0#32
  let v1743 : BitVec 1 := Scalar.cmpi .ne v1742 c0_i32_1524
  let v1747 : BitVec 1 := Scalar.andi v1746 v1743
  let v1748 : BitVec 32 := Scalar.addi v1742 v1741
  let v1749 : BitVec 32 := Scalar.select v1747 v1748 v1742
  let c32_i32_1527 : BitVec 32 := 32#32
  let v1750 : BitVec 32 := Scalar.muli v1749 c32_i32_1527
  let v1751 : BitVec 32 := Scalar.addi v171 v1750
  v1751
def k0_dev31 (d0 : Dev nD) : Nat :=
  let c0_i32_1546 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_1533 : BitVec 32 := 3#32
  let v1759 : BitVec 32 := Scalar.andi v2 c3_i32_1533
  let c4_i32_1534 : BitVec 32 := 4#32
  let c2_i32_87 : BitVec 32 := 2#32
  let v168 : BitVec 32 := Scalar.shrsi v2 c2_i32_87
  let c1_i32_1520 : BitVec 32 := 1#32
  let v1739 : BitVec 32 := Scalar.addi v168 c1_i32_1520
  let c4_i32_1521 : BitVec 32 := 4#32
  let c0_i32_1522 : BitVec 32 := 0#32
  let v1740 : BitVec 1 := Scalar.cmpi .eq c4_i32_1521 c0_i32_1522
  let c1_i32_1523 : BitVec 32 := 1#32
  let v1741 : BitVec 32 := Scalar.select v1740 c1_i32_1523 c4_i32_1521
  let v1742 : BitVec 32 := Scalar.remsi v1739 v1741
  let c0_i32_1525 : BitVec 32 := 0#32
  let v1744 : BitVec 1 := Scalar.cmpi .slt v1742 c0_i32_1525
  let c0_i32_1526 : BitVec 32 := 0#32
  let v1745 : BitVec 1 := Scalar.cmpi .slt v1741 c0_i32_1526
  let v1746 : BitVec 1 := Scalar.xori v1744 v1745
  let c0_i32_1524 : BitVec 32 := 0#32
  let v1743 : BitVec 1 := Scalar.cmpi .ne v1742 c0_i32_1524
  let v1747 : BitVec 1 := Scalar.andi v1746 v1743
  let v1748 : BitVec 32 := Scalar.addi v1742 v1741
  let v1749 : BitVec 32 := Scalar.select v1747 v1748 v1742
  let v1760 : BitVec 32 := Scalar.muli c4_i32_1534 v1749
  let v1761 : BitVec 32 := Scalar.addi v1759 v1760
  let c1_i32_1545 : BitVec 32 := 1#32
  let v1762 : BitVec 32 := Scalar.muli v1761 c1_i32_1545
  let v1763 : BitVec 32 := Scalar.addi c0_i32_1546 v1762
  v1763.toNat
def k0_mult28 (d0 : Dev nD) : BitVec 32 :=
  let c512_i32 : BitVec 32 := 512#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_86 : BitVec 32 := 3#32
  let v167 : BitVec 32 := Scalar.andi v2 c3_i32_86
  let c128_i32_88 : BitVec 32 := 128#32
  let v169 : BitVec 32 := Scalar.muli v167 c128_i32_88
  let v170 : BitVec 32 := Scalar.addi c512_i32 v169
  let v171 : BitVec 32 := v170
  let c2_i32_87 : BitVec 32 := 2#32
  let v168 : BitVec 32 := Scalar.shrsi v2 c2_i32_87
  let c2_i32_1551 : BitVec 32 := 2#32
  let v1772 : BitVec 32 := Scalar.addi v168 c2_i32_1551
  let c4_i32_1552 : BitVec 32 := 4#32
  let c0_i32_1553 : BitVec 32 := 0#32
  let v1773 : BitVec 1 := Scalar.cmpi .eq c4_i32_1552 c0_i32_1553
  let c1_i32_1554 : BitVec 32 := 1#32
  let v1774 : BitVec 32 := Scalar.select v1773 c1_i32_1554 c4_i32_1552
  let v1775 : BitVec 32 := Scalar.remsi v1772 v1774
  let c0_i32_1556 : BitVec 32 := 0#32
  let v1777 : BitVec 1 := Scalar.cmpi .slt v1775 c0_i32_1556
  let c0_i32_1557 : BitVec 32 := 0#32
  let v1778 : BitVec 1 := Scalar.cmpi .slt v1774 c0_i32_1557
  let v1779 : BitVec 1 := Scalar.xori v1777 v1778
  let c0_i32_1555 : BitVec 32 := 0#32
  let v1776 : BitVec 1 := Scalar.cmpi .ne v1775 c0_i32_1555
  let v1780 : BitVec 1 := Scalar.andi v1779 v1776
  let v1781 : BitVec 32 := Scalar.addi v1775 v1774
  let v1782 : BitVec 32 := Scalar.select v1780 v1781 v1775
  let c32_i32_1558 : BitVec 32 := 32#32
  let v1783 : BitVec 32 := Scalar.muli v1782 c32_i32_1558
  let v1784 : BitVec 32 := Scalar.addi v171 v1783
  v1784
def k0_dev32 (d0 : Dev nD) : Nat :=
  let c0_i32_1577 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_1564 : BitVec 32 := 3#32
  let v1792 : BitVec 32 := Scalar.andi v2 c3_i32_1564
  let c4_i32_1565 : BitVec 32 := 4#32
  let c2_i32_87 : BitVec 32 := 2#32
  let v168 : BitVec 32 := Scalar.shrsi v2 c2_i32_87
  let c2_i32_1551 : BitVec 32 := 2#32
  let v1772 : BitVec 32 := Scalar.addi v168 c2_i32_1551
  let c4_i32_1552 : BitVec 32 := 4#32
  let c0_i32_1553 : BitVec 32 := 0#32
  let v1773 : BitVec 1 := Scalar.cmpi .eq c4_i32_1552 c0_i32_1553
  let c1_i32_1554 : BitVec 32 := 1#32
  let v1774 : BitVec 32 := Scalar.select v1773 c1_i32_1554 c4_i32_1552
  let v1775 : BitVec 32 := Scalar.remsi v1772 v1774
  let c0_i32_1556 : BitVec 32 := 0#32
  let v1777 : BitVec 1 := Scalar.cmpi .slt v1775 c0_i32_1556
  let c0_i32_1557 : BitVec 32 := 0#32
  let v1778 : BitVec 1 := Scalar.cmpi .slt v1774 c0_i32_1557
  let v1779 : BitVec 1 := Scalar.xori v1777 v1778
  let c0_i32_1555 : BitVec 32 := 0#32
  let v1776 : BitVec 1 := Scalar.cmpi .ne v1775 c0_i32_1555
  let v1780 : BitVec 1 := Scalar.andi v1779 v1776
  let v1781 : BitVec 32 := Scalar.addi v1775 v1774
  let v1782 : BitVec 32 := Scalar.select v1780 v1781 v1775
  let v1793 : BitVec 32 := Scalar.muli c4_i32_1565 v1782
  let v1794 : BitVec 32 := Scalar.addi v1792 v1793
  let c1_i32_1576 : BitVec 32 := 1#32
  let v1795 : BitVec 32 := Scalar.muli v1794 c1_i32_1576
  let v1796 : BitVec 32 := Scalar.addi c0_i32_1577 v1795
  v1796.toNat
def k0_mult29 (d0 : Dev nD) : BitVec 32 :=
  let c512_i32 : BitVec 32 := 512#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_86 : BitVec 32 := 3#32
  let v167 : BitVec 32 := Scalar.andi v2 c3_i32_86
  let c128_i32_88 : BitVec 32 := 128#32
  let v169 : BitVec 32 := Scalar.muli v167 c128_i32_88
  let v170 : BitVec 32 := Scalar.addi c512_i32 v169
  let v171 : BitVec 32 := v170
  let c2_i32_87 : BitVec 32 := 2#32
  let v168 : BitVec 32 := Scalar.shrsi v2 c2_i32_87
  let c3_i32_1582 : BitVec 32 := 3#32
  let v1805 : BitVec 32 := Scalar.addi v168 c3_i32_1582
  let c4_i32_1583 : BitVec 32 := 4#32
  let c0_i32_1584 : BitVec 32 := 0#32
  let v1806 : BitVec 1 := Scalar.cmpi .eq c4_i32_1583 c0_i32_1584
  let c1_i32_1585 : BitVec 32 := 1#32
  let v1807 : BitVec 32 := Scalar.select v1806 c1_i32_1585 c4_i32_1583
  let v1808 : BitVec 32 := Scalar.remsi v1805 v1807
  let c0_i32_1587 : BitVec 32 := 0#32
  let v1810 : BitVec 1 := Scalar.cmpi .slt v1808 c0_i32_1587
  let c0_i32_1588 : BitVec 32 := 0#32
  let v1811 : BitVec 1 := Scalar.cmpi .slt v1807 c0_i32_1588
  let v1812 : BitVec 1 := Scalar.xori v1810 v1811
  let c0_i32_1586 : BitVec 32 := 0#32
  let v1809 : BitVec 1 := Scalar.cmpi .ne v1808 c0_i32_1586
  let v1813 : BitVec 1 := Scalar.andi v1812 v1809
  let v1814 : BitVec 32 := Scalar.addi v1808 v1807
  let v1815 : BitVec 32 := Scalar.select v1813 v1814 v1808
  let c32_i32_1589 : BitVec 32 := 32#32
  let v1816 : BitVec 32 := Scalar.muli v1815 c32_i32_1589
  let v1817 : BitVec 32 := Scalar.addi v171 v1816
  v1817
def k0_dev33 (d0 : Dev nD) : Nat :=
  let c0_i32_1608 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_1595 : BitVec 32 := 3#32
  let v1825 : BitVec 32 := Scalar.andi v2 c3_i32_1595
  let c4_i32_1596 : BitVec 32 := 4#32
  let c2_i32_87 : BitVec 32 := 2#32
  let v168 : BitVec 32 := Scalar.shrsi v2 c2_i32_87
  let c3_i32_1582 : BitVec 32 := 3#32
  let v1805 : BitVec 32 := Scalar.addi v168 c3_i32_1582
  let c4_i32_1583 : BitVec 32 := 4#32
  let c0_i32_1584 : BitVec 32 := 0#32
  let v1806 : BitVec 1 := Scalar.cmpi .eq c4_i32_1583 c0_i32_1584
  let c1_i32_1585 : BitVec 32 := 1#32
  let v1807 : BitVec 32 := Scalar.select v1806 c1_i32_1585 c4_i32_1583
  let v1808 : BitVec 32 := Scalar.remsi v1805 v1807
  let c0_i32_1587 : BitVec 32 := 0#32
  let v1810 : BitVec 1 := Scalar.cmpi .slt v1808 c0_i32_1587
  let c0_i32_1588 : BitVec 32 := 0#32
  let v1811 : BitVec 1 := Scalar.cmpi .slt v1807 c0_i32_1588
  let v1812 : BitVec 1 := Scalar.xori v1810 v1811
  let c0_i32_1586 : BitVec 32 := 0#32
  let v1809 : BitVec 1 := Scalar.cmpi .ne v1808 c0_i32_1586
  let v1813 : BitVec 1 := Scalar.andi v1812 v1809
  let v1814 : BitVec 32 := Scalar.addi v1808 v1807
  let v1815 : BitVec 32 := Scalar.select v1813 v1814 v1808
  let v1826 : BitVec 32 := Scalar.muli c4_i32_1596 v1815
  let v1827 : BitVec 32 := Scalar.addi v1825 v1826
  let c1_i32_1607 : BitVec 32 := 1#32
  let v1828 : BitVec 32 := Scalar.muli v1827 c1_i32_1607
  let v1829 : BitVec 32 := Scalar.addi c0_i32_1608 v1828
  v1829.toNat
def k0_mult30 (d0 : Dev nD) : BitVec 32 :=
  let c512_i32_90 : BitVec 32 := 512#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_87 : BitVec 32 := 2#32
  let v168 : BitVec 32 := Scalar.shrsi v2 c2_i32_87
  let c128_i32_89 : BitVec 32 := 128#32
  let v172 : BitVec 32 := Scalar.muli v168 c128_i32_89
  let v173 : BitVec 32 := Scalar.addi c512_i32_90 v172
  let v174 : BitVec 32 := v173
  let c3_i32_86 : BitVec 32 := 3#32
  let v167 : BitVec 32 := Scalar.andi v2 c3_i32_86
  let c1_i32_1613 : BitVec 32 := 1#32
  let v1838 : BitVec 32 := Scalar.addi v167 c1_i32_1613
  let c4_i32_1614 : BitVec 32 := 4#32
  let c0_i32_1615 : BitVec 32 := 0#32
  let v1839 : BitVec 1 := Scalar.cmpi .eq c4_i32_1614 c0_i32_1615
  let c1_i32_1616 : BitVec 32 := 1#32
  let v1840 : BitVec 32 := Scalar.select v1839 c1_i32_1616 c4_i32_1614
  let v1841 : BitVec 32 := Scalar.remsi v1838 v1840
  let c0_i32_1618 : BitVec 32 := 0#32
  let v1843 : BitVec 1 := Scalar.cmpi .slt v1841 c0_i32_1618
  let c0_i32_1619 : BitVec 32 := 0#32
  let v1844 : BitVec 1 := Scalar.cmpi .slt v1840 c0_i32_1619
  let v1845 : BitVec 1 := Scalar.xori v1843 v1844
  let c0_i32_1617 : BitVec 32 := 0#32
  let v1842 : BitVec 1 := Scalar.cmpi .ne v1841 c0_i32_1617
  let v1846 : BitVec 1 := Scalar.andi v1845 v1842
  let v1847 : BitVec 32 := Scalar.addi v1841 v1840
  let v1848 : BitVec 32 := Scalar.select v1846 v1847 v1841
  let c32_i32_1620 : BitVec 32 := 32#32
  let v1849 : BitVec 32 := Scalar.muli v1848 c32_i32_1620
  let v1850 : BitVec 32 := Scalar.addi v174 v1849
  v1850
def k0_dev34 (d0 : Dev nD) : Nat :=
  let c0_i32_1638 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c_m4_i32_1626 : BitVec 32 := 4294967292#32
  let v1858 : BitVec 32 := Scalar.andi v2 c_m4_i32_1626
  let c3_i32_86 : BitVec 32 := 3#32
  let v167 : BitVec 32 := Scalar.andi v2 c3_i32_86
  let c1_i32_1613 : BitVec 32 := 1#32
  let v1838 : BitVec 32 := Scalar.addi v167 c1_i32_1613
  let c4_i32_1614 : BitVec 32 := 4#32
  let c0_i32_1615 : BitVec 32 := 0#32
  let v1839 : BitVec 1 := Scalar.cmpi .eq c4_i32_1614 c0_i32_1615
  let c1_i32_1616 : BitVec 32 := 1#32
  let v1840 : BitVec 32 := Scalar.select v1839 c1_i32_1616 c4_i32_1614
  let v1841 : BitVec 32 := Scalar.remsi v1838 v1840
  let c0_i32_1618 : BitVec 32 := 0#32
  let v1843 : BitVec 1 := Scalar.cmpi .slt v1841 c0_i32_1618
  let c0_i32_1619 : BitVec 32 := 0#32
  let v1844 : BitVec 1 := Scalar.cmpi .slt v1840 c0_i32_1619
  let v1845 : BitVec 1 := Scalar.xori v1843 v1844
  let c0_i32_1617 : BitVec 32 := 0#32
  let v1842 : BitVec 1 := Scalar.cmpi .ne v1841 c0_i32_1617
  let v1846 : BitVec 1 := Scalar.andi v1845 v1842
  let v1847 : BitVec 32 := Scalar.addi v1841 v1840
  let v1848 : BitVec 32 := Scalar.select v1846 v1847 v1841
  let v1859 : BitVec 32 := Scalar.addi v1858 v1848
  let c1_i32_1637 : BitVec 32 := 1#32
  let v1860 : BitVec 32 := Scalar.muli v1859 c1_i32_1637
  let v1861 : BitVec 32 := Scalar.addi c0_i32_1638 v1860
  v1861.toNat
def k0_mult31 (d0 : Dev nD) : BitVec 32 :=
  let c512_i32_90 : BitVec 32 := 512#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_87 : BitVec 32 := 2#32
  let v168 : BitVec 32 := Scalar.shrsi v2 c2_i32_87
  let c128_i32_89 : BitVec 32 := 128#32
  let v172 : BitVec 32 := Scalar.muli v168 c128_i32_89
  let v173 : BitVec 32 := Scalar.addi c512_i32_90 v172
  let v174 : BitVec 32 := v173
  let c3_i32_86 : BitVec 32 := 3#32
  let v167 : BitVec 32 := Scalar.andi v2 c3_i32_86
  let c2_i32_1643 : BitVec 32 := 2#32
  let v1870 : BitVec 32 := Scalar.addi v167 c2_i32_1643
  let c4_i32_1644 : BitVec 32 := 4#32
  let c0_i32_1645 : BitVec 32 := 0#32
  let v1871 : BitVec 1 := Scalar.cmpi .eq c4_i32_1644 c0_i32_1645
  let c1_i32_1646 : BitVec 32 := 1#32
  let v1872 : BitVec 32 := Scalar.select v1871 c1_i32_1646 c4_i32_1644
  let v1873 : BitVec 32 := Scalar.remsi v1870 v1872
  let c0_i32_1648 : BitVec 32 := 0#32
  let v1875 : BitVec 1 := Scalar.cmpi .slt v1873 c0_i32_1648
  let c0_i32_1649 : BitVec 32 := 0#32
  let v1876 : BitVec 1 := Scalar.cmpi .slt v1872 c0_i32_1649
  let v1877 : BitVec 1 := Scalar.xori v1875 v1876
  let c0_i32_1647 : BitVec 32 := 0#32
  let v1874 : BitVec 1 := Scalar.cmpi .ne v1873 c0_i32_1647
  let v1878 : BitVec 1 := Scalar.andi v1877 v1874
  let v1879 : BitVec 32 := Scalar.addi v1873 v1872
  let v1880 : BitVec 32 := Scalar.select v1878 v1879 v1873
  let c32_i32_1650 : BitVec 32 := 32#32
  let v1881 : BitVec 32 := Scalar.muli v1880 c32_i32_1650
  let v1882 : BitVec 32 := Scalar.addi v174 v1881
  v1882
def k0_dev35 (d0 : Dev nD) : Nat :=
  let c0_i32_1668 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c_m4_i32_1656 : BitVec 32 := 4294967292#32
  let v1890 : BitVec 32 := Scalar.andi v2 c_m4_i32_1656
  let c3_i32_86 : BitVec 32 := 3#32
  let v167 : BitVec 32 := Scalar.andi v2 c3_i32_86
  let c2_i32_1643 : BitVec 32 := 2#32
  let v1870 : BitVec 32 := Scalar.addi v167 c2_i32_1643
  let c4_i32_1644 : BitVec 32 := 4#32
  let c0_i32_1645 : BitVec 32 := 0#32
  let v1871 : BitVec 1 := Scalar.cmpi .eq c4_i32_1644 c0_i32_1645
  let c1_i32_1646 : BitVec 32 := 1#32
  let v1872 : BitVec 32 := Scalar.select v1871 c1_i32_1646 c4_i32_1644
  let v1873 : BitVec 32 := Scalar.remsi v1870 v1872
  let c0_i32_1648 : BitVec 32 := 0#32
  let v1875 : BitVec 1 := Scalar.cmpi .slt v1873 c0_i32_1648
  let c0_i32_1649 : BitVec 32 := 0#32
  let v1876 : BitVec 1 := Scalar.cmpi .slt v1872 c0_i32_1649
  let v1877 : BitVec 1 := Scalar.xori v1875 v1876
  let c0_i32_1647 : BitVec 32 := 0#32
  let v1874 : BitVec 1 := Scalar.cmpi .ne v1873 c0_i32_1647
  let v1878 : BitVec 1 := Scalar.andi v1877 v1874
  let v1879 : BitVec 32 := Scalar.addi v1873 v1872
  let v1880 : BitVec 32 := Scalar.select v1878 v1879 v1873
  let v1891 : BitVec 32 := Scalar.addi v1890 v1880
  let c1_i32_1667 : BitVec 32 := 1#32
  let v1892 : BitVec 32 := Scalar.muli v1891 c1_i32_1667
  let v1893 : BitVec 32 := Scalar.addi c0_i32_1668 v1892
  v1893.toNat
def k0_mult32 (d0 : Dev nD) : BitVec 32 :=
  let c512_i32_90 : BitVec 32 := 512#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_87 : BitVec 32 := 2#32
  let v168 : BitVec 32 := Scalar.shrsi v2 c2_i32_87
  let c128_i32_89 : BitVec 32 := 128#32
  let v172 : BitVec 32 := Scalar.muli v168 c128_i32_89
  let v173 : BitVec 32 := Scalar.addi c512_i32_90 v172
  let v174 : BitVec 32 := v173
  let c3_i32_86 : BitVec 32 := 3#32
  let v167 : BitVec 32 := Scalar.andi v2 c3_i32_86
  let c3_i32_1673 : BitVec 32 := 3#32
  let v1902 : BitVec 32 := Scalar.addi v167 c3_i32_1673
  let c4_i32_1674 : BitVec 32 := 4#32
  let c0_i32_1675 : BitVec 32 := 0#32
  let v1903 : BitVec 1 := Scalar.cmpi .eq c4_i32_1674 c0_i32_1675
  let c1_i32_1676 : BitVec 32 := 1#32
  let v1904 : BitVec 32 := Scalar.select v1903 c1_i32_1676 c4_i32_1674
  let v1905 : BitVec 32 := Scalar.remsi v1902 v1904
  let c0_i32_1678 : BitVec 32 := 0#32
  let v1907 : BitVec 1 := Scalar.cmpi .slt v1905 c0_i32_1678
  let c0_i32_1679 : BitVec 32 := 0#32
  let v1908 : BitVec 1 := Scalar.cmpi .slt v1904 c0_i32_1679
  let v1909 : BitVec 1 := Scalar.xori v1907 v1908
  let c0_i32_1677 : BitVec 32 := 0#32
  let v1906 : BitVec 1 := Scalar.cmpi .ne v1905 c0_i32_1677
  let v1910 : BitVec 1 := Scalar.andi v1909 v1906
  let v1911 : BitVec 32 := Scalar.addi v1905 v1904
  let v1912 : BitVec 32 := Scalar.select v1910 v1911 v1905
  let c32_i32_1680 : BitVec 32 := 32#32
  let v1913 : BitVec 32 := Scalar.muli v1912 c32_i32_1680
  let v1914 : BitVec 32 := Scalar.addi v174 v1913
  v1914
def k0_dev36 (d0 : Dev nD) : Nat :=
  let c0_i32_1698 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c_m4_i32_1686 : BitVec 32 := 4294967292#32
  let v1922 : BitVec 32 := Scalar.andi v2 c_m4_i32_1686
  let c3_i32_86 : BitVec 32 := 3#32
  let v167 : BitVec 32 := Scalar.andi v2 c3_i32_86
  let c3_i32_1673 : BitVec 32 := 3#32
  let v1902 : BitVec 32 := Scalar.addi v167 c3_i32_1673
  let c4_i32_1674 : BitVec 32 := 4#32
  let c0_i32_1675 : BitVec 32 := 0#32
  let v1903 : BitVec 1 := Scalar.cmpi .eq c4_i32_1674 c0_i32_1675
  let c1_i32_1676 : BitVec 32 := 1#32
  let v1904 : BitVec 32 := Scalar.select v1903 c1_i32_1676 c4_i32_1674
  let v1905 : BitVec 32 := Scalar.remsi v1902 v1904
  let c0_i32_1678 : BitVec 32 := 0#32
  let v1907 : BitVec 1 := Scalar.cmpi .slt v1905 c0_i32_1678
  let c0_i32_1679 : BitVec 32 := 0#32
  let v1908 : BitVec 1 := Scalar.cmpi .slt v1904 c0_i32_1679
  let v1909 : BitVec 1 := Scalar.xori v1907 v1908
  let c0_i32_1677 : BitVec 32 := 0#32
  let v1906 : BitVec 1 := Scalar.cmpi .ne v1905 c0_i32_1677
  let v1910 : BitVec 1 := Scalar.andi v1909 v1906
  let v1911 : BitVec 32 := Scalar.addi v1905 v1904
  let v1912 : BitVec 32 := Scalar.select v1910 v1911 v1905
  let v1923 : BitVec 32 := Scalar.addi v1922 v1912
  let c1_i32_1697 : BitVec 32 := 1#32
  let v1924 : BitVec 32 := Scalar.muli v1923 c1_i32_1697
  let v1925 : BitVec 32 := Scalar.addi c0_i32_1698 v1924
  v1925.toNat
def k0_off11 (d0 : Dev nD) (c0_i32_82 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_80 : BitVec 32 := 3#32
  let v153 : BitVec 32 := Scalar.andi v2 c3_i32_80
  let c128_i32 : BitVec 32 := 128#32
  let v155 : BitVec 32 := Scalar.muli v153 c128_i32
  let v156 : BitVec 32 := Scalar.addi c0_i32_82 v155
  let v157 : BitVec 32 := v156
  let c0_i32_1833 : BitVec 32 := 0#32
  ![v157.toNat, 0]
def k0_dev37 (d0 : Dev nD) : Nat :=
  let c0_i32_1832 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c_m4_i32_1824 : BitVec 32 := 4294967292#32
  let v2005 : BitVec 32 := Scalar.andi v2 c_m4_i32_1824
  let c3_i32_80 : BitVec 32 := 3#32
  let v153 : BitVec 32 := Scalar.andi v2 c3_i32_80
  let c1_i32_1817 : BitVec 32 := 1#32
  let v1994 : BitVec 32 := Scalar.addi v153 c1_i32_1817
  let c4_i32_1818 : BitVec 32 := 4#32
  let c0_i32_1819 : BitVec 32 := 0#32
  let v1995 : BitVec 1 := Scalar.cmpi .eq c4_i32_1818 c0_i32_1819
  let c1_i32_1820 : BitVec 32 := 1#32
  let v1996 : BitVec 32 := Scalar.select v1995 c1_i32_1820 c4_i32_1818
  let v1997 : BitVec 32 := Scalar.remsi v1994 v1996
  let c0_i32_1822 : BitVec 32 := 0#32
  let v1999 : BitVec 1 := Scalar.cmpi .slt v1997 c0_i32_1822
  let c0_i32_1823 : BitVec 32 := 0#32
  let v2000 : BitVec 1 := Scalar.cmpi .slt v1996 c0_i32_1823
  let v2001 : BitVec 1 := Scalar.xori v1999 v2000
  let c0_i32_1821 : BitVec 32 := 0#32
  let v1998 : BitVec 1 := Scalar.cmpi .ne v1997 c0_i32_1821
  let v2002 : BitVec 1 := Scalar.andi v2001 v1998
  let v2003 : BitVec 32 := Scalar.addi v1997 v1996
  let v2004 : BitVec 32 := Scalar.select v2002 v2003 v1997
  let v2006 : BitVec 32 := Scalar.addi v2005 v2004
  let c1_i32_1831 : BitVec 32 := 1#32
  let v2007 : BitVec 32 := Scalar.muli v2006 c1_i32_1831
  let v2008 : BitVec 32 := Scalar.addi c0_i32_1832 v2007
  v2008.toNat
def k0_dev38 (d0 : Dev nD) : Nat :=
  let c0_i32_1850 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c_m4_i32_1842 : BitVec 32 := 4294967292#32
  let v2026 : BitVec 32 := Scalar.andi v2 c_m4_i32_1842
  let c3_i32_80 : BitVec 32 := 3#32
  let v153 : BitVec 32 := Scalar.andi v2 c3_i32_80
  let c2_i32_1835 : BitVec 32 := 2#32
  let v2015 : BitVec 32 := Scalar.addi v153 c2_i32_1835
  let c4_i32_1836 : BitVec 32 := 4#32
  let c0_i32_1837 : BitVec 32 := 0#32
  let v2016 : BitVec 1 := Scalar.cmpi .eq c4_i32_1836 c0_i32_1837
  let c1_i32_1838 : BitVec 32 := 1#32
  let v2017 : BitVec 32 := Scalar.select v2016 c1_i32_1838 c4_i32_1836
  let v2018 : BitVec 32 := Scalar.remsi v2015 v2017
  let c0_i32_1840 : BitVec 32 := 0#32
  let v2020 : BitVec 1 := Scalar.cmpi .slt v2018 c0_i32_1840
  let c0_i32_1841 : BitVec 32 := 0#32
  let v2021 : BitVec 1 := Scalar.cmpi .slt v2017 c0_i32_1841
  let v2022 : BitVec 1 := Scalar.xori v2020 v2021
  let c0_i32_1839 : BitVec 32 := 0#32
  let v2019 : BitVec 1 := Scalar.cmpi .ne v2018 c0_i32_1839
  let v2023 : BitVec 1 := Scalar.andi v2022 v2019
  let v2024 : BitVec 32 := Scalar.addi v2018 v2017
  let v2025 : BitVec 32 := Scalar.select v2023 v2024 v2018
  let v2027 : BitVec 32 := Scalar.addi v2026 v2025
  let c1_i32_1849 : BitVec 32 := 1#32
  let v2028 : BitVec 32 := Scalar.muli v2027 c1_i32_1849
  let v2029 : BitVec 32 := Scalar.addi c0_i32_1850 v2028
  v2029.toNat
def k0_dev39 (d0 : Dev nD) : Nat :=
  let c0_i32_1868 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c_m4_i32_1860 : BitVec 32 := 4294967292#32
  let v2047 : BitVec 32 := Scalar.andi v2 c_m4_i32_1860
  let c3_i32_80 : BitVec 32 := 3#32
  let v153 : BitVec 32 := Scalar.andi v2 c3_i32_80
  let c3_i32_1853 : BitVec 32 := 3#32
  let v2036 : BitVec 32 := Scalar.addi v153 c3_i32_1853
  let c4_i32_1854 : BitVec 32 := 4#32
  let c0_i32_1855 : BitVec 32 := 0#32
  let v2037 : BitVec 1 := Scalar.cmpi .eq c4_i32_1854 c0_i32_1855
  let c1_i32_1856 : BitVec 32 := 1#32
  let v2038 : BitVec 32 := Scalar.select v2037 c1_i32_1856 c4_i32_1854
  let v2039 : BitVec 32 := Scalar.remsi v2036 v2038
  let c0_i32_1858 : BitVec 32 := 0#32
  let v2041 : BitVec 1 := Scalar.cmpi .slt v2039 c0_i32_1858
  let c0_i32_1859 : BitVec 32 := 0#32
  let v2042 : BitVec 1 := Scalar.cmpi .slt v2038 c0_i32_1859
  let v2043 : BitVec 1 := Scalar.xori v2041 v2042
  let c0_i32_1857 : BitVec 32 := 0#32
  let v2040 : BitVec 1 := Scalar.cmpi .ne v2039 c0_i32_1857
  let v2044 : BitVec 1 := Scalar.andi v2043 v2040
  let v2045 : BitVec 32 := Scalar.addi v2039 v2038
  let v2046 : BitVec 32 := Scalar.select v2044 v2045 v2039
  let v2048 : BitVec 32 := Scalar.addi v2047 v2046
  let c1_i32_1867 : BitVec 32 := 1#32
  let v2049 : BitVec 32 := Scalar.muli v2048 c1_i32_1867
  let v2050 : BitVec 32 := Scalar.addi c0_i32_1868 v2049
  v2050.toNat
def k0_off12 (d0 : Dev nD) (c0_i32_84 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_81 : BitVec 32 := 2#32
  let v154 : BitVec 32 := Scalar.shrsi v2 c2_i32_81
  let c128_i32_83 : BitVec 32 := 128#32
  let v158 : BitVec 32 := Scalar.muli v154 c128_i32_83
  let v159 : BitVec 32 := Scalar.addi c0_i32_84 v158
  let v160 : BitVec 32 := v159
  let c512_i32_1888 : BitVec 32 := 512#32
  ![v160.toNat, 512]
def k0_dev40 (d0 : Dev nD) : Nat :=
  let c0_i32_1887 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_1878 : BitVec 32 := 3#32
  let v2068 : BitVec 32 := Scalar.andi v2 c3_i32_1878
  let c4_i32_1879 : BitVec 32 := 4#32
  let c2_i32_81 : BitVec 32 := 2#32
  let v154 : BitVec 32 := Scalar.shrsi v2 c2_i32_81
  let c1_i32_1871 : BitVec 32 := 1#32
  let v2057 : BitVec 32 := Scalar.addi v154 c1_i32_1871
  let c4_i32_1872 : BitVec 32 := 4#32
  let c0_i32_1873 : BitVec 32 := 0#32
  let v2058 : BitVec 1 := Scalar.cmpi .eq c4_i32_1872 c0_i32_1873
  let c1_i32_1874 : BitVec 32 := 1#32
  let v2059 : BitVec 32 := Scalar.select v2058 c1_i32_1874 c4_i32_1872
  let v2060 : BitVec 32 := Scalar.remsi v2057 v2059
  let c0_i32_1876 : BitVec 32 := 0#32
  let v2062 : BitVec 1 := Scalar.cmpi .slt v2060 c0_i32_1876
  let c0_i32_1877 : BitVec 32 := 0#32
  let v2063 : BitVec 1 := Scalar.cmpi .slt v2059 c0_i32_1877
  let v2064 : BitVec 1 := Scalar.xori v2062 v2063
  let c0_i32_1875 : BitVec 32 := 0#32
  let v2061 : BitVec 1 := Scalar.cmpi .ne v2060 c0_i32_1875
  let v2065 : BitVec 1 := Scalar.andi v2064 v2061
  let v2066 : BitVec 32 := Scalar.addi v2060 v2059
  let v2067 : BitVec 32 := Scalar.select v2065 v2066 v2060
  let v2069 : BitVec 32 := Scalar.muli c4_i32_1879 v2067
  let v2070 : BitVec 32 := Scalar.addi v2068 v2069
  let c1_i32_1886 : BitVec 32 := 1#32
  let v2071 : BitVec 32 := Scalar.muli v2070 c1_i32_1886
  let v2072 : BitVec 32 := Scalar.addi c0_i32_1887 v2071
  v2072.toNat
def k0_dev41 (d0 : Dev nD) : Nat :=
  let c0_i32_1906 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_1897 : BitVec 32 := 3#32
  let v2090 : BitVec 32 := Scalar.andi v2 c3_i32_1897
  let c4_i32_1898 : BitVec 32 := 4#32
  let c2_i32_81 : BitVec 32 := 2#32
  let v154 : BitVec 32 := Scalar.shrsi v2 c2_i32_81
  let c2_i32_1890 : BitVec 32 := 2#32
  let v2079 : BitVec 32 := Scalar.addi v154 c2_i32_1890
  let c4_i32_1891 : BitVec 32 := 4#32
  let c0_i32_1892 : BitVec 32 := 0#32
  let v2080 : BitVec 1 := Scalar.cmpi .eq c4_i32_1891 c0_i32_1892
  let c1_i32_1893 : BitVec 32 := 1#32
  let v2081 : BitVec 32 := Scalar.select v2080 c1_i32_1893 c4_i32_1891
  let v2082 : BitVec 32 := Scalar.remsi v2079 v2081
  let c0_i32_1895 : BitVec 32 := 0#32
  let v2084 : BitVec 1 := Scalar.cmpi .slt v2082 c0_i32_1895
  let c0_i32_1896 : BitVec 32 := 0#32
  let v2085 : BitVec 1 := Scalar.cmpi .slt v2081 c0_i32_1896
  let v2086 : BitVec 1 := Scalar.xori v2084 v2085
  let c0_i32_1894 : BitVec 32 := 0#32
  let v2083 : BitVec 1 := Scalar.cmpi .ne v2082 c0_i32_1894
  let v2087 : BitVec 1 := Scalar.andi v2086 v2083
  let v2088 : BitVec 32 := Scalar.addi v2082 v2081
  let v2089 : BitVec 32 := Scalar.select v2087 v2088 v2082
  let v2091 : BitVec 32 := Scalar.muli c4_i32_1898 v2089
  let v2092 : BitVec 32 := Scalar.addi v2090 v2091
  let c1_i32_1905 : BitVec 32 := 1#32
  let v2093 : BitVec 32 := Scalar.muli v2092 c1_i32_1905
  let v2094 : BitVec 32 := Scalar.addi c0_i32_1906 v2093
  v2094.toNat
def k0_dev42 (d0 : Dev nD) : Nat :=
  let c0_i32_1925 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_1916 : BitVec 32 := 3#32
  let v2112 : BitVec 32 := Scalar.andi v2 c3_i32_1916
  let c4_i32_1917 : BitVec 32 := 4#32
  let c2_i32_81 : BitVec 32 := 2#32
  let v154 : BitVec 32 := Scalar.shrsi v2 c2_i32_81
  let c3_i32_1909 : BitVec 32 := 3#32
  let v2101 : BitVec 32 := Scalar.addi v154 c3_i32_1909
  let c4_i32_1910 : BitVec 32 := 4#32
  let c0_i32_1911 : BitVec 32 := 0#32
  let v2102 : BitVec 1 := Scalar.cmpi .eq c4_i32_1910 c0_i32_1911
  let c1_i32_1912 : BitVec 32 := 1#32
  let v2103 : BitVec 32 := Scalar.select v2102 c1_i32_1912 c4_i32_1910
  let v2104 : BitVec 32 := Scalar.remsi v2101 v2103
  let c0_i32_1914 : BitVec 32 := 0#32
  let v2106 : BitVec 1 := Scalar.cmpi .slt v2104 c0_i32_1914
  let c0_i32_1915 : BitVec 32 := 0#32
  let v2107 : BitVec 1 := Scalar.cmpi .slt v2103 c0_i32_1915
  let v2108 : BitVec 1 := Scalar.xori v2106 v2107
  let c0_i32_1913 : BitVec 32 := 0#32
  let v2105 : BitVec 1 := Scalar.cmpi .ne v2104 c0_i32_1913
  let v2109 : BitVec 1 := Scalar.andi v2108 v2105
  let v2110 : BitVec 32 := Scalar.addi v2104 v2103
  let v2111 : BitVec 32 := Scalar.select v2109 v2110 v2104
  let v2113 : BitVec 32 := Scalar.muli c4_i32_1917 v2111
  let v2114 : BitVec 32 := Scalar.addi v2112 v2113
  let c1_i32_1924 : BitVec 32 := 1#32
  let v2115 : BitVec 32 := Scalar.muli v2114 c1_i32_1924
  let v2116 : BitVec 32 := Scalar.addi c0_i32_1925 v2115
  v2116.toNat
def k0_dev43 (d0 : Dev nD) : Nat :=
  let c0_i32_2160 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_2151 : BitVec 32 := 3#32
  let v2261 : BitVec 32 := Scalar.andi v2 c3_i32_2151
  let c4_i32_2152 : BitVec 32 := 4#32
  let c2_i32_87 : BitVec 32 := 2#32
  let v168 : BitVec 32 := Scalar.shrsi v2 c2_i32_87
  let c1_i32_2144 : BitVec 32 := 1#32
  let v2250 : BitVec 32 := Scalar.addi v168 c1_i32_2144
  let c4_i32_2145 : BitVec 32 := 4#32
  let c0_i32_2146 : BitVec 32 := 0#32
  let v2251 : BitVec 1 := Scalar.cmpi .eq c4_i32_2145 c0_i32_2146
  let c1_i32_2147 : BitVec 32 := 1#32
  let v2252 : BitVec 32 := Scalar.select v2251 c1_i32_2147 c4_i32_2145
  let v2253 : BitVec 32 := Scalar.remsi v2250 v2252
  let c0_i32_2149 : BitVec 32 := 0#32
  let v2255 : BitVec 1 := Scalar.cmpi .slt v2253 c0_i32_2149
  let c0_i32_2150 : BitVec 32 := 0#32
  let v2256 : BitVec 1 := Scalar.cmpi .slt v2252 c0_i32_2150
  let v2257 : BitVec 1 := Scalar.xori v2255 v2256
  let c0_i32_2148 : BitVec 32 := 0#32
  let v2254 : BitVec 1 := Scalar.cmpi .ne v2253 c0_i32_2148
  let v2258 : BitVec 1 := Scalar.andi v2257 v2254
  let v2259 : BitVec 32 := Scalar.addi v2253 v2252
  let v2260 : BitVec 32 := Scalar.select v2258 v2259 v2253
  let v2262 : BitVec 32 := Scalar.muli c4_i32_2152 v2260
  let v2263 : BitVec 32 := Scalar.addi v2261 v2262
  let c1_i32_2159 : BitVec 32 := 1#32
  let v2264 : BitVec 32 := Scalar.muli v2263 c1_i32_2159
  let v2265 : BitVec 32 := Scalar.addi c0_i32_2160 v2264
  v2265.toNat
def k0_dev44 (d0 : Dev nD) : Nat :=
  let c0_i32_2179 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_2170 : BitVec 32 := 3#32
  let v2283 : BitVec 32 := Scalar.andi v2 c3_i32_2170
  let c4_i32_2171 : BitVec 32 := 4#32
  let c2_i32_87 : BitVec 32 := 2#32
  let v168 : BitVec 32 := Scalar.shrsi v2 c2_i32_87
  let c2_i32_2163 : BitVec 32 := 2#32
  let v2272 : BitVec 32 := Scalar.addi v168 c2_i32_2163
  let c4_i32_2164 : BitVec 32 := 4#32
  let c0_i32_2165 : BitVec 32 := 0#32
  let v2273 : BitVec 1 := Scalar.cmpi .eq c4_i32_2164 c0_i32_2165
  let c1_i32_2166 : BitVec 32 := 1#32
  let v2274 : BitVec 32 := Scalar.select v2273 c1_i32_2166 c4_i32_2164
  let v2275 : BitVec 32 := Scalar.remsi v2272 v2274
  let c0_i32_2168 : BitVec 32 := 0#32
  let v2277 : BitVec 1 := Scalar.cmpi .slt v2275 c0_i32_2168
  let c0_i32_2169 : BitVec 32 := 0#32
  let v2278 : BitVec 1 := Scalar.cmpi .slt v2274 c0_i32_2169
  let v2279 : BitVec 1 := Scalar.xori v2277 v2278
  let c0_i32_2167 : BitVec 32 := 0#32
  let v2276 : BitVec 1 := Scalar.cmpi .ne v2275 c0_i32_2167
  let v2280 : BitVec 1 := Scalar.andi v2279 v2276
  let v2281 : BitVec 32 := Scalar.addi v2275 v2274
  let v2282 : BitVec 32 := Scalar.select v2280 v2281 v2275
  let v2284 : BitVec 32 := Scalar.muli c4_i32_2171 v2282
  let v2285 : BitVec 32 := Scalar.addi v2283 v2284
  let c1_i32_2178 : BitVec 32 := 1#32
  let v2286 : BitVec 32 := Scalar.muli v2285 c1_i32_2178
  let v2287 : BitVec 32 := Scalar.addi c0_i32_2179 v2286
  v2287.toNat
def k0_dev45 (d0 : Dev nD) : Nat :=
  let c0_i32_2198 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_2189 : BitVec 32 := 3#32
  let v2305 : BitVec 32 := Scalar.andi v2 c3_i32_2189
  let c4_i32_2190 : BitVec 32 := 4#32
  let c2_i32_87 : BitVec 32 := 2#32
  let v168 : BitVec 32 := Scalar.shrsi v2 c2_i32_87
  let c3_i32_2182 : BitVec 32 := 3#32
  let v2294 : BitVec 32 := Scalar.addi v168 c3_i32_2182
  let c4_i32_2183 : BitVec 32 := 4#32
  let c0_i32_2184 : BitVec 32 := 0#32
  let v2295 : BitVec 1 := Scalar.cmpi .eq c4_i32_2183 c0_i32_2184
  let c1_i32_2185 : BitVec 32 := 1#32
  let v2296 : BitVec 32 := Scalar.select v2295 c1_i32_2185 c4_i32_2183
  let v2297 : BitVec 32 := Scalar.remsi v2294 v2296
  let c0_i32_2187 : BitVec 32 := 0#32
  let v2299 : BitVec 1 := Scalar.cmpi .slt v2297 c0_i32_2187
  let c0_i32_2188 : BitVec 32 := 0#32
  let v2300 : BitVec 1 := Scalar.cmpi .slt v2296 c0_i32_2188
  let v2301 : BitVec 1 := Scalar.xori v2299 v2300
  let c0_i32_2186 : BitVec 32 := 0#32
  let v2298 : BitVec 1 := Scalar.cmpi .ne v2297 c0_i32_2186
  let v2302 : BitVec 1 := Scalar.andi v2301 v2298
  let v2303 : BitVec 32 := Scalar.addi v2297 v2296
  let v2304 : BitVec 32 := Scalar.select v2302 v2303 v2297
  let v2306 : BitVec 32 := Scalar.muli c4_i32_2190 v2304
  let v2307 : BitVec 32 := Scalar.addi v2305 v2306
  let c1_i32_2197 : BitVec 32 := 1#32
  let v2308 : BitVec 32 := Scalar.muli v2307 c1_i32_2197
  let v2309 : BitVec 32 := Scalar.addi c0_i32_2198 v2308
  v2309.toNat
def k0_dev46 (d0 : Dev nD) : Nat :=
  let c0_i32_2218 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c_m4_i32_2210 : BitVec 32 := 4294967292#32
  let v2334 : BitVec 32 := Scalar.andi v2 c_m4_i32_2210
  let c3_i32_86 : BitVec 32 := 3#32
  let v167 : BitVec 32 := Scalar.andi v2 c3_i32_86
  let c1_i32_2203 : BitVec 32 := 1#32
  let v2323 : BitVec 32 := Scalar.addi v167 c1_i32_2203
  let c4_i32_2204 : BitVec 32 := 4#32
  let c0_i32_2205 : BitVec 32 := 0#32
  let v2324 : BitVec 1 := Scalar.cmpi .eq c4_i32_2204 c0_i32_2205
  let c1_i32_2206 : BitVec 32 := 1#32
  let v2325 : BitVec 32 := Scalar.select v2324 c1_i32_2206 c4_i32_2204
  let v2326 : BitVec 32 := Scalar.remsi v2323 v2325
  let c0_i32_2208 : BitVec 32 := 0#32
  let v2328 : BitVec 1 := Scalar.cmpi .slt v2326 c0_i32_2208
  let c0_i32_2209 : BitVec 32 := 0#32
  let v2329 : BitVec 1 := Scalar.cmpi .slt v2325 c0_i32_2209
  let v2330 : BitVec 1 := Scalar.xori v2328 v2329
  let c0_i32_2207 : BitVec 32 := 0#32
  let v2327 : BitVec 1 := Scalar.cmpi .ne v2326 c0_i32_2207
  let v2331 : BitVec 1 := Scalar.andi v2330 v2327
  let v2332 : BitVec 32 := Scalar.addi v2326 v2325
  let v2333 : BitVec 32 := Scalar.select v2331 v2332 v2326
  let v2335 : BitVec 32 := Scalar.addi v2334 v2333
  let c1_i32_2217 : BitVec 32 := 1#32
  let v2336 : BitVec 32 := Scalar.muli v2335 c1_i32_2217
  let v2337 : BitVec 32 := Scalar.addi c0_i32_2218 v2336
  v2337.toNat
def k0_dev47 (d0 : Dev nD) : Nat :=
  let c0_i32_2236 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c_m4_i32_2228 : BitVec 32 := 4294967292#32
  let v2355 : BitVec 32 := Scalar.andi v2 c_m4_i32_2228
  let c3_i32_86 : BitVec 32 := 3#32
  let v167 : BitVec 32 := Scalar.andi v2 c3_i32_86
  let c2_i32_2221 : BitVec 32 := 2#32
  let v2344 : BitVec 32 := Scalar.addi v167 c2_i32_2221
  let c4_i32_2222 : BitVec 32 := 4#32
  let c0_i32_2223 : BitVec 32 := 0#32
  let v2345 : BitVec 1 := Scalar.cmpi .eq c4_i32_2222 c0_i32_2223
  let c1_i32_2224 : BitVec 32 := 1#32
  let v2346 : BitVec 32 := Scalar.select v2345 c1_i32_2224 c4_i32_2222
  let v2347 : BitVec 32 := Scalar.remsi v2344 v2346
  let c0_i32_2226 : BitVec 32 := 0#32
  let v2349 : BitVec 1 := Scalar.cmpi .slt v2347 c0_i32_2226
  let c0_i32_2227 : BitVec 32 := 0#32
  let v2350 : BitVec 1 := Scalar.cmpi .slt v2346 c0_i32_2227
  let v2351 : BitVec 1 := Scalar.xori v2349 v2350
  let c0_i32_2225 : BitVec 32 := 0#32
  let v2348 : BitVec 1 := Scalar.cmpi .ne v2347 c0_i32_2225
  let v2352 : BitVec 1 := Scalar.andi v2351 v2348
  let v2353 : BitVec 32 := Scalar.addi v2347 v2346
  let v2354 : BitVec 32 := Scalar.select v2352 v2353 v2347
  let v2356 : BitVec 32 := Scalar.addi v2355 v2354
  let c1_i32_2235 : BitVec 32 := 1#32
  let v2357 : BitVec 32 := Scalar.muli v2356 c1_i32_2235
  let v2358 : BitVec 32 := Scalar.addi c0_i32_2236 v2357
  v2358.toNat
def k0_dev48 (d0 : Dev nD) : Nat :=
  let c0_i32_2254 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c_m4_i32_2246 : BitVec 32 := 4294967292#32
  let v2376 : BitVec 32 := Scalar.andi v2 c_m4_i32_2246
  let c3_i32_86 : BitVec 32 := 3#32
  let v167 : BitVec 32 := Scalar.andi v2 c3_i32_86
  let c3_i32_2239 : BitVec 32 := 3#32
  let v2365 : BitVec 32 := Scalar.addi v167 c3_i32_2239
  let c4_i32_2240 : BitVec 32 := 4#32
  let c0_i32_2241 : BitVec 32 := 0#32
  let v2366 : BitVec 1 := Scalar.cmpi .eq c4_i32_2240 c0_i32_2241
  let c1_i32_2242 : BitVec 32 := 1#32
  let v2367 : BitVec 32 := Scalar.select v2366 c1_i32_2242 c4_i32_2240
  let v2368 : BitVec 32 := Scalar.remsi v2365 v2367
  let c0_i32_2244 : BitVec 32 := 0#32
  let v2370 : BitVec 1 := Scalar.cmpi .slt v2368 c0_i32_2244
  let c0_i32_2245 : BitVec 32 := 0#32
  let v2371 : BitVec 1 := Scalar.cmpi .slt v2367 c0_i32_2245
  let v2372 : BitVec 1 := Scalar.xori v2370 v2371
  let c0_i32_2243 : BitVec 32 := 0#32
  let v2369 : BitVec 1 := Scalar.cmpi .ne v2368 c0_i32_2243
  let v2373 : BitVec 1 := Scalar.andi v2372 v2369
  let v2374 : BitVec 32 := Scalar.addi v2368 v2367
  let v2375 : BitVec 32 := Scalar.select v2373 v2374 v2368
  let v2377 : BitVec 32 := Scalar.addi v2376 v2375
  let c1_i32_2253 : BitVec 32 := 1#32
  let v2378 : BitVec 32 := Scalar.muli v2377 c1_i32_2253
  let v2379 : BitVec 32 := Scalar.addi c0_i32_2254 v2378
  v2379.toNat
def k0_dev49 (d0 : Dev nD) : Nat :=
  let c0_i32_2505 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c_m4_i32_2497 : BitVec 32 := 4294967292#32
  let v2522 : BitVec 32 := Scalar.andi v2 c_m4_i32_2497
  let c3_i32_86 : BitVec 32 := 3#32
  let v167 : BitVec 32 := Scalar.andi v2 c3_i32_86
  let c1_i32_2490 : BitVec 32 := 1#32
  let v2511 : BitVec 32 := Scalar.addi v167 c1_i32_2490
  let c4_i32_2491 : BitVec 32 := 4#32
  let c0_i32_2492 : BitVec 32 := 0#32
  let v2512 : BitVec 1 := Scalar.cmpi .eq c4_i32_2491 c0_i32_2492
  let c1_i32_2493 : BitVec 32 := 1#32
  let v2513 : BitVec 32 := Scalar.select v2512 c1_i32_2493 c4_i32_2491
  let v2514 : BitVec 32 := Scalar.remsi v2511 v2513
  let c0_i32_2495 : BitVec 32 := 0#32
  let v2516 : BitVec 1 := Scalar.cmpi .slt v2514 c0_i32_2495
  let c0_i32_2496 : BitVec 32 := 0#32
  let v2517 : BitVec 1 := Scalar.cmpi .slt v2513 c0_i32_2496
  let v2518 : BitVec 1 := Scalar.xori v2516 v2517
  let c0_i32_2494 : BitVec 32 := 0#32
  let v2515 : BitVec 1 := Scalar.cmpi .ne v2514 c0_i32_2494
  let v2519 : BitVec 1 := Scalar.andi v2518 v2515
  let v2520 : BitVec 32 := Scalar.addi v2514 v2513
  let v2521 : BitVec 32 := Scalar.select v2519 v2520 v2514
  let v2523 : BitVec 32 := Scalar.addi v2522 v2521
  let c1_i32_2504 : BitVec 32 := 1#32
  let v2524 : BitVec 32 := Scalar.muli v2523 c1_i32_2504
  let v2525 : BitVec 32 := Scalar.addi c0_i32_2505 v2524
  v2525.toNat
def k0_dev50 (d0 : Dev nD) : Nat :=
  let c0_i32_2523 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c_m4_i32_2515 : BitVec 32 := 4294967292#32
  let v2543 : BitVec 32 := Scalar.andi v2 c_m4_i32_2515
  let c3_i32_86 : BitVec 32 := 3#32
  let v167 : BitVec 32 := Scalar.andi v2 c3_i32_86
  let c2_i32_2508 : BitVec 32 := 2#32
  let v2532 : BitVec 32 := Scalar.addi v167 c2_i32_2508
  let c4_i32_2509 : BitVec 32 := 4#32
  let c0_i32_2510 : BitVec 32 := 0#32
  let v2533 : BitVec 1 := Scalar.cmpi .eq c4_i32_2509 c0_i32_2510
  let c1_i32_2511 : BitVec 32 := 1#32
  let v2534 : BitVec 32 := Scalar.select v2533 c1_i32_2511 c4_i32_2509
  let v2535 : BitVec 32 := Scalar.remsi v2532 v2534
  let c0_i32_2513 : BitVec 32 := 0#32
  let v2537 : BitVec 1 := Scalar.cmpi .slt v2535 c0_i32_2513
  let c0_i32_2514 : BitVec 32 := 0#32
  let v2538 : BitVec 1 := Scalar.cmpi .slt v2534 c0_i32_2514
  let v2539 : BitVec 1 := Scalar.xori v2537 v2538
  let c0_i32_2512 : BitVec 32 := 0#32
  let v2536 : BitVec 1 := Scalar.cmpi .ne v2535 c0_i32_2512
  let v2540 : BitVec 1 := Scalar.andi v2539 v2536
  let v2541 : BitVec 32 := Scalar.addi v2535 v2534
  let v2542 : BitVec 32 := Scalar.select v2540 v2541 v2535
  let v2544 : BitVec 32 := Scalar.addi v2543 v2542
  let c1_i32_2522 : BitVec 32 := 1#32
  let v2545 : BitVec 32 := Scalar.muli v2544 c1_i32_2522
  let v2546 : BitVec 32 := Scalar.addi c0_i32_2523 v2545
  v2546.toNat
def k0_dev51 (d0 : Dev nD) : Nat :=
  let c0_i32_2541 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c_m4_i32_2533 : BitVec 32 := 4294967292#32
  let v2564 : BitVec 32 := Scalar.andi v2 c_m4_i32_2533
  let c3_i32_86 : BitVec 32 := 3#32
  let v167 : BitVec 32 := Scalar.andi v2 c3_i32_86
  let c3_i32_2526 : BitVec 32 := 3#32
  let v2553 : BitVec 32 := Scalar.addi v167 c3_i32_2526
  let c4_i32_2527 : BitVec 32 := 4#32
  let c0_i32_2528 : BitVec 32 := 0#32
  let v2554 : BitVec 1 := Scalar.cmpi .eq c4_i32_2527 c0_i32_2528
  let c1_i32_2529 : BitVec 32 := 1#32
  let v2555 : BitVec 32 := Scalar.select v2554 c1_i32_2529 c4_i32_2527
  let v2556 : BitVec 32 := Scalar.remsi v2553 v2555
  let c0_i32_2531 : BitVec 32 := 0#32
  let v2558 : BitVec 1 := Scalar.cmpi .slt v2556 c0_i32_2531
  let c0_i32_2532 : BitVec 32 := 0#32
  let v2559 : BitVec 1 := Scalar.cmpi .slt v2555 c0_i32_2532
  let v2560 : BitVec 1 := Scalar.xori v2558 v2559
  let c0_i32_2530 : BitVec 32 := 0#32
  let v2557 : BitVec 1 := Scalar.cmpi .ne v2556 c0_i32_2530
  let v2561 : BitVec 1 := Scalar.andi v2560 v2557
  let v2562 : BitVec 32 := Scalar.addi v2556 v2555
  let v2563 : BitVec 32 := Scalar.select v2561 v2562 v2556
  let v2565 : BitVec 32 := Scalar.addi v2564 v2563
  let c1_i32_2540 : BitVec 32 := 1#32
  let v2566 : BitVec 32 := Scalar.muli v2565 c1_i32_2540
  let v2567 : BitVec 32 := Scalar.addi c0_i32_2541 v2566
  v2567.toNat
def k0_dev52 (d0 : Dev nD) : Nat :=
  let c0_i32_2560 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_2551 : BitVec 32 := 3#32
  let v2585 : BitVec 32 := Scalar.andi v2 c3_i32_2551
  let c4_i32_2552 : BitVec 32 := 4#32
  let c2_i32_87 : BitVec 32 := 2#32
  let v168 : BitVec 32 := Scalar.shrsi v2 c2_i32_87
  let c1_i32_2544 : BitVec 32 := 1#32
  let v2574 : BitVec 32 := Scalar.addi v168 c1_i32_2544
  let c4_i32_2545 : BitVec 32 := 4#32
  let c0_i32_2546 : BitVec 32 := 0#32
  let v2575 : BitVec 1 := Scalar.cmpi .eq c4_i32_2545 c0_i32_2546
  let c1_i32_2547 : BitVec 32 := 1#32
  let v2576 : BitVec 32 := Scalar.select v2575 c1_i32_2547 c4_i32_2545
  let v2577 : BitVec 32 := Scalar.remsi v2574 v2576
  let c0_i32_2549 : BitVec 32 := 0#32
  let v2579 : BitVec 1 := Scalar.cmpi .slt v2577 c0_i32_2549
  let c0_i32_2550 : BitVec 32 := 0#32
  let v2580 : BitVec 1 := Scalar.cmpi .slt v2576 c0_i32_2550
  let v2581 : BitVec 1 := Scalar.xori v2579 v2580
  let c0_i32_2548 : BitVec 32 := 0#32
  let v2578 : BitVec 1 := Scalar.cmpi .ne v2577 c0_i32_2548
  let v2582 : BitVec 1 := Scalar.andi v2581 v2578
  let v2583 : BitVec 32 := Scalar.addi v2577 v2576
  let v2584 : BitVec 32 := Scalar.select v2582 v2583 v2577
  let v2586 : BitVec 32 := Scalar.muli c4_i32_2552 v2584
  let v2587 : BitVec 32 := Scalar.addi v2585 v2586
  let c1_i32_2559 : BitVec 32 := 1#32
  let v2588 : BitVec 32 := Scalar.muli v2587 c1_i32_2559
  let v2589 : BitVec 32 := Scalar.addi c0_i32_2560 v2588
  v2589.toNat
def k0_dev53 (d0 : Dev nD) : Nat :=
  let c0_i32_2579 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_2570 : BitVec 32 := 3#32
  let v2607 : BitVec 32 := Scalar.andi v2 c3_i32_2570
  let c4_i32_2571 : BitVec 32 := 4#32
  let c2_i32_87 : BitVec 32 := 2#32
  let v168 : BitVec 32 := Scalar.shrsi v2 c2_i32_87
  let c2_i32_2563 : BitVec 32 := 2#32
  let v2596 : BitVec 32 := Scalar.addi v168 c2_i32_2563
  let c4_i32_2564 : BitVec 32 := 4#32
  let c0_i32_2565 : BitVec 32 := 0#32
  let v2597 : BitVec 1 := Scalar.cmpi .eq c4_i32_2564 c0_i32_2565
  let c1_i32_2566 : BitVec 32 := 1#32
  let v2598 : BitVec 32 := Scalar.select v2597 c1_i32_2566 c4_i32_2564
  let v2599 : BitVec 32 := Scalar.remsi v2596 v2598
  let c0_i32_2568 : BitVec 32 := 0#32
  let v2601 : BitVec 1 := Scalar.cmpi .slt v2599 c0_i32_2568
  let c0_i32_2569 : BitVec 32 := 0#32
  let v2602 : BitVec 1 := Scalar.cmpi .slt v2598 c0_i32_2569
  let v2603 : BitVec 1 := Scalar.xori v2601 v2602
  let c0_i32_2567 : BitVec 32 := 0#32
  let v2600 : BitVec 1 := Scalar.cmpi .ne v2599 c0_i32_2567
  let v2604 : BitVec 1 := Scalar.andi v2603 v2600
  let v2605 : BitVec 32 := Scalar.addi v2599 v2598
  let v2606 : BitVec 32 := Scalar.select v2604 v2605 v2599
  let v2608 : BitVec 32 := Scalar.muli c4_i32_2571 v2606
  let v2609 : BitVec 32 := Scalar.addi v2607 v2608
  let c1_i32_2578 : BitVec 32 := 1#32
  let v2610 : BitVec 32 := Scalar.muli v2609 c1_i32_2578
  let v2611 : BitVec 32 := Scalar.addi c0_i32_2579 v2610
  v2611.toNat
def k0_dev54 (d0 : Dev nD) : Nat :=
  let c0_i32_2598 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_2589 : BitVec 32 := 3#32
  let v2629 : BitVec 32 := Scalar.andi v2 c3_i32_2589
  let c4_i32_2590 : BitVec 32 := 4#32
  let c2_i32_87 : BitVec 32 := 2#32
  let v168 : BitVec 32 := Scalar.shrsi v2 c2_i32_87
  let c3_i32_2582 : BitVec 32 := 3#32
  let v2618 : BitVec 32 := Scalar.addi v168 c3_i32_2582
  let c4_i32_2583 : BitVec 32 := 4#32
  let c0_i32_2584 : BitVec 32 := 0#32
  let v2619 : BitVec 1 := Scalar.cmpi .eq c4_i32_2583 c0_i32_2584
  let c1_i32_2585 : BitVec 32 := 1#32
  let v2620 : BitVec 32 := Scalar.select v2619 c1_i32_2585 c4_i32_2583
  let v2621 : BitVec 32 := Scalar.remsi v2618 v2620
  let c0_i32_2587 : BitVec 32 := 0#32
  let v2623 : BitVec 1 := Scalar.cmpi .slt v2621 c0_i32_2587
  let c0_i32_2588 : BitVec 32 := 0#32
  let v2624 : BitVec 1 := Scalar.cmpi .slt v2620 c0_i32_2588
  let v2625 : BitVec 1 := Scalar.xori v2623 v2624
  let c0_i32_2586 : BitVec 32 := 0#32
  let v2622 : BitVec 1 := Scalar.cmpi .ne v2621 c0_i32_2586
  let v2626 : BitVec 1 := Scalar.andi v2625 v2622
  let v2627 : BitVec 32 := Scalar.addi v2621 v2620
  let v2628 : BitVec 32 := Scalar.select v2626 v2627 v2621
  let v2630 : BitVec 32 := Scalar.muli c4_i32_2590 v2628
  let v2631 : BitVec 32 := Scalar.addi v2629 v2630
  let c1_i32_2597 : BitVec 32 := 1#32
  let v2632 : BitVec 32 := Scalar.muli v2631 c1_i32_2597
  let v2633 : BitVec 32 := Scalar.addi c0_i32_2598 v2632
  v2633.toNat
abbrev stage0_0 : Fin 1 → Memref sig .tc .vmem S2x512x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S768x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x512x8x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x512x8x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x512x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | _ => none
-- ==== ReferenceIdeal.lean ====
abbrev S2x512x768 : Shape := ⟨3, ![2, 512, 768]⟩
abbrev S768x8192 : Shape := ⟨2, ![768, 8192]⟩
abbrev S2x512x128x64 : Shape := ⟨4, ![2, 512, 128, 64]⟩
abbrev S8192x768 : Shape := ⟨2, ![8192, 768]⟩
abbrev S2x512x8192 : Shape := ⟨3, ![2, 512, 8192]⟩
abbrev S512 : Shape := ⟨1, ![512]⟩
abbrev S_ : Shape := ⟨0, ![]⟩
abbrev S512x1 : Shape := ⟨2, ![512, 1]⟩
abbrev S1x512 : Shape := ⟨2, ![1, 512]⟩
abbrev S512x512 : Shape := ⟨2, ![512, 512]⟩
abbrev S2x128x512x512 : Shape := ⟨4, ![2, 128, 512, 512]⟩
abbrev S1x1x512x512 : Shape := ⟨4, ![1, 1, 512, 512]⟩
abbrev S2x128x512 : Shape := ⟨3, ![2, 128, 512]⟩
abbrev S2x128x512x1 : Shape := ⟨4, ![2, 128, 512, 1]⟩
abbrev S1x1x512x1 : Shape := ⟨4, ![1, 1, 512, 1]⟩
abbrev S2x128x64x512 : Shape := ⟨4, ![2, 128, 64, 512]⟩

abbrev nBuf : Space → Nat
  | .hbm => 89
  | .vmem => 0
  | .smem => 0
  | _ => 0

abbrev bufTy : (tb : Table) → Fin (tcTables nBuf tb) → BufTy
  | .hbm, ⟨0, _⟩ => ⟨S2x512x768, .f32⟩
  | .hbm, ⟨1, _⟩ => ⟨S768x8192, .f32⟩
  | .hbm, ⟨2, _⟩ => ⟨S2x512x128x64, .f32⟩
  | .hbm, ⟨3, _⟩ => ⟨S2x512x128x64, .f32⟩
  | .hbm, ⟨4, _⟩ => ⟨S8192x768, .f32⟩
  | .hbm, ⟨5, _⟩ => ⟨S2x512x8192, .f32⟩
  | .hbm, ⟨6, _⟩ => ⟨S2x512x128x64, .f32⟩
  | .hbm, ⟨7, _⟩ => ⟨S512, .i32⟩
  | .hbm, ⟨8, _⟩ => ⟨S_, .i32⟩
  | .hbm, ⟨9, _⟩ => ⟨S_, .i32⟩
  | .hbm, ⟨10, _⟩ => ⟨S512, .i32⟩
  | .hbm, ⟨11, _⟩ => ⟨S512, .i32⟩
  | .hbm, ⟨12, _⟩ => ⟨S512, .i32⟩
  | .hbm, ⟨13, _⟩ => ⟨S_, .i32⟩
  | .hbm, ⟨14, _⟩ => ⟨S512, .i32⟩
  | .hbm, ⟨15, _⟩ => ⟨S512, .i1⟩
  | .hbm, ⟨16, _⟩ => ⟨S512, .i32⟩
  | .hbm, ⟨17, _⟩ => ⟨S512, .i32⟩
  | .hbm, ⟨18, _⟩ => ⟨S_, .i32⟩
  | .hbm, ⟨19, _⟩ => ⟨S512, .i32⟩
  | .hbm, ⟨20, _⟩ => ⟨S512, .i1⟩
  | .hbm, ⟨21, _⟩ => ⟨S512, .i1⟩
  | .hbm, ⟨22, _⟩ => ⟨S_, .i32⟩
  | .hbm, ⟨23, _⟩ => ⟨S512, .i32⟩
  | .hbm, ⟨24, _⟩ => ⟨S512, .i32⟩
  | .hbm, ⟨25, _⟩ => ⟨S512, .i32⟩
  | .hbm, ⟨26, _⟩ => ⟨S512x1, .i32⟩
  | .hbm, ⟨27, _⟩ => ⟨S512, .i32⟩
  | .hbm, ⟨28, _⟩ => ⟨S_, .i32⟩
  | .hbm, ⟨29, _⟩ => ⟨S_, .i32⟩
  | .hbm, ⟨30, _⟩ => ⟨S512, .i32⟩
  | .hbm, ⟨31, _⟩ => ⟨S512, .i32⟩
  | .hbm, ⟨32, _⟩ => ⟨S512, .i32⟩
  | .hbm, ⟨33, _⟩ => ⟨S_, .i32⟩
  | .hbm, ⟨34, _⟩ => ⟨S512, .i32⟩
  | .hbm, ⟨35, _⟩ => ⟨S512, .i1⟩
  | .hbm, ⟨36, _⟩ => ⟨S512, .i32⟩
  | .hbm, ⟨37, _⟩ => ⟨S512, .i32⟩
  | .hbm, ⟨38, _⟩ => ⟨S_, .i32⟩
  | .hbm, ⟨39, _⟩ => ⟨S512, .i32⟩
  | .hbm, ⟨40, _⟩ => ⟨S512, .i1⟩
  | .hbm, ⟨41, _⟩ => ⟨S512, .i1⟩
  | .hbm, ⟨42, _⟩ => ⟨S_, .i32⟩
  | .hbm, ⟨43, _⟩ => ⟨S512, .i32⟩
  | .hbm, ⟨44, _⟩ => ⟨S512, .i32⟩
  | .hbm, ⟨45, _⟩ => ⟨S512, .i32⟩
  | .hbm, ⟨46, _⟩ => ⟨S1x512, .i32⟩
  | .hbm, ⟨47, _⟩ => ⟨S512x512, .i32⟩
  | .hbm, ⟨48, _⟩ => ⟨S512x512, .i32⟩
  | .hbm, ⟨49, _⟩ => ⟨S512x512, .i1⟩
  | .hbm, ⟨50, _⟩ => ⟨S2x128x512x512, .f32⟩
  | .hbm, ⟨51, _⟩ => ⟨S_, .f32⟩
  | .hbm, ⟨52, _⟩ => ⟨S2x128x512x512, .f32⟩
  | .hbm, ⟨53, _⟩ => ⟨S2x128x512x512, .f32⟩
  | .hbm, ⟨54, _⟩ => ⟨S1x1x512x512, .i1⟩
  | .hbm, ⟨55, _⟩ => ⟨S_, .f32⟩
  | .hbm, ⟨56, _⟩ => ⟨S_, .f32⟩
  | .hbm, ⟨57, _⟩ => ⟨S2x128x512x512, .i1⟩
  | .hbm, ⟨58, _⟩ => ⟨S2x128x512x512, .f32⟩
  | .hbm, ⟨59, _⟩ => ⟨S2x128x512x512, .f32⟩
  | .hbm, ⟨60, _⟩ => ⟨S_, .f32⟩
  | .hbm, ⟨61, _⟩ => ⟨S2x128x512, .f32⟩
  | .hbm, ⟨62, _⟩ => ⟨S2x128x512x1, .f32⟩
  | .hbm, ⟨63, _⟩ => ⟨S2x128x512x512, .f32⟩
  | .hbm, ⟨64, _⟩ => ⟨S2x128x512x512, .f32⟩
  | .hbm, ⟨65, _⟩ => ⟨S2x128x512x512, .f32⟩
  | .hbm, ⟨66, _⟩ => ⟨S_, .i1⟩
  | .hbm, ⟨67, _⟩ => ⟨S512, .i1⟩
  | .hbm, ⟨68, _⟩ => ⟨S1x1x512x1, .i1⟩
  | .hbm, ⟨69, _⟩ => ⟨S_, .f32⟩
  | .hbm, ⟨70, _⟩ => ⟨S2x128x512, .f32⟩
  | .hbm, ⟨71, _⟩ => ⟨S2x128x512x1, .f32⟩
  | .hbm, ⟨72, _⟩ => ⟨S_, .f32⟩
  | .hbm, ⟨73, _⟩ => ⟨S_, .f32⟩
  | .hbm, ⟨74, _⟩ => ⟨S2x128x512x1, .i1⟩
  | .hbm, ⟨75, _⟩ => ⟨S2x128x512x1, .f32⟩
  | .hbm, ⟨76, _⟩ => ⟨S2x128x512x1, .f32⟩
  | .hbm, ⟨77, _⟩ => ⟨S2x128x512x512, .f32⟩
  | .hbm, ⟨78, _⟩ => ⟨S2x128x512x512, .f32⟩
  | .hbm, ⟨79, _⟩ => ⟨S1x1x512x1, .i1⟩
  | .hbm, ⟨80, _⟩ => ⟨S_, .f32⟩
  | .hbm, ⟨81, _⟩ => ⟨S_, .f32⟩
  | .hbm, ⟨82, _⟩ => ⟨S2x128x512x512, .i1⟩
  | .hbm, ⟨83, _⟩ => ⟨S2x128x512x512, .f32⟩
  | .hbm, ⟨84, _⟩ => ⟨S2x128x512x512, .f32⟩
  | .hbm, ⟨85, _⟩ => ⟨S2x128x64x512, .f32⟩
  | .hbm, ⟨86, _⟩ => ⟨S2x512x128x64, .f32⟩
  | .hbm, ⟨87, _⟩ => ⟨S2x512x8192, .f32⟩
  | .hbm, ⟨88, _⟩ => ⟨S2x512x768, .f32⟩
  | _, _ => ⟨S2x512x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_c : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_0 : Ref sig .tc := ⟨.hbm, 42, rfl⟩
abbrev main_call1_v12 : Ref sig .tc := ⟨.hbm, 43, rfl⟩
abbrev main_call1_v13 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_v11 : Ref sig .tc := ⟨.hbm, 50, rfl⟩
abbrev main_cst : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_cst_1 : Ref sig .tc := ⟨.hbm, 55, rfl⟩
abbrev main_call2_v0 : Ref sig .tc := ⟨.hbm, 56, rfl⟩
abbrev main_call2_v1 : Ref sig .tc := ⟨.hbm, 57, rfl⟩
abbrev main_call2_v2 : Ref sig .tc := ⟨.hbm, 58, rfl⟩
abbrev main_v15 : Ref sig .tc := ⟨.hbm, 59, rfl⟩
abbrev main_cst_2 : Ref sig .tc := ⟨.hbm, 60, rfl⟩
abbrev main_v16 : Ref sig .tc := ⟨.hbm, 61, rfl⟩
abbrev main_v17 : Ref sig .tc := ⟨.hbm, 62, rfl⟩
abbrev main_v18 : Ref sig .tc := ⟨.hbm, 63, rfl⟩
abbrev main_v19 : Ref sig .tc := ⟨.hbm, 64, rfl⟩
abbrev main_v20 : Ref sig .tc := ⟨.hbm, 65, rfl⟩
abbrev main_c_3 : Ref sig .tc := ⟨.hbm, 66, rfl⟩
abbrev main_v21 : Ref sig .tc := ⟨.hbm, 67, rfl⟩
abbrev main_v22 : Ref sig .tc := ⟨.hbm, 68, rfl⟩
abbrev main_cst_4 : Ref sig .tc := ⟨.hbm, 69, rfl⟩
abbrev main_v23 : Ref sig .tc := ⟨.hbm, 70, rfl⟩
abbrev main_v24 : Ref sig .tc := ⟨.hbm, 71, rfl⟩
abbrev main_cst_5 : Ref sig .tc := ⟨.hbm, 72, rfl⟩
abbrev main_call3_v0 : Ref sig .tc := ⟨.hbm, 73, rfl⟩
abbrev main_call3_v1 : Ref sig .tc := ⟨.hbm, 74, rfl⟩
abbrev main_call3_v2 : Ref sig .tc := ⟨.hbm, 75, rfl⟩
abbrev main_v25 : Ref sig .tc := ⟨.hbm, 76, rfl⟩
abbrev main_v26 : Ref sig .tc := ⟨.hbm, 77, rfl⟩
abbrev main_v27 : Ref sig .tc := ⟨.hbm, 78, rfl⟩
abbrev main_v28 : Ref sig .tc := ⟨.hbm, 79, rfl⟩
abbrev main_cst_6 : Ref sig .tc := ⟨.hbm, 80, rfl⟩
abbrev main_call4_v0 : Ref sig .tc := ⟨.hbm, 81, rfl⟩
abbrev main_call4_v1 : Ref sig .tc := ⟨.hbm, 82, rfl⟩
abbrev main_call4_v2 : Ref sig .tc := ⟨.hbm, 83, rfl⟩
abbrev main_v29 : Ref sig .tc := ⟨.hbm, 84, rfl⟩
abbrev main_v30 : Ref sig .tc := ⟨.hbm, 85, rfl⟩
abbrev main_v31 : Ref sig .tc := ⟨.hbm, 86, rfl⟩
abbrev main_v32 : Ref sig .tc := ⟨.hbm, 87, rfl⟩
abbrev main_v33 : Ref sig .tc := ⟨.hbm, 88, rfl⟩

abbrev nD : Nat := 1
abbrev τ : Topo := Topo.v7x

variable {F : FTy → Type} [FloatOps F]
-- ==== Proof.Body.lean ====
/- The kernel body written again as a sequence of named steps: what one block of attention computes,
   the copies of the four phases of the all-reduce, the waits and the sums between them. Every step
   is stated once, for a batch `b`, a column part `s` and a distance `d`. `body_eq` says that the
   printed body is this sequence. -/
module

public import proofs.«01_k».proof.Proof.Gen.KernelIdeal.Skeleton

@[expose] public section

set_option synthInstance.maxSize 4096

noncomputable section

namespace Cert.KernelIdeal.Body

open Idealize.ShloMosaic Idealize.SL.Sem
open Cert.KernelIdeal Cert.KernelIdeal.Gen

variable {F : FTy → Type} [FloatOps F] [Named F]

/-- A program of the kernel's core. -/
abbrev Pr (F : FTy → Type) (α : Type) := Prog (TpuEff nD τ sig (Elt F) Λ₀ .tc) α

/-! ## The buffers -/

abbrev xM : Memref sig .tc .vmem S2x512x768 .f32 := Memref.whole cc0_stg0_0
abbrev wqM : Memref sig .tc .vmem S768x512 .f32 := Memref.whole cc0_stg1_0
abbrev kM : Memref sig .tc .vmem S2x512x8x64 .f32 := Memref.whole cc0_stg2_0
abbrev vM : Memref sig .tc .vmem S2x512x8x64 .f32 := Memref.whole cc0_stg3_0
abbrev woM : Memref sig .tc .vmem S512x768 .f32 := Memref.whole cc0_stg4_0
abbrev outM : Memref sig .tc .vmem S2x512x768 .f32 := Memref.whole cc0_stg5_0
abbrev accM : Memref sig .tc .vmem S1024x768 .f32 := Memref.whole cc0_scratch0
abbrev agbM : Memref sig .tc .vmem S1024x768 .bf16 := Memref.whole cc0_scratch1

/-- The number of columns of part `s`. -/
abbrev cw (s : Fin 2) : ℕ := match s with | 0 => 512 | 1 => 256

/-- A `h × w` block of part `s`. -/
abbrev Sh2 (h : ℕ) (s : Fin 2) : Shape := ⟨2, ![h, cw s]⟩
/-- A slot holding a `h × w` block. -/
abbrev Sh4 (h : ℕ) (s : Fin 2) : Shape := ⟨4, ![1, 1, h, cw s]⟩
/-- The buffer of slots. -/
abbrev ShB (h : ℕ) (s : Fin 2) : Shape := ⟨4, ![2, 3, h, cw s]⟩

/-- Where part `s` of the first reduction step arrives. -/
abbrev rxM (s : Fin 2) : Memref sig .tc .vmem (ShB 128 s) .bf16 :=
  match s with | 0 => Memref.whole cc0_scratch2 | 1 => Memref.whole cc0_scratch3
/-- From where part `s` of the second reduction step is sent. -/
abbrev sbM (s : Fin 2) : Memref sig .tc .vmem (ShB 32 s) .bf16 :=
  match s with | 0 => Memref.whole cc0_scratch4 | 1 => Memref.whole cc0_scratch5
/-- Where part `s` of the second reduction step arrives. -/
abbrev ryM (s : Fin 2) : Memref sig .tc .vmem (ShB 32 s) .bf16 :=
  match s with | 0 => Memref.whole cc0_scratch6 | 1 => Memref.whole cc0_scratch7

/-- The first row of batch `b`, as the word the body computes with. -/
abbrev Wd (b : Fin 2) : BitVec 32 := BitVec.ofNat 32 (512 * b.val)
/-- The distance `d + 1`, as a word. -/
abbrev Dw (d : Fin 3) : BitVec 32 := BitVec.ofNat 32 (1 + d.val)

/-! ## Rectangles -/

theorem slot_inb (h w : ℕ) (b : Fin 2) (d : Fin 3) :
    ∀ a : Fin 4, (![b.val, d.val, 0, 0] : Fin 4 → ℕ) a + (![1, 1, h, w] : Fin 4 → ℕ) a ≤ (![2, 3, h, w] : Fin 4 → ℕ) a := by
  intro a
  have hb := b.isLt
  have hd := d.isLt
  fin_cases a <;> simp <;> omega

theorem cell_inb (b s : Fin 2) (d : Fin 3) :
    ∀ a : Fin 3, (![b.val, s.val, d.val] : Fin 3 → ℕ) a + S1x1x1.size a ≤ S2x2x3.size a := by
  intro a
  have hb := b.isLt
  have hs := s.isLt
  have hd := d.isLt
  fin_cases a <;> simp <;> omega

/-- Slot `(b, d)` of a buffer of slots. -/
abbrev slotR (h : ℕ) (s : Fin 2) (b : Fin 2) (d : Fin 3) : Rect (ShB h s) :=
  Rect.unit (s := ShB h s) ![b.val, d.val, 0, 0] (Sh4 h s).size (slot_inb h (cw s) b d)

theorem inb_x (b : Fin 2) : ∀ a, (![b.val, 0, 0] : Fin 3 → ℕ) a + S1x512x768.size a ≤ S2x512x768.size a := by
  revert b; decide
theorem inb_kv (b : Fin 2) (h : Fin 8) : ∀ a, (![b.val, 0, h.val, 0] : Fin 4 → ℕ) a + S1x512x1x64.size a ≤ S2x512x8x64.size a := by
  revert b h; decide
theorem inb_rows (b : Fin 2) : ∀ a, (![512 * b.val, 0] : Fin 2 → ℕ) a + S512x768.size a ≤ S1024x768.size a := by
  revert b; decide

abbrev xR (b : Fin 2) : Rect S2x512x768 := Rect.unit (s := S2x512x768) ![b.val, 0, 0] S1x512x768.size (inb_x b)
abbrev kvR (b : Fin 2) (h : Fin 8) : Rect S2x512x8x64 := Rect.unit (s := S2x512x8x64) ![b.val, 0, h.val, 0] S1x512x1x64.size (inb_kv b h)
abbrev wqR : Rect S768x512 := Rect.unit (s := S768x512) ![0, 0] S768x512.size inb_S768x512_S768x512_0_0
abbrev woR : Rect S512x768 := Rect.unit (s := S512x768) ![0, 0] S512x768.size inb_S512x768_S512x768_0_0
abbrev rowsR (b : Fin 2) : Rect S1024x768 := Rect.unit (s := S1024x768) ![512 * b.val, 0] S512x768.size (inb_rows b)

/-! ## Offsets: the quarter or block of rows that a step reads or writes -/

/-- The quarter sent in the first reduction step. -/
abbrev offA (s : Fin 2) (c : Dev nD) (b : Fin 2) (d : Fin 3) : Fin 2 → ℕ :=
  match s with | 0 => k0_off1 c (Wd b) (Dw d) | 1 => k0_off2 c (Wd b) (Dw d)
/-- The quarter summed on this device. -/
abbrev offQ (s : Fin 2) (c : Dev nD) (b : Fin 2) : Fin 2 → ℕ :=
  match s with | 0 => k0_off3 c (Wd b) | 1 => k0_off4 c (Wd b)
/-- The block sent in the second reduction step. -/
abbrev offS (s : Fin 2) (c : Dev nD) (b : Fin 2) (d : Fin 3) : Fin 2 → ℕ :=
  match s with | 0 => k0_off5 c (Wd b) (Dw d) | 1 => k0_off6 c (Wd b) (Dw d)
/-- The block summed on this device. -/
abbrev offB (s : Fin 2) (c : Dev nD) (b : Fin 2) : Fin 2 → ℕ :=
  match s with | 0 => k0_off7 c (Wd b) | 1 => k0_off8 c (Wd b)
/-- The block sent in the first gathering step. -/
abbrev offG (s : Fin 2) (c : Dev nD) (b : Fin 2) : Fin 2 → ℕ :=
  match s with | 0 => k0_off9 c (Wd b) | 1 => k0_off10 c (Wd b)
/-- The quarter sent in the second gathering step. -/
abbrev offH (s : Fin 2) (c : Dev nD) (b : Fin 2) : Fin 2 → ℕ :=
  match s with | 0 => k0_off11 c (Wd b) | 1 => k0_off12 c (Wd b)

theorem inbA (s : Fin 2) (c : Dev nD) (b : Fin 2) (d : Fin 3) : ∀ a, offA s c b d a + (Sh2 128 s).size a ≤ S1024x768.size a :=
  match s with | 0 => k0_off1_inb c b d | 1 => k0_off2_inb c b d
theorem inbQ (s : Fin 2) (c : Dev nD) (b : Fin 2) : ∀ a, offQ s c b a + (Sh2 128 s).size a ≤ S1024x768.size a :=
  match s with | 0 => k0_off3_inb c b | 1 => k0_off4_inb c b
theorem inbS (s : Fin 2) (c : Dev nD) (b : Fin 2) (d : Fin 3) : ∀ a, offS s c b d a + (Sh2 32 s).size a ≤ S1024x768.size a :=
  match s with | 0 => k0_off5_inb c b d | 1 => k0_off6_inb c b d
theorem inbB (s : Fin 2) (c : Dev nD) (b : Fin 2) : ∀ a, offB s c b a + (Sh2 32 s).size a ≤ S1024x768.size a :=
  match s with | 0 => k0_off7_inb c b | 1 => k0_off8_inb c b
theorem inbG (s : Fin 2) (c : Dev nD) (b : Fin 2) : ∀ a, offG s c b a + (Sh2 32 s).size a ≤ S1024x768.size a :=
  match s with | 0 => k0_off9_inb c b | 1 => k0_off10_inb c b
theorem inbH (s : Fin 2) (c : Dev nD) (b : Fin 2) : ∀ a, offH s c b a + (Sh2 128 s).size a ≤ S1024x768.size a :=
  match s with | 0 => k0_off11_inb c b | 1 => k0_off12_inb c b

/-- The rectangle of `h` rows and the columns of part `s` at `off`. -/
abbrev rectR (h : ℕ) (s : Fin 2) (off : Fin 2 → ℕ) (i : ∀ a, off a + (Sh2 h s).size a ≤ S1024x768.size a) : Rect S1024x768 :=
  Rect.unit (s := S1024x768) off (Sh2 h s).size i

/-- Its view in the buffer of half words. -/
abbrev agV (h : ℕ) (s : Fin 2) (off : Fin 2 → ℕ) (i : ∀ a, off a + (Sh2 h s).size a ≤ S1024x768.size a) : Memref sig .tc .vmem (Sh2 h s) .bf16 :=
  agbM.slice (rectR h s off i) (fun _ => rfl)

theorem squeezes_slot (h : Fin 2) (s : Fin 2) : (Sh4 (![128, 32] h) s).Squeezes (Sh2 (![128, 32] h) s) := by
  revert h s; decide

theorem sq128 (s : Fin 2) : (Sh4 128 s).Squeezes (Sh2 128 s) := squeezes_slot 0 s
theorem sq32 (s : Fin 2) : (Sh4 32 s).Squeezes (Sh2 32 s) := squeezes_slot 1 s

abbrev rxV (s b : Fin 2) (d : Fin 3) : Memref sig .tc .vmem (Sh2 128 s) .bf16 := ((rxM s).slice (slotR 128 s b d) (fun _ => rfl)).squeeze (Sh2 128 s) (sq128 s)
abbrev sbV (s b : Fin 2) (d : Fin 3) : Memref sig .tc .vmem (Sh2 32 s) .bf16 := ((sbM s).slice (slotR 32 s b d) (fun _ => rfl)).squeeze (Sh2 32 s) (sq32 s)
abbrev ryV (s b : Fin 2) (d : Fin 3) : Memref sig .tc .vmem (Sh2 32 s) .bf16 := ((ryM s).slice (slotR 32 s b d) (fun _ => rfl)).squeeze (Sh2 32 s) (sq32 s)

/-! ## Copies move whole words -/

theorem wordsSlot (h : Fin 2) (s : Fin 2) (b : Fin 2) (d : Fin 3) :
    (slotR (![128, 32] h) s b d).WholeWords (EltTy.packing .bf16) := by
  revert h s b d; decide +kernel
theorem packedSlot (h : Fin 2) (s : Fin 2) (b : Fin 2) (d : Fin 3) :
    (slotR (![128, 32] h) s b d).PackedRows (EltTy.packing .bf16) := by
  revert h s b d; decide +kernel
theorem packedRows (b : Fin 2) : (rowsR b).PackedRows (EltTy.packing .bf16) := by
  revert b; decide +kernel

theorem wxA (s : Fin 2) (c : Dev nD) (b : Fin 2) (d : Fin 3) : (agV 128 s _ (inbA s c b d)).view.WordExact :=
  match s with
  | 0 => (Memref.isWhole_whole cc0_scratch1).wordExact_slice rfl _ (k0_off1_wordsbf16 c b d)
  | 1 => (Memref.isWhole_whole cc0_scratch1).wordExact_slice rfl _ (k0_off2_wordsbf16 c b d)
theorem wxG (s : Fin 2) (c : Dev nD) (b : Fin 2) : (agV 32 s _ (inbG s c b)).view.WordExact :=
  match s with
  | 0 => (Memref.isWhole_whole cc0_scratch1).wordExact_slice rfl _ (k0_off9_wordsbf16 c b)
  | 1 => (Memref.isWhole_whole cc0_scratch1).wordExact_slice rfl _ (k0_off10_wordsbf16 c b)
theorem wxH (s : Fin 2) (c : Dev nD) (b : Fin 2) : (agV 128 s _ (inbH s c b)).view.WordExact :=
  match s with
  | 0 => (Memref.isWhole_whole cc0_scratch1).wordExact_slice rfl _ (k0_off11_wordsbf16 c b)
  | 1 => (Memref.isWhole_whole cc0_scratch1).wordExact_slice rfl _ (k0_off12_wordsbf16 c b)
theorem wxRx (s b : Fin 2) (d : Fin 3) : (rxV s b d).view.WordExact :=
  match s with
  | 0 => ((Memref.isWhole_whole cc0_scratch2).wordExact_slice rfl _ (wordsSlot 0 0 b d)).reshape _ _
  | 1 => ((Memref.isWhole_whole cc0_scratch3).wordExact_slice rfl _ (wordsSlot 0 1 b d)).reshape _ _
theorem wxSb (s b : Fin 2) (d : Fin 3) : (sbV s b d).view.WordExact :=
  match s with
  | 0 => ((Memref.isWhole_whole cc0_scratch4).wordExact_slice rfl _ (wordsSlot 1 0 b d)).reshape _ _
  | 1 => ((Memref.isWhole_whole cc0_scratch5).wordExact_slice rfl _ (wordsSlot 1 1 b d)).reshape _ _
theorem wxRy (s b : Fin 2) (d : Fin 3) : (ryV s b d).view.WordExact :=
  match s with
  | 0 => ((Memref.isWhole_whole cc0_scratch6).wordExact_slice rfl _ (wordsSlot 1 0 b d)).reshape _ _
  | 1 => ((Memref.isWhole_whole cc0_scratch7).wordExact_slice rfl _ (wordsSlot 1 1 b d)).reshape _ _

theorem pos128 (s : Fin 2) : 0 < (Sh2 128 s).numel := by revert s; decide
theorem pos32 (s : Fin 2) : 0 < (Sh2 32 s).numel := by revert s; decide
theorem posSlot128 (s : Fin 2) : 0 < (Sh4 128 s).numel := by revert s; decide
theorem posSlot32 (s : Fin 2) : 0 < (Sh4 32 s).numel := by revert s; decide

theorem stSb (s b : Fin 2) (d : Fin 3) : ((sbM s).access (slotR 32 s b d)).Stores Finset.univ :=
  match s with
  | 0 => View.stores_vmem (posSlot32 0) ((Memref.isWhole_whole cc0_scratch4).storeExact_slice rfl _ (packedSlot 1 0 b d)) (fun _ => rfl)
  | 1 => View.stores_vmem (posSlot32 1) ((Memref.isWhole_whole cc0_scratch5).storeExact_slice rfl _ (packedSlot 1 1 b d)) (fun _ => rfl)
theorem stAg (s : Fin 2) (c : Dev nD) (b : Fin 2) : (agbM.access (rectR 32 s _ (inbB s c b))).Stores Finset.univ :=
  match s with
  | 0 => View.stores_vmem (pos32 0) ((Memref.isWhole_whole cc0_scratch1).storeExact_slice rfl _ (k0_off7_packedbf16 c b)) (fun _ => rfl)
  | 1 => View.stores_vmem (pos32 1) ((Memref.isWhole_whole cc0_scratch1).storeExact_slice rfl _ (k0_off8_packedbf16 c b)) (fun _ => rfl)
theorem stRows (b : Fin 2) : (agbM.access (rowsR b)).Stores Finset.univ :=
  View.stores_vmem h_S512x768 ((Memref.isWhole_whole cc0_scratch1).storeExact_slice rfl _ (packedRows b)) (fun _ => rfl)

/-! ## Semaphores -/

/-- The semaphore `(b, s, d)` of an array of them. -/
abbrev semAt (A : DmaSems sig S2x2x3) (b s : Fin 2) (d : Fin 3) : DmaSem sig :=
  ((A.slice (Rect.unit (s := S2x2x3) ![b.val, s.val, d.val] S1x1x1.size (cell_inb b s d))).squeeze S_ Gen.squeezes_S1x1x1_S_).sem

/-- The semaphores that count departures (`k = 0`) and arrivals (`k = 1`) of the four phases. -/
abbrev semArr (ph : Fin 4) (k : Fin 2) : DmaSems sig S2x2x3 :=
  match ph, k with
  | 0, 0 => cc0_scratch8 | 0, 1 => cc0_scratch9
  | 1, 0 => cc0_scratch10 | 1, 1 => cc0_scratch11
  | 2, 0 => cc0_scratch12 | 2, 1 => cc0_scratch13
  | 3, 0 => cc0_scratch14 | 3, 1 => cc0_scratch15

abbrev sS (ph : Fin 4) (b s : Fin 2) (d : Fin 3) : DmaSem sig := semAt (semArr ph 0) b s d
abbrev sR (ph : Fin 4) (b s : Fin 2) (d : Fin 3) : DmaSem sig := semAt (semArr ph 1) b s d

abbrev barS : Sem sig := (SemArray.scalar (sig.barrier 0 rfl) : Sems sig S_).sem

/-! ## The devices copied to -/

/-- The device that the body computes before its copy of phase `ph`, batch `b`, part `s`, distance `d`. -/
abbrev devOf (ph : Fin 4) (b s : Fin 2) (d : Fin 3) (c : Dev nD) : Dev nD :=
  match ph, b, s, d with
  | 0, 0, 0, 0 => ⟨k0_dev7 c, k0_dev7_lt c⟩ | 0, 0, 0, 1 => ⟨k0_dev8 c, k0_dev8_lt c⟩ | 0, 0, 0, 2 => ⟨k0_dev9 c, k0_dev9_lt c⟩
  | 0, 0, 1, 0 => ⟨k0_dev10 c, k0_dev10_lt c⟩ | 0, 0, 1, 1 => ⟨k0_dev11 c, k0_dev11_lt c⟩ | 0, 0, 1, 2 => ⟨k0_dev12 c, k0_dev12_lt c⟩
  | 1, 0, 0, 0 => ⟨k0_dev13 c, k0_dev13_lt c⟩ | 1, 0, 0, 1 => ⟨k0_dev14 c, k0_dev14_lt c⟩ | 1, 0, 0, 2 => ⟨k0_dev15 c, k0_dev15_lt c⟩
  | 1, 0, 1, 0 => ⟨k0_dev16 c, k0_dev16_lt c⟩ | 1, 0, 1, 1 => ⟨k0_dev17 c, k0_dev17_lt c⟩ | 1, 0, 1, 2 => ⟨k0_dev18 c, k0_dev18_lt c⟩
  | 0, 1, 0, 0 => ⟨k0_dev19 c, k0_dev19_lt c⟩ | 0, 1, 0, 1 => ⟨k0_dev20 c, k0_dev20_lt c⟩ | 0, 1, 0, 2 => ⟨k0_dev21 c, k0_dev21_lt c⟩
  | 0, 1, 1, 0 => ⟨k0_dev22 c, k0_dev22_lt c⟩ | 0, 1, 1, 1 => ⟨k0_dev23 c, k0_dev23_lt c⟩ | 0, 1, 1, 2 => ⟨k0_dev24 c, k0_dev24_lt c⟩
  | 2, 0, 0, 0 => ⟨k0_dev25 c, k0_dev25_lt c⟩ | 2, 0, 0, 1 => ⟨k0_dev26 c, k0_dev26_lt c⟩ | 2, 0, 0, 2 => ⟨k0_dev27 c, k0_dev27_lt c⟩
  | 2, 0, 1, 0 => ⟨k0_dev28 c, k0_dev28_lt c⟩ | 2, 0, 1, 1 => ⟨k0_dev29 c, k0_dev29_lt c⟩ | 2, 0, 1, 2 => ⟨k0_dev30 c, k0_dev30_lt c⟩
  | 1, 1, 0, 0 => ⟨k0_dev31 c, k0_dev31_lt c⟩ | 1, 1, 0, 1 => ⟨k0_dev32 c, k0_dev32_lt c⟩ | 1, 1, 0, 2 => ⟨k0_dev33 c, k0_dev33_lt c⟩
  | 1, 1, 1, 0 => ⟨k0_dev34 c, k0_dev34_lt c⟩ | 1, 1, 1, 1 => ⟨k0_dev35 c, k0_dev35_lt c⟩ | 1, 1, 1, 2 => ⟨k0_dev36 c, k0_dev36_lt c⟩
  | 3, 0, 0, 0 => ⟨k0_dev37 c, k0_dev37_lt c⟩ | 3, 0, 0, 1 => ⟨k0_dev38 c, k0_dev38_lt c⟩ | 3, 0, 0, 2 => ⟨k0_dev39 c, k0_dev39_lt c⟩
  | 3, 0, 1, 0 => ⟨k0_dev40 c, k0_dev40_lt c⟩ | 3, 0, 1, 1 => ⟨k0_dev41 c, k0_dev41_lt c⟩ | 3, 0, 1, 2 => ⟨k0_dev42 c, k0_dev42_lt c⟩
  | 2, 1, 0, 0 => ⟨k0_dev43 c, k0_dev43_lt c⟩ | 2, 1, 0, 1 => ⟨k0_dev44 c, k0_dev44_lt c⟩ | 2, 1, 0, 2 => ⟨k0_dev45 c, k0_dev45_lt c⟩
  | 2, 1, 1, 0 => ⟨k0_dev46 c, k0_dev46_lt c⟩ | 2, 1, 1, 1 => ⟨k0_dev47 c, k0_dev47_lt c⟩ | 2, 1, 1, 2 => ⟨k0_dev48 c, k0_dev48_lt c⟩
  | 3, 1, 0, 0 => ⟨k0_dev49 c, k0_dev49_lt c⟩ | 3, 1, 0, 1 => ⟨k0_dev50 c, k0_dev50_lt c⟩ | 3, 1, 0, 2 => ⟨k0_dev51 c, k0_dev51_lt c⟩
  | 3, 1, 1, 0 => ⟨k0_dev52 c, k0_dev52_lt c⟩ | 3, 1, 1, 1 => ⟨k0_dev53 c, k0_dev53_lt c⟩ | 3, 1, 1, 2 => ⟨k0_dev54 c, k0_dev54_lt c⟩

/-- The device signalled at first, by coordinate `k` and distance `d`. -/
abbrev barDev (d : Fin 3) (k : Fin 2) (c : Dev nD) : Dev nD :=
  match d, k with
  | 0, 0 => ⟨k0_dev1 c, k0_dev1_lt c⟩ | 0, 1 => ⟨k0_dev2 c, k0_dev2_lt c⟩
  | 1, 0 => ⟨k0_dev3 c, k0_dev3_lt c⟩ | 1, 1 => ⟨k0_dev4 c, k0_dev4_lt c⟩
  | 2, 0 => ⟨k0_dev5 c, k0_dev5_lt c⟩ | 2, 1 => ⟨k0_dev6 c, k0_dev6_lt c⟩

/-! ## What the steps compute -/

/-- The mask added to the scores: zero where the key's block is not after the query's, else the literal. -/
def maskV : FVec F S512x512 .f32 := k0_pay7 (F := F) k0_pay2 k0_pay3 k0_pay4 k0_pay5 k0_pay6

/-- The queries of the device's heads, one batch. -/
def qV (x : Vec F S1x512x768 .f32) (wq : Vec F S768x512 .f32) : FVec F S512x512 .f32 :=
  matmul dot_S512x768_S768x512_S512x512_1_0_0_1_n_n none (shapeCast S512x768 x Gen.shapeCasts_S1x512x768_S512x768)
    (shapeCast S768x512 wq Gen.shapeCasts_S768x512_S768x512) (constant S512x512 .f32 0x00000000#32)

/-- The first half of a head's queries: they see the first half of the keys. -/
def loV (q k v : FVec F S512x64 .f32) : FVec F S256x64 .f32 :=
  let e : FVec F S256x256 .f32 := exp (addf
    (mulf (matmul dot_S256x64_S64x256_S256x256_1_0_0_1_n_n none
        (extractStridedSlice S256x64 ![0, 0] q Gen.slices_S512x64_o0_0_S256x64)
        (transpose S64x256 [1, 0] (extractStridedSlice S256x64 ![0, 0] k Gen.slices_S512x64_o0_0_S256x64) Gen.transposes_S256x64_p1_0_S64x256)
        (constant S256x256 .f32 0x00000000#32))
      (broadcast S256x256 (Scalar.ofBits .f32 0x3E000000#32)))
    (extractStridedSlice S256x256 ![0, 0] maskV Gen.slices_S512x512_o0_0_S256x256))
  divf (matmul dot_S256x256_S256x64_S256x64_1_0_0_1_n_n none e (extractStridedSlice S256x64 ![0, 0] v Gen.slices_S512x64_o0_0_S256x64)
      (constant S256x64 .f32 0x00000000#32))
    (broadcastTo S256x64 (shapeCast S256x1 (multiReduction .add [1] S256 e 0x00000000#32 Gen.reduces_S256x256_S256 (.inl rfl) rfl)
      Gen.shapeCasts_S256_S256x1) Gen.broadcasts_S256x1_S256x64)

/-- The second half of a head's queries: they may see every key. -/
def hiV (q k v : FVec F S512x64 .f32) : FVec F S256x64 .f32 :=
  let e : FVec F S256x512 .f32 := exp (addf
    (mulf (matmul dot_S256x64_S64x512_S256x512_1_0_0_1_n_n none
        (extractStridedSlice S256x64 ![256, 0] q Gen.slices_S512x64_o256_0_S256x64)
        (transpose S64x512 [1, 0] k Gen.transposes_S512x64_p1_0_S64x512)
        (constant S256x512 .f32 0x00000000#32))
      (broadcast S256x512 (Scalar.ofBits .f32 0x3E000000#32)))
    (extractStridedSlice S256x512 ![256, 0] maskV Gen.slices_S512x512_o256_0_S256x512))
  divf (matmul dot_S256x512_S512x64_S256x64_1_0_0_1_n_n none e v (constant S256x64 .f32 0x00000000#32))
    (broadcastTo S256x64 (shapeCast S256x1 (multiReduction .add [1] S256 e 0x00000000#32 Gen.reduces_S256x512_S256 (.inl rfl) rfl)
      Gen.shapeCasts_S256_S256x1) Gen.broadcasts_S256x1_S256x64)

theorem slicesHead (h : Fin 8) : S512x512.Slices ![0, 64 * h.val] S512x64 := by revert h; decide

/-- Head `h` of the device: attention of its queries over the keys and values loaded for it. -/
def headV (q : FVec F S512x512 .f32) (h : Fin 8) (k v : Vec F S1x512x1x64 .f32) : FVec F S512x64 .f32 :=
  let qh : FVec F S512x64 .f32 := extractStridedSlice S512x64 ![0, 64 * h.val] q (slicesHead h)
  let kh : FVec F S512x64 .f32 := shapeCast S512x64 k Gen.shapeCasts_S1x512x1x64_S512x64
  let vh : FVec F S512x64 .f32 := shapeCast S512x64 v Gen.shapeCasts_S1x512x1x64_S512x64
  concatenate S512x64 0 [⟨S256x64, loV qh kh vh⟩, ⟨S256x64, hiV qh kh vh⟩] Gen.concatenates_S256x64_S256x64_S512x64_d0

/-- The heads side by side, times the device's rows of the output weights. -/
def projV (h0 h1 h2 h3 h4 h5 h6 h7 : FVec F S512x64 .f32) (wo : Vec F S512x768 .f32) : FVec F S512x768 .f32 :=
  shapeCast S512x768 (matmul dot_S512x512_S512x768_S512x768_1_0_0_1_n_n none
    (concatenate S512x512 1 [⟨S512x64, h0⟩, ⟨S512x64, h1⟩, ⟨S512x64, h2⟩, ⟨S512x64, h3⟩, ⟨S512x64, h4⟩, ⟨S512x64, h5⟩, ⟨S512x64, h6⟩, ⟨S512x64, h7⟩]
      Gen.concatenates_S512x64_S512x64_S512x64_S512x64_S512x64_S512x64_S512x64_S512x64_S512x512_d1)
    (shapeCast S512x768 wo Gen.shapeCasts_S512x768_S512x768) (constant S512x768 .f32 0x00000000#32)) Gen.shapeCasts_S512x768_S512x768

/-- A block of single words as half words. -/
def dnV {sh : Shape} (v : Vec F sh .f32) : FVec F sh .bf16 := truncf .bf16 v bitsLt_bf16_f32
/-- A block of half words as single words. -/
def upV {sh : Shape} (v : Vec F sh .bf16) : FVec F sh .f32 := extf .f32 v bitsLt_bf16_f32

/-- The sum of a block with the three blocks that arrived for it. -/
def foldV (sh sh4 : Shape) (h4 : sh4.ShapeCasts sh) (h : sh.ShapeCasts sh) (a : Vec F sh .f32) (r0 r1 r2 : Vec F sh4 .bf16) : FVec F sh .f32 :=
  shapeCast sh (addf (addf (addf a (upV (shapeCast sh r0 h4) : FVec F sh .f32)) (upV (shapeCast sh r1 h4) : FVec F sh .f32))
    (upV (shapeCast sh r2 h4) : FVec F sh .f32)) h

theorem casts128 (s : Fin 2) : (Sh4 128 s).ShapeCasts (Sh2 128 s) := by revert s; decide
theorem casts32 (s : Fin 2) : (Sh4 32 s).ShapeCasts (Sh2 32 s) := by revert s; decide
theorem castsUp32 (s : Fin 2) : (Sh2 32 s).ShapeCasts (Sh4 32 s) := by revert s; decide

/-! ## One operation each -/

/-- A load of the unit rectangle at `off`. -/
abbrev ld {sh : Shape} {e : EltTy} (m : Memref sig .tc .vmem sh e) (r : Rect sh) (h : 0 < r.shape.numel) :
    Pr F (r.shape.Idx → Elt F e) :=
  Prog.lift (.load m r.toLoadRect (View.loadsAt_vmem h))

abbrev st {sh : Shape} {e : EltTy} (m : Memref sig .tc .vmem sh e) (r : Rect sh) (w : r.shape.Idx → Elt F e)
    (hs : (m.access r).Stores Finset.univ) : Pr F PUnit :=
  Prog.lift (.store m r w Finset.univ hs (.inl rfl))

abbrev snd {sh : Shape} (src dst : Memref sig .tc .vmem sh .bf16) (t : Dev nD) (ss rs : DmaSem sig)
    (hs : src.view.WordExact) (hd : dst.view.WordExact) : Pr F PUnit :=
  Prog.lift (.enqueueDma src (.remote (Dev.tc t) dst (.dma ss)) (.dma rs) hs hd ⟨⟨rfl, Or.inl rfl⟩, trivial⟩)

/-- The wait for a copy's departure and the wait for the arrival of the copy of the same slot. -/
abbrev wt {sh : Shape} (src dst : Memref sig .tc .vmem sh .bf16) (ss rs : DmaSem sig)
    (hs : src.view.WordExact) (hd : dst.view.WordExact) : Pr F PUnit := do
  Prog.lift (.waitDma2 ss dst src hd hs)
  Prog.lift (.waitDma2 rs src dst hs hd)

/-! ## The groups -/

def barP (c : Dev nD) : Pr F PUnit := do
  semSignalWord (barDev 0 0 c) barS 1#32
  semSignalWord (barDev 0 1 c) barS 1#32
  semSignalWord (barDev 1 0 c) barS 1#32
  semSignalWord (barDev 1 1 c) barS 1#32
  semSignalWord (barDev 2 0 c) barS 1#32
  semSignalWord (barDev 2 1 c) barS 1#32
  semWaitWord barS 6#32

/-- One batch of attention into the accumulator. -/
def compP (b : Fin 2) : Pr F PUnit := do
  let x ← ld xM (xR b) h_S1x512x768
  let wq ← ld wqM wqR h_S768x512
  let k0 ← ld kM (kvR b 0) h_S1x512x1x64
  let v0 ← ld vM (kvR b 0) h_S1x512x1x64
  let k1 ← ld kM (kvR b 1) h_S1x512x1x64
  let v1 ← ld vM (kvR b 1) h_S1x512x1x64
  let k2 ← ld kM (kvR b 2) h_S1x512x1x64
  let v2 ← ld vM (kvR b 2) h_S1x512x1x64
  let k3 ← ld kM (kvR b 3) h_S1x512x1x64
  let v3 ← ld vM (kvR b 3) h_S1x512x1x64
  let k4 ← ld kM (kvR b 4) h_S1x512x1x64
  let v4 ← ld vM (kvR b 4) h_S1x512x1x64
  let k5 ← ld kM (kvR b 5) h_S1x512x1x64
  let v5 ← ld vM (kvR b 5) h_S1x512x1x64
  let k6 ← ld kM (kvR b 6) h_S1x512x1x64
  let v6 ← ld vM (kvR b 6) h_S1x512x1x64
  let k7 ← ld kM (kvR b 7) h_S1x512x1x64
  let v7 ← ld vM (kvR b 7) h_S1x512x1x64
  let wo ← ld woM woR h_S512x768
  let _ ← ld accM (rowsR b) h_S512x768
  st accM (rowsR b) (projV (headV (qV x wq) 0 k0 v0) (headV (qV x wq) 1 k1 v1) (headV (qV x wq) 2 k2 v2) (headV (qV x wq) 3 k3 v3)
    (headV (qV x wq) 4 k4 v4) (headV (qV x wq) 5 k5 v5) (headV (qV x wq) 6 k6 v6) (headV (qV x wq) 7 k7 v7) wo)
    (View.stores_vmem_bits_univ h_S512x768 rfl)

/-- The batch rounded to half words. -/
def castP (b : Fin 2) : Pr F PUnit := do
  let a ← ld accM (rowsR b) h_S512x768
  let _ ← ld agbM (rowsR b) h_S512x768
  st agbM (rowsR b) (shapeCast S512x768 (dnV (sh := S512x768) a) Gen.shapeCasts_S512x768_S512x768) (stRows b)

/-- A copy of the first reduction step. -/
def sendA (c : Dev nD) (b s : Fin 2) (d : Fin 3) : Pr F PUnit :=
  snd (agV 128 s _ (inbA s c b d)) (rxV s b d) (devOf 0 b s d c) (sS 0 b s d) (sR 0 b s d) (wxA s c b d) (wxRx s b d)

def waitA (c : Dev nD) (b s : Fin 2) (d : Fin 3) : Pr F PUnit :=
  wt (agV 128 s _ (inbA s c b d)) (rxV s b d) (sS 0 b s d) (sR 0 b s d) (wxA s c b d) (wxRx s b d)

/-- The sum after the first reduction step. -/
def foldA (c : Dev nD) (b s : Fin 2) : Pr F PUnit := do
  let a ← ld accM (rectR 128 s _ (inbQ s c b)) (pos128 s)
  let r0 ← ld (rxM s) (slotR 128 s b 0) (posSlot128 s)
  let r1 ← ld (rxM s) (slotR 128 s b 1) (posSlot128 s)
  let r2 ← ld (rxM s) (slotR 128 s b 2) (posSlot128 s)
  let _ ← ld accM (rectR 128 s _ (inbQ s c b)) (pos128 s)
  st accM (rectR 128 s _ (inbQ s c b)) (foldV (Sh2 128 s) (Sh4 128 s) (casts128 s) rfl a r0 r1 r2) (View.stores_vmem_bits_univ (pos128 s) rfl)

/-- A copy of the second reduction step, with the rounding before it. -/
def sendS (c : Dev nD) (b s : Fin 2) (d : Fin 3) : Pr F PUnit := do
  let a ← ld accM (rectR 32 s _ (inbS s c b d)) (pos32 s)
  let _ ← ld (sbM s) (slotR 32 s b d) (posSlot32 s)
  st (sbM s) (slotR 32 s b d) (shapeCast (Sh4 32 s) (dnV (sh := Sh2 32 s) a) (castsUp32 s)) (stSb s b d)
  snd (sbV s b d) (ryV s b d) (devOf 1 b s d c) (sS 1 b s d) (sR 1 b s d) (wxSb s b d) (wxRy s b d)

def waitS (c : Dev nD) (b s : Fin 2) (d : Fin 3) : Pr F PUnit :=
  wt (sbV s b d) (ryV s b d) (sS 1 b s d) (sR 1 b s d) (wxSb s b d) (wxRy s b d)

/-- The sum after the second reduction step. -/
def foldS (c : Dev nD) (b s : Fin 2) : Pr F PUnit := do
  let a ← ld accM (rectR 32 s _ (inbB s c b)) (pos32 s)
  let r0 ← ld (ryM s) (slotR 32 s b 0) (posSlot32 s)
  let r1 ← ld (ryM s) (slotR 32 s b 1) (posSlot32 s)
  let r2 ← ld (ryM s) (slotR 32 s b 2) (posSlot32 s)
  let _ ← ld accM (rectR 32 s _ (inbB s c b)) (pos32 s)
  st accM (rectR 32 s _ (inbB s c b)) (foldV (Sh2 32 s) (Sh4 32 s) (casts32 s) rfl a r0 r1 r2) (View.stores_vmem_bits_univ (pos32 s) rfl)

/-- The finished block rounded to half words. -/
def castB (c : Dev nD) (b s : Fin 2) : Pr F PUnit := do
  let a ← ld accM (rectR 32 s _ (inbB s c b)) (pos32 s)
  let _ ← ld agbM (rectR 32 s _ (inbB s c b)) (pos32 s)
  st agbM (rectR 32 s _ (inbB s c b)) (shapeCast (Sh2 32 s) (dnV (sh := Sh2 32 s) a) rfl) (stAg s c b)

/-- A copy of the first gathering step. -/
def sendG (c : Dev nD) (b s : Fin 2) (d : Fin 3) : Pr F PUnit :=
  snd (agV 32 s _ (inbG s c b)) (agV 32 s _ (inbG s c b)) (devOf 2 b s d c) (sS 2 b s d) (sR 2 b s d) (wxG s c b) (wxG s c b)

def waitG (c : Dev nD) (b s : Fin 2) (d : Fin 3) : Pr F PUnit :=
  wt (agV 32 s _ (inbG s c b)) (agV 32 s _ (inbG s c b)) (sS 2 b s d) (sR 2 b s d) (wxG s c b) (wxG s c b)

/-- A copy of the second gathering step. -/
def sendH (c : Dev nD) (b s : Fin 2) (d : Fin 3) : Pr F PUnit :=
  snd (agV 128 s _ (inbH s c b)) (agV 128 s _ (inbH s c b)) (devOf 3 b s d c) (sS 3 b s d) (sR 3 b s d) (wxH s c b) (wxH s c b)

def waitH (c : Dev nD) (b s : Fin 2) (d : Fin 3) : Pr F PUnit :=
  wt (agV 128 s _ (inbH s c b)) (agV 128 s _ (inbH s c b)) (sS 3 b s d) (sR 3 b s d) (wxH s c b) (wxH s c b)

/-- The batch written out as single words. -/
def outP (b : Fin 2) : Pr F PUnit := do
  let a ← ld agbM (rowsR b) h_S512x768
  let _ ← ld outM (xR b) h_S1x512x768
  st outM (xR b) (shapeCast S1x512x768 (upV (sh := S512x768) a) Gen.shapeCasts_S512x768_S1x512x768) (View.stores_vmem_bits_univ h_S1x512x768 rfl)

/-- A step for each of the three distances. -/
def each (p : Fin 3 → Pr F PUnit) : Pr F PUnit := do
  p 0
  p 1
  p 2

/-- The whole body. -/
def mainP : Pr F PUnit := do
  let c ← Prog.lift .deviceId
  barP c
  compP 0
  castP 0
  each (sendA c 0 0)
  each (sendA c 0 1)
  compP 1
  each (waitA c 0 0)
  foldA c 0 0
  each (waitA c 0 1)
  foldA c 0 1
  each (sendS c 0 0)
  each (sendS c 0 1)
  castP 1
  each (sendA c 1 0)
  each (sendA c 1 1)
  each (waitS c 0 0)
  foldS c 0 0
  each (waitS c 0 1)
  foldS c 0 1
  castB c 0 0
  each (sendG c 0 0)
  castB c 0 1
  each (sendG c 0 1)
  each (waitA c 1 0)
  foldA c 1 0
  each (waitA c 1 1)
  foldA c 1 1
  each (sendS c 1 0)
  each (sendS c 1 1)
  each (waitG c 0 0)
  each (waitG c 0 1)
  each (sendH c 0 0)
  each (sendH c 0 1)
  each (waitS c 1 0)
  foldS c 1 0
  each (waitS c 1 1)
  foldS c 1 1
  castB c 1 0
  each (sendG c 1 0)
  castB c 1 1
  each (sendG c 1 1)
  each (waitH c 0 0)
  each (waitH c 0 1)
  outP 0
  each (waitG c 1 0)
  each (waitG c 1 1)
  each (sendH c 1 0)
  each (sendH c 1 1)
  each (waitH c 1 0)
  each (waitH c 1 1)
  outP 1

end Cert.KernelIdeal.Body
-- ==== Proof.Mesh.lean ====
/- The mesh and the rows: the sixteen devices as a 4 × 4 grid, the device at a distance along one
   coordinate, the quarters and blocks that the 1024 × 768 array is cut into, and which of them the
   printed offsets name. -/
module

public import proofs.«01_k».proof.Proof.Body

@[expose] public section

noncomputable section

namespace Cert.KernelIdeal.Body

open Idealize.ShloMosaic Idealize.SL.Sem
open Cert.KernelIdeal Cert.KernelIdeal.Gen

/-! ## The grid -/

/-- The coordinate `k` of a device. -/
def coord (k : Fin 2) (c : Dev nD) : Fin 4 :=
  if k = 0 then ⟨c.val % 4, by omega⟩ else ⟨c.val / 4, by have : c.val < 16 := c.isLt; omega⟩

/-- The device whose coordinate `k` is `a` and whose other coordinate is `b`. -/
def mkDev (k : Fin 2) (a b : Fin 4) : Dev nD :=
  if k = 0 then ⟨a.val + 4 * b.val, by show _ < 16; omega⟩ else ⟨b.val + 4 * a.val, by show _ < 16; omega⟩

/-- The other coordinate. -/
abbrev oth (k : Fin 2) : Fin 2 := 1 - k

/-- The distance back. -/
abbrev rev (d : Fin 3) : Fin 3 := 2 - d

/-- The device `d + 1` further along coordinate `k`. -/
def pr (k : Fin 2) (d : Fin 3) (c : Dev nD) : Dev nD :=
  mkDev k (coord k c + ⟨d.val + 1, by omega⟩) (coord (oth k) c)

/-- The device from which `c` is `d + 1` further along coordinate `k`. -/
abbrev sdr (k : Fin 2) (d : Fin 3) (c : Dev nD) : Dev nD := pr k (rev d) c

theorem pr_sdr (k : Fin 2) (d : Fin 3) (c : Dev nD) : pr k d (sdr k d c) = c := by revert k d c; decide +kernel
theorem sdr_pr (k : Fin 2) (d : Fin 3) (c : Dev nD) : sdr k d (pr k d c) = c := by revert k d c; decide +kernel
theorem rev_rev (d : Fin 3) : rev (rev d) = d := by revert d; decide
theorem oth_oth (k : Fin 2) : oth (oth k) = k := by revert k; decide
theorem coord_oth_pr (k : Fin 2) (d : Fin 3) (c : Dev nD) : coord (oth k) (pr k d c) = coord (oth k) c := by revert k d c; decide +kernel
theorem coord_pr_oth (k : Fin 2) (d : Fin 3) (c : Dev nD) : coord k (pr (oth k) d c) = coord k c := by revert k d c; decide +kernel
theorem coord_mkDev (k : Fin 2) (a b : Fin 4) : coord k (mkDev k a b) = a := by revert k a b; decide +kernel
theorem mkDev_coord (k : Fin 2) (c : Dev nD) : mkDev k (coord k c) (coord (oth k) c) = c := by revert k c; decide +kernel

/-- The coordinates of the three others and one's own are the four coordinates. -/
theorem coords_nodup (k : Fin 2) (c : Dev nD) :
    [coord k c, coord k (pr k 0 c), coord k (pr k 1 c), coord k (pr k 2 c)].Nodup := by revert k c; decide +kernel
theorem coords_all (k : Fin 2) (c : Dev nD) :
    ∀ g : Fin 4, g ∈ [coord k c, coord k (pr k 0 c), coord k (pr k 1 c), coord k (pr k 2 c)] := by revert k c; decide +kernel
theorem coords_nodup' (k : Fin 2) (c : Dev nD) :
    [coord k c, coord k (sdr k 0 c), coord k (sdr k 1 c), coord k (sdr k 2 c)].Nodup := by revert k c; decide +kernel
theorem coords_all' (k : Fin 2) (c : Dev nD) :
    ∀ g : Fin 4, g ∈ [coord k c, coord k (sdr k 0 c), coord k (sdr k 1 c), coord k (sdr k 2 c)] := by revert k c; decide +kernel

/-- Along which coordinate a phase moves part `s`. -/
abbrev axis (ph : Fin 4) (s : Fin 2) : Fin 2 := match ph with | 0 => s | 1 => oth s | 2 => oth s | 3 => s

/-- The device a copy goes to. -/
abbrev tgt (ph : Fin 4) (s : Fin 2) (d : Fin 3) (c : Dev nD) : Dev nD := pr (axis ph s) d c
/-- The device a copy comes from. -/
abbrev src (ph : Fin 4) (s : Fin 2) (d : Fin 3) (c : Dev nD) : Dev nD := sdr (axis ph s) d c

theorem devOf_eq (ph : Fin 4) (b s : Fin 2) (d : Fin 3) (c : Dev nD) : devOf ph b s d c = tgt ph s d c := by
  revert ph b s d c; decide +kernel
theorem barDev_eq (d : Fin 3) (k : Fin 2) (c : Dev nD) : barDev d k c = pr k d c := by
  revert d k c; decide +kernel

/-! ## The offsets -/

/-- The first row of a quarter. -/
abbrev qRow (b : Fin 2) (g : Fin 4) : ℕ := 512 * b.val + 128 * g.val
/-- The first row of a block. -/
abbrev fRow (b : Fin 2) (g f : Fin 4) : ℕ := 512 * b.val + 128 * g.val + 32 * f.val

theorem offA_eq (s : Fin 2) (c : Dev nD) (b : Fin 2) (d : Fin 3) : offA s c b d = ![qRow b (coord s (pr s d c)), 512 * s.val] := by
  revert s c b d; decide +kernel
theorem offQ_eq (s : Fin 2) (c : Dev nD) (b : Fin 2) : offQ s c b = ![qRow b (coord s c), 512 * s.val] := by
  revert s c b; decide +kernel
theorem offH_eq (s : Fin 2) (c : Dev nD) (b : Fin 2) : offH s c b = ![qRow b (coord s c), 512 * s.val] := by
  revert s c b; decide +kernel
theorem offS_eq (s : Fin 2) (c : Dev nD) (b : Fin 2) (d : Fin 3) :
    offS s c b d = ![fRow b (coord s c) (coord (oth s) (pr (oth s) d c)), 512 * s.val] := by
  revert s c b d; decide +kernel
theorem offB_eq (s : Fin 2) (c : Dev nD) (b : Fin 2) : offB s c b = ![fRow b (coord s c) (coord (oth s) c), 512 * s.val] := by
  revert s c b; decide +kernel
theorem offG_eq (s : Fin 2) (c : Dev nD) (b : Fin 2) : offG s c b = ![fRow b (coord s c) (coord (oth s) c), 512 * s.val] := by
  revert s c b; decide +kernel

/-! ## The rows and columns of an index -/

abbrev IdxA : Type := S1024x768.Idx

/-- The index at a row and a column. -/
def ix (r : ℕ) (k : ℕ) (hr : r < 1024) (hk : k < 768) : IdxA := fun a => match a with | 0 => ⟨r, hr⟩ | 1 => ⟨k, hk⟩

abbrev row (i : IdxA) : ℕ := (i 0).val
abbrev col (i : IdxA) : ℕ := (i 1).val

theorem row_lt (i : IdxA) : row i < 1024 := (i 0).isLt
theorem col_lt (i : IdxA) : col i < 768 := (i 1).isLt

theorem idx_ext {i j : IdxA} (h0 : row i = row j) (h1 : col i = col j) : i = j :=
  funext fun a => Fin.ext (by fin_cases a; exacts [h0, h1])

/-- The batch of an index. -/
def bIx (i : IdxA) : Fin 2 := ⟨row i / 512, by have := row_lt i; omega⟩
/-- The column part of an index. -/
def sIx (i : IdxA) : Fin 2 := if col i < 512 then 0 else 1
/-- The quarter of an index. -/
def qIx (i : IdxA) : Fin 4 := ⟨row i % 512 / 128, by omega⟩
/-- The block of an index within its quarter. -/
def fIx (i : IdxA) : Fin 4 := ⟨row i % 128 / 32, by omega⟩

def rowsS (b : Fin 2) : Finset IdxA := Finset.univ.filter fun i => bIx i = b
def quadS (b s : Fin 2) (g : Fin 4) : Finset IdxA := Finset.univ.filter fun i => bIx i = b ∧ sIx i = s ∧ qIx i = g
def blkS (b s : Fin 2) (g f : Fin 4) : Finset IdxA := Finset.univ.filter fun i => bIx i = b ∧ sIx i = s ∧ qIx i = g ∧ fIx i = f

theorem mem_rowsS {b : Fin 2} {i : IdxA} : i ∈ rowsS b ↔ bIx i = b := by unfold rowsS; rw [Finset.mem_filter]; exact and_iff_right (Finset.mem_univ i)
theorem mem_quadS {b s : Fin 2} {g : Fin 4} {i : IdxA} : i ∈ quadS b s g ↔ bIx i = b ∧ sIx i = s ∧ qIx i = g := by
  unfold quadS; rw [Finset.mem_filter]; exact and_iff_right (Finset.mem_univ i)
theorem mem_blkS {b s : Fin 2} {g f : Fin 4} {i : IdxA} : i ∈ blkS b s g f ↔ bIx i = b ∧ sIx i = s ∧ qIx i = g ∧ fIx i = f := by
  unfold blkS; rw [Finset.mem_filter]; exact and_iff_right (Finset.mem_univ i)

theorem blkS_subset (b s : Fin 2) (g f : Fin 4) : blkS b s g f ⊆ quadS b s g := fun i h => by
  rw [mem_blkS] at h; rw [mem_quadS]; exact ⟨h.1, h.2.1, h.2.2.1⟩

theorem sIx_iff (i : IdxA) (s : Fin 2) : sIx i = s ↔ 512 * s.val ≤ col i ∧ col i < 512 * s.val + cw s := by
  have := col_lt i
  unfold sIx
  fin_cases s
  · show (if col i < 512 then (0 : Fin 2) else 1) = 0 ↔ 512 * 0 ≤ col i ∧ col i < 512 * 0 + 512
    split <;> simp <;> omega
  · show (if col i < 512 then (0 : Fin 2) else 1) = 1 ↔ 512 * 1 ≤ col i ∧ col i < 512 * 1 + 256
    split <;> simp <;> omega

theorem quadS_iff (i : IdxA) (b s : Fin 2) (g : Fin 4) :
    (bIx i = b ∧ sIx i = s ∧ qIx i = g) ↔ (qRow b g ≤ row i ∧ row i < qRow b g + 128) ∧ (512 * s.val ≤ col i ∧ col i < 512 * s.val + cw s) := by
  have hr := row_lt i
  have hb := b.isLt
  have hg := g.isLt
  rw [← sIx_iff]
  unfold bIx qIx
  rw [Fin.ext_iff, Fin.ext_iff (b := g)]
  show row i / 512 = b.val ∧ sIx i = s ∧ row i % 512 / 128 = g.val ↔ _
  constructor
  · rintro ⟨h1, h2, h3⟩
    refine ⟨?_, h2⟩
    unfold qRow
    omega
  · rintro ⟨h1, h2⟩
    unfold qRow at h1
    refine ⟨?_, h2, ?_⟩ <;> omega

theorem blkS_iff (i : IdxA) (b s : Fin 2) (g f : Fin 4) :
    (bIx i = b ∧ sIx i = s ∧ qIx i = g ∧ fIx i = f) ↔ (fRow b g f ≤ row i ∧ row i < fRow b g f + 32) ∧ (512 * s.val ≤ col i ∧ col i < 512 * s.val + cw s) := by
  have hr := row_lt i
  have hb := b.isLt
  have hg := g.isLt
  have hf := f.isLt
  rw [← sIx_iff]
  unfold bIx qIx fIx
  rw [Fin.ext_iff, Fin.ext_iff (b := g), Fin.ext_iff (b := f)]
  show row i / 512 = b.val ∧ sIx i = s ∧ row i % 512 / 128 = g.val ∧ row i % 128 / 32 = f.val ↔ _
  constructor
  · rintro ⟨h1, h2, h3, h4⟩
    refine ⟨?_, h2⟩
    unfold fRow
    omega
  · rintro ⟨h1, h2⟩
    unfold fRow at h1
    refine ⟨?_, h2, ?_, ?_⟩ <;> omega

theorem rowsR_set (b : Fin 2) : (rowsR b).set = rowsS b := Finset.ext fun i => by
  have hr := row_lt i
  have hb := b.isLt
  rw [mem_rowsS, Rect.mem_set_unit]
  unfold bIx
  rw [Fin.ext_iff]
  show _ ↔ row i / 512 = b.val
  constructor
  · intro h
    have h0 := h 0
    change 512 * b.val ≤ row i ∧ row i < 512 * b.val + 512 at h0
    omega
  · intro h a
    fin_cases a
    · show 512 * b.val ≤ row i ∧ row i < 512 * b.val + 512
      omega
    · show 0 ≤ col i ∧ col i < 0 + 768
      have := col_lt i
      omega

theorem rectR_quad {s b : Fin 2} {g : Fin 4} {off : Fin 2 → ℕ} {i : ∀ a, off a + (Sh2 128 s).size a ≤ S1024x768.size a}
    (h : off = ![qRow b g, 512 * s.val]) : (rectR 128 s off i).set = quadS b s g := by
  subst h
  ext x
  rw [mem_quadS, quadS_iff, Rect.mem_set_unit]
  constructor
  · intro h
    exact ⟨h 0, h 1⟩
  · intro h a
    fin_cases a
    exacts [h.1, h.2]

theorem rectR_blk {s b : Fin 2} {g f : Fin 4} {off : Fin 2 → ℕ} {i : ∀ a, off a + (Sh2 32 s).size a ≤ S1024x768.size a}
    (h : off = ![fRow b g f, 512 * s.val]) : (rectR 32 s off i).set = blkS b s g f := by
  subst h
  ext x
  rw [mem_blkS, blkS_iff, Rect.mem_set_unit]
  constructor
  · intro h
    exact ⟨h 0, h 1⟩
  · intro h a
    fin_cases a
    exacts [h.1, h.2]

/-! ## The cuts -/

/-- A batch is its two parts' quarters. -/
theorem rowsS_eq (b : Fin 2) : rowsS b = (Finset.univ : Finset (Fin 2 × Fin 4)).biUnion fun x => quadS b x.1 x.2 := Finset.ext fun i => by
  rw [Finset.mem_biUnion, mem_rowsS]
  constructor
  · intro h; exact ⟨(sIx i, qIx i), Finset.mem_univ _, mem_quadS.2 ⟨h, rfl, rfl⟩⟩
  · rintro ⟨x, -, hx⟩; exact (mem_quadS.1 hx).1

theorem quadS_disj (b : Fin 2) (x y : Fin 2 × Fin 4) (h : x ≠ y) : Disjoint (quadS b x.1 x.2) (quadS b y.1 y.2) :=
  Finset.disjoint_left.2 fun i hx hy => h <| by
    rw [mem_quadS] at hx hy
    exact Prod.ext (hx.2.1.symm.trans hy.2.1) (hx.2.2.symm.trans hy.2.2)

/-- A quarter is its four blocks. -/
theorem quadS_eq (b s : Fin 2) (g : Fin 4) : quadS b s g = (Finset.univ : Finset (Fin 4)).biUnion fun f => blkS b s g f := Finset.ext fun i => by
  rw [Finset.mem_biUnion, mem_quadS]
  constructor
  · intro h; exact ⟨fIx i, Finset.mem_univ _, mem_blkS.2 ⟨h.1, h.2.1, h.2.2, rfl⟩⟩
  · rintro ⟨f, -, hf⟩; have := mem_blkS.1 hf; exact ⟨this.1, this.2.1, this.2.2.1⟩

theorem blkS_disj (b s : Fin 2) (g f f' : Fin 4) (h : f ≠ f') : Disjoint (blkS b s g f) (blkS b s g f') :=
  Finset.disjoint_left.2 fun i hx hy => h <| by
    rw [mem_blkS] at hx hy
    exact hx.2.2.2.symm.trans hy.2.2.2

/-- Everything is the two batches. -/
theorem univ_eq : (Finset.univ : Finset IdxA) = (Finset.univ : Finset (Fin 2)).biUnion fun b => rowsS b := Finset.ext fun i => by
  rw [Finset.mem_biUnion]
  exact ⟨fun _ => ⟨bIx i, Finset.mem_univ _, mem_rowsS.2 rfl⟩, fun _ => Finset.mem_univ _⟩

theorem rowsS_disj (b b' : Fin 2) (h : b ≠ b') : Disjoint (rowsS b) (rowsS b') :=
  Finset.disjoint_left.2 fun i hx hy => h <| by
    rw [mem_rowsS] at hx hy
    exact hx.symm.trans hy

end Cert.KernelIdeal.Body
-- ==== Proof.Values.lean ====
/- What every buffer of a device holds at each step, as functions of the devices' inputs: the
   device's own product, its sums over the devices of its row and of its column, and the half words
   that travel. -/
module

public import proofs.«01_k».proof.Proof.Mesh
public import Idealize.ShloMosaic.Lib.Pipeline.Value

@[expose] public section

noncomputable section

namespace Cert.KernelIdeal.Body

open Idealize.ShloMosaic Idealize.SL.Sem
open Cert.KernelIdeal Cert.KernelIdeal.Gen

variable {F : FTy → Type} [FloatOps F] [Named F]

/-- The devices' inputs. -/
structure Ins (F : FTy → Type) where
  x : Dev nD → Vec F S2x512x768 .f32
  wq : Dev nD → Vec F S768x512 .f32
  k : Dev nD → Vec F S2x512x8x64 .f32
  v : Dev nD → Vec F S2x512x8x64 .f32
  wo : Dev nD → Vec F S512x768 .f32

/-- An index of a `512 × 768` block. -/
abbrev ixB (r k : ℕ) (hr : r < 512) (hk : k < 768) : S512x768.Idx := fun a => match a with | 0 => ⟨r, hr⟩ | 1 => ⟨k, hk⟩

/-- What a load of a rectangle of an input reads. -/
abbrev rdR {sh : Shape} {e : EltTy} (f : sh.Idx → Elt F e) (r : Rect sh) : r.shape.Idx → Elt F e := fun j => f (r.idx j)

/-- Head `h` of a device's attention of one batch. -/
def hdV (I : Ins F) (c : Dev nD) (b : Fin 2) (h : Fin 8) : FVec F S512x64 .f32 :=
  headV (qV (rdR (I.x c) (xR b)) (rdR (I.wq c) wqR)) h (rdR (I.k c) (kvR b h)) (rdR (I.v c) (kvR b h))

/-- The device's product of one batch. -/
def partV (I : Ins F) (c : Dev nD) (b : Fin 2) : FVec F S512x768 .f32 :=
  projV (hdV I c b 0) (hdV I c b 1) (hdV I c b 2) (hdV I c b 3) (hdV I c b 4) (hdV I c b 5) (hdV I c b 6) (hdV I c b 7) (rdR (I.wo c) woR)

abbrev dn (x : F .f32) : F .bf16 := FloatOps.truncf .bf16 bitsLt_bf16_f32 x
abbrev up (x : F .bf16) : F .f32 := FloatOps.extf .f32 bitsLt_bf16_f32 x
/-- A sum with three arrived values. -/
abbrev add3 (a : F .f32) (r0 r1 r2 : F .bf16) : F .f32 := FloatOps.addf (FloatOps.addf (FloatOps.addf a (up r0)) (up r1)) (up r2)

variable (I : Ins F)

/-- The device's product. -/
def P (c : Dev nD) (i : IdxA) : F .f32 := partV I c (bIx i) (ixB (row i % 512) (col i) (Nat.mod_lt _ (by decide)) (col_lt i))
/-- The same as a half word. -/
def B (c : Dev nD) (i : IdxA) : F .bf16 := dn (P I c i)
/-- The sum over the devices along the first step's coordinate. -/
def Q (c : Dev nD) (i : IdxA) : F .f32 :=
  add3 (P I c i) (B I (sdr (sIx i) 0 c) i) (B I (sdr (sIx i) 1 c) i) (B I (sdr (sIx i) 2 c) i)
def QB (c : Dev nD) (i : IdxA) : F .bf16 := dn (Q I c i)
/-- The sum over all devices. -/
def Fv (c : Dev nD) (i : IdxA) : F .f32 :=
  add3 (Q I c i) (QB I (sdr (oth (sIx i)) 0 c) i) (QB I (sdr (oth (sIx i)) 1 c) i) (QB I (sdr (oth (sIx i)) 2 c) i)

/-- The device that sums the block of an index. -/
def owner (i : IdxA) : Dev nD := mkDev (sIx i) (qIx i) (fIx i)

/-- The half words that every device ends with. -/
def AF (i : IdxA) : F .bf16 := dn (Fv I (owner i) i)

/-- The result on every device. -/
def outV : Vec F S2x512x768 .f32 := fun i => up (AF I (ix (512 * (i 0).val + (i 1).val) (i 2).val
  (by have h0 : (i 0).val < 2 := (i 0).isLt; have h1 : (i 1).val < 512 := (i 1).isLt; omega) (i 2).isLt))

/-! ## The accumulator by stages -/

/-- How far the parts of the two batches are. -/
abbrev Stage : Type := Fin 2 → Fin 2 → Fin 4

/-- The stage in which part `s` of batch `b` has come to `n`. -/
def Stage.set (st : Stage) (b s : Fin 2) (n : Fin 4) : Stage := fun b' s' => if b' = b ∧ s' = s then n else st b' s'
/-- The stage in which both parts of batch `b` have come to `n`. -/
def Stage.setB (st : Stage) (b : Fin 2) (n : Fin 4) : Stage := fun b' s' => if b' = b then n else st b' s'

/-- The accumulator of a device: untouched, its product, the first sum in its quarter, the second sum in its block. -/
def accF (f0 : IdxA → F .f32) (st : Stage) (c : Dev nD) (i : IdxA) : F .f32 :=
  match st (bIx i) (sIx i) with
  | 0 => f0 i
  | 1 => P I c i
  | 2 => if qIx i = coord (sIx i) c then Q I c i else P I c i
  | 3 => if qIx i = coord (sIx i) c then (if fIx i = coord (oth (sIx i)) c then Fv I c i else Q I c i) else P I c i

/-! ## The blocks that travel -/

theorem qI_row (b : Fin 2) (g : Fin 4) (r : ℕ) (h : r < 128) : qRow b g + r < 1024 := by
  have := b.isLt; have := g.isLt; unfold qRow; omega
theorem fI_row (b : Fin 2) (g f : Fin 4) (r : ℕ) (h : r < 32) : fRow b g f + r < 1024 := by
  have := b.isLt; have := g.isLt; have := f.isLt; unfold fRow; omega
theorem sI_col (s : Fin 2) (k : ℕ) (h : k < cw s) : 512 * s.val + k < 768 := by
  fin_cases s
  · change k < 512 at h; change 512 * 0 + k < 768; omega
  · change k < 256 at h; change 512 * 1 + k < 768; omega

/-- The index of an element of a quarter. -/
def qI (b s : Fin 2) (g : Fin 4) (j : (Sh2 128 s).Idx) : IdxA :=
  ix (qRow b g + (j 0).val) (512 * s.val + (j 1).val) (qI_row b g _ (j 0).isLt) (sI_col s _ (j 1).isLt)
/-- The index of an element of a block. -/
def fI (b s : Fin 2) (g f : Fin 4) (j : (Sh2 32 s).Idx) : IdxA :=
  ix (fRow b g f + (j 0).val) (512 * s.val + (j 1).val) (fI_row b g f _ (j 0).isLt) (sI_col s _ (j 1).isLt)

theorem qI_mem (b s : Fin 2) (g : Fin 4) (j : (Sh2 128 s).Idx) : qI b s g j ∈ quadS b s g := by
  have h0 : (j 0).val < 128 := (j 0).isLt
  have h1 : (j 1).val < cw s := (j 1).isLt
  rw [mem_quadS, quadS_iff]
  exact ⟨⟨Nat.le_add_right _ _, Nat.add_lt_add_left h0 _⟩, Nat.le_add_right _ _, Nat.add_lt_add_left h1 _⟩
theorem fI_mem (b s : Fin 2) (g f : Fin 4) (j : (Sh2 32 s).Idx) : fI b s g f j ∈ blkS b s g f := by
  have h0 : (j 0).val < 32 := (j 0).isLt
  have h1 : (j 1).val < cw s := (j 1).isLt
  rw [mem_blkS, blkS_iff]
  exact ⟨⟨Nat.le_add_right _ _, Nat.add_lt_add_left h0 _⟩, Nat.le_add_right _ _, Nat.add_lt_add_left h1 _⟩

theorem rectR_idx_q {s b : Fin 2} {g : Fin 4} {off : Fin 2 → ℕ} {i : ∀ a, off a + (Sh2 128 s).size a ≤ S1024x768.size a}
    (h : off = ![qRow b g, 512 * s.val]) (j : (Sh2 128 s).Idx) : (rectR 128 s off i).idx j = qI b s g j := by
  subst h
  refine idx_ext ?_ ?_
  · show qRow b g + 1 * (j 0).val = qRow b g + (j 0).val
    rw [one_mul]
  · show 512 * s.val + 1 * (j 1).val = 512 * s.val + (j 1).val
    rw [one_mul]
theorem rectR_idx_f {s b : Fin 2} {g f : Fin 4} {off : Fin 2 → ℕ} {i : ∀ a, off a + (Sh2 32 s).size a ≤ S1024x768.size a}
    (h : off = ![fRow b g f, 512 * s.val]) (j : (Sh2 32 s).Idx) : (rectR 32 s off i).idx j = fI b s g f j := by
  subst h
  refine idx_ext ?_ ?_
  · show fRow b g f + 1 * (j 0).val = fRow b g f + (j 0).val
    rw [one_mul]
  · show 512 * s.val + 1 * (j 1).val = 512 * s.val + (j 1).val
    rw [one_mul]

/-- What arrives in a slot of the first step. -/
def slA (t : Dev nD) (b s : Fin 2) (d : Fin 3) : (Sh2 128 s).Idx → F .bf16 := fun j => B I (sdr s d t) (qI b s (coord s t) j)
/-- What arrives in a slot of the second step. -/
def slS (t : Dev nD) (b s : Fin 2) (d : Fin 3) : (Sh2 32 s).Idx → F .bf16 :=
  fun j => QB I (sdr (oth s) d t) (fI b s (coord s t) (coord (oth s) t) j)

theorem slA_tgt (c : Dev nD) (b s : Fin 2) (d : Fin 3) :
    slA I (pr s d c) b s d = fun j => B I c (qI b s (coord s (pr s d c)) j) := by
  unfold slA; rw [sdr_pr]
theorem slS_tgt (c : Dev nD) (b s : Fin 2) (d : Fin 3) :
    slS I (pr (oth s) d c) b s d = fun j => QB I c (fI b s (coord s c) (coord (oth s) (pr (oth s) d c)) j) := by
  unfold slS; rw [sdr_pr, coord_pr_oth]

/-! ## Reading and writing through rectangles of whole buffers -/

section RW

variable {Val : EltTy → Type}

theorem mem_idx {sh : Shape} (r : Rect sh) {i : sh.Idx} (h : i ∈ r.set) : ∃ j, r.idx j = i := by
  rw [← Rect.map_emb_univ, Finset.mem_map] at h
  obtain ⟨j, -, hj⟩ := h
  exact ⟨j, hj⟩

theorem idx_mem {sh : Shape} (r : Rect sh) (j : r.shape.Idx) : r.idx j ∈ r.set := by
  rw [← Rect.map_emb_univ]
  exact Finset.mem_map_of_mem r.emb (Finset.mem_univ j)

theorem acc_write_idx (r : Rect S1024x768) (f : IdxA → Val .f32) (w : r.shape.Idx → Val .f32) (j : r.shape.Idx) :
    (accM.access r).write Val f w Finset.univ (r.idx j) = w j :=
  View.write_emb_of_mem (v := accM.access r) f w (Finset.mem_univ j)
theorem agb_write_idx (r : Rect S1024x768) (f : IdxA → Val .bf16) (w : r.shape.Idx → Val .bf16) (j : r.shape.Idx) :
    (agbM.access r).write Val f w Finset.univ (r.idx j) = w j :=
  View.write_emb_of_mem (v := agbM.access r) f w (Finset.mem_univ j)

theorem acc_setOn (r : Rect S1024x768) : (accM.access r).setOn Finset.univ = r.set := by
  show (accM.access r).set = r.set
  exact View.set_slice_whole cc0_scratch0 r
theorem agb_setOn (r : Rect S1024x768) : (agbM.access r).setOn Finset.univ = r.set := by
  show (agbM.access r).set = r.set
  exact View.set_slice_whole cc0_scratch1 r

theorem acc_write_off (r : Rect S1024x768) (f : IdxA → Val .f32) (w : r.shape.Idx → Val .f32) {i : IdxA} (h : i ∉ r.set) :
    (accM.access r).write Val f w Finset.univ i = f i :=
  View.write_of_not_mem (v := accM.access r) f w Finset.univ (by rw [acc_setOn]; exact h)

end RW

/-! ## The steps on contents -/

theorem rowsR_idx_row (b : Fin 2) (j : S512x768.Idx) : row ((rowsR b).idx j) = 512 * b.val + (j 0).val := by
  show 512 * b.val + 1 * (j 0).val = _
  rw [one_mul]
theorem rowsR_idx_col (b : Fin 2) (j : S512x768.Idx) : col ((rowsR b).idx j) = (j 1).val := by
  show 0 + 1 * (j 1).val = _
  rw [one_mul, zero_add]

theorem bIx_rows (b : Fin 2) (j : S512x768.Idx) : bIx ((rowsR b).idx j) = b := by
  rw [← mem_rowsS, ← rowsR_set]; exact idx_mem (rowsR b) j

theorem P_rows (c : Dev nD) (b : Fin 2) (j : S512x768.Idx) : P I c ((rowsR b).idx j) = partV I c b j := by
  unfold P
  rw [bIx_rows]
  congr 1
  have h0 : (j 0).val < 512 := (j 0).isLt
  funext a
  apply Fin.ext
  fin_cases a
  · show row ((rowsR b).idx j) % 512 = (j 0).val
    rw [rowsR_idx_row]; omega
  · exact rowsR_idx_col b j

/-- The product of batch `b` written into the accumulator. -/
theorem acc_comp (f0 : IdxA → F .f32) (st : Stage) (c : Dev nD) (b : Fin 2) :
    (accM.access (rowsR b)).write (Elt F) (accF I f0 st c) (partV I c b) Finset.univ = accF I f0 (st.setB b 1) c := by
  funext i
  by_cases hi : i ∈ (rowsR b).set
  · obtain ⟨j, rfl⟩ := mem_idx _ hi
    rw [acc_write_idx]
    unfold accF Stage.setB
    simp only [bIx_rows, if_true]
    exact (P_rows I c b j).symm
  · rw [acc_write_off _ _ _ hi]
    rw [rowsR_set, mem_rowsS] at hi
    unfold accF Stage.setB
    simp only [hi, if_false]

theorem foldV_apply {sh sh4 : Shape} (h4 : sh4.ShapeCasts sh) (h : sh.ShapeCasts sh) (a : Vec F sh .f32) (r0 r1 r2 : Vec F sh4 .bf16)
    (x0 x1 x2 : sh.Idx → F .bf16) (e0 : shapeCast sh r0 h4 = x0) (e1 : shapeCast sh r1 h4 = x1) (e2 : shapeCast sh r2 h4 = x2) (j : sh.Idx) :
    foldV sh sh4 h4 h a r0 r1 r2 j = add3 (a j) (x0 j) (x1 j) (x2 j) := by
  subst e0 e1 e2
  unfold foldV
  rw [shapeCast_self]
  rfl

/-- The first sum written into the accumulator. -/
theorem acc_foldA (f0 : IdxA → F .f32) (st : Stage) (c : Dev nD) (b s : Fin 2) (hst : st b s = 1)
    (r0 r1 r2 : Vec F (Sh4 128 s) .bf16) (e0 : shapeCast (Sh2 128 s) r0 (casts128 s) = slA I c b s 0)
    (e1 : shapeCast (Sh2 128 s) r1 (casts128 s) = slA I c b s 1) (e2 : shapeCast (Sh2 128 s) r2 (casts128 s) = slA I c b s 2) :
    (accM.access (rectR 128 s _ (inbQ s c b))).write (Elt F) (accF I f0 st c)
      (foldV (Sh2 128 s) (Sh4 128 s) (casts128 s) rfl (rdR (accF I f0 st c) (rectR 128 s _ (inbQ s c b))) r0 r1 r2) Finset.univ
      = accF I f0 (st.set b s 2) c := by
  funext i
  by_cases hi : i ∈ (rectR 128 s _ (inbQ s c b)).set
  · obtain ⟨j, rfl⟩ := mem_idx _ hi
    rw [acc_write_idx, foldV_apply _ _ _ _ _ _ _ _ _ e0 e1 e2]
    have hj := qI_mem b s (coord s c) j
    rw [mem_quadS] at hj
    have hx := rectR_idx_q (i := inbQ s c b) (offQ_eq s c b) j
    simp only [rdR]
    rw [hx]
    unfold accF Stage.set
    simp only [hj.1, hj.2.1, hj.2.2, hst, and_self, if_true]
    unfold Q slA
    simp only [hj.2.1]
  · rw [acc_write_off _ _ _ hi]
    rw [rectR_quad (offQ_eq s c b), mem_quadS] at hi
    unfold accF Stage.set
    by_cases h : bIx i = b ∧ sIx i = s
    · have hq : ¬ qIx i = coord s c := fun hq => hi ⟨h.1, h.2, hq⟩
      simp only [h.1, h.2, hst, and_self, if_true, hq, if_false]
    · simp only [h, if_false]

/-- The second sum written into the accumulator. -/
theorem acc_foldS (f0 : IdxA → F .f32) (st : Stage) (c : Dev nD) (b s : Fin 2) (hst : st b s = 2)
    (r0 r1 r2 : Vec F (Sh4 32 s) .bf16) (e0 : shapeCast (Sh2 32 s) r0 (casts32 s) = slS I c b s 0)
    (e1 : shapeCast (Sh2 32 s) r1 (casts32 s) = slS I c b s 1) (e2 : shapeCast (Sh2 32 s) r2 (casts32 s) = slS I c b s 2) :
    (accM.access (rectR 32 s _ (inbB s c b))).write (Elt F) (accF I f0 st c)
      (foldV (Sh2 32 s) (Sh4 32 s) (casts32 s) rfl (rdR (accF I f0 st c) (rectR 32 s _ (inbB s c b))) r0 r1 r2) Finset.univ
      = accF I f0 (st.set b s 3) c := by
  funext i
  by_cases hi : i ∈ (rectR 32 s _ (inbB s c b)).set
  · obtain ⟨j, rfl⟩ := mem_idx _ hi
    rw [acc_write_idx, foldV_apply _ _ _ _ _ _ _ _ _ e0 e1 e2]
    have hj := fI_mem b s (coord s c) (coord (oth s) c) j
    rw [mem_blkS] at hj
    have hx := rectR_idx_f (i := inbB s c b) (offB_eq s c b) j
    simp only [rdR]
    rw [hx]
    unfold accF Stage.set
    simp only [hj.1, hj.2.1, hj.2.2.1, hj.2.2.2, hst, and_self, if_true]
    unfold Fv slS
    simp only [hj.2.1]
  · rw [acc_write_off _ _ _ hi]
    rw [rectR_blk (offB_eq s c b), mem_blkS] at hi
    unfold accF Stage.set
    by_cases h : bIx i = b ∧ sIx i = s
    · by_cases hq : qIx i = coord s c
      · have hf : ¬ fIx i = coord (oth s) c := fun hf => hi ⟨h.1, h.2, hq, hf⟩
        simp only [h.1, h.2, hst, and_self, if_true, hq, hf, if_false]
      · simp only [h.1, h.2, hst, and_self, if_true, hq, if_false]
    · simp only [h, if_false]

/-- The batch as half words: what is written of it. -/
theorem agb_castP (f0 : IdxA → F .f32) (st : Stage) (c : Dev nD) (b : Fin 2) (hst : ∀ s, st b s = 1) (fg : IdxA → F .bf16)
    (i : IdxA) (hi : i ∈ rowsS b) :
    (agbM.access (rowsR b)).write (Elt F) fg (shapeCast S512x768 (dnV (sh := S512x768) (rdR (accF I f0 st c) (rowsR b)))
      Gen.shapeCasts_S512x768_S512x768) Finset.univ i = B I c i := by
  rw [← rowsR_set] at hi
  obtain ⟨j, rfl⟩ := mem_idx _ hi
  rw [agb_write_idx, shapeCast_self]
  show dn (accF I f0 st c ((rowsR b).idx j)) = dn (P I c ((rowsR b).idx j))
  unfold accF
  rw [bIx_rows, hst]

/-- The block sent in the second step, as half words. -/
theorem cast_sb (f0 : IdxA → F .f32) (st : Stage) (c : Dev nD) (b s : Fin 2) (d : Fin 3) (hst : st b s = 2) :
    dnV (sh := Sh2 32 s) (rdR (accF I f0 st c) (rectR 32 s _ (inbS s c b d))) = slS I (pr (oth s) d c) b s d := by
  rw [slS_tgt]
  funext j
  have hj := fI_mem b s (coord s c) (coord (oth s) (pr (oth s) d c)) j
  rw [mem_blkS] at hj
  show dn (accF I f0 st c ((rectR 32 s _ (inbS s c b d)).idx j)) = dn (Q I c _)
  rw [rectR_idx_f (i := inbS s c b d) (offS_eq s c b d) j]
  unfold accF
  simp only [hj.1, hj.2.1, hj.2.2.1, hst, if_true]

/-- The finished block as half words. -/
theorem agb_castB (f0 : IdxA → F .f32) (st : Stage) (c : Dev nD) (b s : Fin 2) (hst : st b s = 3) (fg : IdxA → F .bf16)
    (i : IdxA) (hi : i ∈ blkS b s (coord s c) (coord (oth s) c)) :
    (agbM.access (rectR 32 s _ (inbB s c b))).write (Elt F) fg
      (shapeCast (Sh2 32 s) (dnV (sh := Sh2 32 s) (rdR (accF I f0 st c) (rectR 32 s _ (inbB s c b)))) rfl) Finset.univ i = AF I i := by
  have hi' := hi
  rw [← rectR_blk (i := inbB s c b) (offB_eq s c b)] at hi'
  obtain ⟨j, rfl⟩ := mem_idx _ hi'
  rw [agb_write_idx, shapeCast_self]
  rw [mem_blkS] at hi
  show dn (accF I f0 st c _) = dn (Fv I (owner _) _)
  unfold accF owner
  simp only [hi.1, hi.2.1, hi.2.2.1, hi.2.2.2, hst, if_true, mkDev_coord]

/-- What is written out. -/
theorem out_write (b : Fin 2) (fo : S2x512x768.Idx → F .f32) (j : S512x768.Idx) :
    upV (sh := S512x768) (rdR (AF I) (rowsR b)) j = up (AF I ((rowsR b).idx j)) := rfl

end Cert.KernelIdeal.Body
-- ==== Proof.Sched.lean ====
/- The protocol: which semaphore counts what, what an arrival hands over, what a device owes at
   first, and the order of the waits. -/
module

public import proofs.«01_k».proof.Proof.Values
public import proofs.«01_k».proof.Proof.Gen.KernelIdeal.Launch
public import Idealize.ShloMosaic.Lib.Pipeline.Launch
public import Idealize.ShloMosaic.Lib.Pipeline.Kit
public import Idealize.ShloMosaic.Lib.Tactic
public import Idealize.ShloMosaic.Lib.Ring.Trips

@[expose] public section

noncomputable section

namespace Cert.KernelIdeal.Body

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (shares3 pointsTo_thirds)

variable {F : FTy → Type} [FloatOps F] [Named F]

/-! ## The resources -/

/-- The names of a cell's duties: a coordinate and a distance (a copy's cell uses one name only). -/
abbrev Dty : Type := Fin 2 × Fin 3
abbrev UB : Type := URounds (GSem nD τ sig) Dty
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-- The copies of a device: phase, batch, part, distance. -/
abbrev Job : Type := Fin 4 × Fin 2 × Fin 2 × Fin 3

/-! ## The cells -/

abbrev barCell (c : Dev nD) : GSem nD τ sig := ((c : Thread nD τ), .reg barS)
abbrev sCell (j : Job) (c : Dev nD) : GSem nD τ sig := ((c : Thread nD τ), .dma (sS j.1 j.2.1 j.2.2.1 j.2.2.2))
abbrev rCell (j : Job) (c : Dev nD) : GSem nD τ sig := ((c : Thread nD τ), .dma (sR j.1 j.2.1 j.2.2.1 j.2.2.2))

/-- The device that the copy goes to. -/
abbrev jT (j : Job) (c : Dev nD) : Dev nD := tgt j.1 j.2.2.1 j.2.2.2 c
/-- The device that the copy comes from. -/
abbrev jS (j : Job) (c : Dev nD) : Dev nD := src j.1 j.2.2.1 j.2.2.2 c

theorem jS_jT (j : Job) (c : Dev nD) : jS j (jT j c) = c := sdr_pr _ _ _
theorem jT_jS (j : Job) (c : Dev nD) : jT j (jS j c) = c := pr_sdr _ _ _

/-- The copy that a semaphore counts, and whether its departure (`0`) or its arrival (`1`). -/
def decQ (q : DmaSem sig) : Option (Fin 2 × Job) :=
  if q.val < 6 then none else
    let n := q.val - 6
    some (⟨n / 12 % 2, by omega⟩, ⟨n / 24 % 4, by omega⟩, ⟨n / 6 % 2, by omega⟩, ⟨n / 3 % 2, by omega⟩, ⟨n % 3, by omega⟩)

theorem decQ_s (j : Job) : decQ (sS j.1 j.2.1 j.2.2.1 j.2.2.2) = some (0, j) := by revert j; decide +kernel
theorem decQ_r (j : Job) : decQ (sR j.1 j.2.1 j.2.2.1 j.2.2.2) = some (1, j) := by revert j; decide +kernel

/-- What a cell counts. -/
def decS (sm : SemLoc sig) : Option (Option (Fin 2 × Job)) :=
  match sm with
  | .reg s => if s = barS then some none else none
  | .dma q => (decQ q).map some

theorem decS_bar : decS (.reg barS) = some none := by show (if barS = barS then some none else none) = _; rw [if_pos rfl]
theorem decS_s (j : Job) : decS (.dma (sS j.1 j.2.1 j.2.2.1 j.2.2.2)) = some (some (0, j)) := congrArg (Option.map some) (decQ_s j)
theorem decS_r (j : Job) : decS (.dma (sR j.1 j.2.1 j.2.2.1 j.2.2.2)) = some (some (1, j)) := congrArg (Option.map some) (decQ_r j)

/-! ## The amounts -/

/-- What a copy of a phase's part adds to its two semaphores. -/
def amt (j : Job) : ℕ :=
  match j.1 with
  | 0 => (rxV j.2.2.1 0 0).view.dmaCredit
  | 1 => (ryV j.2.2.1 0 0).view.dmaCredit
  | 2 => (agV 32 j.2.2.1 _ (inbG j.2.2.1 0 0)).view.dmaCredit
  | 3 => (agV 128 j.2.2.1 _ (inbH j.2.2.1 0 0)).view.dmaCredit

theorem amt_rx (b s : Fin 2) (d : Fin 3) : (rxV s b d).view.dmaCredit = amt (0, b, s, d) := by
  fin_cases s <;> rfl
theorem amt_ry (b s : Fin 2) (d : Fin 3) : (ryV s b d).view.dmaCredit = amt (1, b, s, d) := by
  fin_cases s <;> rfl
theorem amt_sb (b s : Fin 2) (d : Fin 3) : (sbV s b d).view.dmaCredit = amt (1, b, s, d) := by
  fin_cases s <;> rfl
theorem amt_agA (b s : Fin 2) (d : Fin 3) (off) (i) : (agV 128 s off i).view.dmaCredit = amt (0, b, s, d) := by
  fin_cases s <;> rfl
theorem amt_agG (b s : Fin 2) (d : Fin 3) (off) (i) : (agV 32 s off i).view.dmaCredit = amt (2, b, s, d) := by
  fin_cases s <;> rfl
theorem amt_agH (b s : Fin 2) (d : Fin 3) (off) (i) : (agV 128 s off i).view.dmaCredit = amt (3, b, s, d) := by
  fin_cases s <;> rfl

theorem amt_pos (j : Job) : 0 < amt j := by
  obtain ⟨ph, b, s, d⟩ := j
  fin_cases ph
  · exact View.dmaCredit_pos _ (pos128 s)
  · exact View.dmaCredit_pos _ (pos32 s)
  · exact View.dmaCredit_pos _ (pos32 s)
  · exact View.dmaCredit_pos _ (pos128 s)

/-! ## The payloads -/

section Pay

/-- Device `t`'s half-word buffer on `S` at share `q`. -/
def agPt (t : Dev nD) (S : Finset IdxA) (q : PosShare TreeShare) (f : IdxA → F .bf16) : sProp 𝕄 :=
  (agbM.view.loc (t : Thread nD τ)) ↦[S]{q} f
/-- The same at some contents. -/
def agEx (t : Dev nD) (S : Finset IdxA) : sProp 𝕄 := iprop(∃ f : IdxA → F .bf16, agPt t S fullShare f)

/-- A view of device `t` at some contents. -/
def slot (t : Dev nD) {sh : Shape} (m : Memref sig .tc .vmem sh .bf16) : sProp 𝕄 :=
  iprop(∃ X : sh.Idx → F .bf16, owns (t : Thread nD τ) m fullShare X)

instance agPt_storable (t : Dev nD) (S q f) : BI.Storable (upEmb : UEmb _ 𝕄) (agPt (F := F) t S q f) := by unfold agPt; infer_instance
instance agEx_storable (t : Dev nD) (S) : BI.Storable (upEmb : UEmb _ 𝕄) (agEx (F := F) t S) := by unfold agEx; infer_instance
instance slot_storable (t : Dev nD) {sh : Shape} (m : Memref sig .tc .vmem sh .bf16) : BI.Storable (upEmb : UEmb _ 𝕄) (slot (F := F) t m) := by
  unfold slot; infer_instance

variable (I : Ins F)

/-- What the signal of the device at distance `d` along coordinate `k` hands to `p`: that device's slots for `p`'s copies. -/
def barPay (p : Dev nD) (x : Dty) : sProp 𝕄 :=
  iprop((slot (F := F) (pr x.1 x.2 p) (rxV x.1 0 x.2) ∗ slot (F := F) (pr x.1 x.2 p) (rxV x.1 1 x.2))
    ∗ (slot (F := F) (pr x.1 x.2 p) (ryV (oth x.1) 0 x.2) ∗ slot (F := F) (pr x.1 x.2 p) (ryV (oth x.1) 1 x.2)))

/-- What a departure hands back to the sender. -/
def sPay (j : Job) (c : Dev nD) : sProp 𝕄 :=
  match j with
  | (0, _, _, _) => iprop(emp)
  | (1, b, s, d) => slot (F := F) c (sbV s b d)
  | (2, b, s, d) => agPt c (blkS b s (coord s c) (coord (oth s) c)) (shares3 fullShare d) (AF I)
  | (3, b, s, d) => agPt c (quadS b s (coord s c)) (shares3 fullShare d) (AF I)

/-- What an arrival hands to the device it comes to. -/
def rPay (j : Job) (t : Dev nD) : sProp 𝕄 :=
  match j with
  | (0, b, s, d) => iprop(owns (t : Thread nD τ) (rxV s b d) fullShare (slA I t b s d) ∗ agEx (F := F) (sdr s d t) (quadS b s (coord s t)))
  | (1, b, s, d) => iprop(owns (t : Thread nD τ) (ryV s b d) fullShare (slS I t b s d)
      ∗ agEx (F := F) (sdr (oth s) d t) (blkS b s (coord s t) (coord (oth s) t)))
  | (2, b, s, d) => agPt t (blkS b s (coord s t) (coord (oth s) (sdr (oth s) d t))) fullShare (AF I)
  | (3, b, s, d) => agPt t (quadS b s (coord s (sdr s d t))) fullShare (AF I)

instance barPay_storable (p : Dev nD) (x : Dty) : BI.Storable (upEmb : UEmb _ 𝕄) (barPay (F := F) p x) := by unfold barPay; infer_instance
instance sPay_storable (j : Job) (c : Dev nD) : BI.Storable (upEmb : UEmb _ 𝕄) (sPay I j c) := by
  obtain ⟨ph, b, s, d⟩ := j
  fin_cases ph <;> (unfold sPay; dsimp only; infer_instance)
instance rPay_storable (j : Job) (c : Dev nD) : BI.Storable (upEmb : UEmb _ 𝕄) (rPay I j c) := by
  obtain ⟨ph, b, s, d⟩ := j
  fin_cases ph <;> (unfold rPay; dsimp only; infer_instance)

/-- The duties, amounts and payloads of a cell that counts `x`. -/
def dutyOf (x : Option (Option (Fin 2 × Job))) : Finset Dty :=
  match x with | none => ∅ | some none => Finset.univ | some (some _) => {(0, 0)}
def amtOf (x : Option (Option (Fin 2 × Job))) : ℕ :=
  match x with | none => 1 | some none => 1 | some (some (_, j)) => amt j
def payOf (c : Dev nD) (d : Dty) (x : Option (Option (Fin 2 × Job))) : sProp 𝕄 :=
  match x with
  | none => iprop(emp)
  | some none => barPay (F := F) c d
  | some (some (0, j)) => sPay I j c
  | some (some (1, j)) => rPay I j c

/-- The schedule: one round in each cell. -/
def Rd : Rounds.Schedule (GSem nD τ sig) Dty 𝕄 where
  duties g r := if r = 0 ∧ g.1.2 = .tc then dutyOf (decS g.2) else ∅
  unitless _ := False
  amount g _ _ := amtOf (decS g.2)
  payload g _ d := payOf I g.1.1 d (decS g.2)
  amount_pos g _ _ _ := by
    unfold amtOf
    split
    · exact Nat.one_pos
    · exact Nat.one_pos
    · exact amt_pos _

instance Rd_storable (g : GSem nD τ sig) (r : ℕ) (d : Dty) : BI.Storable (upEmb : UEmb _ 𝕄) ((Rd I).payload g r d) := by
  show BI.Storable upEmb (payOf I g.1.1 d (decS g.2))
  unfold payOf
  split <;> infer_instance

variable (j : Job) (c : Dev nD)

theorem duties_bar : (Rd I).duties (barCell c) 0 = Finset.univ := by
  unfold Rd; dsimp only; rw [if_pos ⟨rfl, rfl⟩, decS_bar]; rfl
theorem duties_s : (Rd I).duties (sCell j c) 0 = {(0, 0)} := by
  unfold Rd; dsimp only; rw [if_pos ⟨rfl, rfl⟩, decS_s]; rfl
theorem duties_r : (Rd I).duties (rCell j c) 0 = {(0, 0)} := by
  unfold Rd; dsimp only; rw [if_pos ⟨rfl, rfl⟩, decS_r]; rfl
theorem duties_later (g : GSem nD τ sig) : ∀ r, 1 ≤ r → (Rd I).duties g r = ∅ := fun r hr => if_neg fun h => by omega

theorem amount_bar (d : Dty) : (Rd I).amount (barCell c) 0 d = 1 := by
  unfold Rd; dsimp only
  rw [decS_bar]; rfl
theorem amount_s (d : Dty) : (Rd I).amount (sCell j c) 0 d = amt j := by
  unfold Rd; dsimp only
  rw [decS_s]; rfl
theorem amount_r (d : Dty) : (Rd I).amount (rCell j c) 0 d = amt j := by
  unfold Rd; dsimp only
  rw [decS_r]; rfl

theorem expect_bar : (Rd I).expect (barCell c) 0 = 6 := by
  unfold Schedule.expect Schedule.amountOf
  rw [duties_bar, Finset.sum_congr rfl fun d _ => amount_bar I c d, Finset.sum_const, Finset.card_univ]; rfl
theorem expect_s : (Rd I).expect (sCell j c) 0 = amt j := by
  unfold Schedule.expect Schedule.amountOf; rw [duties_s, Finset.sum_singleton, amount_s]
theorem expect_r : (Rd I).expect (rCell j c) 0 = amt j := by
  unfold Schedule.expect Schedule.amountOf; rw [duties_r, Finset.sum_singleton, amount_r]

theorem payload_bar (d : Dty) : (Rd I).payload (barCell c) 0 d = barPay c d := by
  unfold Rd; dsimp only
  rw [decS_bar]; rfl
theorem payload_s (d : Dty) : (Rd I).payload (sCell j c) 0 d = sPay I j c := by
  unfold Rd; dsimp only
  rw [decS_s]; rfl
theorem payload_r (d : Dty) : (Rd I).payload (rCell j c) 0 d = rPay I j c := by
  unfold Rd; dsimp only
  rw [decS_r]; rfl

theorem rest_s : bigSep ((Rd I).duties (sCell j c) 0 \ ∅) (fun d => (Rd I).payload (sCell j c) 0 d) = sPay I j c := by
  rw [Finset.sdiff_empty, duties_s, bigSep_singleton, payload_s]
theorem rest_r : bigSep ((Rd I).duties (rCell j c) 0 \ ∅) (fun d => (Rd I).payload (rCell j c) 0 d) = rPay I j c := by
  rw [Finset.sdiff_empty, duties_r, bigSep_singleton, payload_r]
theorem rest_bar : bigSep ((Rd I).duties (barCell c) 0 \ ∅) (fun d => (Rd I).payload (barCell c) 0 d)
    = iprop(barPay (F := F) c (0, 0) ∗ barPay (F := F) c (0, 1) ∗ barPay (F := F) c (0, 2) ∗ barPay (F := F) c (1, 0) ∗ barPay (F := F) c (1, 1) ∗ barPay (F := F) c (1, 2)) := by
  rw [Finset.sdiff_empty, duties_bar, bigSep_univ_eq_bigSepL [(0, 0), (0, 1), (0, 2), (1, 0), (1, 1), (1, 2)] (by decide) (by decide)]
  simp only [bigSepL_cons_cons, bigSepL_singleton, payload_bar]
  rfl

end Pay

/-! ## The order -/

def L (g : GSem nD τ sig) : Finset Unit := if g.1.2 = .tc then {()} else ∅

/-- The place of a batch's phase in the order of the waits. -/
def jLv (j : Job) : ℕ :=
  match j.1, j.2.1 with
  | 0, 0 => 2 | 1, 0 => 3 | 0, 1 => 4 | 2, 0 => 5 | 1, 1 => 6 | 3, 0 => 7 | 2, 1 => 8 | 3, 1 => 9

def lvOf (x : Option (Option (Fin 2 × Job))) : ℕ :=
  match x with | none => 0 | some none => 1 | some (some (0, _)) => 0 | some (some (1, j)) => jLv j
def lv (g : GSem nD τ sig) (_ : Unit) : ℕ := lvOf (decS g.2)

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := by unfold lv; rw [decS_bar]; rfl
theorem lv_s (j : Job) (c : Dev nD) : lv (sCell j c) () = 0 := by unfold lv; rw [decS_s]; rfl
theorem lv_r (j : Job) (c : Dev nD) : lv (rCell j c) () = jLv j := by unfold lv; rw [decS_r]; rfl

/-- What a device owes for copies not yet made. -/
def owe (c : Dev nD) : List Job → CellTallies nD τ sig Unit
  | [] => 0
  | j :: l => owe c l + tallyAt (rCell j (jT j c)) () (amt j)

/-- The same, and the signals not yet given. -/
def oweB (c : Dev nD) (l : List Job) : List Dty → CellTallies nD τ sig Unit
  | [] => owe c l
  | x :: xs => oweB c l xs + tallyAt (barCell (pr x.1 x.2 c)) () 1

theorem owe_pos {c : Dev nD} {l : List Job} {g : GSem nD τ sig} {u : Unit} (h : 0 < owe c l g u) : ∃ j ∈ l, g = rCell j (jT j c) := by
  induction l with
  | nil => exact absurd h (Nat.lt_irrefl 0)
  | cons j l ih =>
    unfold owe at h
    rw [Pi.add_apply, Finsupp.add_apply, tallyAt_apply] at h
    by_cases hg : g = rCell j (jT j c) ∧ u = ()
    · exact ⟨j, List.mem_cons_self, hg.1⟩
    · rw [if_neg hg] at h
      obtain ⟨j', hj', e⟩ := ih h
      exact ⟨j', List.mem_cons_of_mem _ hj', e⟩

theorem oweB_pos {c : Dev nD} {l : List Job} {xs : List Dty} {g : GSem nD τ sig} {u : Unit} (h : 0 < oweB c l xs g u) :
    (∃ j ∈ l, g = rCell j (jT j c)) ∨ ∃ x ∈ xs, g = barCell (pr x.1 x.2 c) := by
  induction xs with
  | nil => exact .inl (owe_pos h)
  | cons x xs ih =>
    unfold oweB at h
    rw [Pi.add_apply, Finsupp.add_apply, tallyAt_apply] at h
    by_cases hg : g = barCell (pr x.1 x.2 c) ∧ u = ()
    · exact .inr ⟨x, List.mem_cons_self, hg.1⟩
    · rw [if_neg hg] at h
      rcases ih h with hl | ⟨x', hx', e⟩
      · exact .inl hl
      · exact .inr ⟨x', List.mem_cons_of_mem _ hx', e⟩

theorem two_le_jLv (j : Job) : 2 ≤ jLv j := by revert j; decide

/-- A wait is allowed whose place is before that of everything owed. -/
theorem mayWait_owe (c : Dev nD) (sm : SemLoc sig) (n : ℕ) (hn : lv ((c : Thread nD τ), sm) () = n) (l : List Job) (h : ∀ j ∈ l, n < jLv j) :
    (levAts L lv : sProp 𝕄) ⊢ MayWait (c : Thread nD τ) sm () (owe c l) :=
  MayOwe.of_cut (L := L) (lev := lv) n (fun p hp => by rw [Finset.mem_singleton.mp hp, L_tc]; exact Finset.mem_singleton_self _)
    (fun g u hg => by obtain ⟨j, hj, rfl⟩ := owe_pos hg; exact Finset.mem_singleton_self _)
    (fun p hp => by rw [Finset.mem_singleton.mp hp]; exact hn.le)
    (fun g u hg => by obtain ⟨j, hj, rfl⟩ := owe_pos hg; show n < lv (rCell j _) (); rw [lv_r]; exact h j hj)

/-- A wait at place zero is allowed while signals are owed too. -/
theorem mayWait_oweB (c : Dev nD) (sm : SemLoc sig) (hn : lv ((c : Thread nD τ), sm) () = 0) (l : List Job) (xs : List Dty) :
    (levAts L lv : sProp 𝕄) ⊢ MayWait (c : Thread nD τ) sm () (oweB c l xs) :=
  MayOwe.of_cut (L := L) (lev := lv) 0 (fun p hp => by rw [Finset.mem_singleton.mp hp, L_tc]; exact Finset.mem_singleton_self _)
    (fun g u hg => by rcases oweB_pos hg with ⟨j, hj, rfl⟩ | ⟨x, hx, rfl⟩ <;> exact Finset.mem_singleton_self _)
    (fun p hp => by rw [Finset.mem_singleton.mp hp]; exact hn.le)
    (fun g u hg => by
      rcases oweB_pos hg with ⟨j, hj, rfl⟩ | ⟨x, hx, rfl⟩
      · show 0 < lv (rCell j _) (); rw [lv_r]; exact lt_of_lt_of_le Nat.two_pos (two_le_jLv j)
      · show 0 < lv (barCell _) (); rw [lv_bar]; exact Nat.one_pos)

/-- The copies in the order in which they are made. -/
abbrev grp (ph : Fin 4) (b s : Fin 2) : List Job := [(ph, b, s, 0), (ph, b, s, 1), (ph, b, s, 2)]
def allJobs : List Job :=
  grp 0 0 0 ++ (grp 0 0 1 ++ (grp 1 0 0 ++ (grp 1 0 1 ++ (grp 0 1 0 ++ (grp 0 1 1 ++ (grp 2 0 0 ++ (grp 2 0 1 ++ (grp 1 1 0 ++ (grp 1 1 1
    ++ (grp 3 0 0 ++ (grp 3 0 1 ++ (grp 2 1 0 ++ (grp 2 1 1 ++ (grp 3 1 0 ++ (grp 3 1 1 ++ [])))))))))))))))
/-- The signals in the order in which they are given. -/
def allSigs : List Dty := [(0, 0), (1, 0), (0, 1), (1, 1), (0, 2), (1, 2)]

/-- What a device owes at first. -/
def O₀ (c : Dev nD) : CellTallies nD τ sig Unit := oweB c allJobs allSigs

end Cert.KernelIdeal.Body
-- ==== Proof.Steps.lean ====
/- The steps of the protocol on one device: a signal, a copy of each phase, the two waits of each
   copy. Each is stated from what it needs to what it leaves. -/
module

public import proofs.«01_k».proof.Proof.Sched

@[expose] public section

noncomputable section

namespace Cert.KernelIdeal.Body

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (shares3 pointsTo_thirds)

variable {F : FTy → Type} [FloatOps F] [Named F]

local notation "𝕄" => MT nD τ sig Unit (Elt F) ℕ UU ℕ

abbrev 𝒱₀ : Variants := Variants.none

/-- The weakest precondition of a program of device `c`'s core. -/
abbrev wpc (c : Dev nD) {α : Type} (p : Pr F α) (Q : α → sProp 𝕄) : sProp 𝕄 :=
  wp frame (wpE (defs₀ (F := F)) 𝒱₀ (c : Thread nD τ) none) Set.univ p Q

/-- The cells by what they count. -/
abbrev CellIx : Type := Dev nD × Option (Fin 2 × Job)
instance : DecidableEq Job := inferInstance
instance : DecidableEq (Option (Fin 2 × Job)) := inferInstance
instance : DecidableEq CellIx := instDecidableEqProd
instance : Fintype CellIx := inferInstanceAs (Fintype (Dev nD × Option (Fin 2 × Job)))
abbrev kcell (x : CellIx) : GSem nD τ sig :=
  match x with
  | (c, none) => barCell c
  | (c, some (0, j)) => sCell j c
  | (c, some (1, j)) => rCell j c

variable (I : Ins F) (K : CellIx → ℕ)

/-- What every device knows of a cell: its invariant, and that its round has begun. -/
abbrev known (x : CellIx) : sProp 𝕄 := iprop(cellInv ER (Rd I) (K x) (kcell x) ∗ reached ER (kcell x) 0)
/-- The places of the waits. -/
def Lev : sProp 𝕄 := levAts L lv
instance Lev_persistent : BI.Persistent (Lev (F := F)) := by unfold Lev; infer_instance
/-- What every device knows. -/
def Ev : sProp 𝕄 := iprop((bigSep (Finset.univ : Finset CellIx) fun x => known I K x) ∗ Lev (F := F))

instance Ev_persistent : BI.Persistent (Ev I K) := by unfold Ev; infer_instance

theorem Ev_at (x : CellIx) : Ev I K ⊢ known I K x := by
  unfold Ev
  exact (sep_elim_left).trans (bigSep_elim (Finset.mem_univ x))
theorem Ev_may (c : Dev nD) (sm : SemLoc sig) (n : ℕ) (hn : lv ((c : Thread nD τ), sm) () = n) (l : List Job) (h : ∀ j ∈ l, n < jLv j) :
    Ev I K ⊢ (MayWait (c : Thread nD τ) sm () (owe c l) : sProp 𝕄) := by
  unfold Ev Lev
  exact (sep_elim_right).trans (mayWait_owe c sm n hn l h)
theorem Ev_mayB (c : Dev nD) (sm : SemLoc sig) (hn : lv ((c : Thread nD τ), sm) () = 0) (l : List Job) (xs : List Dty) :
    Ev I K ⊢ (MayWait (c : Thread nD τ) sm () (oweB c l xs) : sProp 𝕄) := by
  unfold Ev Lev
  exact (sep_elim_right).trans (mayWait_oweB c sm hn l xs)

theorem Ev_s (j : Job) (c : Dev nD) : Ev I K ⊢ iprop(cellInv ER (Rd I) (K (c, some (0, j))) (sCell j c) ∗ reached ER (sCell j c) 0) := Ev_at I K (c, some (0, j))
theorem Ev_r (j : Job) (c : Dev nD) : Ev I K ⊢ iprop(cellInv ER (Rd I) (K (c, some (1, j))) (rCell j c) ∗ reached ER (rCell j c) 0) := Ev_at I K (c, some (1, j))
theorem Ev_bar (c : Dev nD) : Ev I K ⊢ iprop(cellInv ER (Rd I) (K (c, none)) (barCell c) ∗ reached ER (barCell c) 0) := Ev_at I K (c, none)

/-! ## What a device holds for its copies -/

/-- It still owes the copies of `l`. -/
def owing (c : Dev nD) (l : List Job) : sProp 𝕄 := iprop(∃ W, owes (c : Thread nD τ) (owe c l) W)
/-- What a copy takes. -/
def sKit (j : Job) (c : Dev nD) : sProp 𝕄 := iprop(dutyTok ER (sCell j c) 0 (0, 0) ∗ dutyTok ER (rCell j (jT j c)) 0 (0, 0))
/-- What the two waits take. -/
def wKit (j : Job) (c : Dev nD) : sProp 𝕄 :=
  iprop(atPos ER (sCell j c) 0 ∅ 0 ∗ atPos ER (rCell j c) 0 ∅ 0 ∗ cred (tallyAt (rCell j c) () (amt j)))
/-- That the copy has been made. -/
def sent (j : Job) (c : Dev nD) : sProp 𝕄 := cred (tallyAt (sCell j c) () (amt j))
/-- What the two waits leave: both counters at zero. -/
def dnKit (j : Job) (c : Dev nD) : sProp 𝕄 := iprop(semVal (sCell j c) 0 ∗ semVal (rCell j c) 0)

/-! ## Sequencing -/

theorem wpc_seq {c : Dev nD} {α β : Type} {p : Pr F α} {k : α → Pr F β} {R : α → sProp 𝕄} {pre : sProp 𝕄} {Q : β → sProp 𝕄}
    (h : pre ⊢ wpc c p R) : pre ⊢ iprop((∀ a, R a -∗ wpc c (k a) Q) -∗ wpc c (p >>= k) Q) := by
  unfold wpc
  rw [wp_bind]
  iintro H Hk
  iapply (wp_wand (Fr := frame) (wpE := wpE (defs₀ (F := F)) 𝒱₀ (c : Thread nD τ) none) (E := Set.univ) (p := p) (Q := R)) $$ [H]
  · iapply h; iexact H
  · iexact Hk

/-! ## Copies and waits in general -/

/-- A copy whose source comes back with the departure; `G` goes with the arrival. -/
theorem snd_spec (j : Job) (c t : Dev nD) (ht : t = jT j c) (l : List Job) {sh : Shape} (src dst : Memref sig .tc .vmem sh .bf16)
    (hs : src.view.WordExact) (hd : dst.view.WordExact) (q : PosShare TreeShare) (fs : Buf (Elt F) (src.view.loc (c : Thread nD τ)))
    (fd : Buf (Elt F) (dst.view.loc (jT j c : Thread nD τ))) (G : sProp 𝕄) (hN : dst.view.amount (.dma (sR j.1 j.2.1 j.2.2.1 j.2.2.2)) = amt j)
    (hp1 : (src.view.loc (c : Thread nD τ) ↦[src.view.set]{q} fs : sProp 𝕄) ⊢ sPay I j c)
    (hp2 : (iprop((dst.view.loc (jT j c : Thread nD τ) ↦[dst.view.set]{fullShare} (dst.view.write (Elt F) fd (src.view.read (Elt F) fs) Finset.univ)) ∗ G) : sProp 𝕄)
      ⊢ rPay I j (jT j c)) :
    iprop(Ev I K ∗ owing c (j :: l) ∗ sKit j c ∗ (src.view.loc (c : Thread nD τ) ↦[src.view.set]{q} fs)
        ∗ ((dst.view.loc (jT j c : Thread nD τ) ↦[dst.view.set]{fullShare} fd) ∗ G))
      ⊢ wpc c (snd src dst t (sS j.1 j.2.1 j.2.2.1 j.2.2.2) (sR j.1 j.2.1 j.2.2.1 j.2.2.2) hs hd) (fun _ => iprop(owing c l ∗ sent j c)) := by
  subst ht
  unfold owing sKit sent
  iintro ⟨#HE, ⟨%W, HO⟩, ⟨Ht1, Ht2⟩, Hs, Hd⟩
  ihave #H1 := (Ev_s I K j c) $$ HE
  ihave #H2 := (Ev_r I K j (jT j c)) $$ HE
  icases H1 with ⟨H1i, H1r⟩
  icases H2 with ⟨H2i, H2r⟩
  iapply (Rounds.wp_send_pointsTo_with 𝒱₀ ER (Rd I) (c : Thread nD τ) none (κ₁ := K (c, some (0, j))) (κ₂ := K (jT j c, some (1, j)))
    (r₁ := 0) (r₂ := 0) (d₁ := (0, 0)) (d₂ := (0, 0)) (fd := fd) (F := G)
    (by rw [duties_s]; exact Finset.mem_singleton_self _) (by rw [duties_r]; exact Finset.mem_singleton_self _)
    () () (amt j) hN (amount_s I j c _) (amount_r I j (jT j c) _) (owe c l) rfl (W := W)
    (by rw [payload_s]; exact hp1) (by rw [payload_r]; exact hp2)) $$ [Hs Hd HO Ht1 Ht2]
  · isplitr; · iexact H1i
    isplitr; · iexact H2i
    isplitl [Hs]; · iexact Hs
    isplitl [Hd]; · iexact Hd
    isplitl [HO]; · iexact HO
    isplitl [Ht1]; · iexact Ht1
    isplitr; · iexact H1r
    isplitl [Ht2]; · iexact Ht2
    iexact H2r
  iintro ⟨Hc, HO⟩
  iapply (le_wp_ret (Fr := frame))
  isplitl [HO]
  · iexists W; iexact HO
  iexact Hc

/-- A copy whose source comes with the arrival. -/
theorem snd_landing_spec (j : Job) (c t : Dev nD) (ht : t = jT j c) (l : List Job) {sh : Shape} (src dst : Memref sig .tc .vmem sh .bf16)
    (hs : src.view.WordExact) (hd : dst.view.WordExact) (q : PosShare TreeShare) (fs : Buf (Elt F) (src.view.loc (c : Thread nD τ)))
    (fd : Buf (Elt F) (dst.view.loc (jT j c : Thread nD τ))) (hN : dst.view.amount (.dma (sR j.1 j.2.1 j.2.2.1 j.2.2.2)) = amt j)
    (hp1 : (emp : sProp 𝕄) ⊢ sPay I j c)
    (hp2 : (iprop((dst.view.loc (jT j c : Thread nD τ) ↦[dst.view.set]{fullShare} (dst.view.write (Elt F) fd (src.view.read (Elt F) fs) Finset.univ))
        ∗ (src.view.loc (c : Thread nD τ) ↦[src.view.set]{q} fs)) : sProp 𝕄)
      ⊢ rPay I j (jT j c)) :
    iprop(Ev I K ∗ owing c (j :: l) ∗ sKit j c ∗ (src.view.loc (c : Thread nD τ) ↦[src.view.set]{q} fs)
        ∗ (dst.view.loc (jT j c : Thread nD τ) ↦[dst.view.set]{fullShare} fd))
      ⊢ wpc c (snd src dst t (sS j.1 j.2.1 j.2.2.1 j.2.2.2) (sR j.1 j.2.1 j.2.2.1 j.2.2.2) hs hd) (fun _ => iprop(owing c l ∗ sent j c)) := by
  subst ht
  unfold owing sKit sent
  iintro ⟨#HE, ⟨%W, HO⟩, ⟨Ht1, Ht2⟩, Hs, Hd⟩
  ihave #H1 := (Ev_s I K j c) $$ HE
  ihave #H2 := (Ev_r I K j (jT j c)) $$ HE
  icases H1 with ⟨H1i, H1r⟩
  icases H2 with ⟨H2i, H2r⟩
  iapply (Rounds.wp_send_landing_pointsTo 𝒱₀ ER (Rd I) (c : Thread nD τ) none (κ₁ := K (c, some (0, j))) (κ₂ := K (jT j c, some (1, j)))
    (r₁ := 0) (r₂ := 0) (d₁ := (0, 0)) (d₂ := (0, 0)) (fd := fd)
    (by rw [duties_s]; exact Finset.mem_singleton_self _) (by rw [duties_r]; exact Finset.mem_singleton_self _)
    () () (amt j) hN (amount_s I j c _) (amount_r I j (jT j c) _) (owe c l) rfl (W := W)
    (by rw [payload_s]; exact hp1) (by rw [payload_r]; exact hp2)) $$ [Hs Hd HO Ht1 Ht2]
  · isplitr; · iexact H1i
    isplitr; · iexact H2i
    isplitl [Hs]; · iexact Hs
    isplitl [Hd]; · iexact Hd
    isplitl [HO]; · iexact HO
    isplitl [Ht1]; · iexact Ht1
    isplitr; · iexact H1r
    isplitl [Ht2]; · iexact Ht2
    iexact H2r
  iintro ⟨Hc, HO⟩
  iapply (le_wp_ret (Fr := frame))
  isplitl [HO]
  · iexists W; iexact HO
  iexact Hc

/-- The two waits of a copy slot: the departure's and the arrival's payloads. -/
theorem wt_spec (j : Job) (c : Dev nD) (l : List Job) (hl : ∀ j' ∈ l, jLv j < jLv j') {sh : Shape} (src dst : Memref sig .tc .vmem sh .bf16)
    (hs : src.view.WordExact) (hd : dst.view.WordExact) (hNs : src.view.dmaCredit = amt j) (hNd : dst.view.dmaCredit = amt j) :
    iprop(Ev I K ∗ owing c l ∗ wKit j c ∗ sent j c)
      ⊢ wpc c (wt src dst (sS j.1 j.2.1 j.2.2.1 j.2.2.2) (sR j.1 j.2.1 j.2.2.1 j.2.2.2) hs hd)
          (fun _ => iprop(owing c l ∗ dnKit j c ∗ sPay I j c ∗ rPay I j c)) := by
  unfold wpc wt
  rw [wp_bind]
  unfold owing wKit sent dnKit
  iintro ⟨#HE, ⟨%W, HO⟩, ⟨Ha1, Ha2, Hc2⟩, Hc1⟩
  ihave #H1 := (Ev_s I K j c) $$ HE
  ihave #H2 := (Ev_r I K j c) $$ HE
  icases H1 with ⟨H1i, H1r⟩
  icases H2 with ⟨H2i, H2r⟩
  iapply (Rounds.wp_wait_rest_token 𝒱₀ ER (Rd I) (c : Thread nD τ) none (κ := K (c, some (0, j)))
      (wpE_waitDma2_eq 𝒱₀ (c : Thread nD τ) none Set.univ) (Set.mem_univ _) () (O := owe c l) (W := W) (R := 0) (m := 0) (T := ∅)
      (by rw [Nat.zero_add, expect_s]; exact hNs)) $$ [Hc1 HO Ha1]
  · isplitr; · iexact H1i
    isplitl [Hc1]; · rw [hNs]; iexact Hc1
    isplitl [HO]; · iexact HO
    isplitr; · iapply (Ev_may I K c (SemLoc.dma (sS j.1 j.2.1 j.2.2.1 j.2.2.2)) 0 (lv_s j c) l (fun j' _ => lt_of_lt_of_le Nat.two_pos (two_le_jLv j'))); iexact HE
    iexact Ha1
  iintro ⟨HO, Ha1, -, Hp1⟩
  iapply (le_wp_ret (Fr := frame))
  iapply (Rounds.wp_wait_rest_token 𝒱₀ ER (Rd I) (c : Thread nD τ) none (κ := K (c, some (1, j)))
      (wpE_waitDma2_eq 𝒱₀ (c : Thread nD τ) none Set.univ) (Set.mem_univ _) () (O := owe c l)
      (W := insert (SemLoc.dma (sS j.1 j.2.1 j.2.2.1 j.2.2.2), ()) W) (R := 0) (m := 0) (T := ∅)
      (by rw [Nat.zero_add, expect_r]; exact hNd)) $$ [Hc2 HO Ha2]
  · isplitr; · iexact H2i
    isplitl [Hc2]; · rw [hNd]; iexact Hc2
    isplitl [HO]; · iexact HO
    isplitr; · iapply (Ev_may I K c (SemLoc.dma (sR j.1 j.2.1 j.2.2.1 j.2.2.2)) (jLv j) (lv_r j c) l hl); iexact HE
    iexact Ha2
  iintro ⟨HO, Ha2, -, Hp2⟩
  ihave Hp1 := (Entails.of_eq (rest_s I j c)) $$ Hp1
  ihave Hp2 := (Entails.of_eq (rest_r I j c)) $$ Hp2
  imod (Rounds.cell_close ER (Rd I) (Set.mem_univ (K (c, some (0, j)))) (fun h => h) (R := 0 + 1) (duties_later I (sCell j c))) $$ [Ha1] with Hz1
  · isplitr; · iexact H1i
    iexact Ha1
  imod (Rounds.cell_close ER (Rd I) (Set.mem_univ (K (c, some (1, j)))) (fun h => h) (R := 0 + 1) (duties_later I (rCell j c))) $$ [Ha2] with Hz2
  · isplitr; · iexact H2i
    iexact Ha2
  iapply (le_wp_ret (Fr := frame))
  isplitl [HO]
  · iexists _; iexact HO
  isplitl [Hz1 Hz2]
  · isplitl [Hz1] <;> iassumption
  isplitl [Hp1] <;> iassumption

end Cert.KernelIdeal.Body
-- ==== Proof.Phases.lean ====
/- The copies of the four phases: what each hands over, and the three copies of a phase's part
   together. -/
module

public import proofs.«01_k».proof.Proof.Steps

@[expose] public section

noncomputable section

namespace Cert.KernelIdeal.Body

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (shares3 pointsTo_thirds)

variable {F : FTy → Type} [FloatOps F] [Named F]

local notation "𝕄" => MT nD τ sig Unit (Elt F) ℕ UU ℕ

variable (I : Ins F) (K : CellIx → ℕ)

theorem agV_set (h : ℕ) (s : Fin 2) (off) (i) : (agV h s off i).view.set = (rectR h s off i).set :=
  View.set_slice_whole cc0_scratch1 _
theorem setA (c : Dev nD) (b s : Fin 2) (d : Fin 3) : (agV 128 s _ (inbA s c b d)).view.set = quadS b s (coord s (pr s d c)) := by
  rw [agV_set, rectR_quad (offA_eq s c b d)]
theorem setG (c : Dev nD) (b s : Fin 2) : (agV 32 s _ (inbG s c b)).view.set = blkS b s (coord s c) (coord (oth s) c) := by
  rw [agV_set, rectR_blk (offG_eq s c b)]
theorem setH (c : Dev nD) (b s : Fin 2) : (agV 128 s _ (inbH s c b)).view.set = quadS b s (coord s c) := by
  rw [agV_set, rectR_quad (offH_eq s c b)]

theorem readA (c : Dev nD) (b s : Fin 2) (d : Fin 3) :
    (agV 128 s _ (inbA s c b d)).view.read (Elt F) (B I c) = slA I (pr s d c) b s d := by
  rw [slA_tgt]
  funext j
  show B I c ((rectR 128 s _ (inbA s c b d)).idx j) = _
  rw [rectR_idx_q (i := inbA s c b d) (offA_eq s c b d) j]

/-! ## First reduction step -/

theorem sendA_spec (c : Dev nD) (b s : Fin 2) (d : Fin 3) (l : List Job) :
    iprop(Ev I K ∗ owing (F := F) c ((0, b, s, d) :: l) ∗ sKit (F := F) (0, b, s, d) c ∗ agPt c (quadS b s (coord s (pr s d c))) fullShare (B I c)
        ∗ slot (F := F) (pr s d c) (rxV s b d))
      ⊢ wpc c (sendA c b s d) (fun _ => iprop(owing (F := F) c l ∗ sent (F := F) (0, b, s, d) c)) := by
  unfold sendA slot owns
  iintro ⟨#HE, HO, Hk, Ha, ⟨%X, %f, %hf, Hs⟩⟩
  iapply (snd_landing_spec I K (0, b, s, d) c (devOf 0 b s d c) (devOf_eq 0 b s d c) l (agV 128 s _ (inbA s c b d)) (rxV s b d)
    (wxA s c b d) (wxRx s b d) fullShare (B I c) f (amt_rx b s d) (by exact Entails.rfl) ?_)
  rotate_left
  · isplitr; · iexact HE
    isplitl [HO]; · iexact HO
    isplitl [Hk]; · iexact Hk
    isplitl [Ha]
    · rw [setA]; unfold agPt; iexact Ha
    iexact Hs
  · rw [setA, readA]
    show _ ⊢ iprop(owns (pr s d c : Thread nD τ) (rxV s b d) fullShare (slA I (pr s d c) b s d) ∗ agEx (F := F) (sdr s d (pr s d c)) (quadS b s (coord s (pr s d c))))
    rw [sdr_pr]
    unfold owns agEx agPt
    iintro ⟨H1, H2⟩
    isplitl [H1]
    · iexists (View.write (Elt F) (rxV s b d).view f (slA I (pr s d c) b s d) Finset.univ)
      isplitr
      · ipureintro
        exact View.read_write_univ _ _
      iexact H1
    iexists _; iexact H2

theorem waitA_spec (c : Dev nD) (b s : Fin 2) (d : Fin 3) (l : List Job) (hl : ∀ j' ∈ l, jLv (0, b, s, d) < jLv j') :
    iprop(Ev I K ∗ owing (F := F) c l ∗ wKit (F := F) (0, b, s, d) c ∗ sent (F := F) (0, b, s, d) c)
      ⊢ wpc c (waitA c b s d) (fun _ => iprop(owing (F := F) c l ∗ dnKit (F := F) (0, b, s, d) c ∗ sPay I (0, b, s, d) c ∗ rPay I (0, b, s, d) c)) :=
  wt_spec I K (0, b, s, d) c l hl _ _ _ _ (amt_agA b s d _ _) (amt_rx b s d)

/-! ## Second reduction step -/

theorem waitS_spec (c : Dev nD) (b s : Fin 2) (d : Fin 3) (l : List Job) (hl : ∀ j' ∈ l, jLv (1, b, s, d) < jLv j') :
    iprop(Ev I K ∗ owing (F := F) c l ∗ wKit (F := F) (1, b, s, d) c ∗ sent (F := F) (1, b, s, d) c)
      ⊢ wpc c (waitS c b s d) (fun _ => iprop(owing (F := F) c l ∗ dnKit (F := F) (1, b, s, d) c ∗ sPay I (1, b, s, d) c ∗ rPay I (1, b, s, d) c)) :=
  wt_spec I K (1, b, s, d) c l hl _ _ _ _ (amt_sb b s d) (amt_ry b s d)

theorem ld_bind (c : Dev nD) {sh : Shape} {e : EltTy} (m : Memref sig .tc .vmem sh e) (r : Rect sh) (h : 0 < r.shape.numel) {β : Type}
    {k : (r.shape.Idx → Elt F e) → Pr F β} {Q : β → sProp 𝕄} {S : Finset (Idx (m.view.loc (c : Thread nD τ)))} {q : PosShare TreeShare}
    {f : Buf (Elt F) (m.view.loc (c : Thread nD τ))} (hS : m.view.setOn r.set ⊆ S) :
    ((m.view.loc (c : Thread nD τ)) ↦[S]{q} f : sProp 𝕄)
      ⊢ iprop((((m.view.loc (c : Thread nD τ)) ↦[S]{q} f) -∗ wpc c (k (m.view.readAt (Elt F) r.toLoadRect f)) Q) -∗ wpc c (ld m r h >>= k) Q) :=
  wp_load 𝒱₀ (c : Thread nD τ) none Set.univ hS

theorem st_bind (c : Dev nD) {sh : Shape} {e : EltTy} (m : Memref sig .tc .vmem sh e) (r : Rect sh) (w : r.shape.Idx → Elt F e) (hs : (m.access r).Stores Finset.univ)
    {β : Type} {k : PUnit → Pr F β} {Q : β → sProp 𝕄} {S : Finset (Idx (m.view.loc (c : Thread nD τ)))}
    {f : Buf (Elt F) (m.view.loc (c : Thread nD τ))} (hS : m.view.setOn r.set ⊆ S) :
    ((m.view.loc (c : Thread nD τ)) ↦[S]{fullShare} f : sProp 𝕄)
      ⊢ iprop((((m.view.loc (c : Thread nD τ)) ↦[S]{fullShare} ((m.access r).write (Elt F) f w Finset.univ)) -∗ wpc c (k ⟨⟩) Q) -∗ wpc c (st m r w hs >>= k) Q) :=
  wp_store 𝒱₀ (c : Thread nD τ) none Set.univ (m := m) (r := r) (Mk := Finset.univ) (by
    show ((m.view.slice r).set) ⊆ S
    rw [View.set_slice]; exact hS)

theorem st_last (c : Dev nD) {sh : Shape} {e : EltTy} (m : Memref sig .tc .vmem sh e) (r : Rect sh) (w : r.shape.Idx → Elt F e) (hs : (m.access r).Stores Finset.univ)
    {Q : PUnit → sProp 𝕄} {S : Finset (Idx (m.view.loc (c : Thread nD τ)))}
    {f : Buf (Elt F) (m.view.loc (c : Thread nD τ))} (hS : m.view.setOn r.set ⊆ S) :
    ((m.view.loc (c : Thread nD τ)) ↦[S]{fullShare} f : sProp 𝕄)
      ⊢ iprop((((m.view.loc (c : Thread nD τ)) ↦[S]{fullShare} ((m.access r).write (Elt F) f w Finset.univ)) -∗ Q ⟨⟩) -∗ wpc c (st m r w hs) Q) := by
  iintro H Hk
  iapply (wp_store 𝒱₀ (c : Thread nD τ) none Set.univ (m := m) (r := r) (Mk := Finset.univ) (by
    show ((m.view.slice r).set) ⊆ S
    rw [View.set_slice]; exact hS)) $$ H
  iintro H
  iapply (le_wp_ret (Fr := frame))
  iapply Hk; iexact H

theorem slot_setOn {sh sh' : Shape} (M : Memref sig .tc .vmem sh .bf16) (r : Rect sh) (hr : ∀ a, r.stride a = 1) (hq : r.shape.Squeezes sh') :
    M.view.setOn r.set = ((M.slice r hr).squeeze sh' hq).view.set := by
  exact (View.set_slice (v := M.view) (r := r)).symm.trans (View.set_reshape (v := M.view.slice r) _).symm

/-- A slot as it was just written: the block that was cast to its shape. -/
theorem slot_read_write {sh sh' : Shape} (M : Memref sig .tc .vmem sh .bf16) (r : Rect sh) (hr : ∀ a, r.stride a = 1) (hq : r.shape.Squeezes sh')
    (hc : r.shape.ShapeCasts sh') (hc' : sh'.ShapeCasts r.shape) (f : M.view.ty.Contents (Elt F)) (X : sh'.Idx → F .bf16) :
    ((M.slice r hr).squeeze sh' hq).view.read (Elt F) ((M.access r).write (Elt F) f (shapeCast r.shape (α := F .bf16) X hc') Finset.univ) = X := by
  rw [Memref.read_squeeze_slice M r hr hq hc]
  rw [View.readAt_rect]
  have : (M.view.slice r).read (Elt F) ((M.access r).write (Elt F) f (shapeCast r.shape (α := F .bf16) X hc') Finset.univ) = shapeCast r.shape (α := F .bf16) X hc' :=
    View.read_write_univ _ _
  rw [this]
  exact shapeCast_shapeCast (α := F .bf16) X hc' hc

theorem slot_intro (t : Dev nD) {sh : Shape} (m : Memref sig .tc .vmem sh .bf16) (f : Buf (Elt F) (m.view.loc (t : Thread nD τ))) :
    ((m.view.loc (t : Thread nD τ)) ↦[m.view.set]{fullShare} f : sProp 𝕄) ⊢ slot (F := F) t m := by
  unfold slot owns
  iintro H
  iexists (m.view.read (Elt F) f)
  iexists f
  isplitr
  · ipureintro; rfl
  iexact H

/-- The accumulator. -/
def accP (f0 : IdxA → F .f32) (st : Stage) (c : Dev nD) : sProp 𝕄 := (accM.view.loc (c : Thread nD τ)) ↦[Finset.univ]{fullShare} (accF I f0 st c)

theorem sendS_spec (f0 : IdxA → F .f32) (st : Stage) (c : Dev nD) (b s : Fin 2) (d : Fin 3) (hst : st b s = 2) (l : List Job) :
    iprop(Ev I K ∗ (accP I f0 st c ∗ owing (F := F) c ((1, b, s, d) :: l)) ∗ sKit (F := F) (1, b, s, d) c ∗ slot (F := F) c (sbV s b d)
        ∗ agPt c (blkS b s (coord s c) (coord (oth s) (pr (oth s) d c))) fullShare (B I c) ∗ slot (F := F) (pr (oth s) d c) (ryV s b d))
      ⊢ wpc c (sendS c b s d) (fun _ => iprop((accP I f0 st c ∗ owing (F := F) c l) ∗ sent (F := F) (1, b, s, d) c)) := by
  unfold sendS accP
  conv_lhs => unfold slot owns
  iintro ⟨#HE, ⟨Hacc, HO⟩, Hk, ⟨%X, %f, %hf, Hsb⟩, Hg, ⟨%Y, %g, %hg, Hry⟩⟩
  iapply (ld_bind c accM (rectR 32 s _ (inbS s c b d)) (pos32 s) (Finset.subset_univ _)) $$ Hacc
  iintro Hacc
  iapply (ld_bind c (sbM s) (slotR 32 s b d) (posSlot32 s) (slot_setOn (sbM s) (slotR 32 s b d) (fun _ => rfl) (sq32 s)).subset) $$ Hsb
  iintro Hsb
  iapply (st_bind c (sbM s) (slotR 32 s b d) _ (stSb s b d) (slot_setOn (sbM s) (slotR 32 s b d) (fun _ => rfl) (sq32 s)).subset) $$ Hsb
  iintro Hsb
  iapply (wp_wand (Fr := frame) (wpE := wpE (defs₀ (F := F)) 𝒱₀ (c : Thread nD τ) none) (E := Set.univ)) $$ [HO Hk Hsb Hg Hry]
  · iapply (snd_spec I K (1, b, s, d) c (devOf 1 b s d c) (devOf_eq 1 b s d c) l (sbV s b d) (ryV s b d)
      (wxSb s b d) (wxRy s b d) fullShare _ g (agPt c (blkS b s (coord s c) (coord (oth s) (pr (oth s) d c))) fullShare (B I c)) (amt_ry b s d) ?_ ?_)
    rotate_left 2
    · isplitr; · iexact HE
      isplitl [HO]; · iexact HO
      isplitl [Hk]; · iexact Hk
      isplitl [Hsb]; · iexact Hsb
      isplitl [Hry]; · iexact Hry
      iexact Hg
    · show _ ⊢ slot c (sbV s b d)
      exact slot_intro c (sbV s b d) _
    · show _ ⊢ iprop(owns (pr (oth s) d c : Thread nD τ) (ryV s b d) fullShare (slS I (pr (oth s) d c) b s d)
        ∗ agEx (F := F) (sdr (oth s) d (pr (oth s) d c)) (blkS b s (coord s (pr (oth s) d c)) (coord (oth s) (pr (oth s) d c))))
      rw [sdr_pr, coord_pr_oth]
      unfold owns agEx
      iintro ⟨H1, H2⟩
      isplitl [H1]
      · iexists _
        isplitr
        rotate_left
        · iexact H1
        ipureintro
        rw [View.read_write_univ]
        exact (slot_read_write (sbM s) (slotR 32 s b d) (fun _ => rfl) (sq32 s) (casts32 s) (castsUp32 s) f _).trans (cast_sb I f0 st c b s d hst)
      iexists _; iexact H2
  iintro %u ⟨HO, Hs⟩
  isplitl [Hacc HO]
  · isplitl [Hacc] <;> iassumption
  iexact Hs

/-! ## Gathering -/

theorem waitG_spec (c : Dev nD) (b s : Fin 2) (d : Fin 3) (l : List Job) (hl : ∀ j' ∈ l, jLv (2, b, s, d) < jLv j') :
    iprop(Ev I K ∗ owing (F := F) c l ∗ wKit (F := F) (2, b, s, d) c ∗ sent (F := F) (2, b, s, d) c)
      ⊢ wpc c (waitG c b s d) (fun _ => iprop(owing (F := F) c l ∗ dnKit (F := F) (2, b, s, d) c ∗ sPay I (2, b, s, d) c ∗ rPay I (2, b, s, d) c)) :=
  wt_spec I K (2, b, s, d) c l hl _ _ _ _ (amt_agG b s d _ _) (amt_agG b s d _ _)

theorem waitH_spec (c : Dev nD) (b s : Fin 2) (d : Fin 3) (l : List Job) (hl : ∀ j' ∈ l, jLv (3, b, s, d) < jLv j') :
    iprop(Ev I K ∗ owing (F := F) c l ∗ wKit (F := F) (3, b, s, d) c ∗ sent (F := F) (3, b, s, d) c)
      ⊢ wpc c (waitH c b s d) (fun _ => iprop(owing (F := F) c l ∗ dnKit (F := F) (3, b, s, d) c ∗ sPay I (3, b, s, d) c ∗ rPay I (3, b, s, d) c)) :=
  wt_spec I K (3, b, s, d) c l hl _ _ _ _ (amt_agH b s d _ _) (amt_agH b s d _ _)

/-- Written through a view of the half-word buffer: what was read through the same view. -/
theorem ag_rewrite (h : ℕ) (s : Fin 2) (off) (i) (t : Dev nD) (S : Finset IdxA) (hS : (agV h s off i).view.set = S) (f g : IdxA → F .bf16) :
    ((agV h s off i).view.loc (t : Thread nD τ) ↦[(agV h s off i).view.set]{fullShare}
        (View.write (Elt F) (agV h s off i).view f (View.read (Elt F) (agV h s off i).view g) Finset.univ) : sProp 𝕄)
      = agPt t S fullShare g := by
  subst hS
  unfold agPt
  refine pointsTo_congr fun x hx => ?_
  rw [agV_set] at hx
  obtain ⟨y, rfl⟩ := mem_idx _ hx
  exact agb_write_idx (Val := Elt F) (rectR h s off i) f _ y

theorem sendG_spec (c : Dev nD) (b s : Fin 2) (d : Fin 3) (l : List Job) :
    iprop(Ev I K ∗ owing (F := F) c ((2, b, s, d) :: l) ∗ sKit (F := F) (2, b, s, d) c
        ∗ agPt c (blkS b s (coord s c) (coord (oth s) c)) (shares3 fullShare d) (AF I)
        ∗ agEx (F := F) (pr (oth s) d c) (blkS b s (coord s c) (coord (oth s) c)))
      ⊢ wpc c (sendG c b s d) (fun _ => iprop(owing (F := F) c l ∗ sent (F := F) (2, b, s, d) c)) := by
  unfold sendG agEx
  iintro ⟨#HE, HO, Hk, Ha, ⟨%g, Hd⟩⟩
  iapply (snd_spec I K (2, b, s, d) c (devOf 2 b s d c) (devOf_eq 2 b s d c) l (agV 32 s _ (inbG s c b)) (agV 32 s _ (inbG s c b))
    (wxG s c b) (wxG s c b) (shares3 fullShare d) (AF I) g iprop(emp) (amt_agG b s d _ _) ?_ ?_)
  rotate_left 2
  · isplitr; · iexact HE
    isplitl [HO]; · iexact HO
    isplitl [Hk]; · iexact Hk
    isplitl [Ha]
    · rw [setG]; unfold agPt; iexact Ha
    isplitl [Hd]
    · rw [setG]; unfold agPt; iexact Hd
    iempintro
  · show _ ⊢ agPt c (blkS b s (coord s c) (coord (oth s) c)) (shares3 fullShare d) (AF I)
    rw [setG]; exact Entails.rfl
  · show _ ⊢ agPt (pr (oth s) d c) (blkS b s (coord s (pr (oth s) d c)) (coord (oth s) (sdr (oth s) d (pr (oth s) d c)))) fullShare (AF I)
    rw [sdr_pr, coord_pr_oth]
    iintro ⟨H, -⟩
    iapply (Entails.of_eq (ag_rewrite 32 s _ (inbG s c b) (pr (oth s) d c) _ (setG c b s) g (AF I)))
    iexact H

theorem sendH_spec (c : Dev nD) (b s : Fin 2) (d : Fin 3) (l : List Job) :
    iprop(Ev I K ∗ owing (F := F) c ((3, b, s, d) :: l) ∗ sKit (F := F) (3, b, s, d) c
        ∗ agPt c (quadS b s (coord s c)) (shares3 fullShare d) (AF I)
        ∗ agEx (F := F) (pr s d c) (quadS b s (coord s c)))
      ⊢ wpc c (sendH c b s d) (fun _ => iprop(owing (F := F) c l ∗ sent (F := F) (3, b, s, d) c)) := by
  unfold sendH agEx
  iintro ⟨#HE, HO, Hk, Ha, ⟨%g, Hd⟩⟩
  iapply (snd_spec I K (3, b, s, d) c (devOf 3 b s d c) (devOf_eq 3 b s d c) l (agV 128 s _ (inbH s c b)) (agV 128 s _ (inbH s c b))
    (wxH s c b) (wxH s c b) (shares3 fullShare d) (AF I) g iprop(emp) (amt_agH b s d _ _) ?_ ?_)
  rotate_left 2
  · isplitr; · iexact HE
    isplitl [HO]; · iexact HO
    isplitl [Hk]; · iexact Hk
    isplitl [Ha]
    · rw [setH]; unfold agPt; iexact Ha
    isplitl [Hd]
    · rw [setH]; unfold agPt; iexact Hd
    iempintro
  · show _ ⊢ agPt c (quadS b s (coord s c)) (shares3 fullShare d) (AF I)
    rw [setH]; exact Entails.rfl
  · show _ ⊢ agPt (pr s d c) (quadS b s (coord s (sdr s d (pr s d c)))) fullShare (AF I)
    rw [sdr_pr]
    iintro ⟨H, -⟩
    iapply (Entails.of_eq (ag_rewrite 128 s _ (inbH s c b) (pr s d c) _ (setH c b s) g (AF I)))
    iexact H

end Cert.KernelIdeal.Body
-- ==== Proof.Calc.lean ====
/- The steps that compute on one device, and the exchange of signals at the start: what each needs
   and what it leaves. -/
module

public import proofs.«01_k».proof.Proof.Phases

@[expose] public section

noncomputable section

namespace Cert.KernelIdeal.Body

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (shares3 pointsTo_thirds)

variable {F : FTy → Type} [FloatOps F] [Named F]

local notation "𝕄" => MT nD τ sig Unit (Elt F) ℕ UU ℕ

variable (I : Ins F) (K : CellIx → ℕ)

/-! ## The signals -/

/-- What a device hands over with the signal along coordinate `k` to the device at distance `d`. -/
def sigPay (k : Fin 2) (d : Fin 3) (c : Dev nD) : sProp 𝕄 :=
  iprop((slot (F := F) c (rxV k 0 (rev d)) ∗ slot (F := F) c (rxV k 1 (rev d)))
    ∗ (slot (F := F) c (ryV (oth k) 0 (rev d)) ∗ slot (F := F) c (ryV (oth k) 1 (rev d))))

def owingB (c : Dev nD) (l : List Job) (xs : List Dty) : sProp 𝕄 := iprop(∃ W, owes (c : Thread nD τ) (oweB c l xs) W)

theorem sig_spec (k : Fin 2) (d : Fin 3) (c : Dev nD) (l : List Job) (xs : List Dty) :
    iprop(Ev I K ∗ owingB (F := F) c l ((k, d) :: xs) ∗ dutyTok ER (barCell (pr k d c)) 0 (k, rev d) ∗ sigPay (F := F) k d c)
      ⊢ wpc c (semSignalWord (barDev d k c) barS 1#32) (fun _ => owingB (F := F) c l xs) := by
  rw [barDev_eq]
  unfold wpc semSignalWord owingB
  iintro ⟨#HE, ⟨%W, HO⟩, Ht, Hp⟩
  ihave #H1 := (Ev_bar I K (pr k d c)) $$ HE
  icases H1 with ⟨H1i, H1r⟩
  iapply (Rounds.wp_signal 𝒱₀ ER (Rd I) (c : Thread nD τ) none (dst := (pr k d c : Thread nD τ)) (κ := K (pr k d c, none)) (r := 0)
    (d := (k, rev d)) (by rw [duties_bar]; exact Finset.mem_univ _) ((amount_bar I (pr k d c) (k, rev d)).trans (by decide)) () (oweB c l xs) rfl (W := W)) $$ [HO Ht Hp]
  · isplitr; · iexact H1i
    isplitl [HO]; · iexact HO
    isplitl [Ht]; · iexact Ht
    isplitl [Hp]
    · rw [payload_bar]
      unfold barPay
      dsimp only
      rw [show pr k (rev d) (pr k d c) = c from sdr_pr k d c]
      unfold sigPay
      iexact Hp
    iexact H1r
  iintro HO
  iapply (le_wp_ret (Fr := frame))
  iexists W; iexact HO

theorem mayB (c : Dev nD) (l : List Job) : Ev I K ⊢ (MayWait (c : Thread nD τ) (.reg barS) () (owe c l) : sProp 𝕄) :=
  Ev_may I K c (.reg barS) 1 (lv_bar c) l (fun j' _ => lt_of_lt_of_le (by decide) (two_le_jLv j'))

theorem barWait_spec (c : Dev nD) (l : List Job) :
    iprop(Ev I K ∗ owingB (F := F) c l [] ∗ atPos ER (barCell c) 0 ∅ 0 ∗ cred (tallyAt (barCell c) () 6))
      ⊢ wpc c (semWaitWord barS 6#32) (fun _ => iprop(owing (F := F) c l ∗ semVal (barCell c) 0
          ∗ (barPay (F := F) c (0, 0) ∗ barPay (F := F) c (0, 1) ∗ barPay (F := F) c (0, 2) ∗ barPay (F := F) c (1, 0) ∗ barPay (F := F) c (1, 1) ∗ barPay (F := F) c (1, 2)))) := by
  unfold wpc semWaitWord owingB owing
  iintro ⟨#HE, ⟨%W, HO⟩, Ha, Hc⟩
  ihave #H1 := (Ev_bar I K c) $$ HE
  icases H1 with ⟨H1i, H1r⟩
  iapply (Rounds.wp_wait_rest_token 𝒱₀ ER (Rd I) (c : Thread nD τ) none (κ := K (c, none))
      (wpE_semWait_eq 𝒱₀ (c : Thread nD τ) none Set.univ) (Set.mem_univ _) () (O := owe c l) (W := W) (R := 0) (m := 0) (T := ∅)
      (by rw [Nat.zero_add, expect_bar]; decide)) $$ [Hc HO Ha]
  · isplitr; · iexact H1i
    isplitl [Hc]; · iexact Hc
    isplitl [HO]; · iexact HO
    isplitr; · iapply (mayB I K c l); iexact HE
    iexact Ha
  iintro ⟨HO, Ha, -, Hp⟩
  ihave Hp := (Entails.of_eq (rest_bar I c)) $$ Hp
  imod (Rounds.cell_close ER (Rd I) (Set.mem_univ (K (c, none))) (fun h => h) (R := 0 + 1) (duties_later I (barCell c))) $$ [Ha] with Hz
  · isplitr; · iexact H1i
    iexact Ha
  iapply (le_wp_ret (Fr := frame))
  isplitl [HO]
  · iexists _; iexact HO
  isplitl [Hz] <;> iassumption

/-- What the exchange of signals takes: a token and slots for each of the six, its place and its credit. -/
def barIn (c : Dev nD) : sProp 𝕄 :=
  iprop((dutyTok ER (barCell (pr 0 0 c)) 0 (0, rev 0) ∗ sigPay (F := F) 0 0 c) ∗ (dutyTok ER (barCell (pr 1 0 c)) 0 (1, rev 0) ∗ sigPay (F := F) 1 0 c)
    ∗ (dutyTok ER (barCell (pr 0 1 c)) 0 (0, rev 1) ∗ sigPay (F := F) 0 1 c) ∗ (dutyTok ER (barCell (pr 1 1 c)) 0 (1, rev 1) ∗ sigPay (F := F) 1 1 c)
    ∗ (dutyTok ER (barCell (pr 0 2 c)) 0 (0, rev 2) ∗ sigPay (F := F) 0 2 c) ∗ (dutyTok ER (barCell (pr 1 2 c)) 0 (1, rev 2) ∗ sigPay (F := F) 1 2 c)
    ∗ (atPos ER (barCell c) 0 ∅ 0 ∗ cred (tallyAt (barCell c) () 6)))

theorem bar_spec (c : Dev nD) (l : List Job) :
    iprop(Ev I K ∗ owingB (F := F) c l allSigs ∗ barIn (F := F) c)
      ⊢ wpc c (barP c) (fun _ => iprop(owing (F := F) c l ∗ semVal (barCell c) 0
          ∗ (barPay (F := F) c (0, 0) ∗ barPay (F := F) c (0, 1) ∗ barPay (F := F) c (0, 2) ∗ barPay (F := F) c (1, 0) ∗ barPay (F := F) c (1, 1) ∗ barPay (F := F) c (1, 2)))) := by
  unfold barP barIn allSigs
  iintro ⟨#HE, HO, ⟨T1, S1⟩, ⟨T2, S2⟩, ⟨T3, S3⟩, ⟨T4, S4⟩, ⟨T5, S5⟩, ⟨T6, S6⟩, Ha, Hc⟩
  iapply (wpc_seq (sig_spec I K 0 0 c l _)) $$ [HO T1 S1]
  · isplitr; · iexact HE
    isplitl [HO]; · iexact HO
    isplitl [T1] <;> iassumption
  iintro %u1 HO
  iapply (wpc_seq (sig_spec I K 1 0 c l _)) $$ [HO T2 S2]
  · isplitr; · iexact HE
    isplitl [HO]; · iexact HO
    isplitl [T2] <;> iassumption
  iintro %u2 HO
  iapply (wpc_seq (sig_spec I K 0 1 c l _)) $$ [HO T3 S3]
  · isplitr; · iexact HE
    isplitl [HO]; · iexact HO
    isplitl [T3] <;> iassumption
  iintro %u3 HO
  iapply (wpc_seq (sig_spec I K 1 1 c l _)) $$ [HO T4 S4]
  · isplitr; · iexact HE
    isplitl [HO]; · iexact HO
    isplitl [T4] <;> iassumption
  iintro %u4 HO
  iapply (wpc_seq (sig_spec I K 0 2 c l _)) $$ [HO T5 S5]
  · isplitr; · iexact HE
    isplitl [HO]; · iexact HO
    isplitl [T5] <;> iassumption
  iintro %u5 HO
  iapply (wpc_seq (sig_spec I K 1 2 c l _)) $$ [HO T6 S6]
  · isplitr; · iexact HE
    isplitl [HO]; · iexact HO
    isplitl [T6] <;> iassumption
  iintro %u6 HO
  iapply (barWait_spec I K c l)
  isplitr; · iexact HE
  isplitl [HO]; · iexact HO
  isplitl [Ha] <;> iassumption

/-! ## The product -/

/-- The device's five inputs. -/
def insP (c : Dev nD) : sProp 𝕄 :=
  iprop(((xM.view.loc (c : Thread nD τ)) ↦[Finset.univ]{fullShare} (I.x c)) ∗ ((wqM.view.loc (c : Thread nD τ)) ↦[Finset.univ]{fullShare} (I.wq c))
    ∗ ((kM.view.loc (c : Thread nD τ)) ↦[Finset.univ]{fullShare} (I.k c)) ∗ ((vM.view.loc (c : Thread nD τ)) ↦[Finset.univ]{fullShare} (I.v c))
    ∗ ((woM.view.loc (c : Thread nD τ)) ↦[Finset.univ]{fullShare} (I.wo c)))

theorem comp_spec (f0 : IdxA → F .f32) (st : Stage) (c : Dev nD) (b : Fin 2) :
    iprop(insP I c ∗ accP I f0 st c) ⊢ wpc c (compP b) (fun _ => iprop(insP I c ∗ accP I f0 (st.setB b 1) c)) := by
  unfold compP insP accP
  iintro ⟨⟨Hx, Hwq, Hk, Hv, Hwo⟩, Ha⟩
  iapply (ld_bind c xM (xR b) h_S1x512x768 (Finset.subset_univ _)) $$ Hx
  iintro Hx
  iapply (ld_bind c wqM wqR h_S768x512 (Finset.subset_univ _)) $$ Hwq
  iintro Hwq
  iapply (ld_bind c kM (kvR b 0) h_S1x512x1x64 (Finset.subset_univ _)) $$ Hk
  iintro Hk
  iapply (ld_bind c vM (kvR b 0) h_S1x512x1x64 (Finset.subset_univ _)) $$ Hv
  iintro Hv
  iapply (ld_bind c kM (kvR b 1) h_S1x512x1x64 (Finset.subset_univ _)) $$ Hk
  iintro Hk
  iapply (ld_bind c vM (kvR b 1) h_S1x512x1x64 (Finset.subset_univ _)) $$ Hv
  iintro Hv
  iapply (ld_bind c kM (kvR b 2) h_S1x512x1x64 (Finset.subset_univ _)) $$ Hk
  iintro Hk
  iapply (ld_bind c vM (kvR b 2) h_S1x512x1x64 (Finset.subset_univ _)) $$ Hv
  iintro Hv
  iapply (ld_bind c kM (kvR b 3) h_S1x512x1x64 (Finset.subset_univ _)) $$ Hk
  iintro Hk
  iapply (ld_bind c vM (kvR b 3) h_S1x512x1x64 (Finset.subset_univ _)) $$ Hv
  iintro Hv
  iapply (ld_bind c kM (kvR b 4) h_S1x512x1x64 (Finset.subset_univ _)) $$ Hk
  iintro Hk
  iapply (ld_bind c vM (kvR b 4) h_S1x512x1x64 (Finset.subset_univ _)) $$ Hv
  iintro Hv
  iapply (ld_bind c kM (kvR b 5) h_S1x512x1x64 (Finset.subset_univ _)) $$ Hk
  iintro Hk
  iapply (ld_bind c vM (kvR b 5) h_S1x512x1x64 (Finset.subset_univ _)) $$ Hv
  iintro Hv
  iapply (ld_bind c kM (kvR b 6) h_S1x512x1x64 (Finset.subset_univ _)) $$ Hk
  iintro Hk
  iapply (ld_bind c vM (kvR b 6) h_S1x512x1x64 (Finset.subset_univ _)) $$ Hv
  iintro Hv
  iapply (ld_bind c kM (kvR b 7) h_S1x512x1x64 (Finset.subset_univ _)) $$ Hk
  iintro Hk
  iapply (ld_bind c vM (kvR b 7) h_S1x512x1x64 (Finset.subset_univ _)) $$ Hv
  iintro Hv
  iapply (ld_bind c woM woR h_S512x768 (Finset.subset_univ _)) $$ Hwo
  iintro Hwo
  iapply (ld_bind c accM (rowsR b) h_S512x768 (Finset.subset_univ _)) $$ Ha
  iintro Ha
  iapply (st_last c accM (rowsR b) _ _ (Finset.subset_univ _)) $$ Ha
  iintro Ha
  isplitr [Ha]
  · isplitl [Hx]; · iexact Hx
    isplitl [Hwq]; · iexact Hwq
    isplitl [Hk]; · iexact Hk
    isplitl [Hv] <;> iassumption
  rw [← acc_comp I f0 st c b]
  iexact Ha

/-! ## Rounding and summing -/

theorem ag_setOn (r : Rect S1024x768) : agbM.view.setOn r.set = r.set := by
  exact (View.set_slice (v := agbM.view) (r := r)).symm.trans (View.set_slice_whole cc0_scratch1 r)

theorem rows_setOn (b : Fin 2) : agbM.view.setOn (rowsR b).set ⊆ rowsS b :=
  ((ag_setOn (rowsR b)).trans (rowsR_set b)).subset

theorem cast_pts (f0 : IdxA → F .f32) (st : Stage) (c : Dev nD) (b : Fin 2) (hst : ∀ s, st b s = 1) (g : IdxA → F .bf16) :
    (((agbM.view.loc (c : Thread nD τ)) ↦[rowsS b]{fullShare} ((agbM.access (rowsR b)).write (Elt F) g
        (shapeCast S512x768 (dnV (sh := S512x768) (rdR (accF I f0 st c) (rowsR b))) Gen.shapeCasts_S512x768_S512x768) Finset.univ)) : sProp 𝕄)
      ⊢ agPt c (rowsS b) fullShare (B I c) := by
  unfold agPt
  exact Entails.of_eq (pointsTo_congr fun i hi => agb_castP I f0 st c b hst g i hi)

theorem castP_spec (f0 : IdxA → F .f32) (st : Stage) (c : Dev nD) (b : Fin 2) (hst : ∀ s, st b s = 1) :
    iprop(accP I f0 st c ∗ agEx (F := F) c (rowsS b)) ⊢ wpc c (castP b) (fun _ => iprop(accP I f0 st c ∗ agPt c (rowsS b) fullShare (B I c))) := by
  unfold castP accP agEx
  conv_lhs => unfold agPt
  iintro ⟨Ha, ⟨%g, Hg⟩⟩
  have hS := rows_setOn b
  iapply (ld_bind c accM (rowsR b) h_S512x768 (Finset.subset_univ _)) $$ Ha
  iintro Ha
  iapply (ld_bind c agbM (rowsR b) h_S512x768 hS) $$ Hg
  iintro Hg
  iapply (st_last c agbM (rowsR b) _ _ hS) $$ Hg
  iintro Hg
  isplitl [Ha]; · iexact Ha
  iapply (cast_pts I f0 st c b hst g)
  iexact Hg

theorem foldA_spec (f0 : IdxA → F .f32) (st : Stage) (c : Dev nD) (b s : Fin 2) (hst : st b s = 1) :
    iprop(accP I f0 st c ∗ (owns (c : Thread nD τ) (rxV s b 0) fullShare (slA I c b s 0) ∗ owns (c : Thread nD τ) (rxV s b 1) fullShare (slA I c b s 1)
        ∗ owns (c : Thread nD τ) (rxV s b 2) fullShare (slA I c b s 2)))
      ⊢ wpc c (foldA c b s) (fun _ => iprop(accP I f0 (st.set b s 2) c ∗ (owns (c : Thread nD τ) (rxV s b 0) fullShare (slA I c b s 0)
          ∗ owns (c : Thread nD τ) (rxV s b 1) fullShare (slA I c b s 1) ∗ owns (c : Thread nD τ) (rxV s b 2) fullShare (slA I c b s 2)))) := by
  unfold foldA accP owns
  iintro ⟨Ha, ⟨%g0, %e0, H0⟩, ⟨%g1, %e1, H1⟩, ⟨%g2, %e2, H2⟩⟩
  iapply (ld_bind c accM (rectR 128 s _ (inbQ s c b)) (pos128 s) (Finset.subset_univ _)) $$ Ha
  iintro Ha
  iapply (ld_bind c (rxM s) (slotR 128 s b 0) (posSlot128 s) (slot_setOn (rxM s) (slotR 128 s b 0) (fun _ => rfl) (sq128 s)).subset) $$ H0
  iintro H0
  iapply (ld_bind c (rxM s) (slotR 128 s b 1) (posSlot128 s) (slot_setOn (rxM s) (slotR 128 s b 1) (fun _ => rfl) (sq128 s)).subset) $$ H1
  iintro H1
  iapply (ld_bind c (rxM s) (slotR 128 s b 2) (posSlot128 s) (slot_setOn (rxM s) (slotR 128 s b 2) (fun _ => rfl) (sq128 s)).subset) $$ H2
  iintro H2
  iapply (ld_bind c accM (rectR 128 s _ (inbQ s c b)) (pos128 s) (Finset.subset_univ _)) $$ Ha
  iintro Ha
  iapply (st_last c accM (rectR 128 s _ (inbQ s c b)) _ _ (Finset.subset_univ _)) $$ Ha
  iintro Ha
  isplitl [Ha]
  · rw [← acc_foldA I f0 st c b s hst ((rxM s).view.readAt (Elt F) (slotR 128 s b 0).toLoadRect g0) ((rxM s).view.readAt (Elt F) (slotR 128 s b 1).toLoadRect g1) ((rxM s).view.readAt (Elt F) (slotR 128 s b 2).toLoadRect g2) e0 e1 e2]
    iexact Ha
  isplitl [H0]
  · iexists g0; isplitr
    · ipureintro; exact e0
    iexact H0
  isplitl [H1]
  · iexists g1; isplitr
    · ipureintro; exact e1
    iexact H1
  iexists g2; isplitr
  · ipureintro; exact e2
  iexact H2

theorem foldS_spec (f0 : IdxA → F .f32) (st : Stage) (c : Dev nD) (b s : Fin 2) (hst : st b s = 2) :
    iprop(accP I f0 st c ∗ (owns (c : Thread nD τ) (ryV s b 0) fullShare (slS I c b s 0) ∗ owns (c : Thread nD τ) (ryV s b 1) fullShare (slS I c b s 1)
        ∗ owns (c : Thread nD τ) (ryV s b 2) fullShare (slS I c b s 2)))
      ⊢ wpc c (foldS c b s) (fun _ => iprop(accP I f0 (st.set b s 3) c ∗ (owns (c : Thread nD τ) (ryV s b 0) fullShare (slS I c b s 0)
          ∗ owns (c : Thread nD τ) (ryV s b 1) fullShare (slS I c b s 1) ∗ owns (c : Thread nD τ) (ryV s b 2) fullShare (slS I c b s 2)))) := by
  unfold foldS accP owns
  iintro ⟨Ha, ⟨%g0, %e0, H0⟩, ⟨%g1, %e1, H1⟩, ⟨%g2, %e2, H2⟩⟩
  iapply (ld_bind c accM (rectR 32 s _ (inbB s c b)) (pos32 s) (Finset.subset_univ _)) $$ Ha
  iintro Ha
  iapply (ld_bind c (ryM s) (slotR 32 s b 0) (posSlot32 s) (slot_setOn (ryM s) (slotR 32 s b 0) (fun _ => rfl) (sq32 s)).subset) $$ H0
  iintro H0
  iapply (ld_bind c (ryM s) (slotR 32 s b 1) (posSlot32 s) (slot_setOn (ryM s) (slotR 32 s b 1) (fun _ => rfl) (sq32 s)).subset) $$ H1
  iintro H1
  iapply (ld_bind c (ryM s) (slotR 32 s b 2) (posSlot32 s) (slot_setOn (ryM s) (slotR 32 s b 2) (fun _ => rfl) (sq32 s)).subset) $$ H2
  iintro H2
  iapply (ld_bind c accM (rectR 32 s _ (inbB s c b)) (pos32 s) (Finset.subset_univ _)) $$ Ha
  iintro Ha
  iapply (st_last c accM (rectR 32 s _ (inbB s c b)) _ _ (Finset.subset_univ _)) $$ Ha
  iintro Ha
  isplitl [Ha]
  · rw [← acc_foldS I f0 st c b s hst ((ryM s).view.readAt (Elt F) (slotR 32 s b 0).toLoadRect g0) ((ryM s).view.readAt (Elt F) (slotR 32 s b 1).toLoadRect g1) ((ryM s).view.readAt (Elt F) (slotR 32 s b 2).toLoadRect g2) e0 e1 e2]
    iexact Ha
  isplitl [H0]
  · iexists g0; isplitr
    · ipureintro; exact e0
    iexact H0
  isplitl [H1]
  · iexists g1; isplitr
    · ipureintro; exact e1
    iexact H1
  iexists g2; isplitr
  · ipureintro; exact e2
  iexact H2

theorem castB_spec (f0 : IdxA → F .f32) (st : Stage) (c : Dev nD) (b s : Fin 2) (hst : st b s = 3) :
    iprop(accP I f0 st c ∗ agEx (F := F) c (blkS b s (coord s c) (coord (oth s) c)))
      ⊢ wpc c (castB c b s) (fun _ => iprop(accP I f0 st c ∗ agPt c (blkS b s (coord s c) (coord (oth s) c)) fullShare (AF I))) := by
  unfold castB accP agEx agPt
  iintro ⟨Ha, ⟨%g, Hg⟩⟩
  have hS : agbM.view.setOn (rectR 32 s _ (inbB s c b)).set ⊆ blkS b s (coord s c) (coord (oth s) c) :=
    (by rw [ag_setOn, rectR_blk (offB_eq s c b)] : agbM.view.setOn (rectR 32 s _ (inbB s c b)).set = blkS b s (coord s c) (coord (oth s) c)).subset
  iapply (ld_bind c accM (rectR 32 s _ (inbB s c b)) (pos32 s) (Finset.subset_univ _)) $$ Ha
  iintro Ha
  iapply (ld_bind c agbM (rectR 32 s _ (inbB s c b)) (pos32 s) hS) $$ Hg
  iintro Hg
  iapply (st_last c agbM (rectR 32 s _ (inbB s c b)) _ _ hS) $$ Hg
  iintro Hg
  isplitl [Ha]; · iexact Ha
  iapply (Entails.of_eq (pointsTo_congr fun i hi => agb_castB I f0 st c b s hst g i hi))
  iexact Hg

/-! ## The output -/

/-- The batch as it is written out. -/
def outB (b : Fin 2) : Vec F S1x512x768 .f32 :=
  shapeCast S1x512x768 (upV (sh := S512x768) (rdR (AF I) (rowsR b))) Gen.shapeCasts_S512x768_S1x512x768

def outS (c : Dev nD) (f : S2x512x768.Idx → F .f32) : sProp 𝕄 := (outM.view.loc (c : Thread nD τ)) ↦[Finset.univ]{fullShare} f

theorem outP_spec (c : Dev nD) (b : Fin 2) (f : S2x512x768.Idx → F .f32) :
    iprop(agPt c (rowsS b) fullShare (AF I) ∗ outS (F := F) c f)
      ⊢ wpc c (outP b) (fun _ => iprop(agPt c (rowsS b) fullShare (AF I) ∗ outS (F := F) c ((outM.access (xR b)).write (Elt F) f (outB I b) Finset.univ))) := by
  unfold outP agPt outS
  iintro ⟨Hg, Ho⟩
  have hS := rows_setOn b
  iapply (ld_bind c agbM (rowsR b) h_S512x768 hS) $$ Hg
  iintro Hg
  iapply (ld_bind c outM (xR b) h_S1x512x768 (Finset.subset_univ _)) $$ Ho
  iintro Ho
  iapply (st_last c outM (xR b) _ _ (Finset.subset_univ _)) $$ Ho
  iintro Ho
  isplitl [Hg]; · iexact Hg
  iexact Ho

theorem out_write_idx {Val : EltTy → Type} (r : Rect S2x512x768) (f : S2x512x768.Idx → Val .f32) (w : r.shape.Idx → Val .f32) (j : r.shape.Idx) :
    (outM.access r).write Val f w Finset.univ (r.idx j) = w j :=
  View.write_emb_of_mem (v := outM.access r) f w (Finset.mem_univ j)
theorem out_write_off {Val : EltTy → Type} (r : Rect S2x512x768) (f : S2x512x768.Idx → Val .f32) (w : r.shape.Idx → Val .f32) {i : S2x512x768.Idx} (h : i ∉ r.set) :
    (outM.access r).write Val f w Finset.univ i = f i :=
  View.write_of_not_mem (v := outM.access r) f w Finset.univ (by
    have e : (outM.access r).setOn Finset.univ = r.set := View.set_slice_whole cc0_stg5_0 r
    rw [e]; exact h)

end Cert.KernelIdeal.Body
-- ==== Proof.States.lean ====
/- What a device holds for one part of one batch, step by step from the first copy to the last wait,
   and each group of three copies or waits as a step between these. -/
module

public import proofs.«01_k».proof.Proof.Calc

@[expose] public section

noncomputable section

namespace Cert.KernelIdeal.Body

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (shares3 pointsTo_thirds)

variable {F : FTy → Type} [FloatOps F] [Named F]

local notation "𝕄" => MT nD τ sig Unit (Elt F) ℕ UU ℕ

variable (I : Ins F) (K : CellIx → ℕ)

theorem bsep (A A' : sProp 𝕄) : Idealize.SL.BI.sep A A' = iprop(A ∗ A') := rfl

/-- One for each distance. -/
abbrev T3 (f : Fin 3 → sProp 𝕄) : sProp 𝕄 := iprop(f 0 ∗ f 1 ∗ f 2)

theorem each_spec (c : Dev nD) (p : Fin 3 → Pr F PUnit) (E : sProp 𝕄) [BI.Persistent E] (Z : Fin 4 → sProp 𝕄) (A R : Fin 3 → sProp 𝕄)
    (h0 : iprop(E ∗ Z 0 ∗ A 0) ⊢ wpc c (p 0) (fun _ => iprop(Z 1 ∗ R 0)))
    (h1 : iprop(E ∗ Z 1 ∗ A 1) ⊢ wpc c (p 1) (fun _ => iprop(Z 2 ∗ R 1)))
    (h2 : iprop(E ∗ Z 2 ∗ A 2) ⊢ wpc c (p 2) (fun _ => iprop(Z 3 ∗ R 2))) :
    iprop(E ∗ Z 0 ∗ T3 A) ⊢ wpc c (each p) (fun _ => iprop(Z 3 ∗ T3 R)) := by
  unfold each
  iintro ⟨#HE, HZ, A0, A1, A2⟩
  iapply (wpc_seq h0) $$ [HZ A0]
  · isplitr; · iexact HE
    isplitl [HZ] <;> iassumption
  iintro %u0 ⟨HZ, R0⟩
  iapply (wpc_seq h1) $$ [HZ A1]
  · isplitr; · iexact HE
    isplitl [HZ] <;> iassumption
  iintro %u1 ⟨HZ, R1⟩
  unfold wpc
  iapply (wp_wand (Fr := frame) (wpE := wpE (defs₀ (F := F)) 𝒱₀ (c : Thread nD τ) none) (E := Set.univ)) $$ [HZ A2]
  · iapply h2
    isplitr; · iexact HE
    isplitl [HZ] <;> iassumption
  iintro %u2 ⟨HZ, R2⟩
  isplitl [HZ]; · iexact HZ
  isplitl [R0]; · iexact R0
  isplitl [R1] <;> iassumption

/-- A step by another way in and out. -/
theorem wpc_conv {c : Dev nD} {p : Pr F PUnit} {A A' R R' : sProp 𝕄} (h : A ⊢ wpc c p (fun _ => R)) (hA : A' ⊢ A) (hR : R ⊢ R') :
    A' ⊢ wpc c p (fun _ => R') := by
  unfold wpc
  iintro H
  iapply (wp_wand (Fr := frame) (wpE := wpE (defs₀ (F := F)) 𝒱₀ (c : Thread nD τ) none) (E := Set.univ) (Q := fun _ => R)) $$ [H]
  · iapply h; iapply hA; iexact H
  iintro %u H
  iapply hR; iexact H

/-- A step beside what it does not touch. -/
theorem wpc_frame {c : Dev nD} {p : Pr F PUnit} {A G R : sProp 𝕄} (h : A ⊢ wpc c p (fun _ => R)) :
    iprop(A ∗ G) ⊢ wpc c p (fun _ => iprop(R ∗ G)) := by
  unfold wpc
  iintro ⟨H, HG⟩
  iapply (wp_wand (Fr := frame) (wpE := wpE (defs₀ (F := F)) 𝒱₀ (c : Thread nD τ) none) (E := Set.univ) (Q := fun _ => R)) $$ [H]
  · iapply h; iexact H
  iintro %u H
  isplitl [H] <;> iassumption

/-! ## Cuts of the half-word buffer -/

theorem quads_pr (c : Dev nD) : (Finset.univ : Finset (Fin 2 × Fin 4)) = ([(0, coord 0 c), (0, coord 0 (pr 0 0 c)), (0, coord 0 (pr 0 1 c)), (0, coord 0 (pr 0 2 c)),
    (1, coord 1 c), (1, coord 1 (pr 1 0 c)), (1, coord 1 (pr 1 1 c)), (1, coord 1 (pr 1 2 c))] : List (Fin 2 × Fin 4)).toFinset := by revert c; decide +kernel
theorem quads_pr_nodup (c : Dev nD) : ([(0, coord 0 c), (0, coord 0 (pr 0 0 c)), (0, coord 0 (pr 0 1 c)), (0, coord 0 (pr 0 2 c)),
    (1, coord 1 c), (1, coord 1 (pr 1 0 c)), (1, coord 1 (pr 1 1 c)), (1, coord 1 (pr 1 2 c))] : List (Fin 2 × Fin 4)).Nodup := by revert c; decide +kernel
theorem quads_sdr (c : Dev nD) : (Finset.univ : Finset (Fin 2 × Fin 4)) = ([(0, coord 0 c), (0, coord 0 (sdr 0 0 c)), (0, coord 0 (sdr 0 1 c)), (0, coord 0 (sdr 0 2 c)),
    (1, coord 1 c), (1, coord 1 (sdr 1 0 c)), (1, coord 1 (sdr 1 1 c)), (1, coord 1 (sdr 1 2 c))] : List (Fin 2 × Fin 4)).toFinset := by revert c; decide +kernel
theorem quads_sdr_nodup (c : Dev nD) : ([(0, coord 0 c), (0, coord 0 (sdr 0 0 c)), (0, coord 0 (sdr 0 1 c)), (0, coord 0 (sdr 0 2 c)),
    (1, coord 1 c), (1, coord 1 (sdr 1 0 c)), (1, coord 1 (sdr 1 1 c)), (1, coord 1 (sdr 1 2 c))] : List (Fin 2 × Fin 4)).Nodup := by revert c; decide +kernel

/-- A part of a batch on `c`: its own quarter and those at the three distances. -/
def quadsPr (c : Dev nD) (b s : Fin 2) (f : IdxA → F .bf16) : sProp 𝕄 :=
  iprop(agPt c (quadS b s (coord s c)) fullShare f ∗ T3 fun d => agPt c (quadS b s (coord s (pr s d c))) fullShare f)
/-- The same with the distances counted the other way. -/
def quadsSdr (c : Dev nD) (b s : Fin 2) (f : IdxA → F .bf16) : sProp 𝕄 :=
  iprop(agPt c (quadS b s (coord s c)) fullShare f ∗ T3 fun d => agPt c (quadS b s (coord s (sdr s d c))) fullShare f)

theorem rows_split (c : Dev nD) (b : Fin 2) (f : IdxA → F .bf16) :
    agPt c (rowsS b) fullShare f ⊢ iprop(quadsPr c b 0 f ∗ quadsPr c b 1 f) := by
  unfold quadsPr agPt
  rw [rowsS_eq, pointsTo_biUnion _ _ (fun x _ y _ h => quadS_disj b x y h), bigSep_univ_eq_bigSepL _ (quads_pr c) (quads_pr_nodup c)]
  simp only [bigSepL_cons_cons, bigSepL_singleton, bsep]
  iintro ⟨H0, H1, H2, H3, H4, H5, H6, H7⟩
  isplitl [H0 H1 H2 H3]
  · isplitl [H0]; · iexact H0
    isplitl [H1]; · iexact H1
    isplitl [H2] <;> iassumption
  isplitl [H4]; · iexact H4
  isplitl [H5]; · iexact H5
  isplitl [H6] <;> iassumption

theorem rows_join (c : Dev nD) (b : Fin 2) (f : IdxA → F .bf16) :
    iprop(quadsSdr c b 0 f ∗ quadsSdr c b 1 f) ⊢ agPt c (rowsS b) fullShare f := by
  unfold quadsSdr agPt
  rw [rowsS_eq, pointsTo_biUnion _ _ (fun x _ y _ h => quadS_disj b x y h), bigSep_univ_eq_bigSepL _ (quads_sdr c) (quads_sdr_nodup c)]
  simp only [bigSepL_cons_cons, bigSepL_singleton, bsep]
  iintro ⟨⟨H0, H1, H2, H3⟩, H4, H5, H6, H7⟩
  isplitl [H0]; · iexact H0
  isplitl [H1]; · iexact H1
  isplitl [H2]; · iexact H2
  isplitl [H3]; · iexact H3
  isplitl [H4]; · iexact H4
  isplitl [H5]; · iexact H5
  isplitl [H6] <;> iassumption

theorem blks_pr (k : Fin 2) (c : Dev nD) : (Finset.univ : Finset (Fin 4)) = ([coord k c, coord k (pr k 0 c), coord k (pr k 1 c), coord k (pr k 2 c)] : List (Fin 4)).toFinset := by
  revert k c; decide +kernel
theorem blks_sdr (k : Fin 2) (c : Dev nD) : (Finset.univ : Finset (Fin 4)) = ([coord k c, coord k (sdr k 0 c), coord k (sdr k 1 c), coord k (sdr k 2 c)] : List (Fin 4)).toFinset := by
  revert k c; decide +kernel

theorem quad_split (c : Dev nD) (b s : Fin 2) (f : IdxA → F .bf16) :
    agPt c (quadS b s (coord s c)) fullShare f
      ⊢ iprop(agPt c (blkS b s (coord s c) (coord (oth s) c)) fullShare f ∗ T3 fun d => agPt c (blkS b s (coord s c) (coord (oth s) (pr (oth s) d c))) fullShare f) := by
  unfold agPt
  rw [quadS_eq, pointsTo_biUnion _ _ (fun x _ y _ h => blkS_disj b s _ x y h), bigSep_univ_eq_bigSepL _ (blks_pr (oth s) c) (coords_nodup (oth s) c)]
  simp only [bigSepL_cons_cons, bigSepL_singleton, bsep]
  iintro ⟨H0, H1, H2, H3⟩
  isplitl [H0]; · iexact H0
  isplitl [H1]; · iexact H1
  isplitl [H2] <;> iassumption

theorem quad_join (c : Dev nD) (b s : Fin 2) (f : IdxA → F .bf16) :
    iprop(agPt c (blkS b s (coord s c) (coord (oth s) c)) fullShare f ∗ T3 fun d => agPt c (blkS b s (coord s c) (coord (oth s) (sdr (oth s) d c))) fullShare f)
      ⊢ agPt c (quadS b s (coord s c)) fullShare f := by
  unfold agPt
  rw [quadS_eq, pointsTo_biUnion _ _ (fun x _ y _ h => blkS_disj b s _ x y h), bigSep_univ_eq_bigSepL _ (blks_sdr (oth s) c) (coords_nodup' (oth s) c)]
  simp only [bigSepL_cons_cons, bigSepL_singleton, bsep]
  iintro ⟨H0, H1, H2, H3⟩
  isplitl [H0]; · iexact H0
  isplitl [H1]; · iexact H1
  isplitl [H2] <;> iassumption

theorem pts_thirds (ℓ : Loc nD τ sig) (S : Finset (Idx ℓ)) (f : Buf (Elt F) ℓ) :
    (ℓ ↦[S]{fullShare} f : sProp 𝕄) ⊣⊢ iprop((ℓ ↦[S]{shares3 fullShare 0} f) ∗ (ℓ ↦[S]{shares3 fullShare 1} f) ∗ (ℓ ↦[S]{shares3 fullShare 2} f)) :=
  pointsTo_thirds fullShare f

theorem thirds_split (c : Dev nD) (S : Finset IdxA) (f : IdxA → F .bf16) :
    agPt c S fullShare f ⊢ T3 fun d => agPt c S (shares3 fullShare d) f := by
  exact (pts_thirds (agbM.view.loc (c : Thread nD τ)) S f).1
theorem thirds_join (c : Dev nD) (S : Finset IdxA) (f : IdxA → F .bf16) :
    (T3 fun d => agPt c S (shares3 fullShare d) f) ⊢ agPt c S fullShare f := by
  exact (pts_thirds (agbM.view.loc (c : Thread nD τ)) S f).2

/-! ## The states of a part of a batch -/

variable (c : Dev nD) (b s : Fin 2)

/-- The tokens of a phase's three copies; the places and credits of their waits; that they have been made; that their counters are at zero. -/
def sK (ph : Fin 4) : sProp 𝕄 := T3 fun d => sKit (F := F) (ph, b, s, d) c
def wK (ph : Fin 4) : sProp 𝕄 := T3 fun d => wKit (F := F) (ph, b, s, d) c
def sn (ph : Fin 4) : sProp 𝕄 := T3 fun d => sent (F := F) (ph, b, s, d) c
def dnK (ph : Fin 4) : sProp 𝕄 := T3 fun d => dnKit (F := F) (ph, b, s, d) c

/-- The three others' slots of the first and of the second reduction step; the device's own to send from. -/
def slRx : sProp 𝕄 := T3 fun d => slot (F := F) (pr s d c) (rxV s b d)
def slRy : sProp 𝕄 := T3 fun d => slot (F := F) (pr (oth s) d c) (ryV s b d)
def slSb : sProp 𝕄 := T3 fun d => slot (F := F) c (sbV s b d)
/-- The three slots as they have been filled. -/
def fRx : sProp 𝕄 := T3 fun d => owns (c : Thread nD τ) (rxV s b d) fullShare (slA I c b s d)
def fRy : sProp 𝕄 := T3 fun d => owns (c : Thread nD τ) (ryV s b d) fullShare (slS I c b s d)

/-- The places on the other devices to which the finished quarter and block go. -/
def dH : sProp 𝕄 := T3 fun d => agEx (F := F) (sdr s d c) (quadS b s (coord s c))
def dG : sProp 𝕄 := T3 fun d => agEx (F := F) (sdr (oth s) d c) (blkS b s (coord s c) (coord (oth s) c))

/-- The device's own quarter and block. -/
def oQ (f : IdxA → F .bf16) : sProp 𝕄 := agPt c (quadS b s (coord s c)) fullShare f
def oB (f : IdxA → F .bf16) : sProp 𝕄 := agPt c (blkS b s (coord s c) (coord (oth s) c)) fullShare f
def eB : sProp 𝕄 := agEx (F := F) c (blkS b s (coord s c) (coord (oth s) c))

/-- What the later phases take. -/
def L3 : sProp 𝕄 := iprop(sK (F := F) c b s 3 ∗ wK (F := F) c b s 3)
def L2 : sProp 𝕄 := iprop(sK (F := F) c b s 2 ∗ wK (F := F) c b s 2 ∗ L3 (F := F) c b s)
def L1 : sProp 𝕄 := iprop(sK (F := F) c b s 1 ∗ wK (F := F) c b s 1 ∗ slRy (F := F) c b s ∗ slSb (F := F) c b s ∗ L2 (F := F) c b s)

/-- What the finished phases leave. -/
def X0 : sProp 𝕄 := iprop(dnK (F := F) c b s 0 ∗ fRx I c b s)
def X1 : sProp 𝕄 := iprop(X0 I c b s ∗ dnK (F := F) c b s 1 ∗ slSb (F := F) c b s ∗ fRy I c b s)
def X2 : sProp 𝕄 := iprop(X1 I c b s ∗ dnK (F := F) c b s 2)
def X3 : sProp 𝕄 := iprop(X2 I c b s ∗ dnK (F := F) c b s 3)

/-- At the start; after each group of copies and waits. -/
def W0 : sProp 𝕄 := iprop(sK (F := F) c b s 0 ∗ wK (F := F) c b s 0 ∗ slRx (F := F) c b s ∗ L1 (F := F) c b s)
def W1 : sProp 𝕄 := iprop(W0 (F := F) c b s ∗ quadsPr c b s (B I c))
def W2 : sProp 𝕄 := iprop(wK (F := F) c b s 0 ∗ sn (F := F) c b s 0 ∗ oQ c b s (B I c) ∗ L1 (F := F) c b s)
def W3' : sProp 𝕄 := iprop(dH (F := F) c b s ∗ oQ c b s (B I c) ∗ L1 (F := F) c b s)
def W3 : sProp 𝕄 := iprop(X0 I c b s ∗ W3' I c b s)
def W4 : sProp 𝕄 := iprop(X0 I c b s ∗ dH (F := F) c b s ∗ oB c b s (B I c) ∗ wK (F := F) c b s 1 ∗ sn (F := F) c b s 1 ∗ L2 (F := F) c b s)
def W5' : sProp 𝕄 := iprop(dH (F := F) c b s ∗ dG (F := F) c b s ∗ L2 (F := F) c b s)
def W5 : sProp 𝕄 := iprop(X1 I c b s ∗ eB (F := F) c b s ∗ W5' (F := F) c b s)
def W5b : sProp 𝕄 := iprop(X1 I c b s ∗ oB c b s (AF I) ∗ W5' (F := F) c b s)
def W6 : sProp 𝕄 := iprop(X1 I c b s ∗ dH (F := F) c b s ∗ wK (F := F) c b s 2 ∗ sn (F := F) c b s 2 ∗ L3 (F := F) c b s)
def W7 : sProp 𝕄 := iprop(X2 I c b s ∗ dH (F := F) c b s ∗ oQ c b s (AF I) ∗ L3 (F := F) c b s)
def W8 : sProp 𝕄 := iprop(X2 I c b s ∗ wK (F := F) c b s 3 ∗ sn (F := F) c b s 3)
def W9 : sProp 𝕄 := iprop(X3 I c b s ∗ quadsSdr c b s (AF I))

/-! ## The groups of copies -/

variable (l : List Job)

/-- What is owed as the three copies of a group are made. -/
def goZ (ph : Fin 4) : Fin 4 → sProp 𝕄
  | 0 => owing (F := F) c (grp ph b s ++ l)
  | 1 => owing (F := F) c ((ph, b, s, 1) :: (ph, b, s, 2) :: l)
  | 2 => owing (F := F) c ((ph, b, s, 2) :: l)
  | 3 => owing (F := F) c l

theorem sendsA : iprop(Ev I K ∗ owing (F := F) c (grp 0 b s ++ l) ∗ W1 I c b s) ⊢ wpc c (each (sendA c b s)) (fun _ => iprop(owing (F := F) c l ∗ W2 I c b s)) := by
  refine wpc_conv (A := iprop((Ev I K ∗ owing (F := F) c (grp 0 b s ++ l) ∗ T3 fun d => iprop(sKit (F := F) (0, b, s, d) c ∗ agPt c (quadS b s (coord s (pr s d c))) fullShare (B I c) ∗ slot (F := F) (pr s d c) (rxV s b d))) ∗ (wK (F := F) c b s 0 ∗ oQ c b s (B I c) ∗ L1 (F := F) c b s)))
    (R := iprop((owing (F := F) c l ∗ T3 fun d => sent (F := F) (0, b, s, d) c) ∗ (wK (F := F) c b s 0 ∗ oQ c b s (B I c) ∗ L1 (F := F) c b s))) ?_ ?_ ?_
  · exact wpc_frame (each_spec c (sendA c b s) (Ev I K) (goZ c b s l 0)
      (fun d => iprop(sKit (F := F) (0, b, s, d) c ∗ agPt c (quadS b s (coord s (pr s d c))) fullShare (B I c) ∗ slot (F := F) (pr s d c) (rxV s b d)))
      (fun d => sent (F := F) (0, b, s, d) c) (sendA_spec I K c b s 0 _) (sendA_spec I K c b s 1 _) (sendA_spec I K c b s 2 _))
  · unfold W1 W0 sK slRx quadsPr oQ
    iintro ⟨HE, HO, ⟨⟨K0, K1, K2⟩, HW, ⟨S0, S1, S2⟩, HL⟩, Ho, A0, A1, A2⟩
    isplitr [HW Ho HL]
    · isplitl [HE]; · iexact HE
      isplitl [HO]; · iexact HO
      isplitl [K0 A0 S0]
      · isplitl [K0]; · iexact K0
        isplitl [A0] <;> iassumption
      isplitl [K1 A1 S1]
      · isplitl [K1]; · iexact K1
        isplitl [A1] <;> iassumption
      isplitl [K2]; · iexact K2
      isplitl [A2] <;> iassumption
    isplitl [HW]; · iexact HW
    isplitl [Ho] <;> iassumption
  · unfold W2 sn
    iintro ⟨⟨HO, HS⟩, HW, Ho, HL⟩
    isplitl [HO]; · iexact HO
    isplitl [HW]; · iexact HW
    isplitl [HS]; · iexact HS
    isplitl [Ho] <;> iassumption

theorem waitsA (hl : ∀ d, ∀ j' ∈ l, jLv (0, b, s, d) < jLv j') :
    iprop(Ev I K ∗ owing (F := F) c l ∗ W2 I c b s) ⊢ wpc c (each (waitA c b s)) (fun _ => iprop(owing (F := F) c l ∗ W3 I c b s)) := by
  refine wpc_conv (A := iprop((Ev I K ∗ owing (F := F) c l ∗ T3 fun d => iprop(wKit (F := F) (0, b, s, d) c ∗ sent (F := F) (0, b, s, d) c)) ∗ (oQ c b s (B I c) ∗ L1 (F := F) c b s)))
    (R := iprop((owing (F := F) c l ∗ T3 fun d => iprop(dnKit (F := F) (0, b, s, d) c ∗ sPay I (0, b, s, d) c ∗ rPay I (0, b, s, d) c)) ∗ (oQ c b s (B I c) ∗ L1 (F := F) c b s))) ?_ ?_ ?_
  · exact wpc_frame (each_spec c (waitA c b s) (Ev I K) (fun _ => owing (F := F) c l)
      (fun d => iprop(wKit (F := F) (0, b, s, d) c ∗ sent (F := F) (0, b, s, d) c))
      (fun d => iprop(dnKit (F := F) (0, b, s, d) c ∗ sPay I (0, b, s, d) c ∗ rPay I (0, b, s, d) c))
      (waitA_spec I K c b s 0 l (hl 0)) (waitA_spec I K c b s 1 l (hl 1)) (waitA_spec I K c b s 2 l (hl 2)))
  · unfold W2 wK sn
    iintro ⟨HE, HO, ⟨K0, K1, K2⟩, ⟨S0, S1, S2⟩, Ho, HL⟩
    isplitr [Ho HL]
    · isplitl [HE]; · iexact HE
      isplitl [HO]; · iexact HO
      isplitl [K0 S0]
      · isplitl [K0] <;> iassumption
      isplitl [K1 S1]
      · isplitl [K1] <;> iassumption
      isplitl [K2] <;> iassumption
    isplitl [Ho] <;> iassumption
  · unfold W3 W3' X0 dnK fRx dH rPay
    iintro ⟨⟨HO, ⟨D0, -, R0, H0⟩, ⟨D1, -, R1, H1⟩, ⟨D2, -, R2, H2⟩⟩, Ho, HL⟩
    isplitl [HO]; · iexact HO
    isplitl [D0 D1 D2 R0 R1 R2]
    · isplitl [D0 D1 D2]
      · isplitl [D0]; · iexact D0
        isplitl [D1] <;> iassumption
      isplitl [R0]; · iexact R0
      isplitl [R1] <;> iassumption
    isplitl [H0 H1 H2]
    · isplitl [H0]; · iexact H0
      isplitl [H1] <;> iassumption
    isplitl [Ho] <;> iassumption

def goZacc (f0 : IdxA → F .f32) (st : Stage) : Fin 4 → sProp 𝕄 := fun n => iprop(accP I f0 st c ∗ goZ (F := F) c b s l 1 n)

theorem sendsS (f0 : IdxA → F .f32) (st : Stage) (hst : st b s = 2) :
    iprop(Ev I K ∗ accP I f0 st c ∗ owing (F := F) c (grp 1 b s ++ l) ∗ W3 I c b s)
      ⊢ wpc c (each (sendS c b s)) (fun _ => iprop(accP I f0 st c ∗ owing (F := F) c l ∗ W4 I c b s)) := by
  refine wpc_conv (A := iprop((Ev I K ∗ (accP I f0 st c ∗ owing (F := F) c (grp 1 b s ++ l)) ∗ T3 fun d => iprop(sKit (F := F) (1, b, s, d) c ∗ slot (F := F) c (sbV s b d)
        ∗ agPt c (blkS b s (coord s c) (coord (oth s) (pr (oth s) d c))) fullShare (B I c) ∗ slot (F := F) (pr (oth s) d c) (ryV s b d)))
        ∗ (X0 I c b s ∗ dH (F := F) c b s ∗ oB c b s (B I c) ∗ wK (F := F) c b s 1 ∗ L2 (F := F) c b s)))
    (R := iprop(((accP I f0 st c ∗ owing (F := F) c l) ∗ T3 fun d => sent (F := F) (1, b, s, d) c)
        ∗ (X0 I c b s ∗ dH (F := F) c b s ∗ oB c b s (B I c) ∗ wK (F := F) c b s 1 ∗ L2 (F := F) c b s))) ?_ ?_ ?_
  · exact wpc_frame (each_spec c (sendS c b s) (Ev I K) (goZacc I c b s l f0 st)
      (fun d => iprop(sKit (F := F) (1, b, s, d) c ∗ slot (F := F) c (sbV s b d)
        ∗ agPt c (blkS b s (coord s c) (coord (oth s) (pr (oth s) d c))) fullShare (B I c) ∗ slot (F := F) (pr (oth s) d c) (ryV s b d)))
      (fun d => sent (F := F) (1, b, s, d) c) (sendS_spec I K f0 st c b s 0 hst _) (sendS_spec I K f0 st c b s 1 hst _) (sendS_spec I K f0 st c b s 2 hst _))
  · unfold W3 W3' L1 sK slRy slSb
    iintro ⟨HE, Hacc, HO, HX, HH, Ho, ⟨K0, K1, K2⟩, HW, ⟨Y0, Y1, Y2⟩, ⟨S0, S1, S2⟩, HL⟩
    unfold oQ oB
    ihave Ho := (quad_split c b s (B I c)) $$ Ho
    icases Ho with ⟨Ho, B0, B1, B2⟩
    isplitr [HX HH Ho HW HL]
    · isplitl [HE]; · iexact HE
      isplitl [Hacc HO]
      · isplitl [Hacc] <;> iassumption
      isplitl [K0 S0 B0 Y0]
      · isplitl [K0]; · iexact K0
        isplitl [S0]; · iexact S0
        isplitl [B0] <;> iassumption
      isplitl [K1 S1 B1 Y1]
      · isplitl [K1]; · iexact K1
        isplitl [S1]; · iexact S1
        isplitl [B1] <;> iassumption
      isplitl [K2]; · iexact K2
      isplitl [S2]; · iexact S2
      isplitl [B2] <;> iassumption
    isplitl [HX]; · iexact HX
    isplitl [HH]; · iexact HH
    isplitl [Ho]; · iexact Ho
    isplitl [HW] <;> iassumption
  · unfold W4 sn
    iintro ⟨⟨⟨Hacc, HO⟩, HS⟩, HX, HH, Ho, HW, HL⟩
    isplitl [Hacc]; · iexact Hacc
    isplitl [HO]; · iexact HO
    isplitl [HX]; · iexact HX
    isplitl [HH]; · iexact HH
    isplitl [Ho]; · iexact Ho
    isplitl [HW]; · iexact HW
    isplitl [HS] <;> iassumption

theorem waitsS (hl : ∀ d, ∀ j' ∈ l, jLv (1, b, s, d) < jLv j') :
    iprop(Ev I K ∗ owing (F := F) c l ∗ W4 I c b s) ⊢ wpc c (each (waitS c b s)) (fun _ => iprop(owing (F := F) c l ∗ W5 I c b s)) := by
  refine wpc_conv (A := iprop((Ev I K ∗ owing (F := F) c l ∗ T3 fun d => iprop(wKit (F := F) (1, b, s, d) c ∗ sent (F := F) (1, b, s, d) c))
        ∗ (X0 I c b s ∗ dH (F := F) c b s ∗ oB c b s (B I c) ∗ L2 (F := F) c b s)))
    (R := iprop((owing (F := F) c l ∗ T3 fun d => iprop(dnKit (F := F) (1, b, s, d) c ∗ sPay I (1, b, s, d) c ∗ rPay I (1, b, s, d) c))
        ∗ (X0 I c b s ∗ dH (F := F) c b s ∗ oB c b s (B I c) ∗ L2 (F := F) c b s))) ?_ ?_ ?_
  · exact wpc_frame (each_spec c (waitS c b s) (Ev I K) (fun _ => owing (F := F) c l)
      (fun d => iprop(wKit (F := F) (1, b, s, d) c ∗ sent (F := F) (1, b, s, d) c))
      (fun d => iprop(dnKit (F := F) (1, b, s, d) c ∗ sPay I (1, b, s, d) c ∗ rPay I (1, b, s, d) c))
      (waitS_spec I K c b s 0 l (hl 0)) (waitS_spec I K c b s 1 l (hl 1)) (waitS_spec I K c b s 2 l (hl 2)))
  · unfold W4 wK sn
    iintro ⟨HE, HO, HX, HH, Ho, ⟨K0, K1, K2⟩, ⟨S0, S1, S2⟩, HL⟩
    isplitr [HX HH Ho HL]
    · isplitl [HE]; · iexact HE
      isplitl [HO]; · iexact HO
      isplitl [K0 S0]
      · isplitl [K0] <;> iassumption
      isplitl [K1 S1]
      · isplitl [K1] <;> iassumption
      isplitl [K2] <;> iassumption
    isplitl [HX]; · iexact HX
    isplitl [HH]; · iexact HH
    isplitl [Ho] <;> iassumption
  · unfold W5 W5' X1 dnK fRy dG slSb eB oB rPay sPay
    iintro ⟨⟨HO, ⟨D0, S0, R0, H0⟩, ⟨D1, S1, R1, H1⟩, ⟨D2, S2, R2, H2⟩⟩, HX, HH, Ho, HL⟩
    isplitl [HO]; · iexact HO
    isplitl [HX D0 D1 D2 S0 S1 S2 R0 R1 R2]
    · isplitl [HX]; · iexact HX
      isplitl [D0 D1 D2]
      · isplitl [D0]; · iexact D0
        isplitl [D1] <;> iassumption
      isplitl [S0 S1 S2]
      · isplitl [S0]; · iexact S0
        isplitl [S1] <;> iassumption
      isplitl [R0]; · iexact R0
      isplitl [R1] <;> iassumption
    isplitl [Ho]
    · unfold agEx; iexists (B I c); iexact Ho
    isplitl [HH]; · iexact HH
    isplitl [H0 H1 H2]
    · isplitl [H0]; · iexact H0
      isplitl [H1] <;> iassumption
    iexact HL

theorem sendsG : iprop(Ev I K ∗ owing (F := F) c (grp 2 b s ++ l) ∗ W5b I c b s) ⊢ wpc c (each (sendG c b s)) (fun _ => iprop(owing (F := F) c l ∗ W6 I c b s)) := by
  refine wpc_conv (A := iprop((Ev I K ∗ owing (F := F) c (grp 2 b s ++ l) ∗ T3 fun d => iprop(sKit (F := F) (2, b, s, d) c
        ∗ agPt c (blkS b s (coord s c) (coord (oth s) c)) (shares3 fullShare d) (AF I) ∗ agEx (F := F) (pr (oth s) d c) (blkS b s (coord s c) (coord (oth s) c))))
        ∗ (X1 I c b s ∗ dH (F := F) c b s ∗ wK (F := F) c b s 2 ∗ L3 (F := F) c b s)))
    (R := iprop((owing (F := F) c l ∗ T3 fun d => sent (F := F) (2, b, s, d) c) ∗ (X1 I c b s ∗ dH (F := F) c b s ∗ wK (F := F) c b s 2 ∗ L3 (F := F) c b s))) ?_ ?_ ?_
  · exact wpc_frame (each_spec c (sendG c b s) (Ev I K) (goZ c b s l 2)
      (fun d => iprop(sKit (F := F) (2, b, s, d) c
        ∗ agPt c (blkS b s (coord s c) (coord (oth s) c)) (shares3 fullShare d) (AF I) ∗ agEx (F := F) (pr (oth s) d c) (blkS b s (coord s c) (coord (oth s) c))))
      (fun d => sent (F := F) (2, b, s, d) c) (sendG_spec I K c b s 0 _) (sendG_spec I K c b s 1 _) (sendG_spec I K c b s 2 _))
  · unfold W5b W5' L2 sK dG oB
    iintro ⟨HE, HO, HX, Ho, HH, ⟨G0, G1, G2⟩, ⟨K0, K1, K2⟩, HW, HL⟩
    ihave Ho := (thirds_split c _ (AF I)) $$ Ho
    icases Ho with ⟨O0, O1, O2⟩
    isplitr [HX HH HW HL]
    · isplitl [HE]; · iexact HE
      isplitl [HO]; · iexact HO
      isplitl [K0 O0 G2]
      · isplitl [K0]; · iexact K0
        isplitl [O0]; · iexact O0
        iexact G2
      isplitl [K1 O1 G1]
      · isplitl [K1]; · iexact K1
        isplitl [O1]; · iexact O1
        iexact G1
      isplitl [K2]; · iexact K2
      isplitl [O2]; · iexact O2
      iexact G0
    isplitl [HX]; · iexact HX
    isplitl [HH]; · iexact HH
    isplitl [HW] <;> iassumption
  · unfold W6 sn
    iintro ⟨⟨HO, HS⟩, HX, HH, HW, HL⟩
    isplitl [HO]; · iexact HO
    isplitl [HX]; · iexact HX
    isplitl [HH]; · iexact HH
    isplitl [HW]; · iexact HW
    isplitl [HS] <;> iassumption

theorem waitsG (hl : ∀ d, ∀ j' ∈ l, jLv (2, b, s, d) < jLv j') :
    iprop(Ev I K ∗ owing (F := F) c l ∗ W6 I c b s) ⊢ wpc c (each (waitG c b s)) (fun _ => iprop(owing (F := F) c l ∗ W7 I c b s)) := by
  refine wpc_conv (A := iprop((Ev I K ∗ owing (F := F) c l ∗ T3 fun d => iprop(wKit (F := F) (2, b, s, d) c ∗ sent (F := F) (2, b, s, d) c))
        ∗ (X1 I c b s ∗ dH (F := F) c b s ∗ L3 (F := F) c b s)))
    (R := iprop((owing (F := F) c l ∗ T3 fun d => iprop(dnKit (F := F) (2, b, s, d) c ∗ sPay I (2, b, s, d) c ∗ rPay I (2, b, s, d) c))
        ∗ (X1 I c b s ∗ dH (F := F) c b s ∗ L3 (F := F) c b s))) ?_ ?_ ?_
  · exact wpc_frame (each_spec c (waitG c b s) (Ev I K) (fun _ => owing (F := F) c l)
      (fun d => iprop(wKit (F := F) (2, b, s, d) c ∗ sent (F := F) (2, b, s, d) c))
      (fun d => iprop(dnKit (F := F) (2, b, s, d) c ∗ sPay I (2, b, s, d) c ∗ rPay I (2, b, s, d) c))
      (waitG_spec I K c b s 0 l (hl 0)) (waitG_spec I K c b s 1 l (hl 1)) (waitG_spec I K c b s 2 l (hl 2)))
  · unfold W6 wK sn
    iintro ⟨HE, HO, HX, HH, ⟨K0, K1, K2⟩, ⟨S0, S1, S2⟩, HL⟩
    isplitr [HX HH HL]
    · isplitl [HE]; · iexact HE
      isplitl [HO]; · iexact HO
      isplitl [K0 S0]
      · isplitl [K0] <;> iassumption
      isplitl [K1 S1]
      · isplitl [K1] <;> iassumption
      isplitl [K2] <;> iassumption
    isplitl [HX]; · iexact HX
    isplitl [HH] <;> iassumption
  · unfold W7 X2 dnK oQ rPay sPay
    iintro ⟨⟨HO, ⟨D0, S0, R0⟩, ⟨D1, S1, R1⟩, ⟨D2, S2, R2⟩⟩, HX, HH, HL⟩
    isplitl [HO]; · iexact HO
    isplitl [HX D0 D1 D2]
    · isplitl [HX]; · iexact HX
      isplitl [D0]; · iexact D0
      isplitl [D1] <;> iassumption
    isplitl [HH]; · iexact HH
    isplitl [S0 S1 S2 R0 R1 R2]
    · iapply (quad_join c b s (AF I))
      isplitl [S0 S1 S2]
      · iapply (thirds_join c _ (AF I))
        isplitl [S0]; · iexact S0
        isplitl [S1] <;> iassumption
      isplitl [R0]; · iexact R0
      isplitl [R1] <;> iassumption
    iexact HL

theorem sendsH : iprop(Ev I K ∗ owing (F := F) c (grp 3 b s ++ l) ∗ W7 I c b s) ⊢ wpc c (each (sendH c b s)) (fun _ => iprop(owing (F := F) c l ∗ W8 I c b s)) := by
  refine wpc_conv (A := iprop((Ev I K ∗ owing (F := F) c (grp 3 b s ++ l) ∗ T3 fun d => iprop(sKit (F := F) (3, b, s, d) c
        ∗ agPt c (quadS b s (coord s c)) (shares3 fullShare d) (AF I) ∗ agEx (F := F) (pr s d c) (quadS b s (coord s c))))
        ∗ (X2 I c b s ∗ wK (F := F) c b s 3)))
    (R := iprop((owing (F := F) c l ∗ T3 fun d => sent (F := F) (3, b, s, d) c) ∗ (X2 I c b s ∗ wK (F := F) c b s 3))) ?_ ?_ ?_
  · exact wpc_frame (each_spec c (sendH c b s) (Ev I K) (goZ c b s l 3)
      (fun d => iprop(sKit (F := F) (3, b, s, d) c
        ∗ agPt c (quadS b s (coord s c)) (shares3 fullShare d) (AF I) ∗ agEx (F := F) (pr s d c) (quadS b s (coord s c))))
      (fun d => sent (F := F) (3, b, s, d) c) (sendH_spec I K c b s 0 _) (sendH_spec I K c b s 1 _) (sendH_spec I K c b s 2 _))
  · unfold W7 L3 sK dH oQ
    iintro ⟨HE, HO, HX, ⟨G0, G1, G2⟩, Ho, ⟨K0, K1, K2⟩, HW⟩
    ihave Ho := (thirds_split c _ (AF I)) $$ Ho
    icases Ho with ⟨O0, O1, O2⟩
    isplitr [HX HW]
    · isplitl [HE]; · iexact HE
      isplitl [HO]; · iexact HO
      isplitl [K0 O0 G2]
      · isplitl [K0]; · iexact K0
        isplitl [O0]; · iexact O0
        iexact G2
      isplitl [K1 O1 G1]
      · isplitl [K1]; · iexact K1
        isplitl [O1]; · iexact O1
        iexact G1
      isplitl [K2]; · iexact K2
      isplitl [O2]; · iexact O2
      iexact G0
    isplitl [HX] <;> iassumption
  · unfold W8 sn
    iintro ⟨⟨HO, HS⟩, HX, HW⟩
    isplitl [HO]; · iexact HO
    isplitl [HX]; · iexact HX
    isplitl [HW] <;> iassumption

theorem waitsH (hl : ∀ d, ∀ j' ∈ l, jLv (3, b, s, d) < jLv j') :
    iprop(Ev I K ∗ owing (F := F) c l ∗ W8 I c b s) ⊢ wpc c (each (waitH c b s)) (fun _ => iprop(owing (F := F) c l ∗ W9 I c b s)) := by
  refine wpc_conv (A := iprop((Ev I K ∗ owing (F := F) c l ∗ T3 fun d => iprop(wKit (F := F) (3, b, s, d) c ∗ sent (F := F) (3, b, s, d) c)) ∗ X2 I c b s))
    (R := iprop((owing (F := F) c l ∗ T3 fun d => iprop(dnKit (F := F) (3, b, s, d) c ∗ sPay I (3, b, s, d) c ∗ rPay I (3, b, s, d) c)) ∗ X2 I c b s)) ?_ ?_ ?_
  · exact wpc_frame (each_spec c (waitH c b s) (Ev I K) (fun _ => owing (F := F) c l)
      (fun d => iprop(wKit (F := F) (3, b, s, d) c ∗ sent (F := F) (3, b, s, d) c))
      (fun d => iprop(dnKit (F := F) (3, b, s, d) c ∗ sPay I (3, b, s, d) c ∗ rPay I (3, b, s, d) c))
      (waitH_spec I K c b s 0 l (hl 0)) (waitH_spec I K c b s 1 l (hl 1)) (waitH_spec I K c b s 2 l (hl 2)))
  · unfold W8 wK sn
    iintro ⟨HE, HO, HX, ⟨K0, K1, K2⟩, ⟨S0, S1, S2⟩⟩
    isplitr [HX]
    · isplitl [HE]; · iexact HE
      isplitl [HO]; · iexact HO
      isplitl [K0 S0]
      · isplitl [K0] <;> iassumption
      isplitl [K1 S1]
      · isplitl [K1] <;> iassumption
      isplitl [K2] <;> iassumption
    iexact HX
  · unfold W9 X3 dnK quadsSdr rPay sPay
    iintro ⟨⟨HO, ⟨D0, S0, R0⟩, ⟨D1, S1, R1⟩, ⟨D2, S2, R2⟩⟩, HX⟩
    isplitl [HO]; · iexact HO
    isplitl [HX D0 D1 D2]
    · isplitl [HX]; · iexact HX
      isplitl [D0]; · iexact D0
      isplitl [D1] <;> iassumption
    isplitl [S0 S1 S2]
    · iapply (thirds_join c _ (AF I))
      isplitl [S0]; · iexact S0
      isplitl [S1] <;> iassumption
    isplitl [R0]; · iexact R0
    isplitl [R1] <;> iassumption

/-! ## The sums and roundings on these states -/

theorem foldsA (f0 : IdxA → F .f32) (st : Stage) (hst : st b s = 1) :
    iprop(accP I f0 st c ∗ W3 I c b s) ⊢ wpc c (foldA c b s) (fun _ => iprop(accP I f0 (st.set b s 2) c ∗ W3 I c b s)) := by
  refine wpc_conv (wpc_frame (G := iprop(dnK (F := F) c b s 0 ∗ W3' I c b s)) (foldA_spec I f0 st c b s hst)) ?_ ?_
  · unfold W3 X0 fRx
    iintro ⟨Ha, ⟨HD, HR⟩, HW⟩
    isplitl [Ha HR]
    · isplitl [Ha] <;> iassumption
    isplitl [HD] <;> iassumption
  · unfold W3 X0 fRx
    iintro ⟨⟨Ha, HR⟩, HD, HW⟩
    isplitl [Ha]; · iexact Ha
    isplitl [HD HR]
    · isplitl [HD] <;> iassumption
    iexact HW

theorem foldsS (f0 : IdxA → F .f32) (st : Stage) (hst : st b s = 2) :
    iprop(accP I f0 st c ∗ W5 I c b s) ⊢ wpc c (foldS c b s) (fun _ => iprop(accP I f0 (st.set b s 3) c ∗ W5 I c b s)) := by
  refine wpc_conv (wpc_frame (G := iprop((X0 I c b s ∗ dnK (F := F) c b s 1 ∗ slSb (F := F) c b s) ∗ (eB (F := F) c b s ∗ W5' (F := F) c b s))) (foldS_spec I f0 st c b s hst)) ?_ ?_
  · unfold W5 X1 fRy
    iintro ⟨Ha, ⟨HX, HD, HS, HR⟩, HW⟩
    isplitl [Ha HR]
    · isplitl [Ha] <;> iassumption
    isplitl [HX HD HS]
    · isplitl [HX]; · iexact HX
      isplitl [HD] <;> iassumption
    iexact HW
  · unfold W5 X1 fRy
    iintro ⟨⟨Ha, HR⟩, ⟨HX, HD, HS⟩, HW⟩
    isplitl [Ha]; · iexact Ha
    isplitl [HX HD HS HR]
    · isplitl [HX]; · iexact HX
      isplitl [HD]; · iexact HD
      isplitl [HS] <;> iassumption
    iexact HW

theorem castsB (f0 : IdxA → F .f32) (st : Stage) (hst : st b s = 3) :
    iprop(accP I f0 st c ∗ W5 I c b s) ⊢ wpc c (castB c b s) (fun _ => iprop(accP I f0 st c ∗ W5b I c b s)) := by
  refine wpc_conv (wpc_frame (G := iprop(X1 I c b s ∗ W5' (F := F) c b s)) (castB_spec I f0 st c b s hst)) ?_ ?_
  · unfold W5 eB
    iintro ⟨Ha, HX, Ho, HW⟩
    isplitl [Ha Ho]
    · isplitl [Ha] <;> iassumption
    isplitl [HX] <;> iassumption
  · unfold W5b oB
    iintro ⟨⟨Ha, Ho⟩, HX, HW⟩
    isplitl [Ha]; · iexact Ha
    isplitl [HX]; · iexact HX
    isplitl [Ho] <;> iassumption

theorem castsP (f0 : IdxA → F .f32) (st : Stage) (hst : ∀ s, st b s = 1) :
    iprop(accP I f0 st c ∗ agEx (F := F) c (rowsS b) ∗ W0 (F := F) c b 0 ∗ W0 (F := F) c b 1)
      ⊢ wpc c (castP b) (fun _ => iprop(accP I f0 st c ∗ W1 I c b 0 ∗ W1 I c b 1)) := by
  refine wpc_conv (wpc_frame (G := iprop(W0 (F := F) c b 0 ∗ W0 (F := F) c b 1)) (castP_spec I f0 st c b hst)) ?_ ?_
  · iintro ⟨Ha, Hg, HW⟩
    isplitl [Ha Hg]
    · isplitl [Ha] <;> iassumption
    iexact HW
  · unfold W1
    iintro ⟨⟨Ha, Hg⟩, HW0, HW1⟩
    ihave Hg := (rows_split c b (B I c)) $$ Hg
    icases Hg with ⟨G0, G1⟩
    isplitl [Ha]; · iexact Ha
    isplitl [HW0 G0]
    · isplitl [HW0] <;> iassumption
    isplitl [HW1] <;> iassumption

/-- What a batch leaves at the end. -/
def WE : sProp 𝕄 := iprop((X3 I c b 0 ∗ X3 I c b 1) ∗ agPt c (rowsS b) fullShare (AF I))

theorem outsP (f : S2x512x768.Idx → F .f32) :
    iprop(outS (F := F) c f ∗ W9 I c b 0 ∗ W9 I c b 1)
      ⊢ wpc c (outP b) (fun _ => iprop(outS (F := F) c ((outM.access (xR b)).write (Elt F) f (outB I b) Finset.univ) ∗ WE I c b)) := by
  refine wpc_conv (wpc_frame (G := iprop(X3 I c b 0 ∗ X3 I c b 1)) (outP_spec I c b f)) ?_ ?_
  · unfold W9
    iintro ⟨Ho, ⟨HX0, Q0⟩, HX1, Q1⟩
    isplitl [Ho Q0 Q1]
    · isplitl [Q0 Q1]
      · iapply (rows_join c b (AF I))
        isplitl [Q0] <;> iassumption
      iexact Ho
    isplitl [HX0] <;> iassumption
  · unfold WE
    iintro ⟨⟨Hg, Ho⟩, HX⟩
    isplitl [Ho]; · iexact Ho
    isplitl [HX] <;> iassumption

end Cert.KernelIdeal.Body
-- ==== Proof.Run.lean ====
/- The whole body on one device: from what the device holds at the start to the result and what is
   left. -/
module

public import proofs.«01_k».proof.Proof.States

@[expose] public section

noncomputable section

namespace Cert.KernelIdeal.Body

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (I : Ins F) (K : CellIx → ℕ) (c : Dev nD)

/-- What is still to be copied after so many groups. -/
abbrev j16 : List Job := []
abbrev j15 : List Job := grp 3 1 1 ++ j16
abbrev j14 : List Job := grp 3 1 0 ++ j15
abbrev j13 : List Job := grp 2 1 1 ++ j14
abbrev j12 : List Job := grp 2 1 0 ++ j13
abbrev j11 : List Job := grp 3 0 1 ++ j12
abbrev j10 : List Job := grp 3 0 0 ++ j11
abbrev j9 : List Job := grp 1 1 1 ++ j10
abbrev j8 : List Job := grp 1 1 0 ++ j9
abbrev j7 : List Job := grp 2 0 1 ++ j8
abbrev j6 : List Job := grp 2 0 0 ++ j7
abbrev j5 : List Job := grp 0 1 1 ++ j6
abbrev j4 : List Job := grp 0 1 0 ++ j5
abbrev j3 : List Job := grp 1 0 1 ++ j4
abbrev j2 : List Job := grp 1 0 0 ++ j3
abbrev j1 : List Job := grp 0 0 1 ++ j2
abbrev j0 : List Job := grp 0 0 0 ++ j1

/-- The stages of the accumulator. -/
abbrev s0 : Stage := fun _ _ => 0
abbrev s1 : Stage := s0.setB 0 1
abbrev s2 : Stage := s1.setB 1 1
abbrev s3 : Stage := s2.set 0 0 2
abbrev s4 : Stage := s3.set 0 1 2
abbrev s5 : Stage := s4.set 0 0 3
abbrev s6 : Stage := s5.set 0 1 3
abbrev s7 : Stage := s6.set 1 0 2
abbrev s8 : Stage := s7.set 1 1 2
abbrev s9 : Stage := s8.set 1 0 3
abbrev s10 : Stage := s9.set 1 1 3

/-- A part of a batch before the others' slots have come. -/
def V0 (b s : Fin 2) : sProp 𝕄 :=
  iprop(sK (F := F) c b s 0 ∗ wK (F := F) c b s 0 ∗ sK (F := F) c b s 1 ∗ wK (F := F) c b s 1 ∗ slSb (F := F) c b s ∗ L2 (F := F) c b s)

theorem W0_intro (b s : Fin 2) : iprop(V0 (F := F) c b s ∗ slRx (F := F) c b s ∗ slRy (F := F) c b s) ⊢ W0 (F := F) c b s := by
  unfold V0 W0 L1
  iintro ⟨⟨H1, H2, H3, H4, H5, H6⟩, Hx, Hy⟩
  isplitl [H1]; · iexact H1
  isplitl [H2]; · iexact H2
  isplitl [Hx]; · iexact Hx
  isplitl [H3]; · iexact H3
  isplitl [H4]; · iexact H4
  isplitl [Hy]; · iexact Hy
  isplitl [H5] <;> iassumption

theorem slots_in :
    iprop((V0 (F := F) c 0 0 ∗ V0 (F := F) c 0 1 ∗ V0 (F := F) c 1 0 ∗ V0 (F := F) c 1 1)
        ∗ (barPay (F := F) c (0, 0) ∗ barPay (F := F) c (0, 1) ∗ barPay (F := F) c (0, 2) ∗ barPay (F := F) c (1, 0) ∗ barPay (F := F) c (1, 1) ∗ barPay (F := F) c (1, 2)))
      ⊢ iprop(W0 (F := F) c 0 0 ∗ W0 (F := F) c 0 1 ∗ W0 (F := F) c 1 0 ∗ W0 (F := F) c 1 1) := by
  iintro ⟨⟨V00, V01, V10, V11⟩, P00, P01, P02, P10, P11, P12⟩
  unfold barPay
  icases P00 with ⟨⟨A000, A100⟩, C000, C100⟩
  icases P01 with ⟨⟨A001, A101⟩, C001, C101⟩
  icases P02 with ⟨⟨A002, A102⟩, C002, C102⟩
  icases P10 with ⟨⟨A010, A110⟩, C010, C110⟩
  icases P11 with ⟨⟨A011, A111⟩, C011, C111⟩
  icases P12 with ⟨⟨A012, A112⟩, C012, C112⟩
  isplitl [V00 A000 A001 A002 C010 C011 C012]
  · iapply (W0_intro c 0 0)
    isplitl [V00]; · iexact V00
    unfold slRx slRy
    isplitl [A000 A001 A002]
    · isplitl [A000]; · iexact A000
      isplitl [A001]; · iexact A001
      iexact A002
    isplitl [C010]; · iexact C010
    isplitl [C011]; · iexact C011
    iexact C012
  isplitl [V01 A010 A011 A012 C000 C001 C002]
  · iapply (W0_intro c 0 1)
    isplitl [V01]; · iexact V01
    unfold slRx slRy
    isplitl [A010 A011 A012]
    · isplitl [A010]; · iexact A010
      isplitl [A011]; · iexact A011
      iexact A012
    isplitl [C000]; · iexact C000
    isplitl [C001]; · iexact C001
    iexact C002
  isplitl [V10 A100 A101 A102 C110 C111 C112]
  · iapply (W0_intro c 1 0)
    isplitl [V10]; · iexact V10
    unfold slRx slRy
    isplitl [A100 A101 A102]
    · isplitl [A100]; · iexact A100
      isplitl [A101]; · iexact A101
      iexact A102
    isplitl [C110]; · iexact C110
    isplitl [C111]; · iexact C111
    iexact C112
  iapply (W0_intro c 1 1)
  isplitl [V11]; · iexact V11
  unfold slRx slRy
  isplitl [A110 A111 A112]
  · isplitl [A110]; · iexact A110
    isplitl [A111]; · iexact A111
    iexact A112
  isplitl [C100]; · iexact C100
  isplitl [C101]; · iexact C101
  iexact C102

/-- What a device's core starts from. -/
def bodyIn (f0 : IdxA → F .f32) (fo : S2x512x768.Idx → F .f32) : sProp 𝕄 :=
  iprop(Ev I K ∗ owingB (F := F) c j0 allSigs ∗ barIn (F := F) c ∗ insP I c ∗ accP I f0 s0 c
    ∗ (agEx (F := F) c (rowsS 0) ∗ agEx (F := F) c (rowsS 1))
    ∗ (V0 (F := F) c 0 0 ∗ V0 (F := F) c 0 1 ∗ V0 (F := F) c 1 0 ∗ V0 (F := F) c 1 1) ∗ outS (F := F) c fo)

/-- The output as it is left. -/
def outE (fo : S2x512x768.Idx → F .f32) : S2x512x768.Idx → F .f32 :=
  (outM.access (xR 1)).write (Elt F) ((outM.access (xR 0)).write (Elt F) fo (outB I 0) Finset.univ) (outB I 1) Finset.univ

/-- What a device's core ends with. -/
def bodyOut (f0 : IdxA → F .f32) (fo : S2x512x768.Idx → F .f32) : sProp 𝕄 :=
  iprop(owing (F := F) c [] ∗ semVal (barCell c) 0 ∗ insP I c ∗ (∃ st, accP I f0 st c) ∗ (WE I c 0 ∗ WE I c 1) ∗ outS (F := F) c (outE I fo))

theorem body_run (f0 : IdxA → F .f32) (fo : S2x512x768.Idx → F .f32) :
    bodyIn I K c f0 fo ⊢ wpc c mainP (fun _ => bodyOut I c f0 fo) := by
  unfold bodyIn mainP
  simp only [Prog.lift, Prog.bind_op, Prog.bind_ret]
  unfold wpc
  rw [wp_deviceId]
  iintro ⟨#HE, HO, HB, HI, HA, ⟨G0, G1⟩, HV, Hout⟩
  iapply (wpc_seq (bar_spec I K c j0)) $$ [HO HB]
  · isplitr; · iexact HE
    isplitl [HO] <;> iassumption
  iintro %u ⟨HO, Hbar, HP⟩
  ihave HW := (slots_in (F := F) c) $$ [HV HP]
  · isplitl [HV] <;> iassumption
  icases HW with ⟨W00, W01, W10, W11⟩
  iapply (wpc_seq (comp_spec I f0 s0 c 0)) $$ [HI HA]
  · isplitl [HI] <;> iassumption
  iintro %_ ⟨HI, HA⟩
  iapply (wpc_seq (castsP I c 0 f0 s1 (by decide))) $$ [HA G0 W00 W01]
  · isplitl [HA]; · iexact HA
    isplitl [G0]; · iexact G0
    isplitl [W00] <;> iassumption
  iintro %_ ⟨HA, W00, W01⟩
  iapply (wpc_seq (sendsA I K c 0 0 j1)) $$ [HO W00]
  · isplitr; · iexact HE
    isplitl [HO] <;> iassumption
  iintro %_ ⟨HO, W00⟩
  iapply (wpc_seq (sendsA I K c 0 1 j2)) $$ [HO W01]
  · isplitr; · iexact HE
    isplitl [HO] <;> iassumption
  iintro %_ ⟨HO, W01⟩
  iapply (wpc_seq (comp_spec I f0 s1 c 1)) $$ [HI HA]
  · isplitl [HI] <;> iassumption
  iintro %_ ⟨HI, HA⟩
  iapply (wpc_seq (waitsA I K c 0 0 j2 (by decide))) $$ [HO W00]
  · isplitr; · iexact HE
    isplitl [HO] <;> iassumption
  iintro %_ ⟨HO, W00⟩
  iapply (wpc_seq (foldsA I c 0 0 f0 s2 (by decide))) $$ [HA W00]
  · isplitl [HA] <;> iassumption
  iintro %_ ⟨HA, W00⟩
  iapply (wpc_seq (waitsA I K c 0 1 j2 (by decide))) $$ [HO W01]
  · isplitr; · iexact HE
    isplitl [HO] <;> iassumption
  iintro %_ ⟨HO, W01⟩
  iapply (wpc_seq (foldsA I c 0 1 f0 s3 (by decide))) $$ [HA W01]
  · isplitl [HA] <;> iassumption
  iintro %_ ⟨HA, W01⟩
  iapply (wpc_seq (sendsS I K c 0 0 j3 f0 s4 (by decide))) $$ [HA HO W00]
  · isplitr; · iexact HE
    isplitl [HA]; · iexact HA
    isplitl [HO] <;> iassumption
  iintro %_ ⟨HA, HO, W00⟩
  iapply (wpc_seq (sendsS I K c 0 1 j4 f0 s4 (by decide))) $$ [HA HO W01]
  · isplitr; · iexact HE
    isplitl [HA]; · iexact HA
    isplitl [HO] <;> iassumption
  iintro %_ ⟨HA, HO, W01⟩
  iapply (wpc_seq (castsP I c 1 f0 s4 (by decide))) $$ [HA G1 W10 W11]
  · isplitl [HA]; · iexact HA
    isplitl [G1]; · iexact G1
    isplitl [W10] <;> iassumption
  iintro %_ ⟨HA, W10, W11⟩
  iapply (wpc_seq (sendsA I K c 1 0 j5)) $$ [HO W10]
  · isplitr; · iexact HE
    isplitl [HO] <;> iassumption
  iintro %_ ⟨HO, W10⟩
  iapply (wpc_seq (sendsA I K c 1 1 j6)) $$ [HO W11]
  · isplitr; · iexact HE
    isplitl [HO] <;> iassumption
  iintro %_ ⟨HO, W11⟩
  iapply (wpc_seq (waitsS I K c 0 0 j6 (by decide))) $$ [HO W00]
  · isplitr; · iexact HE
    isplitl [HO] <;> iassumption
  iintro %_ ⟨HO, W00⟩
  iapply (wpc_seq (foldsS I c 0 0 f0 s4 (by decide))) $$ [HA W00]
  · isplitl [HA] <;> iassumption
  iintro %_ ⟨HA, W00⟩
  iapply (wpc_seq (waitsS I K c 0 1 j6 (by decide))) $$ [HO W01]
  · isplitr; · iexact HE
    isplitl [HO] <;> iassumption
  iintro %_ ⟨HO, W01⟩
  iapply (wpc_seq (foldsS I c 0 1 f0 s5 (by decide))) $$ [HA W01]
  · isplitl [HA] <;> iassumption
  iintro %_ ⟨HA, W01⟩
  iapply (wpc_seq (castsB I c 0 0 f0 s6 (by decide))) $$ [HA W00]
  · isplitl [HA] <;> iassumption
  iintro %_ ⟨HA, W00⟩
  iapply (wpc_seq (sendsG I K c 0 0 j7)) $$ [HO W00]
  · isplitr; · iexact HE
    isplitl [HO] <;> iassumption
  iintro %_ ⟨HO, W00⟩
  iapply (wpc_seq (castsB I c 0 1 f0 s6 (by decide))) $$ [HA W01]
  · isplitl [HA] <;> iassumption
  iintro %_ ⟨HA, W01⟩
  iapply (wpc_seq (sendsG I K c 0 1 j8)) $$ [HO W01]
  · isplitr; · iexact HE
    isplitl [HO] <;> iassumption
  iintro %_ ⟨HO, W01⟩
  iapply (wpc_seq (waitsA I K c 1 0 j8 (by decide))) $$ [HO W10]
  · isplitr; · iexact HE
    isplitl [HO] <;> iassumption
  iintro %_ ⟨HO, W10⟩
  iapply (wpc_seq (foldsA I c 1 0 f0 s6 (by decide))) $$ [HA W10]
  · isplitl [HA] <;> iassumption
  iintro %_ ⟨HA, W10⟩
  iapply (wpc_seq (waitsA I K c 1 1 j8 (by decide))) $$ [HO W11]
  · isplitr; · iexact HE
    isplitl [HO] <;> iassumption
  iintro %_ ⟨HO, W11⟩
  iapply (wpc_seq (foldsA I c 1 1 f0 s7 (by decide))) $$ [HA W11]
  · isplitl [HA] <;> iassumption
  iintro %_ ⟨HA, W11⟩
  iapply (wpc_seq (sendsS I K c 1 0 j9 f0 s8 (by decide))) $$ [HA HO W10]
  · isplitr; · iexact HE
    isplitl [HA]; · iexact HA
    isplitl [HO] <;> iassumption
  iintro %_ ⟨HA, HO, W10⟩
  iapply (wpc_seq (sendsS I K c 1 1 j10 f0 s8 (by decide))) $$ [HA HO W11]
  · isplitr; · iexact HE
    isplitl [HA]; · iexact HA
    isplitl [HO] <;> iassumption
  iintro %_ ⟨HA, HO, W11⟩
  iapply (wpc_seq (waitsG I K c 0 0 j10 (by decide))) $$ [HO W00]
  · isplitr; · iexact HE
    isplitl [HO] <;> iassumption
  iintro %_ ⟨HO, W00⟩
  iapply (wpc_seq (waitsG I K c 0 1 j10 (by decide))) $$ [HO W01]
  · isplitr; · iexact HE
    isplitl [HO] <;> iassumption
  iintro %_ ⟨HO, W01⟩
  iapply (wpc_seq (sendsH I K c 0 0 j11)) $$ [HO W00]
  · isplitr; · iexact HE
    isplitl [HO] <;> iassumption
  iintro %_ ⟨HO, W00⟩
  iapply (wpc_seq (sendsH I K c 0 1 j12)) $$ [HO W01]
  · isplitr; · iexact HE
    isplitl [HO] <;> iassumption
  iintro %_ ⟨HO, W01⟩
  iapply (wpc_seq (waitsS I K c 1 0 j12 (by decide))) $$ [HO W10]
  · isplitr; · iexact HE
    isplitl [HO] <;> iassumption
  iintro %_ ⟨HO, W10⟩
  iapply (wpc_seq (foldsS I c 1 0 f0 s8 (by decide))) $$ [HA W10]
  · isplitl [HA] <;> iassumption
  iintro %_ ⟨HA, W10⟩
  iapply (wpc_seq (waitsS I K c 1 1 j12 (by decide))) $$ [HO W11]
  · isplitr; · iexact HE
    isplitl [HO] <;> iassumption
  iintro %_ ⟨HO, W11⟩
  iapply (wpc_seq (foldsS I c 1 1 f0 s9 (by decide))) $$ [HA W11]
  · isplitl [HA] <;> iassumption
  iintro %_ ⟨HA, W11⟩
  iapply (wpc_seq (castsB I c 1 0 f0 s10 (by decide))) $$ [HA W10]
  · isplitl [HA] <;> iassumption
  iintro %_ ⟨HA, W10⟩
  iapply (wpc_seq (sendsG I K c 1 0 j13)) $$ [HO W10]
  · isplitr; · iexact HE
    isplitl [HO] <;> iassumption
  iintro %_ ⟨HO, W10⟩
  iapply (wpc_seq (castsB I c 1 1 f0 s10 (by decide))) $$ [HA W11]
  · isplitl [HA] <;> iassumption
  iintro %_ ⟨HA, W11⟩
  iapply (wpc_seq (sendsG I K c 1 1 j14)) $$ [HO W11]
  · isplitr; · iexact HE
    isplitl [HO] <;> iassumption
  iintro %_ ⟨HO, W11⟩
  iapply (wpc_seq (waitsH I K c 0 0 j14 (by decide))) $$ [HO W00]
  · isplitr; · iexact HE
    isplitl [HO] <;> iassumption
  iintro %_ ⟨HO, W00⟩
  iapply (wpc_seq (waitsH I K c 0 1 j14 (by decide))) $$ [HO W01]
  · isplitr; · iexact HE
    isplitl [HO] <;> iassumption
  iintro %_ ⟨HO, W01⟩
  iapply (wpc_seq (outsP I c 0 _)) $$ [Hout W00 W01]
  · isplitl [Hout]; · iexact Hout
    isplitl [W00] <;> iassumption
  iintro %_ ⟨Hout, E0⟩
  iapply (wpc_seq (waitsG I K c 1 0 j14 (by decide))) $$ [HO W10]
  · isplitr; · iexact HE
    isplitl [HO] <;> iassumption
  iintro %_ ⟨HO, W10⟩
  iapply (wpc_seq (waitsG I K c 1 1 j14 (by decide))) $$ [HO W11]
  · isplitr; · iexact HE
    isplitl [HO] <;> iassumption
  iintro %_ ⟨HO, W11⟩
  iapply (wpc_seq (sendsH I K c 1 0 j15)) $$ [HO W10]
  · isplitr; · iexact HE
    isplitl [HO] <;> iassumption
  iintro %_ ⟨HO, W10⟩
  iapply (wpc_seq (sendsH I K c 1 1 j16)) $$ [HO W11]
  · isplitr; · iexact HE
    isplitl [HO] <;> iassumption
  iintro %_ ⟨HO, W11⟩
  iapply (wpc_seq (waitsH I K c 1 0 j16 (by decide))) $$ [HO W10]
  · isplitr; · iexact HE
    isplitl [HO] <;> iassumption
  iintro %_ ⟨HO, W10⟩
  iapply (wpc_seq (waitsH I K c 1 1 j16 (by decide))) $$ [HO W11]
  · isplitr; · iexact HE
    isplitl [HO] <;> iassumption
  iintro %_ ⟨HO, W11⟩
  iapply (wp_wand (Fr := frame) (wpE := wpE (defs₀ (F := F)) 𝒱₀ (c : Thread nD τ) none) (E := Set.univ)) $$ [Hout W10 W11]
  · iapply (outsP I c 1 _)
    isplitl [Hout]; · iexact Hout
    isplitl [W10] <;> iassumption
  iintro %_ ⟨Hout, E1⟩
  unfold bodyOut outE
  isplitl [HO]; · iexact HO
  isplitl [Hbar]; · iexact Hbar
  isplitl [HI]; · iexact HI
  isplitl [HA]
  · iexists _; iexact HA
  isplitl [E0 E1]
  · isplitl [E0] <;> iassumption
  iexact Hout

end Cert.KernelIdeal.Body
-- ==== Proof.Fund.lean ====
/- The tokens, places and credit with which the devices start. -/
module

public import proofs.«01_k».proof.Proof.Run

@[expose] public section

noncomputable section

namespace Cert.KernelIdeal.Body

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

/-! ## Lists of copies -/

theorem bigSep_o {X : Type} [Fintype X] [DecidableEq X] (Φ : Option X → sProp 𝕄) :
    bigSep (Finset.univ : Finset (Option X)) Φ = iprop(Φ none ∗ bigSep (Finset.univ : Finset X) fun x => Φ (some x)) := by
  have : (Finset.univ : Finset (Option X)) = insert none (Finset.univ.map Function.Embedding.some) := by
    ext o; cases o <;> simp
  rw [this, bigSep_insert (by simp), bigSep_map]
  rfl

theorem bigSep_2 (Φ : Fin 2 → sProp 𝕄) : bigSep (Finset.univ : Finset (Fin 2)) Φ = iprop(Φ 0 ∗ Φ 1) := by
  rw [bigSep_univ_eq_bigSepL [0, 1] (by decide) (by decide)]; rfl
theorem bigSep_3 (Φ : Fin 3 → sProp 𝕄) : bigSep (Finset.univ : Finset (Fin 3)) Φ = T3 Φ := by
  rw [bigSep_univ_eq_bigSepL [0, 1, 2] (by decide) (by decide)]; rfl
theorem bigSep_4 (Φ : Fin 4 → sProp 𝕄) : bigSep (Finset.univ : Finset (Fin 4)) Φ = iprop(Φ 0 ∗ Φ 1 ∗ Φ 2 ∗ Φ 3) := by
  rw [bigSep_univ_eq_bigSepL [0, 1, 2, 3] (by decide) (by decide)]; rfl

/-- The copies of one phase, part by part. -/
abbrev T12 (Φ : Job → sProp 𝕄) (ph : Fin 4) : sProp 𝕄 :=
  iprop((T3 (fun d => Φ (ph, 0, 0, d)) ∗ T3 (fun d => Φ (ph, 0, 1, d))) ∗ T3 (fun d => Φ (ph, 1, 0, d)) ∗ T3 (fun d => Φ (ph, 1, 1, d)))

theorem jobs_eq (Φ : Job → sProp 𝕄) : bigSep (Finset.univ : Finset Job) Φ = iprop(T12 Φ 0 ∗ T12 Φ 1 ∗ T12 Φ 2 ∗ T12 Φ 3) := by
  rw [bigSep_univ_prod, bigSep_4]
  simp only [bigSep_univ_prod, bigSep_2, bigSep_3]

theorem sems_eq (Φ : Fin 2 × Job → sProp 𝕄) :
    bigSep (Finset.univ : Finset (Fin 2 × Job)) Φ = bigSep (Finset.univ : Finset Job) fun j => iprop(Φ (0, j) ∗ Φ (1, j)) := by
  rw [bigSep_univ_prod, bigSep_2, ← bigSep_sep']

/-! ## The cells and the tokens -/

theorem decS_kcell (x : CellIx) : decS (kcell x).2 = some x.2 := by
  obtain ⟨c, _ | ⟨k, j⟩⟩ := x
  · exact decS_bar
  · fin_cases k
    · exact decS_s j
    · exact decS_r j

theorem kcell_dev (x : CellIx) : (kcell x).1 = (x.1 : Thread nD τ) := by
  obtain ⟨c, _ | ⟨k, j⟩⟩ := x
  · rfl
  · fin_cases k <;> rfl

theorem kcell_injective : Function.Injective (kcell : CellIx → GSem nD τ sig) := fun x y h => by
  have h1 : x.1 = y.1 := congrArg (fun t : Thread nD τ => t.1) ((kcell_dev x).symm.trans ((congrArg Prod.fst h).trans (kcell_dev y)))
  have h2 : x.2 = y.2 := Option.some.inj ((decS_kcell x).symm.trans ((congrArg (fun g : GSem nD τ sig => decS g.2) h).trans (decS_kcell y)))
  exact Prod.ext h1 h2

def allCells : Finset (GSem nD τ sig) := Finset.univ.map ⟨kcell, kcell_injective⟩
/-- A token of each name for each cell (only those of its duties are used). -/
def allToks : Finset (GSem nD τ sig × ℕ × Dty) :=
  Finset.univ.map ⟨fun y : CellIx × Dty => (kcell y.1, 0, y.2), fun y y' h =>
    Prod.ext (kcell_injective (congrArg Prod.fst h)) (congrArg (fun z : GSem nD τ sig × ℕ × Dty => z.2.2) h)⟩

def u₀ : UU := (initOf (Pipeline.cells cfgs cellOf_inj) (Pipeline.launchToks cfgs cellOf_inj), initOf allCells allToks)

variable (I : Ins F)

/-- The tokens of a device's cells. -/
def toks (c : Dev nD) : sProp 𝕄 :=
  iprop((bigSep (Finset.univ : Finset Dty) fun x => dutyTok ER (barCell c) 0 x)
    ∗ (bigSep (Finset.univ : Finset Job) fun j => dutyTok ER (sCell j c) 0 (0, 0)) ∗ (bigSep (Finset.univ : Finset Job) fun j => dutyTok ER (rCell j c) 0 (0, 0)))

/-- What a device's cells give it at first. -/
def G (c : Dev nD) : sProp 𝕄 :=
  iprop((bigSep Finset.univ fun o : Option (Fin 2 × Job) => roundState ER (Rd I) (kcell (c, o)) 0)
    ∗ (bigSep Finset.univ fun o : Option (Fin 2 × Job) => iprop(atPos ER (kcell (c, o)) 0 ∅ 0 ∗ reached ER (kcell (c, o)) 0)) ∗ toks (F := F) c)

theorem toks_intro (c : Dev nD) :
    (bigSep Finset.univ fun o : Option (Fin 2 × Job) => bigSep (Finset.univ : Finset Dty) fun x => (dutyTok ER (kcell (c, o)) 0 x : sProp 𝕄)) ⊢ toks (F := F) c := by
  rw [bigSep_o, sems_eq]
  unfold toks
  iintro ⟨HB, HJ⟩
  isplitl [HB]; · iexact HB
  iapply (show (bigSep Finset.univ fun j : Job => iprop((bigSep (Finset.univ : Finset Dty) fun x => (dutyTok ER (sCell j c) 0 x : sProp 𝕄)) ∗ bigSep (Finset.univ : Finset Dty) fun x => dutyTok ER (rCell j c) 0 x))
      ⊢ iprop((bigSep (Finset.univ : Finset Job) fun j => dutyTok ER (sCell j c) 0 (0, 0)) ∗ (bigSep (Finset.univ : Finset Job) fun j => dutyTok ER (rCell j c) 0 (0, 0))) from by
    rw [← bigSep_sep']
    exact bigSep_mono fun j _ => sep_mono (bigSep_elim (i := ((0, 0) : Dty)) (Finset.mem_univ _)) (bigSep_elim (i := ((0, 0) : Dty)) (Finset.mem_univ _)))
  iexact HJ

theorem fund_all : BI.own (ER (initOf allCells allToks)) ⊢ (|==> bigSep Finset.univ (G I) : sProp 𝕄) := by
  have hX (Φ : GSem nD τ sig → sProp 𝕄) : bigSep allCells Φ = bigSep Finset.univ fun c : Dev nD => bigSep Finset.univ fun o : Option (Fin 2 × Job) => Φ (kcell (c, o)) := by
    unfold allCells; rw [bigSep_map]
    exact bigSep_univ_prod (fun x : CellIx => Φ (kcell x))
  have hT : bigSep allToks (fun x => (dutyTok ER x.1 x.2.1 x.2.2 : sProp 𝕄)) ⊢ bigSep Finset.univ fun c : Dev nD => toks (F := F) c := by
    unfold allToks; rw [bigSep_map]
    refine (Entails.of_eq ((bigSep_univ_prod (fun y : CellIx × Dty => (dutyTok ER (kcell y.1) 0 y.2 : sProp 𝕄))).trans
      (bigSep_univ_prod (fun x : CellIx => bigSep (Finset.univ : Finset Dty) fun d => (dutyTok ER (kcell x) 0 d : sProp 𝕄))))).trans ?_
    exact bigSep_mono fun c _ => toks_intro c
  iintro HX
  imod (Rounds.fund ER (Rd I) allCells allToks) $$ HX with ⟨Hst, Hr, Hat, Htok⟩
  imodintro
  ihave Hst' := (Entails.of_eq (hX fun g => roundState ER (Rd I) g 0)) $$ Hst
  ihave Hat' := (Entails.of_eq (hX fun g => atPos ER g 0 ∅ 0)) $$ Hat
  ihave Hr' := (Entails.of_eq (hX fun g => reached ER g 0)) $$ Hr
  ihave Htok' := hT $$ Htok
  unfold G; simp only [bigSep_sep']
  isplitl [Hst']; · iexact Hst'
  isplitl [Hat' Hr']
  · isplitl [Hat'] <;> iassumption
  iexact Htok'

/-! ## The counters -/

/-- The kernel's own semaphores. -/
def osem (x : Fin 2 × Job) : SemLoc sig :=
  match x with
  | (0, j) => .dma (sS j.1 j.2.1 j.2.2.1 j.2.2.2)
  | (1, j) => .dma (sR j.1 j.2.1 j.2.2.1 j.2.2.2)

theorem osem_kcell (c : Dev nD) (x : Fin 2 × Job) : (((c : Thread nD τ), osem x) : GSem nD τ sig) = kcell (c, some x) := by
  obtain ⟨k, j⟩ := x; fin_cases k <;> rfl

theorem osem_injective : Function.Injective osem := fun x y h => by
  have := kcell_injective ((osem_kcell 0 x).symm.trans ((congrArg (Prod.mk ((0 : Dev nD) : Thread nD τ)) h).trans (osem_kcell 0 y)))
  exact Option.some.inj (congrArg Prod.snd this)

theorem ownSemFacts : Pipeline.OwnSemFacts cfg0.spec osem where
  isScoped := by decide +kernel
  inj := osem_injective
  disj := by decide +kernel

theorem ownSems0_eq (c : Dev nD) : (Pipeline.ownSems0 (Ix := Unit) (Name := ℕ) (U := UU) (Lvl := ℕ) (Val := Elt F) (τ := τ) osem c : sProp 𝕄)
    = bigSep Finset.univ fun x : Fin 2 × Job => semVal (kcell (c, some x)) 0 := by
  unfold Pipeline.ownSems0
  exact bigSep_congr fun x _ => by rw [← osem_kcell]
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0 (c : Dev nD) :
    iprop(Pipeline.ownSems0 (Ix := Unit) (Name := ℕ) (U := UU) (Lvl := ℕ) (Val := Elt F) (τ := τ) osem c ∗ unscopedSems0 c)
      ⊢ (bigSep Finset.univ fun o : Option (Fin 2 × Job) => semVal (kcell (c, o)) 0 : sProp 𝕄) := by
  rw [ownSems0_eq, unscopedSems0_eq, bigSep_o]
  iintro ⟨HS, HB⟩
  isplitl [HB] <;> iassumption

/-! ## The invariants -/

theorem core_alloc (c : Dev nD) :
    iprop(Pipeline.ownSems0 (Ix := Unit) (Name := ℕ) (U := UU) (Lvl := ℕ) (Val := Elt F) (τ := τ) osem c ∗ unscopedSems0 c ∗ G I c)
      ⊢ |={Set.univ}=> iprop((bigSep Finset.univ fun o => iprop(∃ κ : ℕ, cellInv ER (Rd I) κ (kcell (c, o))))
          ∗ (bigSep Finset.univ fun o => iprop(atPos ER (kcell (c, o)) 0 ∅ 0 ∗ reached ER (kcell (c, o)) 0)) ∗ toks (F := F) c) := by
  unfold G
  iintro ⟨Hos, Hus, Hst, Hat, Htok⟩
  ihave Hv := (sems0 (F := F) c) $$ [Hos Hus]
  · isplitl [Hos] <;> iassumption
  imod (show iprop((bigSep Finset.univ fun o : Option (Fin 2 × Job) => semVal (kcell (c, o)) 0) ∗ bigSep Finset.univ fun o : Option (Fin 2 × Job) => roundState ER (Rd I) (kcell (c, o)) 0)
      ⊢ (|={Set.univ}=> bigSep Finset.univ fun o => iprop(∃ κ : ℕ, cellInv ER (Rd I) κ (kcell (c, o))) : sProp 𝕄) from by
        rw [← bigSep_sep']
        exact (bigSep_mono fun o _ => (Rounds.body_intro ER (Rd I) (kcell (c, o))).trans inv_alloc).trans (bigSep_fupd _ _)) $$ [Hv Hst] with Hinv
  · isplitl [Hv] <;> iassumption
  imodintro
  isplitl [Hinv]; · iexact Hinv
  isplitl [Hat]; · iexact Hat
  iexact Htok

/-! ## The tokens go to those who use them -/

/-- The tokens that a device uses. -/
def payToks (c : Dev nD) : sProp 𝕄 :=
  iprop((bigSep (Finset.univ : Finset Dty) fun x => dutyTok ER (barCell (pr x.1 x.2 c)) 0 (x.1, rev x.2))
    ∗ (bigSep (Finset.univ : Finset Job) fun j => dutyTok ER (sCell j c) 0 (0, 0)) ∗ (bigSep (Finset.univ : Finset Job) fun j => dutyTok ER (rCell j (jT j c)) 0 (0, 0)))

def turnJ : Dev nD × Job ≃ Dev nD × Job :=
  ⟨fun x => (jT x.2 x.1, x.2), fun x => (jS x.2 x.1, x.2), fun x => Prod.ext (jS_jT x.2 x.1) rfl, fun x => Prod.ext (jT_jS x.2 x.1) rfl⟩
def turnB : Dev nD × Dty ≃ Dev nD × Dty where
  toFun x := (pr x.2.1 x.2.2 x.1, (x.2.1, rev x.2.2))
  invFun x := (pr x.2.1 x.2.2 x.1, (x.2.1, rev x.2.2))
  left_inv x := Prod.ext (sdr_pr x.2.1 x.2.2 x.1) (Prod.ext rfl (rev_rev x.2.2))
  right_inv x := Prod.ext (sdr_pr x.2.1 x.2.2 x.1) (Prod.ext rfl (rev_rev x.2.2))

theorem toks_around : (bigSep Finset.univ fun c : Dev nD => toks (F := F) c) ⊢ bigSep Finset.univ fun c : Dev nD => payToks (F := F) c := by
  unfold toks payToks
  rw [bigSep_sep', bigSep_sep', bigSep_sep', bigSep_sep',
    ← bigSep_univ_prod (fun x : Dev nD × Dty => (dutyTok ER (barCell x.1) 0 x.2 : sProp 𝕄)),
    ← bigSep_univ_prod (fun x : Dev nD × Dty => (dutyTok ER (barCell (pr x.2.1 x.2.2 x.1)) 0 (x.2.1, rev x.2.2) : sProp 𝕄)),
    ← bigSep_univ_prod (fun x : Dev nD × Job => (dutyTok ER (rCell x.2 x.1) 0 (0, 0) : sProp 𝕄)),
    ← bigSep_univ_prod (fun x : Dev nD × Job => (dutyTok ER (rCell x.2 (jT x.2 x.1)) 0 (0, 0) : sProp 𝕄)),
    bigSep_univ_equiv turnB (fun x : Dev nD × Dty => (dutyTok ER (barCell x.1) 0 x.2 : sProp 𝕄)),
    bigSep_univ_equiv turnJ (fun x : Dev nD × Job => (dutyTok ER (rCell x.2 x.1) 0 (0, 0) : sProp 𝕄))]
  exact BI.Entails.refl _

/-- What a device alone holds. -/
def mine (c : Dev nD) : sProp 𝕄 :=
  iprop((bigSep Finset.univ fun o : Option (Fin 2 × Job) => atPos ER (kcell (c, o)) 0 ∅ 0) ∗ payToks (F := F) c)
/-- What a device has of the protocol. -/
def G' (c : Dev nD) : sProp 𝕄 := iprop(∃ K : CellIx → ℕ, (bigSep Finset.univ fun x => known I K x) ∗ mine (F := F) c)

theorem bigSep_with {X : Type} [DecidableEq X] {S : Finset X} {R : sProp 𝕄} [BI.Persistent R] {Φ Ψ : X → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun o => iprop(∃ κ : ℕ, cellInv ER (Rd I) κ (kcell (c, o))))
          ∗ (bigSep Finset.univ fun o => iprop(atPos ER (kcell (c, o)) 0 ∅ 0 ∗ reached ER (kcell (c, o)) 0)) ∗ toks (F := F) c) : sProp 𝕄)
      ⊢ bigSep Finset.univ (G' I) := by
  rw [bigSep_sep', bigSep_sep', ← bigSep_univ_prod (fun x : CellIx => iprop(∃ κ : ℕ, cellInv ER (Rd I) κ (kcell x))),
    bigSep_congr (s := Finset.univ) (fun (c : Dev nD) _ => bigSep_sep' Finset.univ (fun o : Option (Fin 2 × Job) => (atPos ER (kcell (c, o)) 0 ∅ 0 : sProp 𝕄)) (fun o => reached ER (kcell (c, o)) 0)),
    bigSep_sep', ← bigSep_univ_prod (fun x : CellIx => (reached ER (kcell x) 0 : sProp 𝕄))]
  iintro ⟨HI, ⟨Hat, #HR⟩, Htok⟩
  ihave HK := (BI.bigSep_exists_pi Finset.univ (fun (x : CellIx) (κ : ℕ) => (cellInv ER (Rd I) κ (kcell x) : sProp 𝕄))) $$ HI
  icases HK with ⟨%K, #HI⟩
  ihave Htk := (toks_around (F := F)) $$ Htok
  iapply (bigSep_with (R := bigSep Finset.univ fun x => known I K x) (Φ := mine (F := F)) fun c _ => show _ ⊢ G' I c from by
    unfold G'
    iintro ⟨H1, H2⟩
    iexists K
    isplitl [H1] <;> iassumption)
  isplitr
  · iapply (Entails.of_eq (bigSep_sep' Finset.univ (fun x : CellIx => (cellInv ER (Rd I) (K x) (kcell x) : sProp 𝕄)) (fun x => reached ER (kcell x) 0)).symm)
    isplitl; · iexact HI
    iexact HR
  · unfold mine
    iapply (Entails.of_eq (bigSep_sep' Finset.univ (fun c : Dev nD => bigSep Finset.univ fun o : Option (Fin 2 × Job) => (atPos ER (kcell (c, o)) 0 ∅ 0 : sProp 𝕄)) (payToks (F := F))).symm)
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ G I c) : sProp 𝕄)
    ⊢ |={Set.univ}=> bigSep Finset.univ (G' I) :=
  ((bigSep_mono fun c _ => core_alloc I c).trans (bigSep_fupd _ _)).trans (BI.fupd_mono (regroup I))

/-! ## The credit at first -/

theorem rcell_iff {j j' : Job} {c c' : Dev nD} : rCell j c = rCell j' c' ↔ j = j' ∧ c = c' := by
  constructor
  · intro h
    have := kcell_injective (a₁ := (c, some (1, j))) (a₂ := (c', some (1, j'))) h
    exact ⟨congrArg Prod.snd (Option.some.inj (congrArg Prod.snd this)), congrArg Prod.fst this⟩
  · rintro ⟨rfl, rfl⟩; rfl
theorem bcell_iff {c c' : Dev nD} : barCell c = barCell c' ↔ c = c' := by
  constructor
  · intro h
    exact congrArg Prod.fst (kcell_injective (a₁ := (c, none)) (a₂ := (c', none)) h)
  · rintro rfl; rfl
theorem rb_ne (j : Job) (c c' : Dev nD) : rCell j c ≠ barCell c' := fun h => by
  have := kcell_injective (a₁ := (c, some (1, j))) (a₂ := (c', none)) h
  exact Option.some_ne_none _ (congrArg Prod.snd this)

theorem owe_r (d c : Dev nD) (j : Job) (l : List Job) : owe d l (rCell j c) () = if d = jS j c then l.count j * amt j else 0 := by
  induction l with
  | nil => unfold owe; simp
  | cons j' l ih =>
    unfold owe
    rw [Pi.add_apply, Finsupp.add_apply, tallyAt_apply, ih]
    by_cases hd : d = jS j c
    · subst hd
      rw [if_pos rfl, if_pos rfl]
      by_cases hj : j' = j
      · subst hj
        rw [if_pos ⟨by rw [jT_jS], rfl⟩, List.count_cons_self, Nat.add_mul, Nat.one_mul]
      · rw [if_neg (fun h => hj (rcell_iff.1 h.1).1.symm), List.count_cons_of_ne hj, Nat.add_zero]
    · rw [if_neg hd, if_neg hd, if_neg, Nat.add_zero]
      rintro ⟨h, -⟩
      obtain ⟨rfl, hc⟩ := rcell_iff.1 h
      exact hd (by rw [hc, jS_jT])

theorem oweB_r (d c : Dev nD) (j : Job) (l : List Job) (xs : List Dty) : oweB d l xs (rCell j c) () = owe d l (rCell j c) () := by
  induction xs with
  | nil => rfl
  | cons x xs ih =>
    unfold oweB
    rw [Pi.add_apply, Finsupp.add_apply, tallyAt_apply, if_neg (fun h => rb_ne _ _ _ h.1), Nat.add_zero, ih]

theorem owe_b (d c : Dev nD) (l : List Job) : owe d l (barCell c) () = 0 := by
  induction l with
  | nil => rfl
  | cons j l ih =>
    unfold owe
    rw [Pi.add_apply, Finsupp.add_apply, tallyAt_apply, if_neg (fun h => rb_ne _ _ _ h.1.symm), ih]

theorem oweB_b (d c : Dev nD) (l : List Job) (xs : List Dty) :
    oweB d l xs (barCell c) () = (xs.map fun x => if c = pr x.1 x.2 d then 1 else 0).sum := by
  induction xs with
  | nil => exact owe_b d c l
  | cons x xs ih =>
    unfold oweB
    rw [Pi.add_apply, Finsupp.add_apply, tallyAt_apply, ih, List.map_cons, List.sum_cons, Nat.add_comm]
    congr 1
    by_cases h : c = pr x.1 x.2 d
    · rw [if_pos ⟨bcell_iff.2 h, rfl⟩, if_pos h]
    · rw [if_neg (fun h' => h (bcell_iff.1 h'.1)), if_neg h]

theorem six_signals (c : Dev nD) : (∑ d : Dev nD, (allSigs.map fun x => if c = pr x.1 x.2 d then 1 else 0).sum) = 6 := by revert c; decide +kernel
theorem count_one (j : Job) : allJobs.count j = 1 := by revert j; decide +kernel

theorem launch_bar (c : Dev nD) :
    tallyOn (barCell c) (launchCredit (Pipeline.owing O₀) 0 (barCell c)) = (tallyAt (barCell c) () 6 : CellTallies nD τ sig Unit) := by
  unfold tallyAt; refine congrArg _ (Finsupp.ext fun u => ?_); cases u
  rw [Pipeline.launchCredit_owing, Finsupp.single_eq_same, Finset.sum_congr rfl fun d _ => show O₀ d (barCell c) () = _ from oweB_b d c allJobs allSigs, six_signals]

theorem launch_r (j : Job) (c : Dev nD) :
    tallyOn (rCell j c) (launchCredit (Pipeline.owing O₀) 0 (rCell j c)) = (tallyAt (rCell j c) () (amt j) : CellTallies nD τ sig Unit) := by
  unfold tallyAt; refine congrArg _ (Finsupp.ext fun u => ?_); cases u
  rw [Pipeline.launchCredit_owing, Finsupp.single_eq_same, Finset.sum_congr rfl fun d _ => show O₀ d (rCell j c) () = _ from (oweB_r d c j allJobs allSigs).trans (owe_r d c j allJobs),
    Finset.sum_ite_eq' Finset.univ (jS j c) fun _ => allJobs.count j * amt j, if_pos (Finset.mem_univ _), count_one, Nat.one_mul]

/-- The semaphores on which credit is held at first. -/
def wsem (o : Option Job) : SemLoc sig :=
  match o with
  | none => .reg barS
  | some j => .dma (sR j.1 j.2.1 j.2.2.1 j.2.2.2)
theorem wsem_injective : Function.Injective wsem := fun x y h => by
  have hx : ∀ z, decS (wsem z) = some (z.map (Prod.mk 1)) := fun z => by
    cases z
    · exact decS_bar
    · exact decS_r _
  have := Option.some.inj ((hx x).symm.trans ((congrArg decS h).trans (hx y)))
  cases x <;> cases y
  · rfl
  · exact absurd this.symm (Option.some_ne_none _)
  · exact absurd this (Option.some_ne_none _)
  · exact congrArg some (congrArg Prod.snd (Option.some.inj this))

theorem creds (c : Dev nD) :
    (Pipeline.launchCred O₀ c : sProp 𝕄) ⊢ iprop(cred (tallyAt (barCell c) () 6) ∗ bigSep Finset.univ fun j : Job => cred (tallyAt (rCell j c) () (amt j))) := by
  unfold Pipeline.launchCred
  refine (bigSep_subset (Finset.subset_univ ((Finset.univ : Finset (Option Job)).map ⟨wsem, wsem_injective⟩))).trans ?_
  rw [bigSep_map, bigSep_o]
  refine sep_mono ?_ (bigSep_mono fun j _ => ?_)
  · exact Entails.of_eq (congrArg cred (launch_bar c))
  · exact Entails.of_eq (congrArg cred (launch_r j c))

end Cert.KernelIdeal.Body
-- ==== Proof.Slots.lean ====
/- The device's own buffers: cut into slots at the start, put together at the end. -/
module

public import proofs.«01_k».proof.Proof.Run

@[expose] public section

noncomputable section

namespace Cert.KernelIdeal.Body

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

/-! ## One buffer of slots -/

theorem mem_slotR (h : ℕ) (s b : Fin 2) (d : Fin 3) (i : (ShB h s).Idx) :
    i ∈ (slotR h s b d).set ↔ (i 0).val = b.val ∧ (i 1).val = d.val := by
  rw [Rect.mem_set_unit]
  constructor
  · intro H
    have h0 := H 0
    have h1 := H 1
    simp at h0 h1
    omega
  · rintro ⟨e0, e1⟩ a
    have h2 : (i 2).val < h := (i 2).isLt
    have h3 : (i 3).val < cw s := (i 3).isLt
    fin_cases a
    · simp; omega
    · simp; omega
    · simpa using h2
    · simpa using h3

section One
variable {h : ℕ} {s : Fin 2} (M : Memref sig .tc .vmem (ShB h s) .bf16) (hq : (Sh4 h s).Squeezes (Sh2 h s)) (t : Dev nD)

/-- Slot `(b, d)` of `M`. -/
abbrev slotV (b : Fin 2) (d : Fin 3) : Memref sig .tc .vmem (Sh2 h s) .bf16 := (M.slice (slotR h s b d) (fun _ => rfl)).squeeze (Sh2 h s) hq

theorem slots_disj : ∀ x ∈ (Finset.univ : Finset (Fin 2 × Fin 3)), ∀ y ∈ (Finset.univ : Finset (Fin 2 × Fin 3)), x ≠ y →
    Disjoint (M.view.setOn (slotR h s x.1 x.2).set) (M.view.setOn (slotR h s y.1 y.2).set) := by
  intro x _ y _ hxy
  unfold View.setOn
  rw [Finset.disjoint_map, Finset.disjoint_left]
  intro i hx hy
  rw [mem_slotR] at hx hy
  exact hxy (Prod.ext (Fin.ext (hx.1.symm.trans hy.1)) (Fin.ext (hx.2.symm.trans hy.2)))

theorem slots_cover : ((Finset.univ : Finset (Fin 2 × Fin 3)).biUnion fun x => M.view.setOn (slotR h s x.1 x.2).set) = M.view.set := by
  ext i
  rw [Finset.mem_biUnion]
  constructor
  · rintro ⟨x, _, hx⟩
    exact View.setOn_subset_set (v := M.view) _ hx
  · intro hi
    unfold View.set at hi
    rw [Finset.mem_map] at hi
    obtain ⟨j, _, rfl⟩ := hi
    exact ⟨(⟨(j 0).val, (j 0).isLt⟩, ⟨(j 1).val, (j 1).isLt⟩), Finset.mem_univ _, (View.mem_setOn M.view).2 ((mem_slotR h s _ _ j).2 ⟨rfl, rfl⟩)⟩

/-- The six slots, batch by batch. -/
def six (Φ : Fin 2 → Fin 3 → sProp 𝕄) : sProp 𝕄 := iprop(T3 (Φ 0) ∗ T3 (Φ 1))

theorem six_eq (Φ : Fin 2 → Fin 3 → sProp 𝕄) : bigSep (Finset.univ : Finset (Fin 2 × Fin 3)) (fun x => Φ x.1 x.2) = six Φ := by
  rw [bigSep_univ_prod (fun x : Fin 2 × Fin 3 => Φ x.1 x.2), bigSep_univ_eq_bigSepL [0, 1] (by decide) (by decide)]
  simp only [bigSepL_cons_cons, bigSepL_singleton]
  rw [bigSep_univ_eq_bigSepL [0, 1, 2] (by decide) (by decide), bigSep_univ_eq_bigSepL [0, 1, 2] (by decide) (by decide)]
  simp only [bigSepL_cons_cons, bigSepL_singleton]
  rfl

theorem cut_slots (f : Buf (Elt F) (M.view.loc (t : Thread nD τ))) (hM : M.view.set = Finset.univ) :
    ((M.view.loc (t : Thread nD τ)) ↦[Finset.univ]{fullShare} f : sProp 𝕄) ⊢ six fun b d => slot (F := F) t (slotV M hq b d) := by
  rw [← hM, ← slots_cover M, pointsTo_biUnion _ _ (slots_disj M), ← six_eq]
  refine bigSep_mono fun x _ => ?_
  rw [slot_setOn M (slotR h s x.1 x.2) (fun _ => rfl) hq]
  exact slot_intro t (slotV M hq x.1 x.2) f

theorem slot_elim {sh : Shape} (m : Memref sig .tc .vmem sh .bf16) :
    slot (F := F) t m ⊢ iprop(∃ f : Buf (Elt F) (m.view.loc (t : Thread nD τ)), (m.view.loc (t : Thread nD τ)) ↦[m.view.set]{fullShare} f) := by
  unfold slot owns
  iintro ⟨%X, %f, %hf, H⟩
  iexists f
  iexact H

theorem join_slots (f₀ : Buf (Elt F) (M.view.loc (t : Thread nD τ))) (hM : M.view.set = Finset.univ) :
    (six fun b d => slot (F := F) t (slotV M hq b d)) ⊢ iprop(∃ f : Buf (Elt F) (M.view.loc (t : Thread nD τ)), (M.view.loc (t : Thread nD τ)) ↦[Finset.univ]{fullShare} f) := by
  rw [← six_eq]
  have hs (x : Fin 2 × Fin 3) : slot (F := F) t (slotV M hq x.1 x.2)
      ⊢ iprop(∃ f : Buf (Elt F) (M.view.loc (t : Thread nD τ)), (M.view.loc (t : Thread nD τ)) ↦[M.view.setOn (slotR h s x.1 x.2).set]{fullShare} f) := by
    rw [slot_setOn M (slotR h s x.1 x.2) (fun _ => rfl) hq]
    exact slot_elim t (slotV M hq x.1 x.2)
  have hb : (bigSep (Finset.univ : Finset (Fin 2 × Fin 3)) fun x => slot (F := F) t (slotV M hq x.1 x.2))
      ⊢ bigSep (Finset.univ : Finset (Fin 2 × Fin 3)) fun x =>
        iprop(∃ f : Buf (Elt F) (M.view.loc (t : Thread nD τ)), (M.view.loc (t : Thread nD τ)) ↦[M.view.setOn (slotR h s x.1 x.2).set]{fullShare} f) :=
    bigSep_mono fun x _ => hs x
  · iintro H
    ihave H := hb $$ H
    ihave HK := (BI.bigSep_exists_pi (Finset.univ : Finset (Fin 2 × Fin 3)) (fun x (f : Buf (Elt F) (M.view.loc (t : Thread nD τ))) =>
      ((M.view.loc (t : Thread nD τ)) ↦[M.view.setOn (slotR h s x.1 x.2).set]{fullShare} f : sProp 𝕄))) $$ H
    icases HK with ⟨%fs, H⟩
    ihave HJ := (pointsTo_biUnion_join (Finset.univ : Finset (Fin 2 × Fin 3)) (fun x => M.view.setOn (slotR h s x.1 x.2).set) fs f₀ (slots_disj M)) $$ H
    icases HJ with ⟨%g, %hg, H⟩
    iexists g
    rw [← hM, ← slots_cover M]
    iexact H

end One

/-! ## All of them -/

theorem rxM_set (s : Fin 2) : (rxM s).view.set = Finset.univ := by fin_cases s <;> exact View.set_whole _
theorem sbM_set (s : Fin 2) : (sbM s).view.set = Finset.univ := by fin_cases s <;> exact View.set_whole _
theorem ryM_set (s : Fin 2) : (ryM s).view.set = Finset.univ := by fin_cases s <;> exact View.set_whole _

variable (c : Dev nD)

/-- The eight buffers at some contents. -/
def bufs : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((rxM 0).view.loc (c : Thread nD τ)), ((rxM 0).view.loc (c : Thread nD τ)) ↦[Finset.univ]{fullShare} f)
    ∗ (∃ f : Buf (Elt F) ((rxM 1).view.loc (c : Thread nD τ)), ((rxM 1).view.loc (c : Thread nD τ)) ↦[Finset.univ]{fullShare} f)
    ∗ (∃ f : Buf (Elt F) ((sbM 0).view.loc (c : Thread nD τ)), ((sbM 0).view.loc (c : Thread nD τ)) ↦[Finset.univ]{fullShare} f)
    ∗ (∃ f : Buf (Elt F) ((sbM 1).view.loc (c : Thread nD τ)), ((sbM 1).view.loc (c : Thread nD τ)) ↦[Finset.univ]{fullShare} f)
    ∗ (∃ f : Buf (Elt F) ((ryM 0).view.loc (c : Thread nD τ)), ((ryM 0).view.loc (c : Thread nD τ)) ↦[Finset.univ]{fullShare} f)
    ∗ (∃ f : Buf (Elt F) ((ryM 1).view.loc (c : Thread nD τ)), ((ryM 1).view.loc (c : Thread nD τ)) ↦[Finset.univ]{fullShare} f))

theorem bufs_eq : (Pipeline.scopedRest (Ix := Unit) (Name := ℕ) (U := UU) (Lvl := ℕ) (Val := Elt F) cfg0.spec c : sProp 𝕄) = bufs (F := F) c :=
  scopedRest0_eq c

/-- The slots of one part, for the six senders and for the device itself. -/
def sixRx (s : Fin 2) : sProp 𝕄 := six fun b d => slot (F := F) c (rxV s b d)
def sixSb (s : Fin 2) : sProp 𝕄 := six fun b d => slot (F := F) c (sbV s b d)
def sixRy (s : Fin 2) : sProp 𝕄 := six fun b d => slot (F := F) c (ryV s b d)

theorem rows_cut (f : IdxA → F .bf16) : agPt c Finset.univ fullShare f ⊢ iprop(agEx (F := F) c (rowsS 0) ∗ agEx (F := F) c (rowsS 1)) := by
  have : agPt c Finset.univ fullShare f = iprop(agPt c (rowsS 0) fullShare f ∗ agPt c (rowsS 1) fullShare f) := by
    unfold agPt
    rw [univ_eq, pointsTo_biUnion _ _ (fun x _ y _ h => rowsS_disj x y h), bigSep_univ_eq_bigSepL [0, 1] (by decide) (by decide)]
    rfl
  rw [this]
  unfold agEx
  iintro ⟨H0, H1⟩
  isplitl [H0]
  · iexists f; iexact H0
  · iexists f; iexact H1

theorem rows_paste (f : IdxA → F .bf16) : iprop(agPt c (rowsS 0) fullShare f ∗ agPt c (rowsS 1) fullShare f) ⊢ agPt c Finset.univ fullShare f := by
  have : agPt c Finset.univ fullShare f = iprop(agPt c (rowsS 0) fullShare f ∗ agPt c (rowsS 1) fullShare f) := by
    unfold agPt
    rw [univ_eq, pointsTo_biUnion _ _ (fun x _ y _ h => rowsS_disj x y h), bigSep_univ_eq_bigSepL [0, 1] (by decide) (by decide)]
    rfl
  rw [this]

theorem bufs_cut (I : Ins F) : bufs (F := F) c ⊢ iprop(∃ f0, accP I f0 s0 c ∗ (agEx (F := F) c (rowsS 0) ∗ agEx (F := F) c (rowsS 1))
    ∗ (sixRx (F := F) c 0 ∗ sixRx (F := F) c 1) ∗ (sixSb (F := F) c 0 ∗ sixSb (F := F) c 1) ∗ (sixRy (F := F) c 0 ∗ sixRy (F := F) c 1)) := by
  unfold bufs sixRx sixSb sixRy
  iintro ⟨⟨%f0, H0⟩, ⟨%f1, H1⟩, ⟨%f2, H2⟩, ⟨%f3, H3⟩, ⟨%f4, H4⟩, ⟨%f5, H5⟩, ⟨%f6, H6⟩, ⟨%f7, H7⟩⟩
  iexists f0
  isplitl [H0]
  · unfold accP accF; iexact H0
  isplitl [H1]
  · iapply (rows_cut c f1); unfold agPt; iexact H1
  isplitl [H2 H3]
  · isplitl [H2]
    · iapply (cut_slots (rxM 0) (sq128 0) c f2 (rxM_set 0)); iexact H2
    · iapply (cut_slots (rxM 1) (sq128 1) c f3 (rxM_set 1)); iexact H3
  isplitl [H4 H5]
  · isplitl [H4]
    · iapply (cut_slots (sbM 0) (sq32 0) c f4 (sbM_set 0)); iexact H4
    · iapply (cut_slots (sbM 1) (sq32 1) c f5 (sbM_set 1)); iexact H5
  isplitl [H6]
  · iapply (cut_slots (ryM 0) (sq32 0) c f6 (ryM_set 0)); iexact H6
  · iapply (cut_slots (ryM 1) (sq32 1) c f7 (ryM_set 1)); iexact H7

/-- Any contents of a buffer of half words. -/
def anyB [Named F] : F .bf16 := FloatOps.truncf .bf16 bitsLt_bf16_f32 (FloatOps.ofBits .f32 0)

theorem bufs_join (f0 : IdxA → F .f32) (f1 : IdxA → F .bf16) :
    iprop((((c : Thread nD τ).loc cc0_scratch0) ↦{fullShare} f0) ∗ (agPt c (rowsS 0) fullShare f1 ∗ agPt c (rowsS 1) fullShare f1)
      ∗ (sixRx (F := F) c 0 ∗ sixRx (F := F) c 1) ∗ (sixSb (F := F) c 0 ∗ sixSb (F := F) c 1) ∗ (sixRy (F := F) c 0 ∗ sixRy (F := F) c 1)) ⊢ bufs (F := F) c := by
  unfold bufs sixRx sixSb sixRy
  iintro ⟨H0, H1, ⟨H2, H3⟩, ⟨H4, H5⟩, H6, H7⟩
  isplitl [H0]; · iexists f0; iexact H0
  isplitl [H1]
  · iexists f1
    ihave H := (rows_paste c f1) $$ H1
    unfold agPt
    iexact H
  isplitl [H2]; · iapply (join_slots (rxM 0) (sq128 0) c (fun _ => anyB) (rxM_set 0)); iexact H2
  isplitl [H3]; · iapply (join_slots (rxM 1) (sq128 1) c (fun _ => anyB) (rxM_set 1)); iexact H3
  isplitl [H4]; · iapply (join_slots (sbM 0) (sq32 0) c (fun _ => anyB) (sbM_set 0)); iexact H4
  isplitl [H5]; · iapply (join_slots (sbM 1) (sq32 1) c (fun _ => anyB) (sbM_set 1)); iexact H5
  isplitl [H6]; · iapply (join_slots (ryM 0) (sq32 0) c (fun _ => anyB) (ryM_set 0)); iexact H6
  iapply (join_slots (ryM 1) (sq32 1) c (fun _ => anyB) (ryM_set 1)); iexact H7

end Cert.KernelIdeal.Body
-- ==== Proof.Start.lean ====
/- From what a device has at the launch to what its core's body takes, and back from what the body
   leaves. -/
module

public import proofs.«01_k».proof.Proof.Fund
public import proofs.«01_k».proof.Proof.Slots

@[expose] public section

noncomputable section

namespace Cert.KernelIdeal.Body

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

/-! ## The result -/

section Out
variable (I : Ins F)

theorem outB_at (b : Fin 2) (j : (xR b).shape.Idx) : outB I b j = outV I ((xR b).idx j) := by
  unfold outB outV
  have h0 : (j 0).val = 0 := by have := (j 0).isLt; exact Nat.lt_one_iff.1 this
  have h1 : (j 1).val < 512 := (j 1).isLt
  have h2 : (j 2).val < 768 := (j 2).isLt
  rw [shapeCast_apply (t := S1x512x768) (s := S512x768) _ _ j (ixB (j 1).val (j 2).val h1 h2) (by
    rw [Shape.rowMajor_val_three, Shape.rowMajor_val_two]
    show (j 1).val * 768 + (j 2).val = ((j 0).val * 512 + (j 1).val) * 768 + (j 2).val
    rw [h0, Nat.zero_mul, Nat.zero_add])]
  show up (AF I ((rowsR b).idx _)) = up (AF I _)
  congr 2
  refine idx_ext ?_ ?_
  · rw [rowsR_idx_row]
    show 512 * b.val + (j 1).val = 512 * (b.val + 1 * (j 0).val) + (0 + 1 * (j 1).val)
    omega
  · rw [rowsR_idx_col]
    show (j 2).val = 0 + 1 * (j 2).val
    omega

theorem out_cover (i : S2x512x768.Idx) : i ∈ (xR 0).set ∨ i ∈ (xR 1).set := by
  have h0 : (i 0).val < 2 := (i 0).isLt
  have h1 : (i 1).val < 512 := (i 1).isLt
  have h2 : (i 2).val < 768 := (i 2).isLt
  have : ∀ b : Fin 2, (i 0).val = b.val → i ∈ (xR b).set := fun b hb => by
    have e : (xR b).idx (fun a => match a with | 0 => ⟨0, Nat.one_pos⟩ | 1 => ⟨(i 1).val, h1⟩ | 2 => ⟨(i 2).val, h2⟩) = i := by
      funext a
      apply Fin.ext
      fin_cases a
      · show b.val + 1 * 0 = (i 0).val; omega
      · show 0 + 1 * (i 1).val = (i 1).val; omega
      · show 0 + 1 * (i 2).val = (i 2).val; omega
    rw [← e]; exact idx_mem _ _
  rcases Nat.lt_or_ge (i 0).val 1 with h | h
  · exact Or.inl (this 0 (by show (i 0).val = 0; omega))
  · exact Or.inr (this 1 (by show (i 0).val = 1; omega))

theorem outE_eq (fo : S2x512x768.Idx → F .f32) : outE I fo = outV I := by
  funext i
  unfold outE
  by_cases h : i ∈ (xR 1).set
  · obtain ⟨j, rfl⟩ := mem_idx _ h
    rw [out_write_idx, outB_at]
  · rw [out_write_off _ _ _ h]
    obtain ⟨j, rfl⟩ := mem_idx _ ((out_cover i).resolve_right h)
    rw [out_write_idx, outB_at]

end Out

/-! ## The kits -/

variable (I : Ins F) (K : CellIx → ℕ) (c : Dev nD)

theorem kits_in :
    iprop((bigSep Finset.univ fun x : Fin 2 × Job => atPos ER (kcell (c, some x)) 0 ∅ 0)
        ∗ ((bigSep (Finset.univ : Finset Job) fun j => dutyTok ER (sCell j c) 0 (0, 0)) ∗ (bigSep (Finset.univ : Finset Job) fun j => dutyTok ER (rCell j (jT j c)) 0 (0, 0)))
        ∗ bigSep Finset.univ fun j : Job => cred (tallyAt (rCell j c) () (amt j)))
      ⊢ (iprop((bigSep (Finset.univ : Finset Job) fun j => sKit (F := F) j c) ∗ bigSep (Finset.univ : Finset Job) fun j => wKit (F := F) j c) : sProp 𝕄) := by
  unfold sKit wKit
  rw [sems_eq, bigSep_sep', bigSep_sep', bigSep_sep', bigSep_sep']
  iintro ⟨⟨A0, A1⟩, ⟨T0, T1⟩, C⟩
  isplitl [T0 T1]
  · isplitl [T0] <;> iassumption
  isplitl [A0]; · iexact A0
  isplitl [A1] <;> iassumption

theorem kits_V :
    iprop(((bigSep (Finset.univ : Finset Job) fun j => sKit (F := F) j c) ∗ bigSep (Finset.univ : Finset Job) fun j => wKit (F := F) j c)
        ∗ (sixSb (F := F) c 0 ∗ sixSb (F := F) c 1))
      ⊢ (iprop(V0 (F := F) c 0 0 ∗ V0 (F := F) c 0 1 ∗ V0 (F := F) c 1 0 ∗ V0 (F := F) c 1 1) : sProp 𝕄) := by
  rw [jobs_eq, jobs_eq]
  unfold V0 L2 L3 sK wK sixSb six slSb
  iintro ⟨⟨⟨⟨⟨S000, S001⟩, S010, S011⟩, ⟨⟨S100, S101⟩, S110, S111⟩, ⟨⟨S200, S201⟩, S210, S211⟩, ⟨⟨S300, S301⟩, S310, S311⟩⟩,
    ⟨⟨⟨W000, W001⟩, W010, W011⟩, ⟨⟨W100, W101⟩, W110, W111⟩, ⟨⟨W200, W201⟩, W210, W211⟩, ⟨⟨W300, W301⟩, W310, W311⟩⟩⟩, ⟨B00, B10⟩, B01, B11⟩
  isplitl [S000 W000 S100 W100 B00 S200 W200 S300 W300]
  · isplitl [S000]; · iexact S000
    isplitl [W000]; · iexact W000
    isplitl [S100]; · iexact S100
    isplitl [W100]; · iexact W100
    isplitl [B00]; · iexact B00
    isplitl [S200]; · iexact S200
    isplitl [W200]; · iexact W200
    isplitl [S300] <;> iassumption
  isplitl [S001 W001 S101 W101 B01 S201 W201 S301 W301]
  · isplitl [S001]; · iexact S001
    isplitl [W001]; · iexact W001
    isplitl [S101]; · iexact S101
    isplitl [W101]; · iexact W101
    isplitl [B01]; · iexact B01
    isplitl [S201]; · iexact S201
    isplitl [W201]; · iexact W201
    isplitl [S301] <;> iassumption
  isplitl [S010 W010 S110 W110 B10 S210 W210 S310 W310]
  · isplitl [S010]; · iexact S010
    isplitl [W010]; · iexact W010
    isplitl [S110]; · iexact S110
    isplitl [W110]; · iexact W110
    isplitl [B10]; · iexact B10
    isplitl [S210]; · iexact S210
    isplitl [W210]; · iexact W210
    isplitl [S310] <;> iassumption
  isplitl [S011]; · iexact S011
  isplitl [W011]; · iexact W011
  isplitl [S111]; · iexact S111
  isplitl [W111]; · iexact W111
  isplitl [B11]; · iexact B11
  isplitl [S211]; · iexact S211
  isplitl [W211]; · iexact W211
  isplitl [S311] <;> iassumption

theorem sig_in :
    iprop((sixRx (F := F) c 0 ∗ sixRx (F := F) c 1) ∗ (sixRy (F := F) c 0 ∗ sixRy (F := F) c 1))
      ⊢ (iprop(sigPay (F := F) 0 0 c ∗ sigPay (F := F) 1 0 c ∗ sigPay (F := F) 0 1 c ∗ sigPay (F := F) 1 1 c ∗ sigPay (F := F) 0 2 c ∗ sigPay (F := F) 1 2 c) : sProp 𝕄) := by
  unfold sigPay sixRx sixRy six
  have r0 : rev 0 = 2 := rfl
  have r1 : rev 1 = 1 := rfl
  have r2 : rev 2 = 0 := rfl
  have o0 : oth 0 = 1 := rfl
  have o1 : oth 1 = 0 := rfl
  rw [r0, r1, r2, o0, o1]
  iintro ⟨⟨⟨⟨A000, A001, A002⟩, A010, A011, A012⟩, ⟨A100, A101, A102⟩, A110, A111, A112⟩, ⟨⟨B000, B001, B002⟩, B010, B011, B012⟩, ⟨B100, B101, B102⟩, B110, B111, B112⟩
  isplitl [A002 A012 B102 B112]
  · isplitl [A002 A012]
    · isplitl [A002] <;> iassumption
    isplitl [B102] <;> iassumption
  isplitl [A102 A112 B002 B012]
  · isplitl [A102 A112]
    · isplitl [A102] <;> iassumption
    isplitl [B002] <;> iassumption
  isplitl [A001 A011 B101 B111]
  · isplitl [A001 A011]
    · isplitl [A001] <;> iassumption
    isplitl [B101] <;> iassumption
  isplitl [A101 A111 B001 B011]
  · isplitl [A101 A111]
    · isplitl [A101] <;> iassumption
    isplitl [B001] <;> iassumption
  isplitl [A000 A010 B100 B110]
  · isplitl [A000 A010]
    · isplitl [A000] <;> iassumption
    isplitl [B100] <;> iassumption
  isplitl [A100 A110]
  · isplitl [A100] <;> iassumption
  isplitl [B000] <;> iassumption

theorem bar_toks :
    (bigSep (Finset.univ : Finset Dty) fun x => dutyTok ER (barCell (pr x.1 x.2 c)) 0 (x.1, rev x.2))
      = (iprop(dutyTok ER (barCell (pr 0 0 c)) 0 (0, rev 0) ∗ dutyTok ER (barCell (pr 1 0 c)) 0 (1, rev 0) ∗ dutyTok ER (barCell (pr 0 1 c)) 0 (0, rev 1)
          ∗ dutyTok ER (barCell (pr 1 1 c)) 0 (1, rev 1) ∗ dutyTok ER (barCell (pr 0 2 c)) 0 (0, rev 2) ∗ dutyTok ER (barCell (pr 1 2 c)) 0 (1, rev 2)) : sProp 𝕄) := by
  rw [bigSep_univ_eq_bigSepL [((0, 0) : Dty), (1, 0), (0, 1), (1, 1), (0, 2), (1, 2)] (by decide) (by decide)]; rfl

theorem bar_in :
    iprop((bigSep (Finset.univ : Finset Dty) fun x => dutyTok ER (barCell (pr x.1 x.2 c)) 0 (x.1, rev x.2))
        ∗ ((sixRx (F := F) c 0 ∗ sixRx (F := F) c 1) ∗ (sixRy (F := F) c 0 ∗ sixRy (F := F) c 1))
        ∗ atPos ER (barCell c) 0 ∅ 0 ∗ cred (tallyAt (barCell c) () 6)) ⊢ barIn (F := F) c := by
  rw [bar_toks]
  iintro ⟨⟨T1, T2, T3, T4, T5, T6⟩, HS, Ha, Hc⟩
  ihave HS := (sig_in (F := F) c) $$ HS
  icases HS with ⟨S1, S2, S3, S4, S5, S6⟩
  unfold barIn
  isplitl [T1 S1]
  · isplitl [T1] <;> iassumption
  isplitl [T2 S2]
  · isplitl [T2] <;> iassumption
  isplitl [T3 S3]
  · isplitl [T3] <;> iassumption
  isplitl [T4 S4]
  · isplitl [T4] <;> iassumption
  isplitl [T5 S5]
  · isplitl [T5] <;> iassumption
  isplitl [T6 S6]
  · isplitl [T6] <;> iassumption
  isplitl [Ha] <;> iassumption

/-- From the device's share of the protocol and its buffers to what the body takes. -/
theorem body_in (fo : S2x512x768.Idx → F .f32) (W : Waits sig Unit) :
    iprop((bigSep Finset.univ fun x => known I K x) ∗ mine (F := F) c ∗ (cred (tallyAt (barCell c) () 6) ∗ bigSep Finset.univ fun j : Job => cred (tallyAt (rCell j c) () (amt j)))
        ∗ levAts L lv ∗ bufs (F := F) c ∗ owes (c : Thread nD τ) (O₀ c) W ∗ insP I c ∗ outS (F := F) c fo)
      ⊢ iprop(∃ f0, bodyIn I K c f0 fo) := by
  unfold mine payToks
  rw [bigSep_o]
  iintro ⟨Hk, ⟨⟨Hab, Hat⟩, Tb, Ts, Tr⟩, ⟨Cb, Cr⟩, Hl, Hb, HO, Hi, Ho⟩
  ihave Hb := (bufs_cut c I) $$ Hb
  icases Hb with ⟨%f0, Hacc, Hag, Hrx, Hsb, Hry⟩
  iexists f0
  unfold bodyIn
  isplitl [Hk Hl]
  · unfold Ev Lev
    isplitl [Hk] <;> iassumption
  isplitl [HO]
  · unfold owingB
    iexists W
    unfold O₀
    iexact HO
  isplitl [Tb Hrx Hry Hab Cb]
  · iapply (bar_in (F := F) c)
    isplitl [Tb]; · iexact Tb
    isplitl [Hrx Hry]
    · isplitl [Hrx] <;> iassumption
    isplitl [Hab] <;> iassumption
  isplitl [Hi]; · iexact Hi
  isplitl [Hacc]; · iexact Hacc
  isplitl [Hag]; · iexact Hag
  isplitl [Hat Ts Tr Cr Hsb]
  · iapply (kits_V (F := F) c)
    isplitr [Hsb]
    · iapply (kits_in (F := F) c)
      isplitl [Hat]; · iexact Hat
      isplitl [Ts Tr]
      · isplitl [Ts] <;> iassumption
      iexact Cr
    iexact Hsb
  iexact Ho

/-! ## What is left -/

theorem owns_slot {sh : Shape} (m : Memref sig .tc .vmem sh .bf16) (X : sh.Idx → F .bf16) :
    (owns (c : Thread nD τ) m fullShare X : sProp 𝕄) ⊢ slot (F := F) c m := by
  unfold slot
  iintro H
  iexists X
  iexact H

theorem fRx_slots (b s : Fin 2) : fRx I c b s ⊢ T3 fun d => slot (F := F) c (rxV s b d) := by
  unfold fRx
  iintro ⟨H0, H1, H2⟩
  isplitl [H0]; · iapply (owns_slot c _ _); iexact H0
  isplitl [H1]; · iapply (owns_slot c _ _); iexact H1
  iapply (owns_slot c _ _); iexact H2
theorem fRy_slots (b s : Fin 2) : fRy I c b s ⊢ T3 fun d => slot (F := F) c (ryV s b d) := by
  unfold fRy
  iintro ⟨H0, H1, H2⟩
  isplitl [H0]; · iapply (owns_slot c _ _); iexact H0
  isplitl [H1]; · iapply (owns_slot c _ _); iexact H1
  iapply (owns_slot c _ _); iexact H2

theorem X3_split (b s : Fin 2) :
    X3 I c b s ⊢ iprop((dnK (F := F) c b s 0 ∗ dnK (F := F) c b s 1 ∗ dnK (F := F) c b s 2 ∗ dnK (F := F) c b s 3)
      ∗ (T3 fun d => slot (F := F) c (rxV s b d)) ∗ (T3 fun d => slot (F := F) c (sbV s b d)) ∗ (T3 fun d => slot (F := F) c (ryV s b d))) := by
  unfold X3 X2 X1 X0
  iintro ⟨⟨⟨⟨D0, Hx⟩, D1, Hs, Hy⟩, D2⟩, D3⟩
  isplitl [D0 D1 D2 D3]
  · isplitl [D0]; · iexact D0
    isplitl [D1]; · iexact D1
    isplitl [D2] <;> iassumption
  isplitl [Hx]; · iapply (fRx_slots I c b s); iexact Hx
  isplitl [Hs]; · unfold slSb; iexact Hs
  iapply (fRy_slots I c b s); iexact Hy

theorem dn_all :
    iprop((dnK (F := F) c 0 0 0 ∗ dnK (F := F) c 0 0 1 ∗ dnK (F := F) c 0 0 2 ∗ dnK (F := F) c 0 0 3)
        ∗ (dnK (F := F) c 0 1 0 ∗ dnK (F := F) c 0 1 1 ∗ dnK (F := F) c 0 1 2 ∗ dnK (F := F) c 0 1 3)
        ∗ (dnK (F := F) c 1 0 0 ∗ dnK (F := F) c 1 0 1 ∗ dnK (F := F) c 1 0 2 ∗ dnK (F := F) c 1 0 3)
        ∗ (dnK (F := F) c 1 1 0 ∗ dnK (F := F) c 1 1 1 ∗ dnK (F := F) c 1 1 2 ∗ dnK (F := F) c 1 1 3))
      ⊢ (Pipeline.ownSems0 (Ix := Unit) (Name := ℕ) (U := UU) (Lvl := ℕ) (Val := Elt F) (τ := τ) osem c : sProp 𝕄) := by
  have h : (Pipeline.ownSems0 (Ix := Unit) (Name := ℕ) (U := UU) (Lvl := ℕ) (Val := Elt F) (τ := τ) osem c : sProp 𝕄)
      = bigSep (Finset.univ : Finset Job) fun j => dnKit (F := F) j c := by
    unfold dnKit
    rw [ownSems0_eq, sems_eq]
  rw [h, jobs_eq]
  unfold dnK
  iintro ⟨⟨A0, A1, A2, A3⟩, ⟨B0, B1, B2, B3⟩, ⟨C0, C1, C2, C3⟩, D0, D1, D2, D3⟩
  isplitl [A0 B0 C0 D0]
  · isplitl [A0 B0]
    · isplitl [A0] <;> iassumption
    isplitl [C0] <;> iassumption
  isplitl [A1 B1 C1 D1]
  · isplitl [A1 B1]
    · isplitl [A1] <;> iassumption
    isplitl [C1] <;> iassumption
  isplitl [A2 B2 C2 D2]
  · isplitl [A2 B2]
    · isplitl [A2] <;> iassumption
    isplitl [C2] <;> iassumption
  isplitl [A3 B3]
  · isplitl [A3] <;> iassumption
  isplitl [C3] <;> iassumption

/-- From what the body leaves to the counters at zero, the buffers, the inputs and the result. -/
theorem body_out (f0 : IdxA → F .f32) (fo : S2x512x768.Idx → F .f32) :
    bodyOut I c f0 fo ⊢ iprop((bufs (F := F) c ∗ Pipeline.ownSems0 osem c ∗ unscopedSems0 c) ∗ (∃ W, owes (c : Thread nD τ) 0 W)
      ∗ insP I c ∗ outS (F := F) c (outV I)) := by
  rw [unscopedSems0_eq]
  unfold bodyOut WE
  rw [outE_eq]
  iintro ⟨HO, HB, HI, ⟨%st, HA⟩, ⟨⟨⟨X00, X01⟩, G0⟩, ⟨X10, X11⟩, G1⟩, Ho⟩
  ihave X00 := (X3_split I c 0 0) $$ X00
  ihave X01 := (X3_split I c 0 1) $$ X01
  ihave X10 := (X3_split I c 1 0) $$ X10
  ihave X11 := (X3_split I c 1 1) $$ X11
  icases X00 with ⟨D00, R00, S00, Y00⟩
  icases X01 with ⟨D01, R01, S01, Y01⟩
  icases X10 with ⟨D10, R10, S10, Y10⟩
  icases X11 with ⟨D11, R11, S11, Y11⟩
  isplitl [D00 D01 D10 D11 HB HA G0 G1 R00 R01 R10 R11 S00 S01 S10 S11 Y00 Y01 Y10 Y11]
  · isplitl [HA G0 G1 R00 R01 R10 R11 S00 S01 S10 S11 Y00 Y01 Y10 Y11]
    · iapply (bufs_join c (accF I f0 st c) (AF I))
      isplitl [HA]; · unfold accP; iexact HA
      isplitl [G0 G1]
      · isplitl [G0] <;> iassumption
      unfold sixRx sixSb sixRy six
      isplitl [R00 R01 R10 R11]
      · isplitl [R00 R10]
        · isplitl [R00] <;> iassumption
        isplitl [R01] <;> iassumption
      isplitl [S00 S01 S10 S11]
      · isplitl [S00 S10]
        · isplitl [S00] <;> iassumption
        isplitl [S01] <;> iassumption
      isplitl [Y00 Y10]
      · isplitl [Y00] <;> iassumption
      isplitl [Y01] <;> iassumption
    isplitl [D00 D01 D10 D11]
    · iapply (dn_all (F := F) c)
      isplitl [D00]; · iexact D00
      isplitl [D01]; · iexact D01
      isplitl [D10] <;> iassumption
    iexact HB
  isplitl [HO]
  · unfold owing owe; iexact HO
  isplitl [HI] <;> iassumption

end Cert.KernelIdeal.Body
-- ==== Proof.BodyEq.lean ====
/- The printed body is the sequence of named steps. -/
module

public import proofs.«01_k».proof.Proof.Body

@[expose] public section

set_option synthInstance.maxSize 4096

noncomputable section

namespace Cert.KernelIdeal.Body

open Idealize.ShloMosaic Idealize.SL.Sem
open Cert.KernelIdeal Cert.KernelIdeal.Gen

variable {F : FTy → Type} [FloatOps F] [Named F]

set_option maxRecDepth 200000 in
theorem body_eq (h0 : xM.IsWhole) (h1 : wqM.IsWhole) (h2 : kM.IsWhole) (h3 : vM.IsWhole) (h4 : woM.IsWhole) (h5 : outM.IsWhole)
    (h6 : accM.IsWhole) (h7 : agbM.IsWhole) (h8 : (rxM 0).IsWhole) (h9 : (rxM 1).IsWhole) (h10 : (sbM 0).IsWhole) (h11 : (sbM 1).IsWhole)
    (h12 : (ryM 0).IsWhole) (h13 : (ryM 1).IsWhole) :
    cc0__body (F := F) xM h0 wqM h1 kM h2 vM h3 woM h4 outM h5 accM h6 agbM h7 (rxM 0) h8 (rxM 1) h9 (sbM 0) h10 (sbM 1) h11 (ryM 0) h12 (ryM 1) h13
      cc0_scratch8 cc0_scratch9 cc0_scratch10 cc0_scratch11 cc0_scratch12 cc0_scratch13 cc0_scratch14 cc0_scratch15 = mainP := rfl

end Cert.KernelIdeal.Body
-- ==== Proof.Launch.lean ====
/- The launch: every device runs its core's body once between the fetch of the five inputs and the
   write-back of the result. -/
module

public import proofs.«01_k».proof.Proof.Start
public import proofs.«01_k».proof.Proof.BodyEq
public import proofs.«01_k».proof.Proof.Gen.KernelIdeal.Launch
public import Idealize.ShloMosaic.Lib.Pipeline.CollectiveSegs

@[expose] public section

noncomputable section

namespace Cert.KernelIdeal.Body

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Idealize.ShloMosaic.Rounds

variable {F : FTy → Type} [FloatOps F] [Named F]

local notation "𝕄" => MT nD τ sig Unit (Elt F) ℕ UU ℕ

variable (m : (ℓ : Loc nD τ sig) → Buf (Elt F) ℓ) (ρ : Dev nD → PrngReg)

/-- The state at the launch. -/
def s₀ : MemSt nD τ sig (Elt F) := ⟨m, fun _ => 0, ρ⟩

/-- The devices' inputs as the launch finds them. -/
def insM : Ins F where
  x c := (win0_0.blk t0_0).view.read (Elt F) (m ((c : Thread nD τ).loc main_arg0))
  wq c := (win0_1.blk t0_0).view.read (Elt F) (m ((c : Thread nD τ).loc main_arg1))
  k c := (win0_2.blk t0_0).view.read (Elt F) (m ((c : Thread nD τ).loc main_arg2))
  v c := (win0_3.blk t0_0).view.read (Elt F) (m ((c : Thread nD τ).loc main_arg3))
  wo c := (win0_4.blk t0_0).view.read (Elt F) (m ((c : Thread nD τ).loc main_arg4))

/-- What a device's body starts from, but for its buffers. -/
def start (c : Dev nD) : sProp 𝕄 :=
  iprop(G' (insM m) c ∗ (cred (tallyAt (barCell c) () 6) ∗ bigSep Finset.univ fun j : Job => cred (tallyAt (rCell j c) () (amt j))) ∗ levAts L lv)

def Φ₀ (c : Dev nD) : sProp 𝕄 := iprop(start m c ∗ Pipeline.scopedRest cfg0.spec c)
def Φ₁ (c : Dev nD) : sProp 𝕄 := iprop(Pipeline.scopedRest cfg0.spec c ∗ Pipeline.ownSems0 osem c ∗ unscopedSems0 c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => (insM m).x c
    | ⟨1, _⟩ => (insM m).wq c
    | ⟨2, _⟩ => (insM m).k c
    | ⟨3, _⟩ => (insM m).v c
    | ⟨4, _⟩ => (insM m).wo c
    | ⟨5, _⟩ => outV (insM m)
  Φ t := match t with
    | ⟨0, _⟩ => Φ₀ m c
    | ⟨_ + 1, _⟩ => Φ₁ c
  q _ := fullShare
  owed t := match t with
    | ⟨0, _⟩ => O₀ c
    | ⟨_ + 1, _⟩ => 0

/-! ## The body -/

theorem bigSep_W (Φ : Fin cfg0.W → sProp 𝕄) :
    bigSep Finset.univ Φ = iprop(Φ (0 : Fin 6) ∗ Φ (1 : Fin 6) ∗ Φ (2 : Fin 6) ∗ Φ (3 : Fin 6) ∗ Φ (4 : Fin 6) ∗ Φ (5 : Fin 6)) := bigSep_W0 Φ

theorem fetch_in (w : Fin cfg0.W) (hw : w ≠ (5 : Fin 6)) (t : Fin cfg0.N) : (cfg0.win w).fetch t = true := by
  rw [fin_N0 t]
  fin_cases w
  · rfl
  · rfl
  · rfl
  · rfl
  · rfl
  · exact absurd rfl hw

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m c ∗ (dats m ρ 0 c).owesAt () t0_0.castSucc
    ∗ (∃ d, stg c cc0_stg0_0 ((dats m ρ 0 c).before (0 : Fin 6) t0_0 d)) ∗ (∃ d, stg c cc0_stg1_0 ((dats m ρ 0 c).before (1 : Fin 6) t0_0 d))
    ∗ (∃ d, stg c cc0_stg2_0 ((dats m ρ 0 c).before (2 : Fin 6) t0_0 d)) ∗ (∃ d, stg c cc0_stg3_0 ((dats m ρ 0 c).before (3 : Fin 6) t0_0 d))
    ∗ (∃ d, stg c cc0_stg4_0 ((dats m ρ 0 c).before (4 : Fin 6) t0_0 d)) ∗ (∃ d, stg c cc0_stg5_0 ((dats m ρ 0 c).before (5 : Fin 6) t0_0 d)))

def bodyPost (c : Dev nD) : sProp 𝕄 :=
  iprop(Φ₁ c ∗ (dats m ρ 0 c).owesAt () t0_0.succ
    ∗ stg c cc0_stg0_0 ((insM m).x c) ∗ stg c cc0_stg1_0 ((insM m).wq c) ∗ stg c cc0_stg2_0 ((insM m).k c) ∗ stg c cc0_stg3_0 ((insM m).v c)
    ∗ stg c cc0_stg4_0 ((insM m).wo c) ∗ stg c cc0_stg5_0 (outV (insM m)))

theorem stg_intro (c : Dev nD) (b : Ref sig .tc) (X : b.ty.Contents (Elt F)) : ((((c : Thread nD τ).loc b) ↦{fullShare} X) : sProp 𝕄) ⊢ stg c b X := by
  iintro H
  iexists X
  isplitr
  · ipureintro; rfl
  iexact H

theorem stg_elim (c : Dev nD) (b : Ref sig .tc) (X : b.ty.Contents (Elt F)) : stg c b X ⊢ ((((c : Thread nD τ).loc b) ↦{fullShare} X) : sProp 𝕄) := by
  iintro ⟨%f, %hf, H⟩
  subst hf
  iexact H

theorem ins_in (c : Dev nD) :
    iprop((∃ d, stg c cc0_stg0_0 ((dats m ρ 0 c).before (0 : Fin 6) t0_0 d)) ∗ (∃ d, stg c cc0_stg1_0 ((dats m ρ 0 c).before (1 : Fin 6) t0_0 d))
      ∗ (∃ d, stg c cc0_stg2_0 ((dats m ρ 0 c).before (2 : Fin 6) t0_0 d)) ∗ (∃ d, stg c cc0_stg3_0 ((dats m ρ 0 c).before (3 : Fin 6) t0_0 d))
      ∗ (∃ d, stg c cc0_stg4_0 ((dats m ρ 0 c).before (4 : Fin 6) t0_0 d))) ⊢ insP (insM m) c := by
  have h0 (d) : (dats m ρ 0 c).before (0 : Fin 6) t0_0 d = (insM m).x c := by unfold Dat.before; rw [if_pos (fetch_in (0 : Fin 6) (by decide) t0_0)]; rfl
  have h1 (d) : (dats m ρ 0 c).before (1 : Fin 6) t0_0 d = (insM m).wq c := by unfold Dat.before; rw [if_pos (fetch_in (1 : Fin 6) (by decide) t0_0)]; rfl
  have h2 (d) : (dats m ρ 0 c).before (2 : Fin 6) t0_0 d = (insM m).k c := by unfold Dat.before; rw [if_pos (fetch_in (2 : Fin 6) (by decide) t0_0)]; rfl
  have h3 (d) : (dats m ρ 0 c).before (3 : Fin 6) t0_0 d = (insM m).v c := by unfold Dat.before; rw [if_pos (fetch_in (3 : Fin 6) (by decide) t0_0)]; rfl
  have h4 (d) : (dats m ρ 0 c).before (4 : Fin 6) t0_0 d = (insM m).wo c := by unfold Dat.before; rw [if_pos (fetch_in (4 : Fin 6) (by decide) t0_0)]; rfl
  simp only [h0, h1, h2, h3, h4]
  unfold insP
  iintro ⟨⟨%d0, H0⟩, ⟨%d1, H1⟩, ⟨%d2, H2⟩, ⟨%d3, H3⟩, ⟨%d4, H4⟩⟩
  isplitl [H0]; · iapply (stg_elim c cc0_stg0_0 _); iexact H0
  isplitl [H1]; · iapply (stg_elim c cc0_stg1_0 _); iexact H1
  isplitl [H2]; · iapply (stg_elim c cc0_stg2_0 _); iexact H2
  isplitl [H3]; · iapply (stg_elim c cc0_stg3_0 _); iexact H3
  iapply (stg_elim c cc0_stg4_0 _); iexact H4

theorem ins_out (c : Dev nD) :
    insP (insM m) c ⊢ iprop(stg c cc0_stg0_0 ((insM m).x c) ∗ stg c cc0_stg1_0 ((insM m).wq c) ∗ stg c cc0_stg2_0 ((insM m).k c) ∗ stg c cc0_stg3_0 ((insM m).v c)
      ∗ stg c cc0_stg4_0 ((insM m).wo c)) := by
  unfold insP
  iintro ⟨H0, H1, H2, H3, H4⟩
  isplitl [H0]; · iapply (stg_intro c cc0_stg0_0 _); iexact H0
  isplitl [H1]; · iapply (stg_intro c cc0_stg1_0 _); iexact H1
  isplitl [H2]; · iapply (stg_intro c cc0_stg2_0 _); iexact H2
  isplitl [H3]; · iapply (stg_intro c cc0_stg3_0 _); iexact H3
  iapply (stg_intro c cc0_stg4_0 _); iexact H4

set_option maxRecDepth 8000 in
theorem sound_body (c : Dev nD) : bodyPre m ρ c ⊢ wpc c mainP (fun _ => bodyPost m ρ c) := by
  unfold bodyPre Φ₀ start G'
  iintro ⟨⟨⟨⟨%K, Hk, Hm⟩, Hc, Hl⟩, Hb⟩, Ho, H0, H1, H2, H3, H4, ⟨%d5, %f5, %hf5, H5⟩⟩
  ihave Hi := (ins_in m ρ c) $$ [H0 H1 H2 H3 H4]
  · isplitl [H0]; · iexact H0
    isplitl [H1]; · iexact H1
    isplitl [H2]; · iexact H2
    isplitl [H3] <;> iassumption
  unfold Dat.owesAt Pipeline.owesWithin
  icases Ho with ⟨%W, %hW, HO⟩
  rw [show (dats m ρ 0 c).owed t0_0.castSucc = O₀ c from rfl]
  ihave Hb := (Entails.of_eq (bufs_eq (F := F) c)) $$ Hb
  ihave HA := (body_in (insM m) K c f5 W) $$ [Hk Hm Hc Hl Hb HO Hi H5]
  · isplitl [Hk]; · iexact Hk
    isplitl [Hm]; · iexact Hm
    isplitl [Hc]; · iexact Hc
    isplitl [Hl]; · iexact Hl
    isplitl [Hb]; · iexact Hb
    isplitl [HO]; · iexact HO
    isplitl [Hi]; · iexact Hi
    unfold outS; iexact H5
  icases HA with ⟨%f0, HA⟩
  have hq : bodyOut (insM m) c f0 f5 ⊢ bodyPost m ρ c := by
    unfold bodyPost Φ₁
    rw [bufs_eq]
    iintro H
    ihave H := (body_out (insM m) c f0 f5) $$ H
    icases H with ⟨Hs, ⟨%W', HO⟩, Hi, Ho⟩
    ihave Hi := (ins_out m c) $$ Hi
    icases Hi with ⟨H0, H1, H2, H3, H4⟩
    isplitl [Hs]; · iexact Hs
    isplitl [HO]
    · unfold Dat.owesAt Pipeline.owesWithin
      rw [show (dats m ρ 0 c).owed t0_0.succ = 0 from rfl]
      iexists W'
      isplitr; · ipureintro; exact fun _ _ => Or.inl trivial
      iexact HO
    isplitl [H0]; · iexact H0
    isplitl [H1]; · iexact H1
    isplitl [H2]; · iexact H2
    isplitl [H3]; · iexact H3
    isplitl [H4]; · iexact H4
    iapply (stg_intro c cc0_stg5_0 _); unfold outS; iexact Ho
  iapply (wpc_conv (body_run (insM m) K c f0 f5) (BI.Entails.refl _) hq)
  iexact HA

set_option maxRecDepth 200000 in
/-- The core's body does what the launch asks of it. -/
theorem body_obligation (c : Dev nD) : BodyObligation (dats (F := F) m ρ 0 c) (defs₀ (F := F)) 𝒱₀ () Set.univ := fun t => by
  rw [fin_N0 t]
  rw [bigSep_W, bigSep_W]
  simp only [owns_whole_eq]
  show bodyPre m ρ c ⊢ wp frame (wpE (defs₀ (F := F)) 𝒱₀ (c : Thread nD τ) none) Set.univ
    (cc0__body (F := F) xM (Memref.isWhole_whole _) wqM (Memref.isWhole_whole _) kM (Memref.isWhole_whole _) vM (Memref.isWhole_whole _) woM (Memref.isWhole_whole _)
      outM (Memref.isWhole_whole _) accM (Memref.isWhole_whole _) agbM (Memref.isWhole_whole _) (rxM 0) (Memref.isWhole_whole _) (rxM 1) (Memref.isWhole_whole _)
      (sbM 0) (Memref.isWhole_whole _) (sbM 1) (Memref.isWhole_whole _) (ryM 0) (Memref.isWhole_whole _) (ryM 1) (Memref.isWhole_whole _)
      cc0_scratch8 cc0_scratch9 cc0_scratch10 cc0_scratch11 cc0_scratch12 cc0_scratch13 cc0_scratch14 cc0_scratch15) (fun _ => bodyPost m ρ c)
  rw [body_eq]
  exact sound_body m ρ c

/-! ## The launch -/

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (insM m) c)
      ⊢ |={Set.univ}=> iprop(start m c ∗ emp) := by
  iintro ⟨-, Hlev, Hcr, -, HG⟩
  ihave Hc := (creds (F := F) c) $$ Hcr
  imodintro
  unfold start
  isplitl
  · isplitl [HG]; · iexact HG
    isplitl [Hc]; · iexact Hc
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl]
  unfold Φ₀
  iintro ⟨Hs, -, Hr⟩
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl]
  unfold Φ₁
  iintro ⟨Hr, Ho, Hu⟩
  isplitl [Hu]; · iexact Hu
  isplitl [Ho] <;> iassumption

theorem stage_lv (c : Dev nD) : ∀ (w : Fin cfg0.W) (s : Fin (cfg0.win w).nbuf), lv ((c : Thread nD τ), .dma ((cfg0.win w).sem s)) () = 0 := by
  intro w s
  show lvOf (decS (.dma ((cfg0.win w).sem s))) = 0
  revert w s
  decide +kernel

theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · exact mayWait_oweB c _ (stage_lv c w s) allJobs allSigs
    · exact mayWait_owe c _ 0 (stage_lv c w s) [] fun j hj => absurd hj List.not_mem_nil

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 200000 in
/-- Every fair execution on the sixteen devices ends; then each device's arrays hold what `finalA` says and every
    counter is zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => block_pos0 w) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G (insM m)) (G' := G' (insM m)) (u₀ := u₀)
    (hu₀ := by
      unfold u₀
      iintro Hu
      ihave H := (ownU_pair _ _) $$ Hu
      icases H with ⟨HP, HX⟩
      imod (fund_all (insM m)) $$ HX with HG
      imodintro
      isplitl [HP] <;> iassumption)
    (hglob := glob (insM m))
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The inputs are left as they were. -/
theorem finalA_in (c : Dev nD) (w : Fin cfg0.W) (hw : (cfg0.win w).isOut = false) : finalA m ρ c w = m ((cfg0.win w).arr.view.loc (c : Thread nD τ)) :=
  (dats (F := F) m ρ 0 c).arrAt_in w hw _

/-- The result is the sum on every device. -/
theorem finalA_out (c : Dev nD) : (win0_5.blk t0_0).view.read (Elt F) (finalA m ρ c (5 : Fin 6)) = outV (insM m) := by
  unfold finalA
  rw [show cfg0.N = (t0_0 : Fin cfg0.N).val + 1 from rfl, (dats m ρ 0 c).arrAt_succ (5 : Fin 6) t0_0]
  rw [show (cfg0.win (5 : Fin 6)).flush t0_0 = true from by decide, if_pos rfl]
  exact View.read_write_univ _ _

end Cert.KernelIdeal.Body
-- ==== Proof.FrameBits.lean ====
/- The words' own program and its idealization are one program once the named constant stands for its
   word, so what holds of the one at any float values holds of the other at the words'. -/
module

public import proofs.«01_k».proof.Proof.Launch
public import proofs.«01_k».proof.Proof.Gen.Kernel
public import Idealize.ShloMosaic.PureOps.BitExact
public import Idealize.ShloMosaic.Lib.StableHlo.RunHlo

@[expose] public section

noncomputable section

namespace Cert.KernelIdeal.Body

open Idealize.ShloMosaic Idealize.ShloMosaic.TcCoe Idealize.SL.Sem

section Any

open Cert.KernelIdeal Cert.KernelIdeal.Gen

variable {F : FTy → Type} [FloatOps F] [Named F]

/-- Every fair execution ends with the inputs as they were and every counter zero. -/
theorem run_frame (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_mono (run_main m ρ) fun r h => ⟨fun c =>
    ⟨(h.1 c 0).trans (finalA_in m ρ c 0 rfl), (h.1 c 1).trans (finalA_in m ρ c 1 rfl), (h.1 c 2).trans (finalA_in m ρ c 2 rfl),
      (h.1 c 3).trans (finalA_in m ρ c 3 rfl), (h.1 c 4).trans (finalA_in m ρ c 4 rfl)⟩, h.2⟩

end Any

/-- At the words, a named constant is the word it names. -/
@[instance_reducible] def bitsNamed : Named Bits := ⟨fun _ _ _ b => Scalar.ofBits _ b⟩

attribute [local instance] bitsNamed

set_option maxRecDepth 100000 in
theorem cc0_bits : Cert.Kernel.cc0__body (F := Bits) = Cert.KernelIdeal.cc0__body (F := Bits) := rfl

set_option maxRecDepth 100000 in
theorem defs₀_bits : Cert.Kernel.defs₀ (F := Bits) = Cert.KernelIdeal.defs₀ (F := Bits) := by
  refine congrArg Defs.onTc (funext fun l => funext fun a => ?_)
  match l, a with
  | ⟨0, _⟩, (t, s) =>
    exact congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun cc0_bits _) _) _) _) _) _) _) _) _) _) _) _) _) _) _) _) _) _) _) _) _) _) _) _) _) _) _) _) _) _) _) _) _) _) _) _
  | ⟨_ + 1, h⟩, _ => exact absurd h (Nat.not_lt.2 (Nat.le_add_left _ _))
theorem defs_bits : Cert.Kernel.defs (F := Bits) = Cert.KernelIdeal.defs (F := Bits) := congrArg (Pipeline.defs Cert.Kernel.pcfgs) defs₀_bits

theorem main_bits : Cert.Kernel.main (F := Bits) = Cert.KernelIdeal.main (F := Bits) := rfl

/-- The same of the words' program. -/
theorem run_frame_bits (m : (ℓ : Loc Cert.Kernel.nD Cert.Kernel.τ Cert.Kernel.sig) → Buf (Elt Bits) ℓ) (ρ : Dev Cert.Kernel.nD → PrngReg) :
    θ_run (Cert.Kernel.defs (F := Bits)) (onTc (τ := Cert.Kernel.τ) (Cert.Kernel.main (F := Bits))) ⟨m, fun _ => 0, ρ⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0) := by
  rw [defs_bits, main_bits]
  exact run_frame (F := Bits) m ρ

end Cert.KernelIdeal.Body
-- ==== Proof.Softmax.lean ====
/- One row of attention over the extended reals, where the scores are real. The row is masked by blocks of 64 positions.
   `att` divides the weighted sum once; `att_eq` says that subtracting the row's greatest score and dividing every weight
   gives the same. -/
module

public import Idealize.ShloMosaic.PureOps.Ideal.Laws

@[expose] public section

noncomputable section

namespace Cert.Row

open Idealize.ShloMosaic
open scoped BigOperators

/-- What is added to a score: nothing where the key's block is not after the query's, else the least value. -/
def seen (i j : Fin 512) : EReal := if j.val / 64 ≤ i.val / 64 then 0 else ⊥

/-- The weighted sum of the values over the sum of the weights. -/
def att (i : Fin 512) (s v : Fin 512 → EReal) : EReal :=
  Ideal.div (∑ j, Ideal.exp (s j + seen i j) * v j) (∑ j, Ideal.exp (s j + seen i j))

/-- A score, or the least value where the mask excludes it. -/
def shut (i : Fin 512) (s : Fin 512 → EReal) (j : Fin 512) : EReal := if j.val / 64 ≤ i.val / 64 then s j else ⊥

/-- The greatest of a row. -/
def top (t : Fin 512 → EReal) : EReal := (Finset.univ : Finset (Fin 512)).fold max ⊥ t

theorem sum_coe {ι : Type} (S : Finset ι) (f : ι → ℝ) : (∑ j ∈ S, ((f j : ℝ) : EReal)) = ((∑ j ∈ S, f j : ℝ) : EReal) := by
  classical
  induction S using Finset.induction_on with
  | empty => simp
  | insert a S ha ih => rw [Finset.sum_insert ha, Finset.sum_insert ha, ih, EReal.coe_add]

/-- A factor that is real and not negative goes into a sum. -/
theorem sum_mul_coe {ι : Type} (S : Finset ι) (f : ι → EReal) (c : ℝ) (hc : 0 ≤ c) : (∑ j ∈ S, f j) * (c : EReal) = ∑ j ∈ S, f j * (c : EReal) := by
  classical
  induction S using Finset.induction_on with
  | empty => simp
  | insert a S ha ih =>
    rw [Finset.sum_insert ha, Finset.sum_insert ha, ← ih,
      EReal.right_distrib_of_nonneg_of_ne_top (EReal.coe_nonneg.2 hc) (EReal.coe_ne_top c)]

/-- The greatest score of a row is real. -/
theorem top_real (i : Fin 512) (f : Fin 512 → ℝ) : ∃ μ : ℝ, top (shut i fun j => (f j : EReal)) = (μ : EReal) := by
  have hlt : top (shut i fun j => (f j : EReal)) < ⊤ := by
    refine (Finset.fold_max_lt _).2 ⟨bot_lt_top, fun j _ => ?_⟩
    unfold shut
    split
    · exact EReal.coe_lt_top _
    · exact bot_lt_top
  have hgt : ((f i : ℝ) : EReal) ≤ top (shut i fun j => (f j : EReal)) := by
    refine (Finset.le_fold_max _).2 (Or.inr ⟨i, Finset.mem_univ i, ?_⟩)
    unfold shut
    rw [if_pos le_rfl]
  refine ⟨(top (shut i fun j => (f j : EReal))).toReal, (EReal.coe_toReal hlt.ne ?_).symm⟩
  exact ((EReal.bot_lt_coe _).trans_le hgt).ne'

/-- Subtracting the greatest score and dividing every weight changes nothing. -/
theorem att_eq (i : Fin 512) (s v : Fin 512 → EReal) (hs : ∀ j, ∃ r : ℝ, s j = (r : EReal)) :
    ∑ j, v j * Ideal.div (Ideal.exp (shut i s j - top (shut i s))) (∑ j, Ideal.exp (shut i s j - top (shut i s))) = att i s v := by
  choose f hf using hs
  obtain rfl : s = fun j => ((f j : ℝ) : EReal) := funext hf
  obtain ⟨μ, hμ⟩ := top_real i f
  rw [hμ]
  let w : Fin 512 → ℝ := fun j => if j.val / 64 ≤ i.val / 64 then Real.exp (f j) else 0
  have hw : ∀ j, 0 ≤ w j := fun j => by
    simp only [w]
    split
    · exact (Real.exp_pos _).le
    · exact le_rfl
  have hwi : 0 < w i := by
    simp only [w]
    rw [if_pos le_rfl]
    exact Real.exp_pos _
  have hL : 0 < ∑ j, w j := Finset.sum_pos' (fun j _ => hw j) ⟨i, Finset.mem_univ i, hwi⟩
  have h1 : ∀ j, Ideal.exp (((f j : ℝ) : EReal) + seen i j) = ((w j : ℝ) : EReal) := fun j => by
    unfold seen
    simp only [w]
    split
    · rw [add_zero, Ideal.exp_coe]
    · rw [EReal.add_bot, Ideal.exp_bot, EReal.coe_zero]
  have h2 : ∀ j, Ideal.exp (shut i (fun j => ((f j : ℝ) : EReal)) j - (μ : EReal)) = ((w j * Real.exp (-μ) : ℝ) : EReal) := fun j => by
    unfold shut
    simp only [w]
    split
    · rw [← EReal.coe_sub, Ideal.exp_coe, sub_eq_add_neg, Real.exp_add]
    · rw [sub_eq_add_neg, EReal.bot_add, Ideal.exp_bot, zero_mul, EReal.coe_zero]
  have hc : 0 < Real.exp (-μ) := Real.exp_pos _
  unfold att
  simp only [h1, h2, sum_coe]
  rw [← Finset.sum_mul, Ideal.div_coe hL.ne', sum_mul_coe _ _ _ (by positivity)]
  refine Finset.sum_congr rfl fun j _ => ?_
  rw [Ideal.div_coe (mul_pos hL hc).ne', ← EReal.coe_mul, mul_comm ((w j : ℝ) : EReal) (v j), mul_assoc (v j), ← EReal.coe_mul]
  congr 2
  field_simp

/-- A row of the first half needs the first half of the keys only. -/
theorem att_low (i : Fin 512) (hi : i.val < 256) (s v : Fin 512 → EReal) :
    Ideal.div (∑ j : Fin 256, Ideal.exp (s ⟨j.val, by omega⟩ + seen i ⟨j.val, by omega⟩) * v ⟨j.val, by omega⟩)
      (∑ j : Fin 256, Ideal.exp (s ⟨j.val, by omega⟩ + seen i ⟨j.val, by omega⟩)) = att i s v := by
  have hz : ∀ j : Fin 256, Ideal.exp (s (Fin.natAdd 256 j) + seen i (Fin.natAdd 256 j)) = 0 := fun j => by
    unfold seen
    rw [if_neg (by show ¬ (256 + j.val) / 64 ≤ i.val / 64; omega), EReal.add_bot, Ideal.exp_bot]
  have hsum : ∀ g : Fin 512 → EReal, (∀ j : Fin 256, g (Fin.natAdd 256 j) = 0) → ∑ j : Fin 256, g ⟨j.val, by omega⟩ = ∑ j, g j := by
    intro g hg
    rw [show (∑ j : Fin 512, g j) = ∑ j : Fin (256 + 256), g j from rfl, Fin.sum_univ_add]
    simp only [hg, Finset.sum_const_zero, add_zero]
    rfl
  unfold att
  rw [hsum (fun j => Ideal.exp (s j + seen i j) * v j) (fun j => by rw [hz, zero_mul]), hsum (fun j => Ideal.exp (s j + seen i j)) hz]

end Cert.Row

end
-- ==== Proof.HeadAt.lean ====
/- What the kernel's pure steps compute, read at an index: the queries, one head, the projection. -/
module

public import proofs.«01_k».proof.Proof.Body
public import proofs.«01_k».proof.Proof.Softmax
public import Idealize.ShloMosaic.Lib.Pointwise
public import Idealize.ShloMosaic.Lib.IdealHost

@[expose] public section

noncomputable section

namespace Cert.KernelIdeal.Body

open Cert.KernelIdeal Cert.KernelIdeal.Gen Idealize.ShloMosaic Idealize.SL.Sem
open scoped BigOperators

/-- The block of 64 positions that a position lies in, as the body computes it. -/
def blkW (n : ℕ) : BitVec 32 :=
  Scalar.select (IntOp.andi
      (IntOp.cmpi .ne (IntOp.subi (BitVec.setWidth 32 (IntOp.cmpi .sgt (BitVec.ofNat 32 n) 0#32)) (BitVec.setWidth 32 (IntOp.cmpi .slt (BitVec.ofNat 32 n) 0#32)))
        (Scalar.subi (Scalar.extui (Scalar.cmpi .sgt 64#32 0#32)) (Scalar.extui (Scalar.cmpi .slt 64#32 0#32))))
      (IntOp.cmpi .ne (IntOp.remsi .vector (BitVec.ofNat 32 n) 64#32) 0#32))
    (IntOp.subi (IntOp.divsi .vector (BitVec.ofNat 32 n) 64#32) 1#32)
    (IntOp.divsi .vector (BitVec.ofNat 32 n) 64#32)

theorem blkW_eq (i : Fin 512) : blkW i.val = BitVec.ofNat 32 (i.val / 64) := by
  revert i
  decide +kernel

theorem rowBlk_at (i j : Fin 512) : k0_pay2 (ix2 i j) = BitVec.ofNat 32 (i.val / 64) := by
  rw [← blkW_eq]
  unfold k0_pay2 blkW
  pointwise

theorem sle_blk (i j : Fin 512) :
    IntOp.cmpi .sle (BitVec.ofNat 32 (j.val / 64)) (BitVec.ofNat 32 (i.val / 64)) = if j.val / 64 ≤ i.val / 64 then 1#1 else 0#1 :=
  (by decide : ∀ a b : Fin 8, IntOp.cmpi .sle (BitVec.ofNat 32 b.val) (BitVec.ofNat 32 a.val) = if b.val ≤ a.val then 1#1 else 0#1)
    ⟨i.val / 64, by omega⟩ ⟨j.val / 64, by omega⟩

theorem maskV_at (i j : Fin 512) : maskV (F := Ideal) (ix2 i j) = Row.seen i j := by
  unfold maskV k0_pay7 k0_pay3 k0_pay4 k0_pay5 k0_pay6
  pointwise
  rw [rowBlk_at]
  show Scalar.select (IntOp.cmpi .sle (blkW j.val) (BitVec.ofNat 32 (i.val / 64))) _ _ = _
  rw [blkW_eq, sle_blk]
  unfold Row.seen
  split <;> rfl

/-- The queries of a batch. -/
theorem qV_at (x : Vec Ideal S1x512x768 .f32) (wq : Vec Ideal S768x512 .f32) (i n : Fin 512) :
    qV x wq (ix2 i n) = ∑ k : Fin 768, x (ix3 0 i k) * wq (ix2 k n) := by
  unfold qV
  pointwise

/-- The scale of the scores. -/
theorem bits_eighth : Ideal.ofBits .f32 0x3E000000#32 = ((1 / 8 : ℝ) : EReal) := by
  simp [Ideal.ofBits, Ideal.ieee, -EReal.coe_mul]; norm_num

/-- One query of a head. -/
def attOf (q k v : FVec Ideal S512x64 .f32) (i : Fin 512) (d : Fin 64) : EReal :=
  Row.att i (fun j => (∑ e : Fin 64, q (ix2 i e) * k (ix2 j e)) * ((1 / 8 : ℝ) : EReal)) fun j => v (ix2 j d)

theorem loV_at (q k v : FVec Ideal S512x64 .f32) (i : Fin 256) (d : Fin 64) :
    loV q k v (ix2 i d) = attOf q k v ⟨i.val, by omega⟩ d := by
  refine Eq.trans ?_ (Row.att_low ⟨i.val, by omega⟩ i.isLt _ _)
  unfold loV
  pointwise
  simp only [bits_eighth, maskV_at]

theorem hiV_at (q k v : FVec Ideal S512x64 .f32) (i : Fin 256) (d : Fin 64) :
    hiV q k v (ix2 i d) = attOf q k v ⟨256 + i.val, by omega⟩ d := by
  unfold hiV
  pointwise
  simp only [bits_eighth, maskV_at]
  rfl

theorem headV_at (q : FVec Ideal S512x512 .f32) (h : Fin 8) (k v : Vec Ideal S1x512x1x64 .f32) (i : Fin 512) (d : Fin 64) :
    headV q h k v (ix2 i d)
      = Row.att i (fun j => (∑ e : Fin 64, q (ix2 i ⟨64 * h.val + e.val, by omega⟩) * k (ix4 0 j 0 e)) * ((1 / 8 : ℝ) : EReal)) fun j => v (ix4 0 j 0 d) := by
  have key : ∀ (n : Fin 512), n = i → attOf (extractStridedSlice S512x64 ![0, 64 * h.val] q (slicesHead h))
      (shapeCast S512x64 k Gen.shapeCasts_S1x512x1x64_S512x64) (shapeCast S512x64 v Gen.shapeCasts_S1x512x1x64_S512x64) n d
      = Row.att i (fun j => (∑ e : Fin 64, q (ix2 i ⟨64 * h.val + e.val, by omega⟩) * k (ix4 0 j 0 e)) * ((1 / 8 : ℝ) : EReal)) fun j => v (ix4 0 j 0 d) := by
    rintro n rfl
    unfold attOf
    pointwise
  unfold headV
  pointwise
  split
  · rw [loV_at]
    exact key _ rfl
  · next hi =>
    rw [hiV_at]
    exact key _ (Fin.ext (by show 256 + (i.val - 256) = i.val; omega))

/-- Two elements of two heads at equal numbers. -/
theorem pick (H : Fin 8 → FVec Ideal S512x64 .f32) (i : Fin 512) {a a' : Fin 8} {b b' : Fin 64} (ha : a.val = a'.val) (hb : b.val = b'.val) :
    H a (ix2 i b) = H a' (ix2 i b') := by
  rw [Fin.ext ha, Fin.ext hb]

theorem projV_at (H : Fin 8 → FVec Ideal S512x64 .f32) (wo : Vec Ideal S512x768 .f32) (i : Fin 512) (c : Fin 768) :
    projV (H 0) (H 1) (H 2) (H 3) (H 4) (H 5) (H 6) (H 7) wo (ix2 i c)
      = ∑ n : Fin 512, H ⟨n.val / 64, by omega⟩ (ix2 i ⟨n.val % 64, by omega⟩) * wo (ix2 n c) := by
  unfold projV
  pointwise
  refine Finset.sum_congr rfl fun n _ => congrArg (· * wo (ix2 n c)) ?_
  by_cases h0 : n.val < 64
  · rw [dif_pos h0]
    exact pick H i (by show 0 = n.val / 64; omega) (by show n.val = n.val % 64; omega)
  rw [dif_neg h0]
  by_cases h1 : n.val - 64 < 64
  · rw [dif_pos h1]
    exact pick H i (by show 1 = n.val / 64; omega) (by show n.val - 64 = n.val % 64; omega)
  rw [dif_neg h1]
  by_cases h2 : n.val - 64 - 64 < 64
  · rw [dif_pos h2]
    exact pick H i (by show 2 = n.val / 64; omega) (by show n.val - 64 - 64 = n.val % 64; omega)
  rw [dif_neg h2]
  by_cases h3 : n.val - 64 - 64 - 64 < 64
  · rw [dif_pos h3]
    exact pick H i (by show 3 = n.val / 64; omega) (by show n.val - 64 - 64 - 64 = n.val % 64; omega)
  rw [dif_neg h3]
  by_cases h4 : n.val - 64 - 64 - 64 - 64 < 64
  · rw [dif_pos h4]
    exact pick H i (by show 4 = n.val / 64; omega) (by show n.val - 64 - 64 - 64 - 64 = n.val % 64; omega)
  rw [dif_neg h4]
  by_cases h5 : n.val - 64 - 64 - 64 - 64 - 64 < 64
  · rw [dif_pos h5]
    exact pick H i (by show 5 = n.val / 64; omega) (by show n.val - 64 - 64 - 64 - 64 - 64 = n.val % 64; omega)
  rw [dif_neg h5]
  by_cases h6 : n.val - 64 - 64 - 64 - 64 - 64 - 64 < 64
  · rw [dif_pos h6]
    exact pick H i (by show 6 = n.val / 64; omega) (by show n.val - 64 - 64 - 64 - 64 - 64 - 64 = n.val % 64; omega)
  rw [dif_neg h6]
  exact pick H i (by show 7 = n.val / 64; omega) (by show n.val - 64 - 64 - 64 - 64 - 64 - 64 - 64 = n.val % 64; omega)

end Cert.KernelIdeal.Body

end
-- ==== Proof.Sum.lean ====
/- The result over the extended reals: the sum of all devices' products, each read at an index of the devices' inputs. -/
module

public import proofs.«01_k».proof.Proof.Values
public import proofs.«01_k».proof.Proof.HeadAt

@[expose] public section

noncomputable section

namespace Cert.KernelIdeal.Body

open Cert.KernelIdeal Cert.KernelIdeal.Gen Idealize.ShloMosaic Idealize.SL.Sem
open scoped BigOperators

/-! ## The devices that a block's two sums reach -/

/-- The devices of one exchange: the device itself and the three it hears from. -/
def nbr (s : Fin 2) (c : Dev nD) (n : Fin 4) : Dev nD :=
  match n with
  | 0 => c
  | 1 => sdr s 0 c
  | 2 => sdr s 1 c
  | 3 => sdr s 2 c

/-- The two exchanges together reach every device once. -/
theorem nbr_bij (s : Fin 2) (c : Dev nD) : Function.Bijective fun p : Fin 4 × Fin 4 => nbr s (nbr (oth s) c p.1) p.2 := by
  refine (Fintype.bijective_iff_injective_and_card _).2 ⟨?_, by decide⟩
  have h : ∀ (s : Fin 2) (c : Dev nD) (p q : Fin 4 × Fin 4), nbr s (nbr (oth s) c p.1) p.2 = nbr s (nbr (oth s) c q.1) q.2 → p = q := by
    decide +kernel
  exact fun p q e => h s c p q e

variable (I : Ins Ideal)

theorem add3_eq (f : Dev nD → EReal) (s : Fin 2) (c : Dev nD) :
    add3 (F := Ideal) (f c) (f (sdr s 0 c)) (f (sdr s 1 c)) (f (sdr s 2 c)) = ∑ n, f (nbr s c n) := by
  rw [Fin.sum_univ_four]
  rfl

theorem Q_eq (c : Dev nD) (i : IdxA) : Q I c i = ∑ n, P I (nbr (sIx i) c n) i := add3_eq (fun d => P I d i) _ c

theorem Fv_eq (c : Dev nD) (i : IdxA) : Fv I c i = ∑ d : Dev nD, P I d i := by
  have h : Fv I c i = ∑ n, Q I (nbr (oth (sIx i)) c n) i := add3_eq (fun d => Q I d i) _ c
  rw [h, ← Equiv.sum_comp (Equiv.ofBijective _ (nbr_bij (sIx i) c)) fun d => P I d i, Fintype.sum_prod_type]
  exact Finset.sum_congr rfl fun n _ => Q_eq I _ i

theorem outV_sum (b : Fin 2) (i : Fin 512) (n : Fin 768) : outV I (ix3 b i n) = ∑ d : Dev nD, partV I d b (ix2 i n) := by
  have hr : 512 * b.val + i.val < 1024 := by omega
  have hb : bIx (ix (512 * b.val + i.val) n.val hr n.isLt) = b := Fin.ext (by show (512 * b.val + i.val) / 512 = b.val; omega)
  have hi : ixB ((512 * b.val + i.val) % 512) n.val (Nat.mod_lt _ (by decide)) n.isLt = ix2 i n :=
    funext fun a => Fin.ext (by
      fin_cases a
      · show (512 * b.val + i.val) % 512 = i.val; omega
      · rfl)
  show Fv I _ (ix (512 * b.val + i.val) n.val hr n.isLt) = _
  rw [Fv_eq]
  refine Finset.sum_congr rfl fun d _ => ?_
  show partV I d (bIx (ix (512 * b.val + i.val) n.val hr n.isLt)) (ixB ((512 * b.val + i.val) % 512) n.val (Nat.mod_lt _ (by decide)) n.isLt) = _
  rw [hb, hi]

/-! ## The loads -/

theorem xR_at (b : Fin 2) (i : Fin 512) (k : Fin 768) : (xR b).idx (ix3 0 i k) = ix3 b i k :=
  funext fun a => Fin.ext (by
    fin_cases a
    · show b.val + 1 * 0 = b.val; omega
    · show 0 + 1 * i.val = i.val; omega
    · show 0 + 1 * k.val = k.val; omega)

theorem kvR_at (b : Fin 2) (h : Fin 8) (j : Fin 512) (e : Fin 64) : (kvR b h).idx (ix4 0 j 0 e) = ix4 b j h e :=
  funext fun a => Fin.ext (by
    fin_cases a
    · show b.val + 1 * 0 = b.val; omega
    · show 0 + 1 * j.val = j.val; omega
    · show h.val + 1 * 0 = h.val; omega
    · show 0 + 1 * e.val = e.val; omega)

theorem wqR_at (k : Fin 768) (n : Fin 512) : wqR.idx (ix2 k n) = ix2 k n :=
  funext fun a => Fin.ext (by
    fin_cases a
    · show 0 + 1 * k.val = k.val; omega
    · show 0 + 1 * n.val = n.val; omega)

theorem woR_at (n : Fin 512) (k : Fin 768) : woR.idx (ix2 n k) = ix2 n k :=
  funext fun a => Fin.ext (by
    fin_cases a
    · show 0 + 1 * n.val = n.val; omega
    · show 0 + 1 * k.val = k.val; omega)

/-- One element of one head of a device. -/
theorem hdV_at (c : Dev nD) (b : Fin 2) (h : Fin 8) (i : Fin 512) (d : Fin 64) :
    hdV I c b h (ix2 i d) = Row.att i
      (fun j => (∑ e : Fin 64, (∑ k : Fin 768, I.x c (ix3 b i k) * I.wq c (ix2 k ⟨64 * h.val + e.val, by omega⟩)) * I.k c (ix4 b j h e)) * ((1 / 8 : ℝ) : EReal))
      fun j => I.v c (ix4 b j h d) := by
  unfold hdV
  rw [headV_at]
  congr 1
  · funext j
    congr 1
    refine Finset.sum_congr rfl fun e _ => ?_
    rw [qV_at]
    show (∑ k : Fin 768, I.x c ((xR b).idx (ix3 0 i k)) * I.wq c (wqR.idx (ix2 k _))) * I.k c ((kvR b h).idx (ix4 0 j 0 e)) = _
    rw [kvR_at]
    congr 1
    refine Finset.sum_congr rfl fun k _ => ?_
    rw [xR_at, wqR_at]
  · funext j
    show I.v c ((kvR b h).idx (ix4 0 j 0 d)) = _
    rw [kvR_at]

/-- One element of a device's product. -/
theorem partV_at (c : Dev nD) (b : Fin 2) (i : Fin 512) (n : Fin 768) :
    partV I c b (ix2 i n) = ∑ t : Fin 512, hdV I c b ⟨t.val / 64, by omega⟩ (ix2 i ⟨t.val % 64, by omega⟩) * I.wo c (ix2 t n) := by
  unfold partV
  rw [projV_at (fun h => hdV I c b h)]
  refine Finset.sum_congr rfl fun t _ => ?_
  show _ * I.wo c (woR.idx (ix2 t n)) = _
  rw [woR_at]

end Cert.KernelIdeal.Body

end
-- ==== Proof.RefParts.lean ====
/- The reference's result as a composition of named parts: the blocks of positions, the mask, the scores, the weights. -/
module

public import proofs.«01_k».proof.Proof.Gen.ReferenceIdeal.Run
public import Idealize.ShloMosaic.Lib.Pointwise
public import Idealize.ShloMosaic.Lib.IdealHost

@[expose] public section

noncomputable section

namespace Cert.ReferenceIdeal.Parts

open Cert.ReferenceIdeal Cert.ReferenceIdeal.Gen Idealize.ShloMosaic Idealize.ShloMosaic.TcCoe Idealize.SL.Sem

/-- The block of 64 positions that a position lies in. -/
def blk : IVec S512 32 :=
  select (andi (cmpi .ne (signi (iotaInDim S512 32 0)) (broadcastInDim S512 ![] bcast_S_S512 (signi (id (constantI S_ 32 64#32)))))
      (cmpi .ne (Host.remsi (iotaInDim S512 32 0) (broadcastInDim S512 ![] bcast_S_S512 (id (constantI S_ 32 64#32))))
        (broadcastInDim S512 ![] bcast_S_S512 (constantI S_ 32 0#32))))
    (subi (Host.divsi (iotaInDim S512 32 0) (broadcastInDim S512 ![] bcast_S_S512 (id (constantI S_ 32 64#32))))
      (broadcastInDim S512 ![] bcast_S_S512 (constantI S_ 32 1#32)))
    (Host.divsi (iotaInDim S512 32 0) (broadcastInDim S512 ![] bcast_S_S512 (id (constantI S_ 32 64#32))))

/-- One where the key's block is not after the query's. -/
def mask : IVec S512x512 1 :=
  cmpi .sle (broadcastInDim S512x512 ![0, 1] bcast_S1x512_S512x512_0_1 (broadcastInDim S1x512 ![1] bcast_S512_S1x512_1 blk))
    (broadcastInDim S512x512 ![0, 1] bcast_S512x1_S512x512_0_1 (broadcastInDim S512x1 ![0] bcast_S512_S512x1_0 blk))

/-- One where a query sees some key. -/
def keep : IVec S1x1x512x1 1 :=
  broadcastInDim S1x1x512x1 ![2] bcast_S512_S1x1x512x1_2 (Host.reduce IntOp.ori mask (constantI S_ 1 0#1) reducesTo_S512x512_S512_d1 h_S_)

variable {F : FTy → Type} [FloatOps F]

def queries (x : FVec F S2x512x768 .f32) (wq : FVec F S768x8192 .f32) : FVec F S2x512x128x64 .f32 :=
  shapeCast _ (Host.dotGeneral dot_S2x512x768_S768x8192_S2x512x8192_2_0_01_1_n_n none x wq) shapeCasts_S2x512x8192_S2x512x128x64

/-- The scores, the excluded ones at the literal. -/
def scores (q k : FVec F S2x512x128x64 .f32) : FVec F S2x128x512x512 .f32 :=
  select (broadcastInDim S2x128x512x512 ![0, 1, 2, 3] bcast_S1x1x512x512_S2x128x512x512_0_1_2_3
      (broadcastInDim S1x1x512x512 ![2, 3] bcast_S512x512_S1x1x512x512_2_3 mask))
    (mulf (Host.dotGeneral dot_S2x512x128x64_S2x512x128x64_S2x128x512x512_3_3_1_1_02_02 none q k)
      (broadcastInDim S2x128x512x512 ![] bcast_S_S2x128x512x512 (constant S_ .f32 0x3E000000#32)))
    (broadcastInDim S2x128x512x512 ![] bcast_S_S2x128x512x512 (id (constant S_ .f32 0xFF800000#32)))

/-- The exponentials of the scores less their row's greatest. -/
def exps (s : FVec F S2x128x512x512 .f32) : FVec F S2x128x512x512 .f32 :=
  Host.exp (subf s (broadcastInDim S2x128x512x512 ![0, 1, 2, 3] bcast_S2x128x512x1_S2x128x512x512_0_1_2_3
    (broadcastInDim S2x128x512x1 ![0, 1, 2] bcast_S2x128x512_S2x128x512x1_0_1_2
      (Host.reduce FloatOps.maximumf s (constant S_ .f32 0xFF800000#32) reducesTo_S2x128x512x512_S2x128x512_d3 h_S_))))

/-- The weights: the exponentials over their row's sum. -/
def weights (e : FVec F S2x128x512x512 .f32) : FVec F S2x128x512x512 .f32 :=
  select (broadcastInDim S2x128x512x512 ![0, 1, 2, 3] bcast_S1x1x512x1_S2x128x512x512_0_1_2_3 keep)
    (Host.divf e (broadcastInDim S2x128x512x512 ![0, 1, 2, 3] bcast_S2x128x512x1_S2x128x512x512_0_1_2_3
      (select (broadcastInDim S2x128x512x1 ![0, 1, 2, 3] bcast_S1x1x512x1_S2x128x512x1_0_1_2_3 keep)
        (broadcastInDim S2x128x512x1 ![0, 1, 2] bcast_S2x128x512_S2x128x512x1_0_1_2
          (Host.reduceAdd e (constant S_ .f32 0x00000000#32) reducesTo_S2x128x512x512_S2x128x512_d3 h_S_))
        (broadcastInDim S2x128x512x1 ![] bcast_S_S2x128x512x1 (id (constant S_ .f32 0x3F800000#32))))))
    (broadcastInDim S2x128x512x512 ![] bcast_S_S2x128x512x512 (id (constant S_ .f32 0x00000000#32)))

/-- The weighted values times the output weights. -/
def output (v : FVec F S2x512x128x64 .f32) (w : FVec F S2x128x512x512 .f32) (wo : FVec F S8192x768 .f32) : FVec F S2x512x768 .f32 :=
  Host.dotGeneral dot_S2x512x8192_S8192x768_S2x512x768_2_0_01_1_n_n none
    (shapeCast _ (transpose S2x512x128x64 [0, 3, 1, 2]
      (Host.dotGeneral dot_S2x512x128x64_S2x128x512x512_S2x128x64x512_1_3_3_2_02_01 none v w)
      transposes_S2x128x64x512_S2x512x128x64_0_3_1_2) shapeCasts_S2x512x128x64_S2x512x8192) wo

set_option maxRecDepth 16384 in
/-- The reference's result is that composition. -/
theorem res_eq (m : (ℓ : Loc nD τ sig) → Buf (Elt F) ℓ) (c : Dev nD) :
    Value.res_out0 m c = output (m ((c.tc : Thread nD τ).loc main_arg3))
      (weights (exps (scores (queries (m ((c.tc : Thread nD τ).loc main_arg0)) (m ((c.tc : Thread nD τ).loc main_arg1)))
        (m ((c.tc : Thread nD τ).loc main_arg2))))) (m ((c.tc : Thread nD τ).loc main_arg4)) := by
  show Value.res_main_v33 m c = _
  unfold Value.res_main_v33 output weights exps scores queries keep mask blk
  rfl

end Cert.ReferenceIdeal.Parts

end
-- ==== Proof.RefAt.lean ====
/- The reference's parts read at an index. -/
module

public import proofs.«01_k».proof.Proof.RefParts

@[expose] public section

noncomputable section

namespace Cert.ReferenceIdeal.Parts

open Cert.ReferenceIdeal Cert.ReferenceIdeal.Gen Idealize.ShloMosaic Idealize.ShloMosaic.TcCoe Idealize.SL.Sem
open scoped BigOperators

theorem blk_at (i : Fin 512) : blk (ix1 i) = BitVec.ofNat 32 (i.val / 64) := by
  revert i
  unfold blk
  decide +kernel

/-- The literal that excludes a score. -/
theorem bits_bot : Ideal.ofBits .f32 0xFF800000#32 = ⊥ := by simp [Ideal.ofBits, Ideal.ieee]

/-- The scale of the scores. -/
theorem bits_eighth : Ideal.ofBits .f32 0x3E000000#32 = ((1 / 8 : ℝ) : EReal) := by
  simp [Ideal.ofBits, Ideal.ieee, -EReal.coe_mul]; norm_num

theorem mask_at (i j : Fin 512) : mask (ix2 i j) = if j.val / 64 ≤ i.val / 64 then 1#1 else 0#1 := by
  unfold mask
  pointwise
  rw [blk_at, blk_at]
  exact (by decide : ∀ a b : Fin 8, IntOp.cmpi .sle (BitVec.ofNat 32 b.val) (BitVec.ofNat 32 a.val) = if b.val ≤ a.val then 1#1 else 0#1)
    ⟨i.val / 64, by omega⟩ ⟨j.val / 64, by omega⟩

theorem queries_at (x : FVec Ideal S2x512x768 .f32) (wq : FVec Ideal S768x8192 .f32) (b : Fin 2) (i : Fin 512) (h : Fin 128) (d : Fin 64) :
    queries x wq (ix4 b i h d) = ∑ k : Fin 768, x (ix3 b i k) * wq (ix2 k ⟨h.val * 64 + d.val, by omega⟩) := by
  unfold queries
  pointwise

theorem scores_at (q k : FVec Ideal S2x512x128x64 .f32) (b : Fin 2) (h : Fin 128) (i j : Fin 512) :
    scores q k (ix4 b h i j) = if j.val / 64 ≤ i.val / 64 then (∑ d : Fin 64, q (ix4 b i h d) * k (ix4 b j h d)) * ((1 / 8 : ℝ) : EReal) else ⊥ := by
  unfold scores
  pointwise
  rw [mask_at]
  split
  · show _ * Ideal.ofBits .f32 0x3E000000#32 = _
    rw [bits_eighth]
  · show Ideal.ofBits .f32 0xFF800000#32 = ⊥
    exact bits_bot

theorem exps_at (s : FVec Ideal S2x128x512x512 .f32) (b : Fin 2) (h : Fin 128) (i j : Fin 512) :
    exps s (ix4 b h i j) = Ideal.exp (s (ix4 b h i j) - (Finset.univ : Finset (Fin 512)).fold max ⊥ fun j => s (ix4 b h i j)) := by
  unfold exps
  pointwise
  rw [bits_bot]

theorem keep_at (i : Fin 512) : keep (ix4 0 0 i 0) = 1#1 := by
  unfold keep
  pointwise
  rw [← Finset.insert_erase (Finset.mem_univ i), Finset.fold_insert (Finset.notMem_erase _ _), mask_at, if_pos le_rfl]
  exact (by decide : ∀ y : BitVec 1, IntOp.ori 1#1 y = 1#1) _

theorem weights_at (e : FVec Ideal S2x128x512x512 .f32) (b : Fin 2) (h : Fin 128) (i j : Fin 512) :
    weights e (ix4 b h i j) = Ideal.div (e (ix4 b h i j)) (∑ j : Fin 512, e (ix4 b h i j)) := by
  unfold weights
  pointwise
  rw [keep_at]
  rfl

theorem output_at (v : FVec Ideal S2x512x128x64 .f32) (w : FVec Ideal S2x128x512x512 .f32) (wo : FVec Ideal S8192x768 .f32)
    (b : Fin 2) (i : Fin 512) (c : Fin 768) :
    output v w wo (ix3 b i c) = ∑ n : Fin 8192, (∑ j : Fin 512, v (ix4 b j ⟨n.val / 64, by omega⟩ ⟨n.val % 64, by omega⟩)
      * w (ix4 b ⟨n.val / 64, by omega⟩ i j)) * wo (ix2 n c) := by
  unfold output
  pointwise

end Cert.ReferenceIdeal.Parts

end
-- ==== Proof.RefWhole.lean ====
/- The reference's result at an index, where the scores are real: the sum over all heads' columns of the attention times the
   output weights. -/
module

public import proofs.«01_k».proof.Proof.RefAt
public import proofs.«01_k».proof.Proof.Softmax

@[expose] public section

noncomputable section

namespace Cert.ReferenceIdeal.Parts

open Cert.ReferenceIdeal Cert.ReferenceIdeal.Gen Idealize.ShloMosaic Idealize.ShloMosaic.TcCoe Idealize.SL.Sem
open scoped BigOperators

/-- A value of the extended reals that is a real. -/
def Real (a : EReal) : Prop := ∃ r : ℝ, a = (r : EReal)

theorem Real.mul {a b : EReal} (ha : Real a) (hb : Real b) : Real (a * b) := by
  obtain ⟨r, rfl⟩ := ha
  obtain ⟨s, rfl⟩ := hb
  exact ⟨r * s, (EReal.coe_mul r s).symm⟩

theorem Real.sum {ι : Type} (S : Finset ι) {f : ι → EReal} (h : ∀ j, Real (f j)) : Real (∑ j ∈ S, f j) := by
  choose g hg using h
  obtain rfl : f = fun j => ((g j : ℝ) : EReal) := funext hg
  exact ⟨_, Row.sum_coe S g⟩

variable (x : FVec Ideal S2x512x768 .f32) (wq : FVec Ideal S768x8192 .f32) (k v : FVec Ideal S2x512x128x64 .f32) (wo : FVec Ideal S8192x768 .f32)

/-- The score of a key. -/
def sc (b : Fin 2) (h : Fin 128) (i j : Fin 512) : EReal :=
  (∑ e : Fin 64, (∑ t : Fin 768, x (ix3 b i t) * wq (ix2 t ⟨h.val * 64 + e.val, by omega⟩)) * k (ix4 b j h e)) * ((1 / 8 : ℝ) : EReal)

theorem sc_real (hx : ∀ i, Real (x i)) (hq : ∀ i, Real (wq i)) (hk : ∀ i, Real (k i)) (b : Fin 2) (h : Fin 128) (i j : Fin 512) :
    Real (sc x wq k b h i j) :=
  (Real.sum _ fun _ => (Real.sum _ fun _ => (hx _).mul (hq _)).mul (hk _)).mul ⟨_, rfl⟩

theorem scores_row (b : Fin 2) (h : Fin 128) (i j : Fin 512) :
    scores (queries x wq) k (ix4 b h i j) = Row.shut i (sc x wq k b h i) j := by
  rw [scores_at]
  unfold Row.shut sc
  simp only [queries_at]

/-- One column of the result. -/
theorem result_at (hx : ∀ i, Real (x i)) (hq : ∀ i, Real (wq i)) (hk : ∀ i, Real (k i)) (b : Fin 2) (i : Fin 512) (c : Fin 768) :
    output v (weights (exps (scores (queries x wq) k))) wo (ix3 b i c) = ∑ n : Fin 8192,
      Row.att i (sc x wq k b ⟨n.val / 64, by omega⟩ i) (fun j => v (ix4 b j ⟨n.val / 64, by omega⟩ ⟨n.val % 64, by omega⟩)) * wo (ix2 n c) := by
  rw [output_at]
  refine Finset.sum_congr rfl fun n _ => ?_
  congr 1
  rw [← Row.att_eq i _ _ fun j => sc_real x wq k hx hq hk b _ i j]
  refine Finset.sum_congr rfl fun j _ => ?_
  rw [weights_at]
  simp only [exps_at, scores_row]
  rfl

end Cert.ReferenceIdeal.Parts

end
-- ==== Proof.Value.lean ====
/- The kernel's result on every device is the reference's, where the inputs that make the scores are real. -/
module

public import proofs.«01_k».proof.Proof.Sum
public import proofs.«01_k».proof.Proof.RefWhole

@[expose] public section

noncomputable section

namespace Cert.Whole

open Cert.KernelIdeal Cert.KernelIdeal.Gen Cert.KernelIdeal.Body Cert.ReferenceIdeal.Parts Idealize.ShloMosaic Idealize.SL.Sem
open scoped BigOperators

/-- The column of all heads that is a device's column `t`. -/
def colOf (c : Dev nD) (t : Fin 512) : Fin 8192 := ⟨512 * c.val + t.val, by have h : c.val < 16 := c.isLt; omega⟩
/-- The head that is a device's head `h`. -/
def headOf (c : Dev nD) (h : Fin 8) : Fin 128 := ⟨8 * c.val + h.val, by have h : c.val < 16 := c.isLt; omega⟩

/-- A sum over all columns is the sum over the devices of the sums over their columns. -/
theorem sum_cols (f : Fin 8192 → EReal) : ∑ n, f n = ∑ c : Dev nD, ∑ t : Fin 512, f (colOf c t) := by
  rw [← Fintype.sum_prod_type' fun (c : Dev nD) (t : Fin 512) => f (colOf c t)]
  refine (Equiv.sum_comp (finProdFinEquiv (m := 16) (n := 512)) f).symm.trans (Finset.sum_congr rfl fun p _ => ?_)
  congr 1
  exact Fin.ext (Nat.add_comm _ _)

/-- The arrays whose blocks the devices hold. -/
structure Cut (I : Ins Ideal) (x : FVec Ideal S2x512x768 .f32) (wq : FVec Ideal Cert.ReferenceIdeal.S768x8192 .f32)
    (k v : FVec Ideal Cert.ReferenceIdeal.S2x512x128x64 .f32) (wo : FVec Ideal Cert.ReferenceIdeal.S8192x768 .f32) : Prop where
  x : ∀ c, I.x c = x
  wq : ∀ c (t : Fin 768) (n : Fin 512), I.wq c (ix2 t n) = wq (ix2 t (colOf c n))
  k : ∀ c (b : Fin 2) (j : Fin 512) (h : Fin 8) (e : Fin 64), I.k c (ix4 b j h e) = k (ix4 b j (headOf c h) e)
  v : ∀ c (b : Fin 2) (j : Fin 512) (h : Fin 8) (e : Fin 64), I.v c (ix4 b j h e) = v (ix4 b j (headOf c h) e)
  wo : ∀ c (t : Fin 512) (n : Fin 768), I.wo c (ix2 t n) = wo (ix2 (colOf c t) n)

variable {I : Ins Ideal} {x : FVec Ideal S2x512x768 .f32} {wq : FVec Ideal Cert.ReferenceIdeal.S768x8192 .f32}
  {k v : FVec Ideal Cert.ReferenceIdeal.S2x512x128x64 .f32} {wo : FVec Ideal Cert.ReferenceIdeal.S8192x768 .f32}

/-- A device's score is the score of its head. -/
theorem score_eq (hI : Cut I x wq k v wo) (c : Dev nD) (b : Fin 2) (h : Fin 8) (i j : Fin 512) :
    (∑ e : Fin 64, (∑ t : Fin 768, I.x c (ix3 b i t) * I.wq c (ix2 t ⟨64 * h.val + e.val, by omega⟩)) * I.k c (ix4 b j h e)) * ((1 / 8 : ℝ) : EReal)
      = sc x wq k b (headOf c h) i j := by
  unfold sc
  congr 1
  refine Finset.sum_congr rfl fun e _ => ?_
  rw [hI.k, hI.x]
  congr 1
  refine Finset.sum_congr rfl fun t _ => ?_
  rw [hI.wq]
  congr 3
  exact Fin.ext (by show 512 * c.val + (64 * h.val + e.val) = (8 * c.val + h.val) * 64 + e.val; omega)

/-- One element of one head of a device, in the whole arrays. -/
theorem head_eq (hI : Cut I x wq k v wo) (c : Dev nD) (b : Fin 2) (h : Fin 8) (i : Fin 512) (d : Fin 64) :
    hdV I c b h (ix2 i d) = Row.att i (sc x wq k b (headOf c h) i) fun j => v (ix4 b j (headOf c h) d) := by
  rw [hdV_at]
  congr 1
  · exact funext fun j => score_eq hI c b h i j
  · exact funext fun j => hI.v c b j h d

/-- The kernel's result is the reference's. -/
theorem out_eq (hI : Cut I x wq k v wo) (hx : ∀ i, Real (x i)) (hq : ∀ i, Real (wq i)) (hk : ∀ i, Real (k i)) :
    outV I = output v (weights (exps (scores (queries x wq) k))) wo := by
  funext u
  obtain ⟨b, i, n, rfl⟩ : ∃ (b : Fin 2) (i : Fin 512) (n : Fin 768), u = ix3 b i n :=
    ⟨u 0, u 1, u 2, funext fun a => by fin_cases a <;> rfl⟩
  refine (outV_sum I b i n).trans ?_
  refine Eq.trans ?_ (result_at x wq k v wo hx hq hk b i n).symm
  rw [sum_cols]
  refine Finset.sum_congr rfl fun c _ => ?_
  rw [partV_at]
  refine Finset.sum_congr rfl fun t _ => ?_
  rw [head_eq hI, hI.wo]
  have h1 : headOf c ⟨t.val / 64, by omega⟩ = ⟨(colOf c t).val / 64, by omega⟩ :=
    Fin.ext (by show 8 * c.val + t.val / 64 = (512 * c.val + t.val) / 64; omega)
  have h2 : (⟨t.val % 64, by omega⟩ : Fin 64) = ⟨(colOf c t).val % 64, by omega⟩ :=
    Fin.ext (by show t.val % 64 = (512 * c.val + t.val) % 64; omega)
  rw [h1, h2]

/-! ## Blocks -/

theorem block_cols (w : FVec Ideal Cert.ReferenceIdeal.S768x8192 .f32) (c : Dev nD) (t : Fin 768) (n : Fin 512) :
    Layout.block ⟨2, ![768, 512]⟩ ⟨2, ![768, 8192]⟩ 1 16 c w (by decide) (ix2 t n) = w (ix2 t (colOf c n)) :=
  congrArg w (funext fun a => Fin.ext (by
    fin_cases a
    · rfl
    · show c.val * 512 + n.val = 512 * c.val + n.val; omega))

theorem block_heads (w : FVec Ideal Cert.ReferenceIdeal.S2x512x128x64 .f32) (c : Dev nD) (b : Fin 2) (j : Fin 512) (h : Fin 8) (e : Fin 64) :
    Layout.block ⟨4, ![2, 512, 8, 64]⟩ ⟨4, ![2, 512, 128, 64]⟩ 2 16 c w (by decide) (ix4 b j h e) = w (ix4 b j (headOf c h) e) :=
  congrArg w (funext fun a => Fin.ext (by
    fin_cases a
    · rfl
    · rfl
    · show c.val * 8 + h.val = 8 * c.val + h.val; omega
    · rfl))

theorem block_rows (w : FVec Ideal Cert.ReferenceIdeal.S8192x768 .f32) (c : Dev nD) (t : Fin 512) (n : Fin 768) :
    Layout.block ⟨2, ![512, 768]⟩ ⟨2, ![8192, 768]⟩ 0 16 c w (by decide) (ix2 t n) = w (ix2 (colOf c t) n) :=
  congrArg w (funext fun a => Fin.ext (by
    fin_cases a
    · show c.val * 512 + t.val = 512 * c.val + t.val; omega
    · rfl))

/-- Every column is a column of some device. -/
theorem col_cover (n : Fin 8192) : ∃ (c : Dev nD) (t : Fin 512), colOf c t = n :=
  ⟨⟨n.val / 512, show n.val / 512 < 16 by omega⟩, ⟨n.val % 512, by omega⟩, Fin.ext (Nat.div_add_mod _ _)⟩
/-- Every head is a head of some device. -/
theorem head_cover (n : Fin 128) : ∃ (c : Dev nD) (h : Fin 8), headOf c h = n :=
  ⟨⟨n.val / 8, show n.val / 8 < 16 by omega⟩, ⟨n.val % 8, by omega⟩, Fin.ext (Nat.div_add_mod _ _)⟩

/-- The whole arrays are real where every device's blocks are. -/
theorem wq_real (hI : Cut I x wq k v wo) (h : ∀ c i, Real (I.wq c i)) (u : Cert.ReferenceIdeal.S768x8192.Idx) : Real (wq u) := by
  obtain ⟨t, n, rfl⟩ : ∃ (t : Fin 768) (n : Fin 8192), u = ix2 t n := ⟨u 0, u 1, funext fun a => by fin_cases a <;> rfl⟩
  obtain ⟨c, s, rfl⟩ := col_cover n
  rw [← hI.wq]
  exact h c _
theorem k_real (hI : Cut I x wq k v wo) (h : ∀ c i, Real (I.k c i)) (u : Cert.ReferenceIdeal.S2x512x128x64.Idx) : Real (k u) := by
  obtain ⟨b, j, n, e, rfl⟩ : ∃ (b : Fin 2) (j : Fin 512) (n : Fin 128) (e : Fin 64), u = ix4 b j n e :=
    ⟨u 0, u 1, u 2, u 3, funext fun a => by fin_cases a <;> rfl⟩
  obtain ⟨c, s, rfl⟩ := head_cover n
  rw [← hI.k]
  exact h c _

end Cert.Whole

end
-- ==== Proof.Finite.lean ====
/- What the precondition says of a device's blocks: every element of the three blocks that make the scores is real. -/
module

public import proofs.«01_k».proof.Pre_finite_KernelIdeal
public import proofs.«01_k».proof.Proof.RefWhole
public import Idealize.ShloMosaic.Lib.ReduceAll

@[expose] public section

noncomputable section

namespace Cert.Finite

open Idealize.ShloMosaic Cert.ReferenceIdeal.Parts Cert.Pre_finite_KernelIdeal

/-- A value whose absolute value is below infinity is real. -/
theorem real_of_lt (a : Ideal .f32) (h : FloatOps.cmpf .olt (FloatOps.hostAbsf a) (FloatOps.ofBits (F := Ideal) .f32 0x7F800000#32) = 1#1) : Real a := by
  have htop : Ideal.ofBits .f32 0x7F800000#32 = ⊤ := by simp [Ideal.ofBits, Ideal.ieee]
  change Ideal.cmp .olt (max (a : EReal) (-(a : EReal))) (Ideal.ofBits .f32 0x7F800000#32) = 1#1 at h
  rw [htop] at h
  unfold Ideal.cmp at h
  have hlt : max (a : EReal) (-(a : EReal)) < ⊤ := by
    by_contra hn
    simp [hn] at h
  obtain ⟨h1, h2⟩ := max_lt_iff.1 hlt
  refine ⟨(a : EReal).toReal, (EReal.coe_toReal h1.ne fun hb => ?_).symm⟩
  rw [hb, EReal.neg_bot] at h2
  exact lt_irrefl _ h2

instance : Subsingleton S_.Idx := ⟨fun _ _ => funext fun a => a.elim0⟩

/-- An `and` over a whole array of the comparison with infinity. -/
theorem real_of_all {s : Shape} {axes : List (Fin s.rank)} (a : FVec Ideal s .f32) (b : S_.BroadcastsInDim s (![] : Fin 0 → Fin s.rank))
    (h : s.ReducesTo axes S_) (hu : 0 < S_.numel) (j : S_.Idx)
    (e : Host.reduce IntOp.andi (cmpf .olt (Host.absf a) (broadcastInDim s ![] b (constant S_ .f32 0x7F800000#32))) (constantI S_ 1 1#1) h hu j = 1#1)
    (i : s.Idx) : Real (a i) :=
  real_of_lt (a i) (Host.reduce_andi_all _ _ h hu j e i)

variable [Facts]

theorem blocks_real (x : FVec Ideal S2x512x768 .f32) (wq : FVec Ideal S768x512 .f32) (k v : FVec Ideal S2x512x8x64 .f32) (wo : FVec Ideal S512x768 .f32)
    (h : fn (F := Ideal) x wq k v wo = fun _ => 1#1) : (∀ i, Real (x i)) ∧ (∀ i, Real (wq i)) ∧ ∀ i, Real (k i) := by
  have h0 := congrFun h (fun a => a.elim0)
  unfold fn at h0
  obtain ⟨h1, hk⟩ := IntOp.andi_eq_one.1 h0
  obtain ⟨hx, hq⟩ := IntOp.andi_eq_one.1 h1
  exact ⟨real_of_all x _ _ _ _ hx, real_of_all wq _ _ _ _ hq, real_of_all k _ _ _ _ hk⟩

end Cert.Finite

end
-- ==== Proof.lean ====
/-
  The claims. The kernel program runs, keeps its arguments and ends with every counter at zero: Proof/FrameBits.lean, from
  the launch of Proof/Launch.lean. The reference is a line of host operations over a signature without counters; its run is
  Proof/Gen/ReferenceIdeal/Run.lean's. That the two results agree is Proof/Value.lean's equation between functions of the
  arguments, met here with what the two runs leave.
-/
module

public import proofs.«01_k».proof.Defs
public import proofs.«01_k».proof.Proof.FrameBits
public import proofs.«01_k».proof.Proof.Value
public import proofs.«01_k».proof.Proof.Finite
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_finite_KernelIdeal
public import proofs.«01_k».proof.Proof.Gen.Pre_finite_ReferenceIdeal
public import Idealize.ShloMosaic.Lib.Quiescent

@[expose] public section

noncomputable section

namespace Cert.Proof

open Idealize.ShloMosaic Idealize.ShloMosaic.TcCoe Idealize.SL.Sem
open Cert.KernelIdeal Cert.KernelIdeal.Gen Cert.KernelIdeal.Body

/-- The words' program: arguments kept, counters at zero. -/
theorem frame_kernel : Cert.quiescent_Kernel := fun m ρ _ => Cert.KernelIdeal.Body.run_frame_bits m ρ

/-- The extended reals' program. -/
theorem frame_ideal : Cert.quiescent_KernelIdeal := fun m ρ _ => Cert.KernelIdeal.Body.run_frame (F := Ideal) m ρ
theorem frame_ideal_pre : Cert.quiescent_KernelIdeal_pre_finite_KernelIdeal := fun m ρ _ => Cert.KernelIdeal.Body.run_frame (F := Ideal) m ρ

/-- The reference: its signature has no counters at all. -/
theorem frame_reference : Cert.quiescent_ReferenceIdeal := fun m ρ _ =>
  θ_run_mono (Cert.ReferenceIdeal.Value.run (F := Ideal) m ρ) fun r h =>
    ⟨fun c => (h c).2, sem_eq_zero_of_no_sems (by decide) r.2⟩
theorem frame_reference_pre : Cert.quiescent_ReferenceIdeal_pre_finite_ReferenceIdeal := fun m ρ _ => frame_reference m ρ trivial

/-- The mask's literal stands for the least extended real. -/
theorem mask_bottom : Cert.preserves_Kernel_KernelIdeal :=
  IdealRules.named_const.statement Cert.KernelIdeal.κ "mask" .f32 0xCE6E6B28#32 ⊥ rfl

/-! ## The windows are the whole arrays -/

theorem read0 (f : Buf (Elt Ideal) (((0 : Dev nD) : Thread nD τ).loc main_arg0)) : (win0_0.blk t0_0).view.read (Elt Ideal) f = f :=
  funext fun i => congrArg f (funext fun a => Fin.ext (by
    fin_cases a
    · show 0 * 2 + 1 * (i 0).val = (i 0).val; omega
    · show 0 * 512 + 1 * (i 1).val = (i 1).val; omega
    · show 0 * 768 + 1 * (i 2).val = (i 2).val; omega))
theorem read1 (f : Buf (Elt Ideal) (((0 : Dev nD) : Thread nD τ).loc main_arg1)) : (win0_1.blk t0_0).view.read (Elt Ideal) f = f :=
  funext fun i => congrArg f (funext fun a => Fin.ext (by
    fin_cases a
    · show 0 * 768 + 1 * (i 0).val = (i 0).val; omega
    · show 0 * 512 + 1 * (i 1).val = (i 1).val; omega))
theorem read2 (f : Buf (Elt Ideal) (((0 : Dev nD) : Thread nD τ).loc main_arg2)) : (win0_2.blk t0_0).view.read (Elt Ideal) f = f :=
  funext fun i => congrArg f (funext fun a => Fin.ext (by
    fin_cases a
    · show 0 * 2 + 1 * (i 0).val = (i 0).val; omega
    · show 0 * 512 + 1 * (i 1).val = (i 1).val; omega
    · show 0 * 8 + 1 * (i 2).val = (i 2).val; omega
    · show 0 * 64 + 1 * (i 3).val = (i 3).val; omega))
theorem read3 (f : Buf (Elt Ideal) (((0 : Dev nD) : Thread nD τ).loc main_arg3)) : (win0_3.blk t0_0).view.read (Elt Ideal) f = f :=
  funext fun i => congrArg f (funext fun a => Fin.ext (by
    fin_cases a
    · show 0 * 2 + 1 * (i 0).val = (i 0).val; omega
    · show 0 * 512 + 1 * (i 1).val = (i 1).val; omega
    · show 0 * 8 + 1 * (i 2).val = (i 2).val; omega
    · show 0 * 64 + 1 * (i 3).val = (i 3).val; omega))
theorem read4 (f : Buf (Elt Ideal) (((0 : Dev nD) : Thread nD τ).loc main_arg4)) : (win0_4.blk t0_0).view.read (Elt Ideal) f = f :=
  funext fun i => congrArg f (funext fun a => Fin.ext (by
    fin_cases a
    · show 0 * 512 + 1 * (i 0).val = (i 0).val; omega
    · show 0 * 768 + 1 * (i 1).val = (i 1).val; omega))
theorem read5 (f : Buf (Elt Ideal) (((0 : Dev nD) : Thread nD τ).loc main_v1)) : (win0_5.blk t0_0).view.read (Elt Ideal) f = f :=
  funext fun i => congrArg f (funext fun a => Fin.ext (by
    fin_cases a
    · show 0 * 2 + 1 * (i 0).val = (i 0).val; omega
    · show 0 * 512 + 1 * (i 1).val = (i 1).val; omega
    · show 0 * 768 + 1 * (i 2).val = (i 2).val; omega))

/-! ## The value -/

/-- Where the devices hold the reference's arrays by blocks and the scores' inputs are real, the results agree. -/
theorem value : Cert.algebraic_KernelIdeal_ReferenceIdeal_pre_finite_KernelIdeal := by
  intro m g m' g' hpre hin
  have hI : Cert.Whole.Cut (insM m)
      (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2))
      (m' (((0 : Dev Cert.ReferenceIdeal.nD).tc : Thread Cert.ReferenceIdeal.nD Cert.ReferenceIdeal.τ).loc Cert.ReferenceIdeal.main_arg3))
      (m' (((0 : Dev Cert.ReferenceIdeal.nD).tc : Thread Cert.ReferenceIdeal.nD Cert.ReferenceIdeal.τ).loc Cert.ReferenceIdeal.main_arg4)) :=
    { x := fun c => (read0 _).trans (hin c).1
      wq := fun c t n => (congrFun ((read1 _).trans (hin c).2.1) _).trans (Cert.Whole.block_cols _ c t n)
      k := fun c b j h e => (congrFun ((read2 _).trans (hin c).2.2.1) _).trans (Cert.Whole.block_heads _ c b j h e)
      v := fun c b j h e => (congrFun ((read3 _).trans (hin c).2.2.2.1) _).trans (Cert.Whole.block_heads _ c b j h e)
      wo := fun c t n => (congrFun ((read4 _).trans (hin c).2.2.2.2) _).trans (Cert.Whole.block_rows _ c t n) }
  have hfin := fun c : Dev nD => Cert.Finite.blocks_real _ _ _ _ _ (hpre c)
  have hx := fun i => (hin 0).1 ▸ (hfin 0).1 i
  have hq := Cert.Whole.wq_real hI fun c i => (congrArg Cert.ReferenceIdeal.Parts.Real (congrFun (read1 _) i)).mpr ((hfin c).2.1 i)
  have hk := Cert.Whole.k_real hI fun c i => (congrArg Cert.ReferenceIdeal.Parts.Real (congrFun (read2 _) i)).mpr ((hfin c).2.2 i)
  have hv : outV (insM m) = Cert.ReferenceIdeal.Value.res_out0 m' 0 :=
    (Cert.Whole.out_eq hI hx hq hk).trans (Cert.ReferenceIdeal.Parts.res_eq m' 0).symm
  refine ⟨Cert.ReferenceIdeal.Value.res_out0 m' 0, θ_run_mono (run_main m g) fun r h c => ?_,
    θ_run_mono (Cert.ReferenceIdeal.Value.run (F := Ideal) m' g') fun r h => h 0⟩
  refine ⟨(h.1 c 5).trans (((read5 _).symm.trans (finalA_out m g c)).trans hv), (h.1 c 0).trans (finalA_in m g c 0 rfl),
    (h.1 c 1).trans (finalA_in m g c 1 rfl), (h.1 c 2).trans (finalA_in m g c 2 rfl), (h.1 c 3).trans (finalA_in m g c 3 rfl),
    (h.1 c 4).trans (finalA_in m g c 4 rfl)⟩

theorem claim : Cert.Claim := ⟨Cert.Kernel.Gen.facts, Cert.KernelIdeal.Gen.facts, Cert.ReferenceIdeal.Gen.facts,
  Cert.Pre_finite_KernelIdeal.Gen.facts, Cert.Pre_finite_ReferenceIdeal.Gen.facts,
  frame_kernel, frame_ideal, frame_ideal_pre, frame_reference, frame_reference_pre, mask_bottom, value⟩

end Cert.Proof

end
